-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v9)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v9) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v3) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v11)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v11) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v11)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v11) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v13)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v13) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v11)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v11) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v11)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v11) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v2) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v11)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v11) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v3) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
-- ==== Kernel.lean ====
abbrev S4x2048x5408 : Shape := ⟨3, ![4, 2048, 5408]⟩
abbrev S16x256 : Shape := ⟨2, ![16, 256]⟩
abbrev S256 : Shape := ⟨1, ![256]⟩
abbrev S4x2048x512 : Shape := ⟨3, ![4, 2048, 512]⟩
abbrev S2x4x32x128x256 : Shape := ⟨5, ![2, 4, 32, 128, 256]⟩
abbrev S8192x5408 : Shape := ⟨2, ![8192, 5408]⟩
abbrev S8192x1536 : Shape := ⟨2, ![8192, 1536]⟩
abbrev S8192x2048 : Shape := ⟨2, ![8192, 2048]⟩
abbrev S8192x256 : Shape := ⟨2, ![8192, 256]⟩
abbrev S8192x32 : Shape := ⟨2, ![8192, 32]⟩
abbrev S_ : Shape := ⟨0, ![]⟩
abbrev S8192x224 : Shape := ⟨2, ![8192, 224]⟩
abbrev S8192x5632 : Shape := ⟨2, ![8192, 5632]⟩
abbrev S112x256 : Shape := ⟨2, ![112, 256]⟩
abbrev S128x256 : Shape := ⟨2, ![128, 256]⟩
abbrev S96x256 : Shape := ⟨2, ![96, 256]⟩
abbrev S1x128x256 : Shape := ⟨3, ![1, 128, 256]⟩
abbrev S2x128x256 : Shape := ⟨3, ![2, 128, 256]⟩
abbrev S1x256 : Shape := ⟨2, ![1, 256]⟩
abbrev S1x1x256 : Shape := ⟨3, ![1, 1, 256]⟩
abbrev S2x1x256 : Shape := ⟨3, ![2, 1, 256]⟩
abbrev S4x2048x5632 : Shape := ⟨3, ![4, 2048, 5632]⟩
abbrev S2x4x2048x1024 : Shape := ⟨4, ![2, 4, 2048, 1024]⟩
abbrev S2x4x2048x128 : Shape := ⟨4, ![2, 4, 2048, 128]⟩
abbrev S4x64x256 : Shape := ⟨3, ![4, 64, 256]⟩
abbrev S4x64x512 : Shape := ⟨3, ![4, 64, 512]⟩
abbrev S4x64x128 : Shape := ⟨3, ![4, 64, 128]⟩
abbrev S1x4x1x128x256 : Shape := ⟨5, ![1, 4, 1, 128, 256]⟩
abbrev S1x4x64x1024 : Shape := ⟨4, ![1, 4, 64, 1024]⟩
abbrev S1x4x64x128 : Shape := ⟨4, ![1, 4, 64, 128]⟩
abbrev S4x128x256 : Shape := ⟨3, ![4, 128, 256]⟩
abbrev S256x128 : Shape := ⟨2, ![256, 128]⟩
abbrev S256x256 : Shape := ⟨2, ![256, 256]⟩
abbrev S64x64 : Shape := ⟨2, ![64, 64]⟩
abbrev S4x256 : Shape := ⟨2, ![4, 256]⟩
abbrev S4x1x256 : Shape := ⟨3, ![4, 1, 256]⟩
abbrev S4x64x64 : Shape := ⟨3, ![4, 64, 64]⟩
abbrev S1x64x64 : Shape := ⟨3, ![1, 64, 64]⟩
abbrev S4x256x64 : Shape := ⟨3, ![4, 256, 64]⟩
abbrev S4x128x64 : Shape := ⟨3, ![4, 128, 64]⟩
abbrev S4x64x384 : Shape := ⟨3, ![4, 64, 384]⟩
abbrev S4x64x1024 : Shape := ⟨3, ![4, 64, 1024]⟩

abbrev nBuf : Space → Nat
  | .hbm => 37
  | .vmem => 25
  | .smem => 0
  | _ => 0

abbrev bufTy : (tb : Table) → Fin (tcTables nBuf tb) → BufTy
  | .hbm, ⟨0, _⟩ => ⟨S4x2048x5408, .f32⟩
  | .hbm, ⟨1, _⟩ => ⟨S16x256, .f32⟩
  | .hbm, ⟨2, _⟩ => ⟨S256, .f32⟩
  | .hbm, ⟨3, _⟩ => ⟨S16x256, .f32⟩
  | .hbm, ⟨4, _⟩ => ⟨S256, .f32⟩
  | .hbm, ⟨5, _⟩ => ⟨S4x2048x512, .f32⟩
  | .hbm, ⟨6, _⟩ => ⟨S2x4x32x128x256, .f32⟩
  | .hbm, ⟨7, _⟩ => ⟨S8192x5408, .f32⟩
  | .hbm, ⟨8, _⟩ => ⟨S8192x1536, .f32⟩
  | .hbm, ⟨9, _⟩ => ⟨S8192x1536, .f32⟩
  | .hbm, ⟨10, _⟩ => ⟨S8192x2048, .f32⟩
  | .hbm, ⟨11, _⟩ => ⟨S8192x256, .f32⟩
  | .hbm, ⟨12, _⟩ => ⟨S8192x32, .f32⟩
  | .hbm, ⟨13, _⟩ => ⟨S_, .f32⟩
  | .hbm, ⟨14, _⟩ => ⟨S8192x224, .f32⟩
  | .hbm, ⟨15, _⟩ => ⟨S8192x5632, .f32⟩
  | .hbm, ⟨16, _⟩ => ⟨S_, .f32⟩
  | .hbm, ⟨17, _⟩ => ⟨S112x256, .f32⟩
  | .hbm, ⟨18, _⟩ => ⟨S128x256, .f32⟩
  | .hbm, ⟨19, _⟩ => ⟨S_, .f32⟩
  | .hbm, ⟨20, _⟩ => ⟨S16x256, .f32⟩
  | .hbm, ⟨21, _⟩ => ⟨S_, .f32⟩
  | .hbm, ⟨22, _⟩ => ⟨S96x256, .f32⟩
  | .hbm, ⟨23, _⟩ => ⟨S128x256, .f32⟩
  | .hbm, ⟨24, _⟩ => ⟨S1x128x256, .f32⟩
  | .hbm, ⟨25, _⟩ => ⟨S1x128x256, .f32⟩
  | .hbm, ⟨26, _⟩ => ⟨S2x128x256, .f32⟩
  | .hbm, ⟨27, _⟩ => ⟨S1x256, .f32⟩
  | .hbm, ⟨28, _⟩ => ⟨S1x256, .f32⟩
  | .hbm, ⟨29, _⟩ => ⟨S1x1x256, .f32⟩
  | .hbm, ⟨30, _⟩ => ⟨S1x1x256, .f32⟩
  | .hbm, ⟨31, _⟩ => ⟨S2x1x256, .f32⟩
  | .hbm, ⟨32, _⟩ => ⟨S4x2048x5632, .f32⟩
  | .hbm, ⟨33, _⟩ => ⟨S2x4x2048x1024, .f32⟩
  | .hbm, ⟨34, _⟩ => ⟨S2x4x2048x128, .f32⟩
  | .hbm, ⟨35, _⟩ => ⟨S2x128x256, .f32⟩
  | .hbm, ⟨36, _⟩ => ⟨S2x1x256, .f32⟩
  | .local _ .vmem, ⟨0, _⟩ => ⟨S4x64x256, .f32⟩
  | .local _ .vmem, ⟨1, _⟩ => ⟨S4x64x256, .f32⟩
  | .local _ .vmem, ⟨2, _⟩ => ⟨S4x64x256, .f32⟩
  | .local _ .vmem, ⟨3, _⟩ => ⟨S4x64x256, .f32⟩
  | .local _ .vmem, ⟨4, _⟩ => ⟨S4x64x512, .f32⟩
  | .local _ .vmem, ⟨5, _⟩ => ⟨S4x64x512, .f32⟩
  | .local _ .vmem, ⟨6, _⟩ => ⟨S4x64x128, .f32⟩
  | .local _ .vmem, ⟨7, _⟩ => ⟨S4x64x128, .f32⟩
  | .local _ .vmem, ⟨8, _⟩ => ⟨S1x128x256, .f32⟩
  | .local _ .vmem, ⟨9, _⟩ => ⟨S1x128x256, .f32⟩
  | .local _ .vmem, ⟨10, _⟩ => ⟨S1x1x256, .f32⟩
  | .local _ .vmem, ⟨11, _⟩ => ⟨S1x1x256, .f32⟩
  | .local _ .vmem, ⟨12, _⟩ => ⟨S4x64x512, .f32⟩
  | .local _ .vmem, ⟨13, _⟩ => ⟨S4x64x512, .f32⟩
  | .local _ .vmem, ⟨14, _⟩ => ⟨S1x4x1x128x256, .f32⟩
  | .local _ .vmem, ⟨15, _⟩ => ⟨S1x4x1x128x256, .f32⟩
  | .local _ .vmem, ⟨16, _⟩ => ⟨S1x4x64x1024, .f32⟩
  | .local _ .vmem, ⟨17, _⟩ => ⟨S1x4x64x1024, .f32⟩
  | .local _ .vmem, ⟨18, _⟩ => ⟨S1x4x64x128, .f32⟩
  | .local _ .vmem, ⟨19, _⟩ => ⟨S1x4x64x128, .f32⟩
  | .local _ .vmem, ⟨20, _⟩ => ⟨S1x128x256, .f32⟩
  | .local _ .vmem, ⟨21, _⟩ => ⟨S1x128x256, .f32⟩
  | .local _ .vmem, ⟨22, _⟩ => ⟨S1x1x256, .f32⟩
  | .local _ .vmem, ⟨23, _⟩ => ⟨S1x1x256, .f32⟩
  | .local _ .vmem, ⟨24, _⟩ => ⟨S4x128x256, .f32⟩
  | _, _ => ⟨S4x2048x5408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev main_v22_2 : Ref sig .tc := ⟨.hbm, 35, rfl⟩
abbrev main_v22_3 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c2_i32 : BitVec 32 := 2#32
  let v1 : BitVec 32 := Scalar.muli c2_i32 v0
  let c31_i32_0 : BitVec 32 := 31#32
  let v2 : BitVec 32 := Scalar.subi c31_i32_0 v1
  let v3 : BitVec 32 := Scalar.muli arg0 v2
  let v4 : BitVec 32 := Scalar.addi v0 v3
  let c0_i32 : BitVec 32 := 0#32
  let c0_i32_1 : BitVec 32 := 0#32
  let c0_i32_2 : BitVec 32 := 0#32
  ![c0_i32.toNat, v4.toNat, c0_i32_1.toNat]

def cc0_transform_1 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c2_i32 : BitVec 32 := 2#32
  let v1 : BitVec 32 := Scalar.muli c2_i32 v0
  let c31_i32_0 : BitVec 32 := 31#32
  let v2 : BitVec 32 := Scalar.subi c31_i32_0 v1
  let v3 : BitVec 32 := Scalar.muli arg0 v2
  let v4 : BitVec 32 := Scalar.addi v0 v3
  let c0_i32 : BitVec 32 := 0#32
  let c1_i32 : BitVec 32 := 1#32
  let c0_i32_1 : BitVec 32 := 0#32
  ![c0_i32.toNat, v4.toNat, c1_i32.toNat]

def cc0_transform_2 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c2_i32 : BitVec 32 := 2#32
  let v1 : BitVec 32 := Scalar.muli c2_i32 v0
  let c31_i32_0 : BitVec 32 := 31#32
  let v2 : BitVec 32 := Scalar.subi c31_i32_0 v1
  let v3 : BitVec 32 := Scalar.muli arg0 v2
  let v4 : BitVec 32 := Scalar.addi v0 v3
  let c0_i32 : BitVec 32 := 0#32
  let c1_i32 : BitVec 32 := 1#32
  let c0_i32_1 : BitVec 32 := 0#32
  ![c0_i32.toNat, v4.toNat, c1_i32.toNat]

def cc0_transform_3 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c2_i32 : BitVec 32 := 2#32
  let v1 : BitVec 32 := Scalar.muli c2_i32 v0
  let c31_i32_0 : BitVec 32 := 31#32
  let v2 : BitVec 32 := Scalar.subi c31_i32_0 v1
  let v3 : BitVec 32 := Scalar.muli arg0 v2
  let v4 : BitVec 32 := Scalar.addi v0 v3
  let c0_i32 : BitVec 32 := 0#32
  let c42_i32 : BitVec 32 := 42#32
  let c0_i32_1 : BitVec 32 := 0#32
  ![c0_i32.toNat, v4.toNat, c42_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c2_i32 : BitVec 32 := 2#32
  let v1 : BitVec 32 := Scalar.muli c2_i32 v0
  let c31_i32_0 : BitVec 32 := 31#32
  let v2 : BitVec 32 := Scalar.subi c31_i32_0 v1
  let v3 : BitVec 32 := Scalar.muli arg0 v2
  let v4 : BitVec 32 := Scalar.addi v0 v3
  let c0_i32 : BitVec 32 := 0#32
  let c0_i32_1 : BitVec 32 := 0#32
  let c0_i32_2 : BitVec 32 := 0#32
  ![c0_i32.toNat, v4.toNat, c0_i32_1.toNat]

def cc0_transform_7 (i : grid0.Coords) : Fin 5 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c2_i32 : BitVec 32 := 2#32
  let v1 : BitVec 32 := Scalar.muli c2_i32 v0
  let c31_i32_0 : BitVec 32 := 31#32
  let v2 : BitVec 32 := Scalar.subi c31_i32_0 v1
  let v3 : BitVec 32 := Scalar.muli arg0 v2
  let v4 : BitVec 32 := Scalar.addi v0 v3
  let c0_i32 : BitVec 32 := 0#32
  let c0_i32_1 : BitVec 32 := 0#32
  let c0_i32_2 : BitVec 32 := 0#32
  let c0_i32_3 : BitVec 32 := 0#32
  ![arg0.toNat, c0_i32.toNat, v4.toNat, c0_i32_1.toNat, c0_i32_2.toNat]

def cc0_transform_8 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c2_i32 : BitVec 32 := 2#32
  let v1 : BitVec 32 := Scalar.muli c2_i32 v0
  let c31_i32_0 : BitVec 32 := 31#32
  let v2 : BitVec 32 := Scalar.subi c31_i32_0 v1
  let v3 : BitVec 32 := Scalar.muli arg0 v2
  let v4 : BitVec 32 := Scalar.addi v0 v3
  let c0_i32 : BitVec 32 := 0#32
  let c0_i32_1 : BitVec 32 := 0#32
  let c0_i32_2 : BitVec 32 := 0#32
  ![arg0.toNat, c0_i32.toNat, v4.toNat, c0_i32_1.toNat]

def cc0_transform_9 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c2_i32 : BitVec 32 := 2#32
  let v1 : BitVec 32 := Scalar.muli c2_i32 v0
  let c31_i32_0 : BitVec 32 := 31#32
  let v2 : BitVec 32 := Scalar.subi c31_i32_0 v1
  let v3 : BitVec 32 := Scalar.muli arg0 v2
  let v4 : BitVec 32 := Scalar.addi v0 v3
  let c0_i32 : BitVec 32 := 0#32
  let c0_i32_1 : BitVec 32 := 0#32
  let c0_i32_2 : BitVec 32 := 0#32
  ![arg0.toNat, c0_i32.toNat, v4.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S4x2048x5408 : Shape := ⟨3, ![4, 2048, 5408]⟩
abbrev S16x256 : Shape := ⟨2, ![16, 256]⟩
abbrev S256 : Shape := ⟨1, ![256]⟩
abbrev S4x2048x512 : Shape := ⟨3, ![4, 2048, 512]⟩
abbrev S2x4x32x128x256 : Shape := ⟨5, ![2, 4, 32, 128, 256]⟩
abbrev S4x2048x1568 : Shape := ⟨3, ![4, 2048, 1568]⟩
abbrev S4x2048x256 : Shape := ⟨3, ![4, 2048, 256]⟩
abbrev S4x2048x16 : Shape := ⟨3, ![4, 2048, 16]⟩
abbrev S1x1x256 : Shape := ⟨3, ![1, 1, 256]⟩
abbrev S_ : Shape := ⟨0, ![]⟩
abbrev S8x2048x256 : Shape := ⟨3, ![8, 2048, 256]⟩
abbrev S8x2048x4x64 : Shape := ⟨4, ![8, 2048, 4, 64]⟩
abbrev S8x32x64x4x64 : Shape := ⟨5, ![8, 32, 64, 4, 64]⟩
abbrev S8x2048x512 : Shape := ⟨3, ![8, 2048, 512]⟩
abbrev S8x2048x4x128 : Shape := ⟨4, ![8, 2048, 4, 128]⟩
abbrev S8x32x64x4x128 : Shape := ⟨5, ![8, 32, 64, 4, 128]⟩
abbrev S1x4x32x128x256 : Shape := ⟨5, ![1, 4, 32, 128, 256]⟩
abbrev S4x32x128x256 : Shape := ⟨4, ![4, 32, 128, 256]⟩
abbrev S8x32x128x256 : Shape := ⟨4, ![8, 32, 128, 256]⟩
abbrev S8x32x128x4x64 : Shape := ⟨5, ![8, 32, 128, 4, 64]⟩
abbrev S8x32x4x64x128 : Shape := ⟨5, ![8, 32, 4, 64, 128]⟩
abbrev S8x32x1x4x64 : Shape := ⟨5, ![8, 32, 1, 4, 64]⟩
abbrev S8x32x4x64x64 : Shape := ⟨5, ![8, 32, 4, 64, 64]⟩
abbrev S64x64 : Shape := ⟨2, ![64, 64]⟩
abbrev S8x32x4x128x64 : Shape := ⟨5, ![8, 32, 4, 128, 64]⟩
abbrev S8x32x4x64 : Shape := ⟨4, ![8, 32, 4, 64]⟩
abbrev S8x4x64x128 : Shape := ⟨4, ![8, 4, 64, 128]⟩
abbrev S8x32x4x64x1 : Shape := ⟨5, ![8, 32, 4, 64, 1]⟩
abbrev S32x8x4x64x1 : Shape := ⟨5, ![32, 8, 4, 64, 1]⟩
abbrev S32x8x4x64x128 : Shape := ⟨5, ![32, 8, 4, 64, 128]⟩
abbrev S1x8x4x64x128 : Shape := ⟨5, ![1, 8, 4, 64, 128]⟩
abbrev S1x8x4x64x1 : Shape := ⟨5, ![1, 8, 4, 64, 1]⟩
abbrev S8x4x64x1 : Shape := ⟨4, ![8, 4, 64, 1]⟩
abbrev S8x2048x1024 : Shape := ⟨3, ![8, 2048, 1024]⟩
abbrev S4x2048x1024 : Shape := ⟨3, ![4, 2048, 1024]⟩
abbrev S1x4x2048x1024 : Shape := ⟨4, ![1, 4, 2048, 1024]⟩
abbrev S2x4x2048x1024 : Shape := ⟨4, ![2, 4, 2048, 1024]⟩

abbrev nBuf : Space → Nat
  | .hbm => 223
  | .vmem => 0
  | .smem => 0
  | _ => 0

abbrev hbmTy0_0 (i : Nat) : BufTy := match i % 128 with
  | 0 => ⟨S4x2048x5408, .f32⟩
  | 1 => ⟨S16x256, .f32⟩
  | 2 => ⟨S256, .f32⟩
  | 3 => ⟨S16x256, .f32⟩
  | 4 => ⟨S256, .f32⟩
  | 5 => ⟨S4x2048x512, .f32⟩
  | 6 => ⟨S2x4x32x128x256, .f32⟩
  | 7 => ⟨S4x2048x1568, .f32⟩
  | 8 => ⟨S4x2048x256, .f32⟩
  | 9 => ⟨S4x2048x256, .f32⟩
  | 10 => ⟨S4x2048x512, .f32⟩
  | 11 => ⟨S4x2048x512, .f32⟩
  | 12 => ⟨S4x2048x16, .f32⟩
  | 13 => ⟨S4x2048x16, .f32⟩
  | 14 => ⟨S4x2048x256, .f32⟩
  | 15 => ⟨S1x1x256, .f32⟩
  | 16 => ⟨S4x2048x256, .f32⟩
  | 17 => ⟨S4x2048x256, .f32⟩
  | 18 => ⟨S4x2048x256, .f32⟩
  | 19 => ⟨S_, .f32⟩
  | 20 => ⟨S4x2048x256, .f32⟩
  | 21 => ⟨S4x2048x256, .f32⟩
  | 22 => ⟨S4x2048x256, .f32⟩
  | 23 => ⟨S4x2048x256, .f32⟩
  | 24 => ⟨S4x2048x256, .i1⟩
  | 25 => ⟨S4x2048x256, .f32⟩
  | 26 => ⟨S4x2048x256, .f32⟩
  | 27 => ⟨S4x2048x256, .f32⟩
  | 28 => ⟨S4x2048x256, .f32⟩
  | 29 => ⟨S4x2048x256, .f32⟩
  | 30 => ⟨S4x2048x256, .f32⟩
  | 31 => ⟨S4x2048x256, .f32⟩
  | 32 => ⟨S4x2048x256, .f32⟩
  | 33 => ⟨S4x2048x256, .f32⟩
  | 34 => ⟨S_, .f32⟩
  | 35 => ⟨S4x2048x256, .f32⟩
  | 36 => ⟨S4x2048x256, .f32⟩
  | 37 => ⟨S4x2048x256, .f32⟩
  | 38 => ⟨S1x1x256, .f32⟩
  | 39 => ⟨S4x2048x256, .f32⟩
  | 40 => ⟨S4x2048x256, .f32⟩
  | 41 => ⟨S4x2048x256, .f32⟩
  | 42 => ⟨S_, .f32⟩
  | 43 => ⟨S4x2048x256, .f32⟩
  | 44 => ⟨S4x2048x256, .f32⟩
  | 45 => ⟨S4x2048x256, .f32⟩
  | 46 => ⟨S4x2048x256, .f32⟩
  | 47 => ⟨S4x2048x256, .i1⟩
  | 48 => ⟨S4x2048x256, .f32⟩
  | 49 => ⟨S4x2048x256, .f32⟩
  | 50 => ⟨S4x2048x256, .f32⟩
  | 51 => ⟨S4x2048x256, .f32⟩
  | 52 => ⟨S4x2048x256, .f32⟩
  | 53 => ⟨S4x2048x256, .f32⟩
  | 54 => ⟨S4x2048x256, .f32⟩
  | 55 => ⟨S4x2048x256, .f32⟩
  | 56 => ⟨S4x2048x256, .f32⟩
  | 57 => ⟨S_, .f32⟩
  | 58 => ⟨S4x2048x256, .f32⟩
  | 59 => ⟨S4x2048x256, .f32⟩
  | 60 => ⟨S4x2048x256, .f32⟩
  | 61 => ⟨S8x2048x256, .f32⟩
  | 62 => ⟨S8x2048x4x64, .f32⟩
  | 63 => ⟨S8x32x64x4x64, .f32⟩
  | 64 => ⟨S4x2048x256, .f32⟩
  | 65 => ⟨S8x2048x256, .f32⟩
  | 66 => ⟨S8x2048x4x64, .f32⟩
  | 67 => ⟨S8x32x64x4x64, .f32⟩
  | 68 => ⟨S4x2048x512, .f32⟩
  | 69 => ⟨S8x2048x512, .f32⟩
  | 70 => ⟨S8x2048x4x128, .f32⟩
  | 71 => ⟨S8x32x64x4x128, .f32⟩
  | 72 => ⟨S4x2048x256, .f32⟩
  | 73 => ⟨S8x2048x256, .f32⟩
  | 74 => ⟨S8x2048x4x64, .f32⟩
  | 75 => ⟨S8x32x64x4x64, .f32⟩
  | 76 => ⟨S4x2048x512, .f32⟩
  | 77 => ⟨S8x2048x512, .f32⟩
  | 78 => ⟨S8x2048x4x128, .f32⟩
  | 79 => ⟨S8x32x64x4x128, .f32⟩
  | 80 => ⟨S_, .f32⟩
  | 81 => ⟨S_, .f32⟩
  | 82 => ⟨S8x32x64x4x64, .f32⟩
  | 83 => ⟨S1x4x32x128x256, .f32⟩
  | 84 => ⟨S4x32x128x256, .f32⟩
  | 85 => ⟨S1x4x32x128x256, .f32⟩
  | 86 => ⟨S4x32x128x256, .f32⟩
  | 87 => ⟨S4x32x128x256, .f32⟩
  | 88 => ⟨S8x32x128x256, .f32⟩
  | 89 => ⟨S8x32x128x4x64, .f32⟩
  | 90 => ⟨S8x32x4x64x128, .f32⟩
  | 91 => ⟨S_, .f32⟩
  | 92 => ⟨S8x32x64x4x64, .f32⟩
  | 93 => ⟨S8x32x64x4x64, .f32⟩
  | 94 => ⟨S8x32x1x4x64, .f32⟩
  | 95 => ⟨S8x32x64x4x64, .f32⟩
  | 96 => ⟨S8x32x64x4x64, .f32⟩
  | 97 => ⟨S8x32x64x4x64, .f32⟩
  | 98 => ⟨S8x32x64x4x64, .f32⟩
  | 99 => ⟨S8x32x64x4x64, .f32⟩
  | 100 => ⟨S8x32x64x4x64, .f32⟩
  | 101 => ⟨S8x32x64x4x64, .f32⟩
  | 102 => ⟨S8x32x64x4x64, .f32⟩
  | 103 => ⟨S8x32x4x64x64, .f32⟩
  | 104 => ⟨S_, .i1⟩
  | 105 => ⟨S64x64, .i1⟩
  | 106 => ⟨S64x64, .i32⟩
  | 107 => ⟨S_, .i32⟩
  | 108 => ⟨S64x64, .i32⟩
  | 109 => ⟨S64x64, .i32⟩
  | 110 => ⟨S64x64, .i32⟩
  | 111 => ⟨S64x64, .i1⟩
  | 112 => ⟨S_, .i1⟩
  | 113 => ⟨S64x64, .i1⟩
  | 114 => ⟨S64x64, .i1⟩
  | 115 => ⟨S_, .f32⟩
  | 116 => ⟨S_, .f32⟩
  | 117 => ⟨S8x32x4x64x64, .i1⟩
  | 118 => ⟨S8x32x4x64x64, .f32⟩
  | 119 => ⟨S8x32x4x64x64, .f32⟩
  | 120 => ⟨S_, .f32⟩
  | 121 => ⟨S8x32x4x64x64, .f32⟩
  | 122 => ⟨S8x32x4x128x64, .f32⟩
  | 123 => ⟨S8x32x64x4x128, .f32⟩
  | 124 => ⟨S8x32x64x4x64, .f32⟩
  | 125 => ⟨S8x32x64x4x64, .f32⟩
  | 126 => ⟨S8x32x4x128x64, .f32⟩
  | 127 => ⟨S8x32x64x4x128, .f32⟩
  | _ => ⟨S4x2048x5408, .f32⟩

abbrev hbmTy0_1 (i : Nat) : BufTy := match i % 128 with
  | 0 => ⟨S8x32x64x4x128, .f32⟩
  | 1 => ⟨S8x32x4x128x64, .f32⟩
  | 2 => ⟨S8x32x4x64x64, .f32⟩
  | 3 => ⟨S8x32x64x4x64, .f32⟩
  | 4 => ⟨S8x32x4x128x64, .f32⟩
  | 5 => ⟨S8x32x4x64x128, .f32⟩
  | 6 => ⟨S8x32x64x4x64, .f32⟩
  | 7 => ⟨S8x32x4x128x64, .f32⟩
  | 8 => ⟨S8x32x4x64x64, .f32⟩
  | 9 => ⟨S8x32x4x128x64, .f32⟩
  | 10 => ⟨S8x32x64x4x128, .f32⟩
  | 11 => ⟨S_, .f32⟩
  | 12 => ⟨S8x32x4x64x64, .f32⟩
  | 13 => ⟨S8x32x4x64x64, .f32⟩
  | 14 => ⟨S8x32x4x64x64, .f32⟩
  | 15 => ⟨S8x32x64x4x64, .f32⟩
  | 16 => ⟨S8x32x4x64x64, .f32⟩
  | 17 => ⟨S8x32x64x4x64, .f32⟩
  | 18 => ⟨S8x32x64x4x64, .f32⟩
  | 19 => ⟨S8x32x64x4x64, .f32⟩
  | 20 => ⟨S8x32x64x4x64, .f32⟩
  | 21 => ⟨S_, .f32⟩
  | 22 => ⟨S8x32x64x4x64, .f32⟩
  | 23 => ⟨S8x32x64x4x64, .f32⟩
  | 24 => ⟨S8x32x1x4x64, .f32⟩
  | 25 => ⟨S8x32x4x64, .f32⟩
  | 26 => ⟨S8x32x4x64, .f32⟩
  | 27 => ⟨S_, .f32⟩
  | 28 => ⟨S8x4x64x128, .f32⟩
  | 29 => ⟨S8x32x4x64x1, .f32⟩
  | 30 => ⟨S32x8x4x64x1, .f32⟩
  | 31 => ⟨S32x8x4x64x128, .f32⟩
  | 32 => ⟨S_, .f32⟩
  | 33 => ⟨S8x4x64x128, .f32⟩
  | 34 => ⟨S_, .f32⟩
  | 35 => ⟨S32x8x4x64x128, .f32⟩
  | 36 => ⟨S_, .i32⟩
  | 37 => ⟨S32x8x4x64x128, .f32⟩
  | 38 => ⟨S32x8x4x64x1, .f32⟩
  | 39 => ⟨S_, .i32⟩
  | 40 => ⟨S8x4x64x128, .f32⟩
  | 41 => ⟨S32x8x4x64x128, .f32⟩
  | 42 => ⟨S_, .i32⟩
  | 43 => ⟨S_, .i1⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S1x8x4x64x128, .f32⟩
  | 53 => ⟨S8x4x64x128, .f32⟩
  | 54 => ⟨S_, .i32⟩
  | 55 => ⟨S_, .i32⟩
  | 56 => ⟨S_, .i32⟩
  | 57 => ⟨S_, .i32⟩
  | 58 => ⟨S1x8x4x64x1, .f32⟩
  | 59 => ⟨S8x4x64x1, .f32⟩
  | 60 => ⟨S8x4x64x128, .f32⟩
  | 61 => ⟨S8x4x64x128, .f32⟩
  | 62 => ⟨S8x4x64x128, .f32⟩
  | 63 => ⟨S1x8x4x64x128, .f32⟩
  | 64 => ⟨S_, .i32⟩
  | 65 => ⟨S_, .i32⟩
  | 66 => ⟨S_, .i32⟩
  | 67 => ⟨S_, .i32⟩
  | 68 => ⟨S32x8x4x64x128, .f32⟩
  | 69 => ⟨S_, .i32⟩
  | 70 => ⟨S_, .i32⟩
  | 71 => ⟨S8x32x4x64x128, .f32⟩
  | 72 => ⟨S8x32x1x4x64, .f32⟩
  | 73 => ⟨S8x32x64x4x64, .f32⟩
  | 74 => ⟨S8x32x64x4x64, .f32⟩
  | 75 => ⟨S8x32x64x4x64, .f32⟩
  | 76 => ⟨S8x32x64x4x64, .f32⟩
  | 77 => ⟨S8x32x4x64x128, .f32⟩
  | 78 => ⟨S8x32x4x128x64, .f32⟩
  | 79 => ⟨S8x32x64x4x128, .f32⟩
  | 80 => ⟨S8x32x4x64x64, .f32⟩
  | 81 => ⟨S8x32x64x4x64, .f32⟩
  | 82 => ⟨S8x32x64x4x64, .f32⟩
  | 83 => ⟨S8x32x64x4x64, .f32⟩
  | 84 => ⟨S8x32x64x4x128, .f32⟩
  | 85 => ⟨S8x2048x256, .f32⟩
  | 86 => ⟨S8x2048x256, .f32⟩
  | 87 => ⟨S8x2048x512, .f32⟩
  | 88 => ⟨S8x2048x1024, .f32⟩
  | 89 => ⟨S4x2048x1024, .f32⟩
  | 90 => ⟨S4x2048x1024, .f32⟩
  | 91 => ⟨S4x2048x1024, .f32⟩
  | 92 => ⟨S1x4x2048x1024, .f32⟩
  | 93 => ⟨S1x4x2048x1024, .f32⟩
  | 94 => ⟨S2x4x2048x1024, .f32⟩
  | _ => ⟨S4x2048x5408, .f32⟩

abbrev hbmTy (i : Nat) : BufTy := match i / 128 with
  | 0 => hbmTy0_0 i
  | 1 => hbmTy0_1 i
  | _ => ⟨S4x2048x5408, .f32⟩

abbrev bufTy : (tb : Table) → Fin (tcTables nBuf tb) → BufTy
  | .hbm, ⟨i, _⟩ => hbmTy i
  | _, _ => ⟨S4x2048x5408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v11 : Ref sig .tc := ⟨.hbm, 33, rfl⟩
abbrev main_cst : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_call1_v0 : Ref sig .tc := ⟨.hbm, 41, rfl⟩
abbrev main_call1_call0_cst : Ref sig .tc := ⟨.hbm, 42, rfl⟩
abbrev main_call1_call0_v0 : Ref sig .tc := ⟨.hbm, 43, rfl⟩
abbrev main_call1_call0_v1 : Ref sig .tc := ⟨.hbm, 44, rfl⟩
abbrev main_call1_call0_v2 : Ref sig .tc := ⟨.hbm, 45, rfl⟩
abbrev main_call1_call0_v3 : Ref sig .tc := ⟨.hbm, 46, rfl⟩
abbrev main_call1_call0_v4 : Ref sig .tc := ⟨.hbm, 47, rfl⟩
abbrev main_call1_call0_v5 : Ref sig .tc := ⟨.hbm, 48, rfl⟩
abbrev main_call1_call0_v6 : Ref sig .tc := ⟨.hbm, 49, rfl⟩
abbrev main_call1_call0_v7 : Ref sig .tc := ⟨.hbm, 50, rfl⟩
abbrev main_call1_call0_v8 : Ref sig .tc := ⟨.hbm, 51, rfl⟩
abbrev main_call1_call0_v9 : Ref sig .tc := ⟨.hbm, 52, rfl⟩
abbrev main_call1_call0_v10 : Ref sig .tc := ⟨.hbm, 53, rfl⟩
abbrev main_call1_call0_v11 : Ref sig .tc := ⟨.hbm, 54, rfl⟩
abbrev main_call1_v1 : Ref sig .tc := ⟨.hbm, 55, rfl⟩
abbrev main_v18 : Ref sig .tc := ⟨.hbm, 56, rfl⟩
abbrev main_cst_0 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_call7_call0_cst : Ref sig .tc := ⟨.hbm, 80, rfl⟩
abbrev main_call7_call0_v0 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_cst_1 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_c : Ref sig .tc := ⟨.hbm, 104, rfl⟩
abbrev main_v62 : Ref sig .tc := ⟨.hbm, 105, rfl⟩
abbrev main_call9_v0 : Ref sig .tc := ⟨.hbm, 106, rfl⟩
abbrev main_call9_c : Ref sig .tc := ⟨.hbm, 107, rfl⟩
abbrev main_call9_v1 : Ref sig .tc := ⟨.hbm, 108, rfl⟩
abbrev main_call9_v2 : Ref sig .tc := ⟨.hbm, 109, rfl⟩
abbrev main_call9_v3 : Ref sig .tc := ⟨.hbm, 110, rfl⟩
abbrev main_call9_v4 : Ref sig .tc := ⟨.hbm, 111, rfl⟩
abbrev main_call9_c_0 : Ref sig .tc := ⟨.hbm, 112, rfl⟩
abbrev main_call9_v5 : Ref sig .tc := ⟨.hbm, 113, rfl⟩
abbrev main_v63 : Ref sig .tc := ⟨.hbm, 114, rfl⟩
abbrev main_cst_2 : Ref sig .tc := ⟨.hbm, 115, rfl⟩
abbrev main_call10_v0 : Ref sig .tc := ⟨.hbm, 116, rfl⟩
abbrev main_v64_1 : Ref sig .tc := ⟨.hbm, 117, rfl⟩
abbrev main_call10_v2 : Ref sig .tc := ⟨.hbm, 118, rfl⟩
abbrev main_v64_0 : Ref sig .tc := ⟨.hbm, 119, rfl⟩
abbrev main_call10_cst : Ref sig .tc := ⟨.hbm, 120, rfl⟩
abbrev main_v64_2 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_call11_cst : Ref sig .tc := ⟨.hbm, 139, rfl⟩
abbrev main_call11_v0 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_cst_3 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_cst_4 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_cst_5 : Ref sig .tc := ⟨.hbm, 160, rfl⟩
abbrev main_v99 : Ref sig .tc := ⟨.hbm, 161, rfl⟩
abbrev main_cst_6 : Ref sig .tc := ⟨.hbm, 162, rfl⟩
abbrev main_v100 : Ref sig .tc := ⟨.hbm, 163, rfl⟩
abbrev main_c_7 : Ref sig .tc := ⟨.hbm, 164, rfl⟩
abbrev main_v101_0 : Ref sig .tc := ⟨.hbm, 165, rfl⟩
abbrev main_v101_1 : Ref sig .tc := ⟨.hbm, 166, rfl⟩
abbrev main_v101_2 : Ref sig .tc := ⟨.hbm, 167, rfl⟩
abbrev main_v101_3 : Ref sig .tc := ⟨.hbm, 168, rfl⟩
abbrev main_v101_4 : Ref sig .tc := ⟨.hbm, 169, rfl⟩
abbrev main_while0c_c_12 : Ref sig .tc := ⟨.hbm, 170, rfl⟩
abbrev main_while0c_v126 : Ref sig .tc := ⟨.hbm, 171, rfl⟩
abbrev main_while0b_c_12 : Ref sig .tc := ⟨.hbm, 172, rfl⟩
abbrev main_while0b_v126 : Ref sig .tc := ⟨.hbm, 173, rfl⟩
abbrev main_while0b_c_13 : Ref sig .tc := ⟨.hbm, 174, rfl⟩
abbrev main_while0b_v127 : Ref sig .tc := ⟨.hbm, 175, rfl⟩
abbrev main_while0b_call12_c : Ref sig .tc := ⟨.hbm, 176, rfl⟩
abbrev main_while0b_call12_c_0 : Ref sig .tc := ⟨.hbm, 177, rfl⟩
abbrev main_while0b_call12_c_1 : Ref sig .tc := ⟨.hbm, 178, rfl⟩
abbrev main_while0b_call12_c_2 : Ref sig .tc := ⟨.hbm, 179, rfl⟩
abbrev main_while0b_call12_v0 : Ref sig .tc := ⟨.hbm, 180, rfl⟩
abbrev main_while0b_v128 : Ref sig .tc := ⟨.hbm, 181, rfl⟩
abbrev main_while0b_call13_c : Ref sig .tc := ⟨.hbm, 182, rfl⟩
abbrev main_while0b_call13_c_0 : Ref sig .tc := ⟨.hbm, 183, rfl⟩
abbrev main_while0b_call13_c_1 : Ref sig .tc := ⟨.hbm, 184, rfl⟩
abbrev main_while0b_call13_c_2 : Ref sig .tc := ⟨.hbm, 185, rfl⟩
abbrev main_while0b_call13_v0 : Ref sig .tc := ⟨.hbm, 186, rfl⟩
abbrev main_while0b_v129 : Ref sig .tc := ⟨.hbm, 187, rfl⟩
abbrev main_while0b_v130 : Ref sig .tc := ⟨.hbm, 188, rfl⟩
abbrev main_while0b_v131 : Ref sig .tc := ⟨.hbm, 189, rfl⟩
abbrev main_while0b_v132 : Ref sig .tc := ⟨.hbm, 190, rfl⟩
abbrev main_while0b_call14_v0 : Ref sig .tc := ⟨.hbm, 191, rfl⟩
abbrev main_while0b_call14_c : Ref sig .tc := ⟨.hbm, 192, rfl⟩
abbrev main_while0b_call14_c_0 : Ref sig .tc := ⟨.hbm, 193, rfl⟩
abbrev main_while0b_call14_c_1 : Ref sig .tc := ⟨.hbm, 194, rfl⟩
abbrev main_while0b_call14_c_2 : Ref sig .tc := ⟨.hbm, 195, rfl⟩
abbrev main_while0b_v133 : Ref sig .tc := ⟨.hbm, 196, rfl⟩
abbrev main_while0b_c_14 : Ref sig .tc := ⟨.hbm, 197, rfl⟩
abbrev main_while0b_v134 : Ref sig .tc := ⟨.hbm, 198, rfl⟩
abbrev main_v102 : Ref sig .tc := ⟨.hbm, 199, rfl⟩
abbrev main_v103 : Ref sig .tc := ⟨.hbm, 200, rfl⟩
abbrev main_v104 : Ref sig .tc := ⟨.hbm, 201, rfl⟩
abbrev main_v105 : Ref sig .tc := ⟨.hbm, 202, rfl⟩
abbrev main_v106 : Ref sig .tc := ⟨.hbm, 203, rfl⟩
abbrev main_v107 : Ref sig .tc := ⟨.hbm, 204, rfl⟩
abbrev main_v108 : Ref sig .tc := ⟨.hbm, 205, rfl⟩
abbrev main_v109 : Ref sig .tc := ⟨.hbm, 206, rfl⟩
abbrev main_v110 : Ref sig .tc := ⟨.hbm, 207, rfl⟩
abbrev main_v111 : Ref sig .tc := ⟨.hbm, 208, rfl⟩
abbrev main_v112 : Ref sig .tc := ⟨.hbm, 209, rfl⟩
abbrev main_v113 : Ref sig .tc := ⟨.hbm, 210, rfl⟩
abbrev main_v114 : Ref sig .tc := ⟨.hbm, 211, rfl⟩
abbrev main_v115 : Ref sig .tc := ⟨.hbm, 212, rfl⟩
abbrev main_v116 : Ref sig .tc := ⟨.hbm, 213, rfl⟩
abbrev main_v117 : Ref sig .tc := ⟨.hbm, 214, rfl⟩
abbrev main_v118 : Ref sig .tc := ⟨.hbm, 215, rfl⟩
abbrev main_v119 : Ref sig .tc := ⟨.hbm, 216, rfl⟩
abbrev main_v120 : Ref sig .tc := ⟨.hbm, 217, rfl⟩
abbrev main_v121 : Ref sig .tc := ⟨.hbm, 218, rfl⟩
abbrev main_v122 : Ref sig .tc := ⟨.hbm, 219, rfl⟩
abbrev main_v123 : Ref sig .tc := ⟨.hbm, 220, rfl⟩
abbrev main_v124 : Ref sig .tc := ⟨.hbm, 221, rfl⟩
abbrev main_v125 : Ref sig .tc := ⟨.hbm, 222, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S8192x1024 : Shape := ⟨2, ![8192, 1024]⟩
abbrev S1024x5504 : Shape := ⟨2, ![1024, 5504]⟩
abbrev S1024x2752 : Shape := ⟨2, ![1024, 2752]⟩
abbrev S_ : Shape := ⟨0, ![]⟩
abbrev S1024x64 : Shape := ⟨2, ![1024, 64]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 12
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x5504, .f32⟩
  | .hbm, ⟨2, _⟩ => ⟨S8192x1024, .bf16⟩
  | .hbm, ⟨3, _⟩ => ⟨S1024x5504, .bf16⟩
  | .hbm, ⟨4, _⟩ => ⟨S1024x2752, .bf16⟩
  | .hbm, ⟨5, _⟩ => ⟨S_, .bf16⟩
  | .hbm, ⟨6, _⟩ => ⟨S1024x64, .bf16⟩
  | .hbm, ⟨7, _⟩ => ⟨S1024x2752, .bf16⟩
  | .hbm, ⟨8, _⟩ => ⟨S_, .bf16⟩
  | .hbm, ⟨9, _⟩ => ⟨S1024x64, .bf16⟩
  | .hbm, ⟨10, _⟩ => ⟨S1024x5632, .bf16⟩
  | .hbm, ⟨11, _⟩ => ⟨S8192x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8192x1024 : Shape := ⟨2, ![8192, 1024]⟩
abbrev S1024x5504 : Shape := ⟨2, ![1024, 5504]⟩
abbrev S8192x5504 : Shape := ⟨2, ![8192, 5504]⟩
abbrev S8192x2752 : Shape := ⟨2, ![8192, 2752]⟩
abbrev S_ : Shape := ⟨0, ![]⟩
abbrev S8192x64 : Shape := ⟨2, ![8192, 64]⟩
abbrev S8192x5632 : Shape := ⟨2, ![8192, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5504, .f32⟩
  | .hbm, ⟨2, _⟩ => ⟨S8192x5504, .f32⟩
  | .hbm, ⟨3, _⟩ => ⟨S8192x2752, .f32⟩
  | .hbm, ⟨4, _⟩ => ⟨S8192x2752, .f32⟩
  | .hbm, ⟨5, _⟩ => ⟨S_, .f32⟩
  | .hbm, ⟨6, _⟩ => ⟨S8192x64, .f32⟩
  | .hbm, ⟨7, _⟩ => ⟨S8192x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S8192x1024 : Shape := ⟨2, ![8192, 1024]⟩
abbrev S1024x5408 : Shape := ⟨2, ![1024, 5408]⟩
abbrev S1024x1536 : Shape := ⟨2, ![1024, 1536]⟩
abbrev S1024x2048 : Shape := ⟨2, ![1024, 2048]⟩
abbrev S1024x256 : Shape := ⟨2, ![1024, 256]⟩
abbrev S1024x32 : Shape := ⟨2, ![1024, 32]⟩
abbrev S_ : Shape := ⟨0, ![]⟩
abbrev S1024x224 : Shape := ⟨2, ![1024, 224]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 13
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x5408, .f32⟩
  | .hbm, ⟨2, _⟩ => ⟨S1024x5408, .bf16⟩
  | .hbm, ⟨3, _⟩ => ⟨S1024x1536, .bf16⟩
  | .hbm, ⟨4, _⟩ => ⟨S1024x1536, .bf16⟩
  | .hbm, ⟨5, _⟩ => ⟨S1024x2048, .bf16⟩
  | .hbm, ⟨6, _⟩ => ⟨S1024x256, .bf16⟩
  | .hbm, ⟨7, _⟩ => ⟨S1024x32, .bf16⟩
  | .hbm, ⟨8, _⟩ => ⟨S_, .bf16⟩
  | .hbm, ⟨9, _⟩ => ⟨S1024x224, .bf16⟩
  | .hbm, ⟨10, _⟩ => ⟨S1024x5632, .bf16⟩
  | .hbm, ⟨11, _⟩ => ⟨S8192x1024, .bf16⟩
  | .hbm, ⟨12, _⟩ => ⟨S8192x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8192x1024 : Shape := ⟨2, ![8192, 1024]⟩
abbrev S1024x5408 : Shape := ⟨2, ![1024, 5408]⟩
abbrev S8192x5408 : Shape := ⟨2, ![8192, 5408]⟩
abbrev S8192x1568 : Shape := ⟨2, ![8192, 1568]⟩
abbrev S8192x1792 : Shape := ⟨2, ![8192, 1792]⟩
abbrev S8192x2048 : Shape := ⟨2, ![8192, 2048]⟩
abbrev S8192x1536 : Shape := ⟨2, ![8192, 1536]⟩
abbrev S8192x32 : Shape := ⟨2, ![8192, 32]⟩
abbrev S8192x256 : Shape := ⟨2, ![8192, 256]⟩
abbrev S_ : Shape := ⟨0, ![]⟩
abbrev S8192x224 : Shape := ⟨2, ![8192, 224]⟩
abbrev S8192x5632 : Shape := ⟨2, ![8192, 5632]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5408, .f32⟩
  | .hbm, ⟨2, _⟩ => ⟨S8192x5408, .f32⟩
  | .hbm, ⟨3, _⟩ => ⟨S8192x1568, .f32⟩
  | .hbm, ⟨4, _⟩ => ⟨S8192x1792, .f32⟩
  | .hbm, ⟨5, _⟩ => ⟨S8192x2048, .f32⟩
  | .hbm, ⟨6, _⟩ => ⟨S8192x1536, .f32⟩
  | .hbm, ⟨7, _⟩ => ⟨S8192x32, .f32⟩
  | .hbm, ⟨8, _⟩ => ⟨S8192x1536, .f32⟩
  | .hbm, ⟨9, _⟩ => ⟨S8192x256, .f32⟩
  | .hbm, ⟨10, _⟩ => ⟨S_, .f32⟩
  | .hbm, ⟨11, _⟩ => ⟨S8192x224, .f32⟩
  | .hbm, ⟨12, _⟩ => ⟨S8192x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel4.lean ====
abbrev S8192x2816 : Shape := ⟨2, ![8192, 2816]⟩
abbrev S2752x1024 : Shape := ⟨2, ![2752, 1024]⟩
abbrev S8192x1024 : Shape := ⟨2, ![8192, 1024]⟩
abbrev S_ : Shape := ⟨0, ![]⟩
abbrev S64x1024 : Shape := ⟨2, ![64, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S2752x1024, .f32⟩
  | .hbm, ⟨2, _⟩ => ⟨S8192x1024, .f32⟩
  | .hbm, ⟨3, _⟩ => ⟨S2752x1024, .bf16⟩
  | .hbm, ⟨4, _⟩ => ⟨S_, .bf16⟩
  | .hbm, ⟨5, _⟩ => ⟨S64x1024, .bf16⟩
  | .hbm, ⟨6, _⟩ => ⟨S2816x1024, .bf16⟩
  | .hbm, ⟨7, _⟩ => ⟨S8192x2816, .bf16⟩
  | .hbm, ⟨8, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8192x2816 : Shape := ⟨2, ![8192, 2816]⟩
abbrev S2752x1024 : Shape := ⟨2, ![2752, 1024]⟩
abbrev S8192x1024 : Shape := ⟨2, ![8192, 1024]⟩
abbrev S8192x2752 : Shape := ⟨2, ![8192, 2752]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2752x1024, .f32⟩
  | .hbm, ⟨2, _⟩ => ⟨S8192x1024, .f32⟩
  | .hbm, ⟨3, _⟩ => ⟨S8192x2752, .f32⟩
  | .hbm, ⟨4, _⟩ => ⟨S8192x1024, .f32⟩
  | .hbm, ⟨5, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S8192x1024 : Shape := ⟨2, ![8192, 1024]⟩
abbrev S2752x1024 : Shape := ⟨2, ![2752, 1024]⟩
abbrev S_ : Shape := ⟨0, ![]⟩
abbrev S64x1024 : Shape := ⟨2, ![64, 1024]⟩
abbrev S2816x1024 : Shape := ⟨2, ![2816, 1024]⟩
abbrev S1024x2816 : Shape := ⟨2, ![1024, 2816]⟩
abbrev S8192x2816 : Shape := ⟨2, ![8192, 2816]⟩
abbrev S1024x1024 : Shape := ⟨2, ![1024, 1024]⟩
abbrev S1024x1408 : Shape := ⟨2, ![1024, 1408]⟩

abbrev nBuf : Space → Nat
  | .hbm => 9
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2752x1024, .f32⟩
  | .hbm, ⟨2, _⟩ => ⟨S2752x1024, .bf16⟩
  | .hbm, ⟨3, _⟩ => ⟨S_, .bf16⟩
  | .hbm, ⟨4, _⟩ => ⟨S64x1024, .bf16⟩
  | .hbm, ⟨5, _⟩ => ⟨S2816x1024, .bf16⟩
  | .hbm, ⟨6, _⟩ => ⟨S8192x1024, .bf16⟩
  | .hbm, ⟨7, _⟩ => ⟨S1024x2816, .bf16⟩
  | .hbm, ⟨8, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8192x1024 : Shape := ⟨2, ![8192, 1024]⟩
abbrev S2752x1024 : Shape := ⟨2, ![2752, 1024]⟩
abbrev S8192x2752 : Shape := ⟨2, ![8192, 2752]⟩
abbrev S_ : Shape := ⟨0, ![]⟩
abbrev S8192x64 : Shape := ⟨2, ![8192, 64]⟩
abbrev S8192x2816 : Shape := ⟨2, ![8192, 2816]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2752x1024, .f32⟩
  | .hbm, ⟨2, _⟩ => ⟨S8192x2752, .f32⟩
  | .hbm, ⟨3, _⟩ => ⟨S_, .f32⟩
  | .hbm, ⟨4, _⟩ => ⟨S8192x64, .f32⟩
  | .hbm, ⟨5, _⟩ => ⟨S8192x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S8192x2816 : Shape := ⟨2, ![8192, 2816]⟩
abbrev S1024x5504 : Shape := ⟨2, ![1024, 5504]⟩
abbrev S1024x2752 : Shape := ⟨2, ![1024, 2752]⟩
abbrev S_ : Shape := ⟨0, ![]⟩
abbrev S1024x64 : Shape := ⟨2, ![1024, 64]⟩
abbrev S1024x5632 : Shape := ⟨2, ![1024, 5632]⟩
abbrev S5632x1024 : Shape := ⟨2, ![5632, 1024]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 14
  | .vmem => 5
  | .smem => 0
  | _ => 0

abbrev bufTy : (tb : Table) → Fin (tcTables nBuf tb) → BufTy
  | .hbm, ⟨0, _⟩ => ⟨S8192x2816, .f32⟩
  | .hbm, ⟨1, _⟩ => ⟨S1024x5504, .f32⟩
  | .hbm, ⟨2, _⟩ => ⟨S1024x5504, .bf16⟩
  | .hbm, ⟨3, _⟩ => ⟨S1024x2752, .bf16⟩
  | .hbm, ⟨4, _⟩ => ⟨S_, .bf16⟩
  | .hbm, ⟨5, _⟩ => ⟨S1024x64, .bf16⟩
  | .hbm, ⟨6, _⟩ => ⟨S1024x2752, .bf16⟩
  | .hbm, ⟨7, _⟩ => ⟨S_, .bf16⟩
  | .hbm, ⟨8, _⟩ => ⟨S1024x64, .bf16⟩
  | .hbm, ⟨9, _⟩ => ⟨S1024x5632, .bf16⟩
  | .hbm, ⟨10, _⟩ => ⟨S5632x1024, .bf16⟩
  | .hbm, ⟨11, _⟩ => ⟨S8192x2816, .bf16⟩
  | .hbm, ⟨12, _⟩ => ⟨S2816x1024, .bf16⟩
  | .hbm, ⟨13, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8192x2816 : Shape := ⟨2, ![8192, 2816]⟩
abbrev S1024x5504 : Shape := ⟨2, ![1024, 5504]⟩
abbrev S8192x2752 : Shape := ⟨2, ![8192, 2752]⟩
abbrev S_ : Shape := ⟨0, ![]⟩
abbrev S8192x5504 : Shape := ⟨2, ![8192, 5504]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S1024x5504, .f32⟩
  | .hbm, ⟨2, _⟩ => ⟨S8192x2752, .f32⟩
  | .hbm, ⟨3, _⟩ => ⟨S_, .f32⟩
  | .hbm, ⟨4, _⟩ => ⟨S8192x2752, .f32⟩
  | .hbm, ⟨5, _⟩ => ⟨S8192x5504, .f32⟩
  | .hbm, ⟨6, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S8192x2816 : Shape := ⟨2, ![8192, 2816]⟩
abbrev S1024x5504 : Shape := ⟨2, ![1024, 5504]⟩
abbrev S8192x1024 : Shape := ⟨2, ![8192, 1024]⟩
abbrev S1024x2752 : Shape := ⟨2, ![1024, 2752]⟩
abbrev S_ : Shape := ⟨0, ![]⟩
abbrev S1024x64 : Shape := ⟨2, ![1024, 64]⟩
abbrev S1024x5632 : Shape := ⟨2, ![1024, 5632]⟩
abbrev S5632x1024 : Shape := ⟨2, ![5632, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 15
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S1024x5504, .f32⟩
  | .hbm, ⟨2, _⟩ => ⟨S8192x1024, .f32⟩
  | .hbm, ⟨3, _⟩ => ⟨S1024x5504, .bf16⟩
  | .hbm, ⟨4, _⟩ => ⟨S1024x2752, .bf16⟩
  | .hbm, ⟨5, _⟩ => ⟨S_, .bf16⟩
  | .hbm, ⟨6, _⟩ => ⟨S1024x64, .bf16⟩
  | .hbm, ⟨7, _⟩ => ⟨S1024x2752, .bf16⟩
  | .hbm, ⟨8, _⟩ => ⟨S_, .bf16⟩
  | .hbm, ⟨9, _⟩ => ⟨S1024x64, .bf16⟩
  | .hbm, ⟨10, _⟩ => ⟨S1024x5632, .bf16⟩
  | .hbm, ⟨11, _⟩ => ⟨S5632x1024, .bf16⟩
  | .hbm, ⟨12, _⟩ => ⟨S8192x2816, .bf16⟩
  | .hbm, ⟨13, _⟩ => ⟨S2816x1024, .bf16⟩
  | .hbm, ⟨14, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8192x2816 : Shape := ⟨2, ![8192, 2816]⟩
abbrev S1024x5504 : Shape := ⟨2, ![1024, 5504]⟩
abbrev S8192x1024 : Shape := ⟨2, ![8192, 1024]⟩
abbrev S8192x2752 : Shape := ⟨2, ![8192, 2752]⟩
abbrev S_ : Shape := ⟨0, ![]⟩
abbrev S8192x5504 : Shape := ⟨2, ![8192, 5504]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S1024x5504, .f32⟩
  | .hbm, ⟨2, _⟩ => ⟨S8192x1024, .f32⟩
  | .hbm, ⟨3, _⟩ => ⟨S8192x2752, .f32⟩
  | .hbm, ⟨4, _⟩ => ⟨S_, .f32⟩
  | .hbm, ⟨5, _⟩ => ⟨S8192x2752, .f32⟩
  | .hbm, ⟨6, _⟩ => ⟨S8192x5504, .f32⟩
  | .hbm, ⟨7, _⟩ => ⟨S8192x1024, .f32⟩
  | .hbm, ⟨8, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel8.lean ====
abbrev S8192x1024 : Shape := ⟨2, ![8192, 1024]⟩
abbrev S8192x2816 : Shape := ⟨2, ![8192, 2816]⟩
abbrev S1024x2816 : Shape := ⟨2, ![1024, 2816]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x1024, .bf16⟩
  | .hbm, ⟨3, _⟩ => ⟨S8192x2816, .bf16⟩
  | .hbm, ⟨4, _⟩ => ⟨S1024x2816, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S8192x2816 : Shape := ⟨2, ![8192, 2816]⟩
abbrev S2816x1024 : Shape := ⟨2, ![2816, 1024]⟩
abbrev S1024x2816 : Shape := ⟨2, ![1024, 2816]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S2816x1024, .f32⟩
  | .hbm, ⟨3, _⟩ => ⟨S1024x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel9.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2816 : Shape := ⟨2, ![8192, 2816]⟩
abbrev S8192x1024 : Shape := ⟨2, ![8192, 1024]⟩
abbrev S1024x2816 : Shape := ⟨2, ![1024, 2816]⟩
abbrev S2816x1024 : Shape := ⟨2, ![2816, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S1024x2816, .f32⟩
  | .hbm, ⟨3, _⟩ => ⟨S2816x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel11.lean ====
abbrev S8192x1024 : Shape := ⟨2, ![8192, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S1024x1024, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel12.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel13.lean ====
abbrev S8192x1024 : Shape := ⟨2, ![8192, 1024]⟩
abbrev S8192x1792 : Shape := ⟨2, ![8192, 1792]⟩
abbrev S1024x1792 : Shape := ⟨2, ![1024, 1792]⟩
abbrev S2048x1024 : Shape := ⟨2, ![2048, 1024]⟩
abbrev S2048x896 : Shape := ⟨2, ![2048, 896]⟩
abbrev S1024x896 : Shape := ⟨2, ![1024, 896]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1792, .f32⟩
  | .hbm, ⟨2, _⟩ => ⟨S8192x1024, .bf16⟩
  | .hbm, ⟨3, _⟩ => ⟨S8192x1792, .bf16⟩
  | .hbm, ⟨4, _⟩ => ⟨S1024x1792, .f32⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .f32⟩
  | .local _ .vmem, ⟨5, _⟩ => ⟨S1024x896, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S8192x1792 : Shape := ⟨2, ![8192, 1792]⟩
abbrev S1792x1024 : Shape := ⟨2, ![1792, 1024]⟩
abbrev S1024x1792 : Shape := ⟨2, ![1024, 1792]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1792, .f32⟩
  | .hbm, ⟨2, _⟩ => ⟨S1792x1024, .f32⟩
  | .hbm, ⟨3, _⟩ => ⟨S1024x1792, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel14.lean ====
abbrev S8192x1024 : Shape := ⟨2, ![8192, 1024]⟩
abbrev S8192x512 : Shape := ⟨2, ![8192, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x1024, .bf16⟩
  | .hbm, ⟨3, _⟩ => ⟨S8192x512, .bf16⟩
  | .hbm, ⟨4, _⟩ => ⟨S1024x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S8192x512 : Shape := ⟨2, ![8192, 512]⟩
abbrev S512x1024 : Shape := ⟨2, ![512, 1024]⟩
abbrev S1024x512 : Shape := ⟨2, ![1024, 512]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S512x1024, .f32⟩
  | .hbm, ⟨3, _⟩ => ⟨S1024x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel15.lean ====
abbrev S8192x1024 : Shape := ⟨2, ![8192, 1024]⟩
abbrev S8192x128 : Shape := ⟨2, ![8192, 128]⟩
abbrev S1024x128 : Shape := ⟨2, ![1024, 128]⟩
abbrev S2048x1024 : Shape := ⟨2, ![2048, 1024]⟩
abbrev S2048x128 : Shape := ⟨2, ![2048, 128]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x128, .f32⟩
  | .hbm, ⟨2, _⟩ => ⟨S8192x1024, .bf16⟩
  | .hbm, ⟨3, _⟩ => ⟨S8192x128, .bf16⟩
  | .hbm, ⟨4, _⟩ => ⟨S1024x128, .f32⟩
  | .local _ .vmem, ⟨0, _⟩ => ⟨S2048x1024, .bf16⟩
  | .local _ .vmem, ⟨1, _⟩ => ⟨S2048x1024, .bf16⟩
  | .local _ .vmem, ⟨2, _⟩ => ⟨S2048x128, .bf16⟩
  | .local _ .vmem, ⟨3, _⟩ => ⟨S2048x128, .bf16⟩
  | .local _ .vmem, ⟨4, _⟩ => ⟨S1024x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S8192x1024 : Shape := ⟨2, ![8192, 1024]⟩
abbrev S8192x128 : Shape := ⟨2, ![8192, 128]⟩
abbrev S128x1024 : Shape := ⟨2, ![128, 1024]⟩
abbrev S1024x128 : Shape := ⟨2, ![1024, 128]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x128, .f32⟩
  | .hbm, ⟨2, _⟩ => ⟨S128x1024, .f32⟩
  | .hbm, ⟨3, _⟩ => ⟨S1024x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel16.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x512, .bf16⟩
  | .hbm, ⟨3, _⟩ => ⟨S8192x1024, .bf16⟩
  | .hbm, ⟨4, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S8192x512 : Shape := ⟨2, ![8192, 512]⟩
abbrev S8192x1024 : Shape := ⟨2, ![8192, 1024]⟩
abbrev S1024x512 : Shape := ⟨2, ![1024, 512]⟩
abbrev S512x1024 : Shape := ⟨2, ![512, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S1024x512, .f32⟩
  | .hbm, ⟨3, _⟩ => ⟨S512x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel17.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x512, .bf16⟩
  | .hbm, ⟨3, _⟩ => ⟨S512x1024, .bf16⟩
  | .hbm, ⟨4, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel18.lean ====
abbrev S8192x1024 : Shape := ⟨2, ![8192, 1024]⟩
abbrev S512x1024 : Shape := ⟨2, ![512, 1024]⟩
abbrev S1024x512 : Shape := ⟨2, ![1024, 512]⟩
abbrev S8192x512 : Shape := ⟨2, ![8192, 512]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S512x1024, .f32⟩
  | .hbm, ⟨2, _⟩ => ⟨S8192x1024, .bf16⟩
  | .hbm, ⟨3, _⟩ => ⟨S512x1024, .bf16⟩
  | .hbm, ⟨4, _⟩ => ⟨S1024x512, .bf16⟩
  | .hbm, ⟨5, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference18Ideal.lean ====
abbrev S8192x1024 : Shape := ⟨2, ![8192, 1024]⟩
abbrev S512x1024 : Shape := ⟨2, ![512, 1024]⟩
abbrev S8192x512 : Shape := ⟨2, ![8192, 512]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S512x1024, .f32⟩
  | .hbm, ⟨2, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel19.lean ====
abbrev S8192x1024 : Shape := ⟨2, ![8192, 1024]⟩
abbrev S1024x5408 : Shape := ⟨2, ![1024, 5408]⟩
abbrev S1024x1536 : Shape := ⟨2, ![1024, 1536]⟩
abbrev S1024x2048 : Shape := ⟨2, ![1024, 2048]⟩
abbrev S1024x256 : Shape := ⟨2, ![1024, 256]⟩
abbrev S1024x32 : Shape := ⟨2, ![1024, 32]⟩
abbrev S_ : Shape := ⟨0, ![]⟩
abbrev S1024x224 : Shape := ⟨2, ![1024, 224]⟩
abbrev S1024x5632 : Shape := ⟨2, ![1024, 5632]⟩
abbrev S5632x1024 : Shape := ⟨2, ![5632, 1024]⟩
abbrev S1024x1024 : Shape := ⟨2, ![1024, 1024]⟩

abbrev nBuf : Space → Nat
  | .hbm => 15
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x5408, .f32⟩
  | .hbm, ⟨2, _⟩ => ⟨S1024x5408, .bf16⟩
  | .hbm, ⟨3, _⟩ => ⟨S1024x1536, .bf16⟩
  | .hbm, ⟨4, _⟩ => ⟨S1024x1536, .bf16⟩
  | .hbm, ⟨5, _⟩ => ⟨S1024x2048, .bf16⟩
  | .hbm, ⟨6, _⟩ => ⟨S1024x256, .bf16⟩
  | .hbm, ⟨7, _⟩ => ⟨S1024x32, .bf16⟩
  | .hbm, ⟨8, _⟩ => ⟨S_, .bf16⟩
  | .hbm, ⟨9, _⟩ => ⟨S1024x224, .bf16⟩
  | .hbm, ⟨10, _⟩ => ⟨S1024x5632, .bf16⟩
  | .hbm, ⟨11, _⟩ => ⟨S5632x1024, .bf16⟩
  | .hbm, ⟨12, _⟩ => ⟨S8192x1024, .bf16⟩
  | .hbm, ⟨13, _⟩ => ⟨S1024x1024, .bf16⟩
  | .hbm, ⟨14, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference19Ideal.lean ====
abbrev S8192x1024 : Shape := ⟨2, ![8192, 1024]⟩
abbrev S1024x5408 : Shape := ⟨2, ![1024, 5408]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5408, .f32⟩
  | .hbm, ⟨2, _⟩ => ⟨S1024x1024, .f32⟩
  | .hbm, ⟨3, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel20.lean ====
abbrev S8192x512 : Shape := ⟨2, ![8192, 512]⟩
abbrev S1024x5408 : Shape := ⟨2, ![1024, 5408]⟩
abbrev S8192x1024 : Shape := ⟨2, ![8192, 1024]⟩
abbrev S1024x1536 : Shape := ⟨2, ![1024, 1536]⟩
abbrev S1024x2048 : Shape := ⟨2, ![1024, 2048]⟩
abbrev S1024x256 : Shape := ⟨2, ![1024, 256]⟩
abbrev S1024x32 : Shape := ⟨2, ![1024, 32]⟩
abbrev S_ : Shape := ⟨0, ![]⟩
abbrev S1024x224 : Shape := ⟨2, ![1024, 224]⟩
abbrev S1024x5632 : Shape := ⟨2, ![1024, 5632]⟩
abbrev S5632x1024 : Shape := ⟨2, ![5632, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 16
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S1024x5408, .f32⟩
  | .hbm, ⟨2, _⟩ => ⟨S8192x1024, .f32⟩
  | .hbm, ⟨3, _⟩ => ⟨S1024x5408, .bf16⟩
  | .hbm, ⟨4, _⟩ => ⟨S1024x1536, .bf16⟩
  | .hbm, ⟨5, _⟩ => ⟨S1024x1536, .bf16⟩
  | .hbm, ⟨6, _⟩ => ⟨S1024x2048, .bf16⟩
  | .hbm, ⟨7, _⟩ => ⟨S1024x256, .bf16⟩
  | .hbm, ⟨8, _⟩ => ⟨S1024x32, .bf16⟩
  | .hbm, ⟨9, _⟩ => ⟨S_, .bf16⟩
  | .hbm, ⟨10, _⟩ => ⟨S1024x224, .bf16⟩
  | .hbm, ⟨11, _⟩ => ⟨S1024x5632, .bf16⟩
  | .hbm, ⟨12, _⟩ => ⟨S5632x1024, .bf16⟩
  | .hbm, ⟨13, _⟩ => ⟨S8192x512, .bf16⟩
  | .hbm, ⟨14, _⟩ => ⟨S512x1024, .bf16⟩
  | .hbm, ⟨15, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference20Ideal.lean ====
abbrev S8192x512 : Shape := ⟨2, ![8192, 512]⟩
abbrev S1024x5408 : Shape := ⟨2, ![1024, 5408]⟩
abbrev S8192x1024 : Shape := ⟨2, ![8192, 1024]⟩
abbrev S1024x512 : Shape := ⟨2, ![1024, 512]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S1024x5408, .f32⟩
  | .hbm, ⟨2, _⟩ => ⟨S8192x1024, .f32⟩
  | .hbm, ⟨3, _⟩ => ⟨S1024x512, .f32⟩
  | .hbm, ⟨4, _⟩ => ⟨S8192x1024, .f32⟩
  | .hbm, ⟨5, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel21.lean ====
abbrev S8192x1792 : Shape := ⟨2, ![8192, 1792]⟩
abbrev S1024x5408 : Shape := ⟨2, ![1024, 5408]⟩
abbrev S8192x1024 : Shape := ⟨2, ![8192, 1024]⟩
abbrev S1024x1536 : Shape := ⟨2, ![1024, 1536]⟩
abbrev S1024x2048 : Shape := ⟨2, ![1024, 2048]⟩
abbrev S1024x256 : Shape := ⟨2, ![1024, 256]⟩
abbrev S1024x32 : Shape := ⟨2, ![1024, 32]⟩
abbrev S_ : Shape := ⟨0, ![]⟩
abbrev S1024x224 : Shape := ⟨2, ![1024, 224]⟩
abbrev S1024x5632 : Shape := ⟨2, ![1024, 5632]⟩
abbrev S5632x1024 : Shape := ⟨2, ![5632, 1024]⟩
abbrev S1536x1024 : Shape := ⟨2, ![1536, 1024]⟩
abbrev S256x1024 : Shape := ⟨2, ![256, 1024]⟩
abbrev S1792x1024 : Shape := ⟨2, ![1792, 1024]⟩
abbrev S1024x1792 : Shape := ⟨2, ![1024, 1792]⟩
abbrev S1024x1024 : Shape := ⟨2, ![1024, 1024]⟩

abbrev nBuf : Space → Nat
  | .hbm => 18
  | .vmem => 7
  | .smem => 0
  | _ => 0

abbrev bufTy : (tb : Table) → Fin (tcTables nBuf tb) → BufTy
  | .hbm, ⟨0, _⟩ => ⟨S8192x1792, .f32⟩
  | .hbm, ⟨1, _⟩ => ⟨S1024x5408, .f32⟩
  | .hbm, ⟨2, _⟩ => ⟨S8192x1024, .f32⟩
  | .hbm, ⟨3, _⟩ => ⟨S1024x5408, .bf16⟩
  | .hbm, ⟨4, _⟩ => ⟨S1024x1536, .bf16⟩
  | .hbm, ⟨5, _⟩ => ⟨S1024x1536, .bf16⟩
  | .hbm, ⟨6, _⟩ => ⟨S1024x2048, .bf16⟩
  | .hbm, ⟨7, _⟩ => ⟨S1024x256, .bf16⟩
  | .hbm, ⟨8, _⟩ => ⟨S1024x32, .bf16⟩
  | .hbm, ⟨9, _⟩ => ⟨S_, .bf16⟩
  | .hbm, ⟨10, _⟩ => ⟨S1024x224, .bf16⟩
  | .hbm, ⟨11, _⟩ => ⟨S1024x5632, .bf16⟩
  | .hbm, ⟨12, _⟩ => ⟨S5632x1024, .bf16⟩
  | .hbm, ⟨13, _⟩ => ⟨S1536x1024, .bf16⟩
  | .hbm, ⟨14, _⟩ => ⟨S256x1024, .bf16⟩
  | .hbm, ⟨15, _⟩ => ⟨S1792x1024, .bf16⟩
  | .hbm, ⟨16, _⟩ => ⟨S8192x1792, .bf16⟩
  | .hbm, ⟨17, _⟩ => ⟨S8192x1024, .f32⟩
  | .local _ .vmem, ⟨0, _⟩ => ⟨S1024x1792, .bf16⟩
  | .local _ .vmem, ⟨1, _⟩ => ⟨S1024x1792, .bf16⟩
  | .local _ .vmem, ⟨2, _⟩ => ⟨S1792x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1792x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference21Ideal.lean ====
abbrev S8192x1792 : Shape := ⟨2, ![8192, 1792]⟩
abbrev S1024x5408 : Shape := ⟨2, ![1024, 5408]⟩
abbrev S8192x1024 : Shape := ⟨2, ![8192, 1024]⟩
abbrev S1024x1792 : Shape := ⟨2, ![1024, 1792]⟩

abbrev nBuf : Space → Nat
  | .hbm => 6
  | .vmem => 0
  | .smem => 0
  | _ => 0

abbrev bufTy : (tb : Table) → Fin (tcTables nBuf tb) → BufTy
  | .hbm, ⟨0, _⟩ => ⟨S8192x1792, .f32⟩
  | .hbm, ⟨1, _⟩ => ⟨S1024x5408, .f32⟩
  | .hbm, ⟨2, _⟩ => ⟨S8192x1024, .f32⟩
  | .hbm, ⟨3, _⟩ => ⟨S1024x1792, .f32⟩
  | .hbm, ⟨4, _⟩ => ⟨S8192x1024, .f32⟩
  | .hbm, ⟨5, _⟩ => ⟨S8192x1024, .f32⟩
  | _, _ => ⟨S8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel22.lean ====
abbrev S8192x1024 : Shape := ⟨2, ![8192, 1024]⟩
abbrev S1024x5408 : Shape := ⟨2, ![1024, 5408]⟩
abbrev S1024x1536 : Shape := ⟨2, ![1024, 1536]⟩
abbrev S1024x2048 : Shape := ⟨2, ![1024, 2048]⟩
abbrev S1024x256 : Shape := ⟨2, ![1024, 256]⟩
abbrev S1024x32 : Shape := ⟨2, ![1024, 32]⟩
abbrev S_ : Shape := ⟨0, ![]⟩
abbrev S1024x224 : Shape := ⟨2, ![1024, 224]⟩
abbrev S1024x5632 : Shape := ⟨2, ![1024, 5632]⟩
abbrev S5632x1024 : Shape := ⟨2, ![5632, 1024]⟩
abbrev S1024x1024 : Shape := ⟨2, ![1024, 1024]⟩

abbrev nBuf : Space → Nat
  | .hbm => 16
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x5408, .f32⟩
  | .hbm, ⟨2, _⟩ => ⟨S8192x1024, .f32⟩
  | .hbm, ⟨3, _⟩ => ⟨S1024x5408, .bf16⟩
  | .hbm, ⟨4, _⟩ => ⟨S1024x1536, .bf16⟩
  | .hbm, ⟨5, _⟩ => ⟨S1024x1536, .bf16⟩
  | .hbm, ⟨6, _⟩ => ⟨S1024x2048, .bf16⟩
  | .hbm, ⟨7, _⟩ => ⟨S1024x256, .bf16⟩
  | .hbm, ⟨8, _⟩ => ⟨S1024x32, .bf16⟩
  | .hbm, ⟨9, _⟩ => ⟨S_, .bf16⟩
  | .hbm, ⟨10, _⟩ => ⟨S1024x224, .bf16⟩
  | .hbm, ⟨11, _⟩ => ⟨S1024x5632, .bf16⟩
  | .hbm, ⟨12, _⟩ => ⟨S5632x1024, .bf16⟩
  | .hbm, ⟨13, _⟩ => ⟨S8192x1024, .bf16⟩
  | .hbm, ⟨14, _⟩ => ⟨S1024x1024, .bf16⟩
  | .hbm, ⟨15, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference22Ideal.lean ====
abbrev S8192x1024 : Shape := ⟨2, ![8192, 1024]⟩
abbrev S1024x5408 : Shape := ⟨2, ![1024, 5408]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5408, .f32⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel23.lean ====
abbrev S8192x1024 : Shape := ⟨2, ![8192, 1024]⟩
abbrev S1024x5408 : Shape := ⟨2, ![1024, 5408]⟩
abbrev S1024x1536 : Shape := ⟨2, ![1024, 1536]⟩
abbrev S1024x2048 : Shape := ⟨2, ![1024, 2048]⟩
abbrev S1024x256 : Shape := ⟨2, ![1024, 256]⟩
abbrev S1024x32 : Shape := ⟨2, ![1024, 32]⟩
abbrev S_ : Shape := ⟨0, ![]⟩
abbrev S1024x224 : Shape := ⟨2, ![1024, 224]⟩
abbrev S1024x5632 : Shape := ⟨2, ![1024, 5632]⟩
abbrev S5632x1024 : Shape := ⟨2, ![5632, 1024]⟩
abbrev S1024x1024 : Shape := ⟨2, ![1024, 1024]⟩

abbrev nBuf : Space → Nat
  | .hbm => 16
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x5408, .f32⟩
  | .hbm, ⟨2, _⟩ => ⟨S8192x1024, .f32⟩
  | .hbm, ⟨3, _⟩ => ⟨S1024x5408, .bf16⟩
  | .hbm, ⟨4, _⟩ => ⟨S1024x1536, .bf16⟩
  | .hbm, ⟨5, _⟩ => ⟨S1024x1536, .bf16⟩
  | .hbm, ⟨6, _⟩ => ⟨S1024x2048, .bf16⟩
  | .hbm, ⟨7, _⟩ => ⟨S1024x256, .bf16⟩
  | .hbm, ⟨8, _⟩ => ⟨S1024x32, .bf16⟩
  | .hbm, ⟨9, _⟩ => ⟨S_, .bf16⟩
  | .hbm, ⟨10, _⟩ => ⟨S1024x224, .bf16⟩
  | .hbm, ⟨11, _⟩ => ⟨S1024x5632, .bf16⟩
  | .hbm, ⟨12, _⟩ => ⟨S5632x1024, .bf16⟩
  | .hbm, ⟨13, _⟩ => ⟨S8192x1024, .bf16⟩
  | .hbm, ⟨14, _⟩ => ⟨S1024x1024, .bf16⟩
  | .hbm, ⟨15, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference23Ideal.lean ====
abbrev S8192x1024 : Shape := ⟨2, ![8192, 1024]⟩
abbrev S1024x5408 : Shape := ⟨2, ![1024, 5408]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5408, .f32⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel24.lean ====
abbrev S8192x128 : Shape := ⟨2, ![8192, 128]⟩
abbrev S1024x5408 : Shape := ⟨2, ![1024, 5408]⟩
abbrev S8192x1024 : Shape := ⟨2, ![8192, 1024]⟩
abbrev S1024x1536 : Shape := ⟨2, ![1024, 1536]⟩
abbrev S1024x2048 : Shape := ⟨2, ![1024, 2048]⟩
abbrev S1024x256 : Shape := ⟨2, ![1024, 256]⟩
abbrev S1024x32 : Shape := ⟨2, ![1024, 32]⟩
abbrev S_ : Shape := ⟨0, ![]⟩
abbrev S1024x224 : Shape := ⟨2, ![1024, 224]⟩
abbrev S1024x5632 : Shape := ⟨2, ![1024, 5632]⟩
abbrev S5632x1024 : Shape := ⟨2, ![5632, 1024]⟩
abbrev S128x1024 : Shape := ⟨2, ![128, 1024]⟩
abbrev S1024x128 : Shape := ⟨2, ![1024, 128]⟩
abbrev S1024x1024 : Shape := ⟨2, ![1024, 1024]⟩

abbrev nBuf : Space → Nat
  | .hbm => 16
  | .vmem => 7
  | .smem => 0
  | _ => 0

abbrev bufTy : (tb : Table) → Fin (tcTables nBuf tb) → BufTy
  | .hbm, ⟨0, _⟩ => ⟨S8192x128, .f32⟩
  | .hbm, ⟨1, _⟩ => ⟨S1024x5408, .f32⟩
  | .hbm, ⟨2, _⟩ => ⟨S8192x1024, .f32⟩
  | .hbm, ⟨3, _⟩ => ⟨S1024x5408, .bf16⟩
  | .hbm, ⟨4, _⟩ => ⟨S1024x1536, .bf16⟩
  | .hbm, ⟨5, _⟩ => ⟨S1024x1536, .bf16⟩
  | .hbm, ⟨6, _⟩ => ⟨S1024x2048, .bf16⟩
  | .hbm, ⟨7, _⟩ => ⟨S1024x256, .bf16⟩
  | .hbm, ⟨8, _⟩ => ⟨S1024x32, .bf16⟩
  | .hbm, ⟨9, _⟩ => ⟨S_, .bf16⟩
  | .hbm, ⟨10, _⟩ => ⟨S1024x224, .bf16⟩
  | .hbm, ⟨11, _⟩ => ⟨S1024x5632, .bf16⟩
  | .hbm, ⟨12, _⟩ => ⟨S5632x1024, .bf16⟩
  | .hbm, ⟨13, _⟩ => ⟨S8192x128, .bf16⟩
  | .hbm, ⟨14, _⟩ => ⟨S128x1024, .bf16⟩
  | .hbm, ⟨15, _⟩ => ⟨S8192x1024, .f32⟩
  | .local _ .vmem, ⟨0, _⟩ => ⟨S1024x128, .bf16⟩
  | .local _ .vmem, ⟨1, _⟩ => ⟨S1024x128, .bf16⟩
  | .local _ .vmem, ⟨2, _⟩ => ⟨S128x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference24Ideal.lean ====
abbrev S8192x128 : Shape := ⟨2, ![8192, 128]⟩
abbrev S1024x5408 : Shape := ⟨2, ![1024, 5408]⟩
abbrev S8192x1024 : Shape := ⟨2, ![8192, 1024]⟩
abbrev S1024x32 : Shape := ⟨2, ![1024, 32]⟩
abbrev S8192x32 : Shape := ⟨2, ![8192, 32]⟩

abbrev nBuf : Space → Nat
  | .hbm => 7
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S1024x5408, .f32⟩
  | .hbm, ⟨2, _⟩ => ⟨S8192x1024, .f32⟩
  | .hbm, ⟨3, _⟩ => ⟨S1024x32, .f32⟩
  | .hbm, ⟨4, _⟩ => ⟨S8192x32, .f32⟩
  | .hbm, ⟨5, _⟩ => ⟨S8192x1024, .f32⟩
  | .hbm, ⟨6, _⟩ => ⟨S8192x1024, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Up.lean ====
/- The product of the feed-forward block's up-projection: the kernel's ideal reading leaves what the reference leaves. -/
module

public import proofs.«01_k».proof.Defs
public import proofs.«01_k».proof.Proof.Gen.Kernel2.Frame
public import proofs.«01_k».proof.Proof.Gen.Kernel2Ideal.Value
public import proofs.«01_k».proof.Proof.Gen.Reference2Ideal.Run
public import Idealize.ShloMosaic.Lib.Pipeline.ValueKit
public import Idealize.ShloMosaic.Adequacy

@[expose] public section

set_option maxRecDepth 16384

noncomputable section

namespace Cert.Up

open Idealize.ShloMosaic Idealize.ShloMosaic.TcCoe Idealize.SL.Sem

/-- A row's values spread over the padded columns: each half followed by a margin of zeros. -/
def spread (f : Fin 5504 → EReal) (j : Fin 5632) : EReal :=
  if h : j.val < 2752 then f ⟨j.val, by omega⟩
  else if j.val < 2816 then 0
  else if h : j.val < 5568 then f ⟨j.val - 64, by omega⟩
  else 0

/-- A product with spread columns is the product's columns, spread. -/
theorem sum_spread (a : Fin 1024 → EReal) (f : Fin 1024 → Fin 5504 → EReal) (j : Fin 5632) :
    ∑ k, a k * spread (f k) j = spread (fun l => ∑ k, a k * f k l) j := by
  unfold spread
  split
  · rfl
  split
  · simp only [mul_zero, Finset.sum_const_zero]
  split
  · rfl
  · simp only [mul_zero, Finset.sum_const_zero]

/-- Columns that hold the halves and zeros in their places are the spread ones. -/
theorem spread_ext (g : Fin 5632 → EReal) (f : Fin 5504 → EReal) (h1 : ∀ l : Fin 2752, g ⟨l.val, by omega⟩ = f ⟨l.val, by omega⟩)
    (h2 : ∀ l : Fin 64, g ⟨2752 + l.val, by omega⟩ = 0) (h3 : ∀ l : Fin 2752, g ⟨2816 + l.val, by omega⟩ = f ⟨2752 + l.val, by omega⟩)
    (h4 : ∀ l : Fin 64, g ⟨5568 + l.val, by omega⟩ = 0) (j : Fin 5632) : g j = spread f j := by
  have at_val : ∀ i (hi : i < 5632), i = j.val → g ⟨i, hi⟩ = g j := fun i hi e => congrArg g (Fin.ext e)
  unfold spread
  split
  · exact h1 ⟨j.val, by assumption⟩
  split
  · exact (at_val _ _ (by show 2752 + (j.val - 2752) = j.val; omega)).symm.trans (h2 ⟨j.val - 2752, by omega⟩)
  split
  · refine (at_val _ _ (by show 2816 + (j.val - 2816) = j.val; omega)).symm.trans ((h3 ⟨j.val - 2816, by omega⟩).trans ?_)
    exact congrArg f (Fin.ext (by show 2752 + (j.val - 2816) = j.val - 64; omega))
  · exact (at_val _ _ (by show 5568 + (j.val - 5568) = j.val; omega)).symm.trans (h4 ⟨j.val - 5568, by omega⟩)

section
open Cert.Kernel2Ideal Cert.Kernel2Ideal.Gen
variable (m : (ℓ : Loc nD τ sig) → Buf (Elt Ideal) ℓ) (c : Dev nD)

/-- The rows and the weights as launched. -/
def rows : FVec Ideal S8192x1024 .f32 := m ((c.tc : Thread nD τ).loc main_arg0)
def weights : FVec Ideal S1024x5504 .f32 := m ((c.tc : Thread nD τ).loc main_arg1)

theorem V_v0 : (V m c main_v0 : FVec Ideal S8192x1024 .bf16) = truncf .bf16 (rows m c) bitsLt_bf16_f32 := by
  unfold V rows
  after_results <;> rfl

theorem V_v6 : (V m c main_v6 : FVec Ideal S1024x5632 .bf16) = concatenate S1024x5632 1
    [⟨S1024x2752, extractStridedSlice S1024x2752 ![0, 0] (truncf .bf16 (weights m c) bitsLt_bf16_f32 : FVec Ideal S1024x5504 .bf16) slices_S1024x5504_S1024x2752_0_0⟩,
     ⟨S1024x64, (broadcastInDim S1024x64 ![] bcast_S_S1024x64 (constant S_ .bf16 0x0000#16 : FVec Ideal S_ .bf16) : FVec Ideal S1024x64 .bf16)⟩,
     ⟨S1024x2752, extractStridedSlice S1024x2752 ![0, 2752] (truncf .bf16 (weights m c) bitsLt_bf16_f32 : FVec Ideal S1024x5504 .bf16) slices_S1024x5504_S1024x2752_0_2752⟩,
     ⟨S1024x64, (broadcastInDim S1024x64 ![] bcast_S_S1024x64 (constant S_ .bf16 0x0000#16 : FVec Ideal S_ .bf16) : FVec Ideal S1024x64 .bf16)⟩]
    concatenates_S1024x2752_S1024x64_S1024x2752_S1024x64_S1024x5632_d1 := by
  unfold V weights
  after_results <;> rfl

theorem row_at (i : Fin 8192) (k : Fin 1024) : (V m c main_v0 : FVec Ideal S8192x1024 .bf16) (ix2 i k) = rows m c (ix2 i k) := by
  rw [V_v0]
  generalize rows m c = A
  pointwise

/-- The padded weights are the weights' rows, spread. -/
theorem weight_at (k : Fin 1024) (j : Fin 5632) : (V m c main_v6 : FVec Ideal S1024x5632 .bf16) (ix2 k j)
    = spread (fun l => weights m c (ix2 k l)) j := by
  rw [V_v6]
  generalize weights m c = W
  refine spread_ext (fun j => concatenate S1024x5632 1 _ _ (ix2 k j)) _ (fun l => ?_) (fun l => ?_) (fun l => ?_) (fun l => ?_) j
  · pointwise
  · pointwise
  · pointwise
    rw [dif_neg (by omega), dif_neg (by omega), dif_pos (by omega)]
    exact congrArg (fun l => W (ix2 k l)) (Fin.ext (by show 2752 + (2816 + l.val - 2752 - 64) = 2752 + l.val; omega))
  · pointwise
    rw [dif_neg (by omega), dif_neg (by omega), dif_neg (by omega)]

/-- A block of the product. -/
theorem pay_at (A : Vec Ideal S1024x1024 .bf16) (B : Vec Ideal S1024x1408 .bf16) (i : Fin 1024) (j : Fin 1408) :
    (out0_2 A B : FVec Ideal S1024x1408 .f32) (ix2 i j) = ∑ k : Fin 1024, A (ix2 i k) * B (ix2 k j) := by
  have z2 : (![0, 0] : Fin 2 → Nat) = fun _ => 0 := funext fun a => by fin_cases a <;> rfl
  unfold out0_2
  rw [View.canon_unit_zero (S := S1024x1408) z2, View.ld_unit_zero (S := S1024x1024) z2, View.ld_unit_zero (S := S1024x1408) z2]
  pointwise [k0_pay1]

theorem idx : ∀ t : Fin cfg0.N, win0_0.index t = ![t.val % 8, 0] ∧ win0_1.index t = ![0, t.val / 8] ∧ win0_2.index t = ![t.val % 8, t.val / 8] :=
  (by decide +kernel : ∀ t : Fin grid0.N, _)

theorem rows_in (t : Fin cfg0.N) (i : Fin 1024) (k : Fin 1024) : (iblk m c 0 t : FVec Ideal S1024x1024 .bf16) (ix2 i k)
    = rows m c (ix2 (⟨t.val % 8 * 1024 + i.val, by omega⟩ : Fin 8192) k) := by
  have z : (((cfg0.win 0).blk t).view.emb (ix2 i k) : S8192x1024.Idx) = (ix2 (⟨t.val % 8 * 1024 + i.val, by omega⟩ : Fin 8192) k : S8192x1024.Idx) := by
    blk_ext [idx t]
  refine Eq.trans ?_ (row_at m c _ k)
  unfold iblk
  generalize V m c = A
  rw [View.read_apply, cast_eq]
  exact congrArg (A main_v0) z

theorem at_lt (t : Fin cfg0.N) (j : Fin 1408) : t.val / 8 * 1408 + j.val < 5632 := by
  have : t.val < 32 := t.isLt
  omega

theorem weights_in (t : Fin cfg0.N) (k : Fin 1024) (j : Fin 1408) : (iblk m c 1 t : FVec Ideal S1024x1408 .bf16) (ix2 k j)
    = spread (fun l => weights m c (ix2 k l)) ⟨t.val / 8 * 1408 + j.val, at_lt t j⟩ := by
  have z : (((cfg0.win 1).blk t).view.emb (ix2 k j) : S1024x5632.Idx) = (ix2 k (⟨t.val / 8 * 1408 + j.val, at_lt t j⟩ : Fin 5632) : S1024x5632.Idx) := by
    blk_ext [idx t]
  refine Eq.trans ?_ (weight_at m c k _)
  unfold iblk
  generalize V m c = A
  rw [View.read_apply, cast_eq]
  exact congrArg (A main_v6) z

variable (R : FVec Ideal S8192x5632 .f32)
  (hR : ∀ i j, R (ix2 i j) = spread (fun l => ∑ k : Fin 1024, rows m c (ix2 i k) * weights m c (ix2 k l)) j)
include hR

/-- The kernel's result array is the product's columns, spread. -/
theorem final : (dats m 0 c).arrAt 2 cfg0.N = R := by
  refine (dats m 0 c).arrAt_eq_of_covers 2 R (by decide +kernel) fun t _ y => ?_
  have hlt : t.val < 32 := t.isLt
  rw [cast_eq, after0_2]
  obtain ⟨i, j, hy⟩ : ∃ (i : Fin 1024) (j : Fin 1408), (y : S1024x1408.Idx) = ix2 i j := by
    refine ⟨y 0, y 1, ?_⟩
    funext a
    fin_cases a <;> rfl
  have hz : (((cfg0.win 2).blk t).view.emb (ix2 i j : S1024x1408.Idx) : S8192x5632.Idx)
      = ix2 (⟨t.val % 8 * 1024 + i.val, by omega⟩ : Fin 8192) (⟨t.val / 8 * 1408 + j.val, at_lt t j⟩ : Fin 5632) := by
    blk_ext [idx t]
  subst hy
  refine (?_ : _ = R _).trans (congrArg R hz.symm)
  rw [hR, ← sum_spread]
  refine (pay_at (iblk m c 0 t) (iblk m c 1 t) i j).trans ?_
  refine Finset.sum_congr rfl fun k _ => ?_
  rw [rows_in, weights_in]
end

section
open Cert.Reference2Ideal Cert.Reference2Ideal.Gen

/-- The reference's result, as a function of its arguments. -/
def res (A : FVec Ideal S8192x1024 .f32) (W : FVec Ideal S1024x5504 .f32) : FVec Ideal S8192x5632 .f32 := concatenate S8192x5632 1
    [⟨S8192x2752, extractStridedSlice S8192x2752 ![0, 0] (Host.dotGeneral dot_S8192x1024_S1024x5504_S8192x5504_1_0_0_1_n_n none A W : FVec Ideal S8192x5504 .f32) slices_S8192x5504_S8192x2752_0_0⟩,
     ⟨S8192x64, (broadcastInDim S8192x64 ![] bcast_S_S8192x64 (constant S_ .f32 0x00000000#32 : FVec Ideal S_ .f32) : FVec Ideal S8192x64 .f32)⟩,
     ⟨S8192x2752, extractStridedSlice S8192x2752 ![0, 2752] (Host.dotGeneral dot_S8192x1024_S1024x5504_S8192x5504_1_0_0_1_n_n none A W : FVec Ideal S8192x5504 .f32) slices_S8192x5504_S8192x2752_0_2752⟩,
     ⟨S8192x64, (broadcastInDim S8192x64 ![] bcast_S_S8192x64 (constant S_ .f32 0x00000000#32 : FVec Ideal S_ .f32) : FVec Ideal S8192x64 .f32)⟩]
    concatenates_S8192x2752_S8192x64_S8192x2752_S8192x64_S8192x5632_d1

theorem res_at (A : FVec Ideal S8192x1024 .f32) (W : FVec Ideal S1024x5504 .f32) (i : Fin 8192) (j : Fin 5632) :
    res A W (ix2 i j) = spread (fun l => ∑ k : Fin 1024, A (ix2 i k) * W (ix2 k l)) j := by
  refine spread_ext (fun j => res A W (ix2 i j)) _ (fun l => ?_) (fun l => ?_) (fun l => ?_) (fun l => ?_) j
  · pointwise [res]
  · pointwise [res]
  · pointwise [res]
    rw [dif_neg (by omega), dif_neg (by omega), dif_pos (by omega)]
    exact congrArg (fun l => ∑ x, A (ix2 i x) * W (ix2 x l)) (Fin.ext (by show 2752 + (2816 + l.val - 2752 - 64) = 2752 + l.val; omega))
  · pointwise [res]
    rw [dif_neg (by omega), dif_neg (by omega), dif_neg (by omega)]
end

theorem frame [Cert.Kernel2.Facts] : Cert.quiescent_Kernel2 := fun m ρ _ => Cert.Kernel2.Gen.frame (F := Bits) m ρ

theorem ideal_frame [Cert.Kernel2Ideal.Facts] : Cert.quiescent_Kernel2Ideal := fun m ρ _ => Cert.Kernel2Ideal.Gen.frame (F := Ideal) m ρ

theorem reference_frame [Cert.Reference2Ideal.Facts] : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic [Cert.Kernel2Ideal.Facts] [Cert.Reference2Ideal.Facts] : Cert.algebraic_Kernel2Ideal_Reference2Ideal := by
  intro m g m' g' _ hargs
  refine ⟨fun c => res (rows m c) (weights m c), ?_, ?_⟩
  · refine (θ_run Cert.Kernel2Ideal.defs _ _).mono ?_ (Cert.Kernel2Ideal.Value.run_blocks (F := Ideal) m g)
    intro r h c
    exact ⟨(h c).1.trans (final m c _ (res_at _ _)), (h c).2⟩
  · refine (θ_run Cert.Reference2Ideal.defs _ _).mono ?_ (Cert.Reference2Ideal.Value.run (F := Ideal) m' g')
    intro r h c
    refine ⟨(h c).1.trans ?_, (h c).2⟩
    rw [(hargs c).1, (hargs c).2]
    rfl

end Cert.Up

end
-- ==== Proof.Pad.lean ====
/- Sums over indices a margin of zeros follows. -/
module

public import Idealize.ShloMosaic.Lib.Pipeline.ValueKit

@[expose] public section

noncomputable section

namespace Cert.Pad

/-- A factor that is zero past the 2752nd index leaves the sum of the products up to there. -/
theorem sum_pad (a : Fin 2816 → EReal) (f : Fin 2752 → EReal) :
    (∑ k : Fin 2816, a k * (if h : k.val < 2752 then f ⟨k.val, h⟩ else 0)) = ∑ k : Fin 2752, a ⟨k.val, by omega⟩ * f k := by
  refine (Fin.sum_univ_add (a := 2752) (b := 64) _).trans ?_
  have hz : ∀ x : Fin 64, a (Fin.natAdd 2752 x) * (if h : (Fin.natAdd 2752 x : Fin 2816).val < 2752 then f ⟨(Fin.natAdd 2752 x : Fin 2816).val, h⟩ else 0) = 0 := fun x => by
    rw [dif_neg (by rw [Fin.val_natAdd]; omega), mul_zero]
  rw [Finset.sum_congr rfl fun x _ => hz x, Finset.sum_const_zero, add_zero]
  refine Finset.sum_congr rfl fun x _ => ?_
  rw [dif_pos (by rw [Fin.val_castAdd]; exact x.isLt)]
  rfl

/-- A factor that is zero in the second half leaves the first half's sum. -/
theorem sum_first (a : Fin 2752 → EReal) (f : Fin 5504 → EReal) :
    (∑ l : Fin 5504, (if h : l.val < 2752 then a ⟨l.val, h⟩ else 0) * f l) = ∑ k : Fin 2752, a k * f ⟨k.val, by omega⟩ := by
  refine (Fin.sum_univ_add (a := 2752) (b := 2752) _).trans ?_
  have hz : ∀ x : Fin 2752, (if h : (Fin.natAdd 2752 x : Fin 5504).val < 2752 then a ⟨(Fin.natAdd 2752 x : Fin 5504).val, h⟩ else 0) * f (Fin.natAdd 2752 x) = 0 := fun x => by
    rw [dif_neg (by rw [Fin.val_natAdd]; omega), zero_mul]
  rw [Finset.sum_congr rfl fun x _ => hz x, Finset.sum_const_zero, add_zero]
  refine Finset.sum_congr rfl fun x _ => ?_
  rw [dif_pos (by rw [Fin.val_castAdd]; exact x.isLt)]
  rfl

/-- A factor that is zero in the first half leaves the second half's sum. -/
theorem sum_second (a : Fin 2752 → EReal) (f : Fin 5504 → EReal) :
    (∑ l : Fin 5504, (if h : l.val < 2752 then 0 else a ⟨l.val - 2752, by omega⟩) * f l) = ∑ k : Fin 2752, a k * f ⟨2752 + k.val, by omega⟩ := by
  refine (Fin.sum_univ_add (a := 2752) (b := 2752) _).trans ?_
  have hz : ∀ x : Fin 2752, (if h : (Fin.castAdd 2752 x : Fin 5504).val < 2752 then 0 else a ⟨(Fin.castAdd 2752 x : Fin 5504).val - 2752, by omega⟩) * f (Fin.castAdd 2752 x) = 0 := fun x => by
    rw [dif_pos (by rw [Fin.val_castAdd]; exact x.isLt), zero_mul]
  rw [Finset.sum_congr rfl fun x _ => hz x, Finset.sum_const_zero, zero_add]
  refine Finset.sum_congr rfl fun x _ => ?_
  rw [dif_neg (by rw [Fin.val_natAdd]; omega)]
  exact congrArg₂ (fun u v => a u * f v) (Fin.ext (by show 2752 + x.val - 2752 = x.val; omega)) rfl

end Cert.Pad

end
-- ==== Proof.ProjIn.lean ====
/- The input projection: the kernel's ideal reading leaves what the reference leaves. -/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import proofs.«01_k».proof.Proof.Pad
public import Idealize.ShloMosaic.Lib.Pipeline.ValueKit
public import Idealize.ShloMosaic.Adequacy

@[expose] public section

set_option maxRecDepth 16384

noncomputable section

namespace Cert.ProjIn

open Idealize.ShloMosaic Idealize.ShloMosaic.TcCoe Idealize.SL.Sem

/-- A row's values in the kernels' order of columns: the attention's, the recurrence's, the gates', the recurrence's low
    ranks, the attention's, and a margin of zeros. -/
def spread (f : Fin 5408 → EReal) (j : Fin 5632) : EReal :=
  if h : j.val < 1536 then f ⟨j.val, by omega⟩
  else if h : j.val < 3072 then f ⟨j.val + 32, by omega⟩
  else if h : j.val < 5120 then f ⟨j.val + 288, by omega⟩
  else if h : j.val < 5376 then f ⟨j.val - 2016, by omega⟩
  else if h : j.val < 5408 then f ⟨j.val - 3840, by omega⟩
  else 0

/-- A product with spread columns is the product's columns, spread. -/
theorem sum_spread (a : Fin 1024 → EReal) (f : Fin 1024 → Fin 5408 → EReal) (j : Fin 5632) :
    ∑ k, a k * spread (f k) j = spread (fun l => ∑ k, a k * f k l) j := by
  unfold spread
  repeat' split
  all_goals first | rfl | simp only [mul_zero, Finset.sum_const_zero]

section
open Cert.Kernel3Ideal Cert.Kernel3Ideal.Gen
variable (m : (ℓ : Loc nD τ sig) → Buf (Elt Ideal) ℓ) (c : Dev nD)

/-- The rows and the weights as launched. -/
def rows : FVec Ideal S8192x1024 .f32 := m ((c.tc : Thread nD τ).loc main_arg0)
def weights : FVec Ideal S1024x5408 .f32 := m ((c.tc : Thread nD τ).loc main_arg1)

/-- The weights' columns in the kernels' order. -/
def factor (W : FVec Ideal S1024x5408 .f32) (k : Fin 1024) (j : Fin 5632) : EReal := spread (fun l => W (ix2 k l)) j

theorem V_rows : (V m c main_v8 : FVec Ideal S8192x1024 .bf16) = truncf .bf16 (rows m c) bitsLt_bf16_f32 := by
  unfold V rows
  after_results <;> rfl

theorem V_factor : (V m c main_v7 : FVec Ideal S1024x5632 .bf16) = concatenate S1024x5632 1
    [⟨S1024x1536, extractStridedSlice S1024x1536 ![0, 0] (truncf .bf16 (weights m c) bitsLt_bf16_f32 : FVec Ideal S1024x5408 .bf16) slices_S1024x5408_S1024x1536_0_0⟩,
     ⟨S1024x1536, extractStridedSlice S1024x1536 ![0, 1568] (truncf .bf16 (weights m c) bitsLt_bf16_f32 : FVec Ideal S1024x5408 .bf16) slices_S1024x5408_S1024x1536_0_1568⟩,
     ⟨S1024x2048, extractStridedSlice S1024x2048 ![0, 3360] (truncf .bf16 (weights m c) bitsLt_bf16_f32 : FVec Ideal S1024x5408 .bf16) slices_S1024x5408_S1024x2048_0_3360⟩,
     ⟨S1024x256, extractStridedSlice S1024x256 ![0, 3104] (truncf .bf16 (weights m c) bitsLt_bf16_f32 : FVec Ideal S1024x5408 .bf16) slices_S1024x5408_S1024x256_0_3104⟩,
     ⟨S1024x32, extractStridedSlice S1024x32 ![0, 1536] (truncf .bf16 (weights m c) bitsLt_bf16_f32 : FVec Ideal S1024x5408 .bf16) slices_S1024x5408_S1024x32_0_1536⟩,
     ⟨S1024x224, (broadcastInDim S1024x224 ![] bcast_S_S1024x224 (constant S_ .bf16 0x0000#16 : FVec Ideal S_ .bf16) : FVec Ideal S1024x224 .bf16)⟩]
    concatenates_S1024x1536_S1024x1536_S1024x2048_S1024x256_S1024x32_S1024x224_S1024x5632_d1 := by
  unfold V weights
  after_results <;> rfl

theorem row_at (i : Fin 8192) (k : Fin 1024) : (V m c main_v8 : FVec Ideal S8192x1024 .bf16) (ix2 i k) = rows m c (ix2 i k) := by
  rw [V_rows]
  generalize rows m c = A
  pointwise

theorem factor_at (k : Fin 1024) (j : Fin 5632) : (V m c main_v7 : FVec Ideal S1024x5632 .bf16) (ix2 k j) = factor (weights m c) k j := by
  rw [V_factor]
  generalize weights m c = W
  pointwise
  unfold factor spread
  repeat' split
  all_goals first | omega | exact congrArg (fun l => W (ix2 k l)) (Fin.mk_eq_mk.mpr (by omega)) | rfl

/-- A block of the product. -/
theorem block_at (A : Vec Ideal S1024x1024 .bf16) (B : Vec Ideal S1024x1408 .bf16) (i : Fin 1024) (j : Fin 1408) :
    (out0_2 A B : FVec Ideal S1024x1408 .f32) (ix2 i j) = ∑ k : Fin 1024, A (ix2 i k) * B (ix2 k j) := by
  have z2 : (![0, 0] : Fin 2 → Nat) = fun _ => 0 := funext fun a => by fin_cases a <;> rfl
  unfold out0_2
  rw [View.canon_unit_zero (S := S1024x1408) z2]
  simp only [View.ld_unit_zero (S := S1024x1024) z2, View.ld_unit_zero (S := S1024x1408) z2]
  pointwise [k0_pay1]

theorem idx : ∀ t : Fin cfg0.N, win0_0.index t = ![t.val % 8, 0] ∧ win0_1.index t = ![0, t.val / 8] ∧ win0_2.index t = ![t.val % 8, t.val / 8] :=
  (by decide +kernel : ∀ t : Fin grid0.N, _)

theorem at_lt (t : Fin cfg0.N) (j : Fin 1408) : t.val / 8 * 1408 + j.val < 5632 := by
  have : t.val < 32 := t.isLt
  omega

theorem rows_in (t : Fin cfg0.N) (i : Fin 1024) (k : Fin 1024) : (iblk m c 0 t : FVec Ideal S1024x1024 .bf16) (ix2 i k)
    = rows m c (ix2 (⟨t.val % 8 * 1024 + i.val, by omega⟩ : Fin 8192) k) := by
  have z : (((cfg0.win 0).blk t).view.emb (ix2 i k) : S8192x1024.Idx) = (ix2 (⟨t.val % 8 * 1024 + i.val, by omega⟩ : Fin 8192) k : S8192x1024.Idx) := by
    blk_ext [idx t]
  refine Eq.trans ?_ (row_at m c _ k)
  unfold iblk
  generalize V m c = A
  rw [View.read_apply, cast_eq]
  exact congrArg (A main_v8) z

theorem factor_in (t : Fin cfg0.N) (k : Fin 1024) (j : Fin 1408) : (iblk m c 1 t : FVec Ideal S1024x1408 .bf16) (ix2 k j)
    = factor (weights m c) k ⟨t.val / 8 * 1408 + j.val, at_lt t j⟩ := by
  have z : (((cfg0.win 1).blk t).view.emb (ix2 k j) : S1024x5632.Idx) = (ix2 k (⟨t.val / 8 * 1408 + j.val, at_lt t j⟩ : Fin 5632) : S1024x5632.Idx) := by
    blk_ext [idx t]
  refine Eq.trans ?_ (factor_at m c k _)
  unfold iblk
  generalize V m c = A
  rw [View.read_apply, cast_eq]
  exact congrArg (A main_v7) z

variable (R : FVec Ideal S8192x5632 .f32)
  (hR : ∀ i j, R (ix2 i j) = ∑ k : Fin 1024, rows m c (ix2 i k) * factor (weights m c) k j)
include hR

/-- The kernel's result array. -/
theorem final : (dats m 0 c).arrAt 2 cfg0.N = R := by
  refine (dats m 0 c).arrAt_eq_of_covers 2 R (by decide +kernel) fun t _ y => ?_
  have hlt : t.val < 32 := t.isLt
  rw [cast_eq, after0_2]
  obtain ⟨i, j, hy⟩ : ∃ (i : Fin 1024) (j : Fin 1408), (y : S1024x1408.Idx) = ix2 i j := by
    refine ⟨y 0, y 1, ?_⟩
    funext a
    fin_cases a <;> rfl
  have hz : (((cfg0.win 2).blk t).view.emb (ix2 i j : S1024x1408.Idx) : S8192x5632.Idx)
      = ix2 (⟨t.val % 8 * 1024 + i.val, by omega⟩ : Fin 8192) (⟨t.val / 8 * 1408 + j.val, at_lt t j⟩ : Fin 5632) := by
    blk_ext [idx t]
  subst hy
  refine (?_ : _ = R _).trans (congrArg R hz.symm)
  rw [hR]
  refine (block_at (iblk m c 0 t) (iblk m c 1 t) i j).trans ?_
  refine Finset.sum_congr rfl fun k _ => ?_
  rw [rows_in, factor_in]
end

section
open Cert.Reference3Ideal Cert.Reference3Ideal.Gen

/-- The reference's result, as a function of its arguments. -/
def res (A : FVec Ideal S8192x1024 .f32) (W : FVec Ideal S1024x5408 .f32) : FVec Ideal S8192x5632 .f32 := concatenate S8192x5632 1
    [⟨S8192x1536, extractStridedSlice S8192x1536 ![0, 0] (extractStridedSlice S8192x1568 ![0, 0] (Host.dotGeneral dot_S8192x1024_S1024x5408_S8192x5408_1_0_0_1_n_n none A W : FVec Ideal S8192x5408 .f32) slices_S8192x5408_S8192x1568_0_0 : FVec Ideal S8192x1568 .f32) slices_S8192x1568_S8192x1536_0_0⟩,
     ⟨S8192x1536, extractStridedSlice S8192x1536 ![0, 0] (extractStridedSlice S8192x1792 ![0, 1568] (Host.dotGeneral dot_S8192x1024_S1024x5408_S8192x5408_1_0_0_1_n_n none A W : FVec Ideal S8192x5408 .f32) slices_S8192x5408_S8192x1792_0_1568 : FVec Ideal S8192x1792 .f32) slices_S8192x1792_S8192x1536_0_0⟩,
     ⟨S8192x2048, extractStridedSlice S8192x2048 ![0, 3360] (Host.dotGeneral dot_S8192x1024_S1024x5408_S8192x5408_1_0_0_1_n_n none A W : FVec Ideal S8192x5408 .f32) slices_S8192x5408_S8192x2048_0_3360⟩,
     ⟨S8192x256, extractStridedSlice S8192x256 ![0, 1536] (extractStridedSlice S8192x1792 ![0, 1568] (Host.dotGeneral dot_S8192x1024_S1024x5408_S8192x5408_1_0_0_1_n_n none A W : FVec Ideal S8192x5408 .f32) slices_S8192x5408_S8192x1792_0_1568 : FVec Ideal S8192x1792 .f32) slices_S8192x1792_S8192x256_0_1536⟩,
     ⟨S8192x32, extractStridedSlice S8192x32 ![0, 1536] (extractStridedSlice S8192x1568 ![0, 0] (Host.dotGeneral dot_S8192x1024_S1024x5408_S8192x5408_1_0_0_1_n_n none A W : FVec Ideal S8192x5408 .f32) slices_S8192x5408_S8192x1568_0_0 : FVec Ideal S8192x1568 .f32) slices_S8192x1568_S8192x32_0_1536⟩,
     ⟨S8192x224, (broadcastInDim S8192x224 ![] bcast_S_S8192x224 (constant S_ .f32 0x00000000#32 : FVec Ideal S_ .f32) : FVec Ideal S8192x224 .f32)⟩]
    concatenates_S8192x1536_S8192x1536_S8192x2048_S8192x256_S8192x32_S8192x224_S8192x5632_d1

theorem res_at (A : FVec Ideal S8192x1024 .f32) (W : FVec Ideal S1024x5408 .f32) (i : Fin 8192) (j : Fin 5632) :
    res A W (ix2 i j) = ∑ k : Fin 1024, A (ix2 i k) * factor W k j := by
  refine Eq.trans ?_ (sum_spread (fun k => A (ix2 i k)) (fun k l => W (ix2 k l)) j).symm
  pointwise [res]
  unfold spread
  repeat' split
  all_goals first | omega | exact congrArg (fun l => ∑ k : Fin 1024, A (ix2 i k) * W (ix2 k l)) (Fin.mk_eq_mk.mpr (by omega)) | rfl
end

theorem frame [Cert.Kernel3.Facts] : Cert.quiescent_Kernel3 := fun m ρ _ => Cert.Kernel3.Gen.frame (F := Bits) m ρ

theorem ideal_frame [Cert.Kernel3Ideal.Facts] : Cert.quiescent_Kernel3Ideal := fun m ρ _ => Cert.Kernel3Ideal.Gen.frame (F := Ideal) m ρ

theorem reference_frame [Cert.Reference3Ideal.Facts] : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic [Cert.Kernel3Ideal.Facts] [Cert.Reference3Ideal.Facts] : Cert.algebraic_Kernel3Ideal_Reference3Ideal := by
  intro m g m' g' _ hargs
  refine ⟨fun c => res (rows m c) (weights m c), ?_, ?_⟩
  · refine (θ_run Cert.Kernel3Ideal.defs _ _).mono ?_ (Cert.Kernel3Ideal.Value.run_blocks (F := Ideal) m g)
    intro r h c
    exact ⟨(h c).1.trans (final m c _ (res_at _ _)), (h c).2⟩
  · refine (θ_run Cert.Reference3Ideal.defs _ _).mono ?_ (Cert.Reference3Ideal.Value.run (F := Ideal) m' g')
    intro r h c
    refine ⟨(h c).1.trans ?_, (h c).2⟩
    rw [(hargs c).1, (hargs c).2]
    rfl

end Cert.ProjIn

end
-- ==== Proof.Down.lean ====
/- The feed-forward block's down-projection, added to what the block was given: the kernel's ideal reading leaves what the
   reference leaves. -/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import proofs.«01_k».proof.Proof.Pad
public import Idealize.ShloMosaic.Lib.Pipeline.ValueKit
public import Idealize.ShloMosaic.Adequacy

@[expose] public section

set_option maxRecDepth 16384

noncomputable section

namespace Cert.Down

open Idealize.ShloMosaic Idealize.ShloMosaic.TcCoe Idealize.SL.Sem

section
open Cert.Kernel4Ideal Cert.Kernel4Ideal.Gen
variable (m : (ℓ : Loc nD τ sig) → Buf (Elt Ideal) ℓ) (c : Dev nD)

/-- The rows, the weights and what the product is added to as launched. -/
def rows : FVec Ideal S8192x2816 .f32 := m ((c.tc : Thread nD τ).loc main_arg0)
def weights : FVec Ideal S2752x1024 .f32 := m ((c.tc : Thread nD τ).loc main_arg1)
def carried : FVec Ideal S8192x1024 .f32 := m ((c.tc : Thread nD τ).loc main_arg2)

/-- The weights followed by rows of zeros. -/
def factor (W : FVec Ideal S2752x1024 .f32) (k : Fin 2816) (j : Fin 1024) : EReal := if h : k.val < 2752 then W (ix2 (⟨k.val, h⟩ : Fin 2752) j) else 0

theorem V_rows : (V m c main_v3 : FVec Ideal S8192x2816 .bf16) = truncf .bf16 (rows m c) bitsLt_bf16_f32 := by
  unfold V rows
  after_results <;> rfl

theorem V_factor : (V m c main_v2 : FVec Ideal S2816x1024 .bf16) = concatenate S2816x1024 0 [⟨S2752x1024, (truncf .bf16 (weights m c) bitsLt_bf16_f32 : FVec Ideal S2752x1024 .bf16)⟩, ⟨S64x1024, (broadcastInDim S64x1024 ![] bcast_S_S64x1024 (constant S_ .bf16 0x0000#16 : FVec Ideal S_ .bf16) : FVec Ideal S64x1024 .bf16)⟩] concatenates_S2752x1024_S64x1024_S2816x1024_d0 := by
  unfold V weights
  after_results <;> rfl

theorem row_at (i : Fin 8192) (k : Fin 2816) : (V m c main_v3 : FVec Ideal S8192x2816 .bf16) (ix2 i k) = rows m c (ix2 i k) := by
  rw [V_rows]
  generalize rows m c = A
  pointwise

theorem factor_at (k : Fin 2816) (j : Fin 1024) : (V m c main_v2 : FVec Ideal S2816x1024 .bf16) (ix2 k j) = factor (weights m c) k j := by
  rw [V_factor]
  generalize weights m c = W
  pointwise
  unfold factor
  first | rfl | (split_ifs <;> first | rfl | omega)

/-- A block of the product. -/
theorem block_at (A : Vec Ideal S1024x2816 .bf16) (B : Vec Ideal S2816x1024 .bf16) (X : Vec Ideal S1024x1024 .f32) (i : Fin 1024) (j : Fin 1024) :
    (out0_3 A B X : FVec Ideal S1024x1024 .f32) (ix2 i j) = (∑ k : Fin 2816, A (ix2 i k) * B (ix2 k j)) + X (ix2 i j) := by
  have z2 : (![0, 0] : Fin 2 → Nat) = fun _ => 0 := funext fun a => by fin_cases a <;> rfl
  unfold out0_3
  rw [View.canon_unit_zero (S := S1024x1024) z2]
  simp only [View.ld_unit_zero (S := S1024x2816) z2, View.ld_unit_zero (S := S2816x1024) z2, View.ld_unit_zero (S := S1024x1024) z2]
  pointwise [k0_pay1]

theorem idx : ∀ t : Fin cfg0.N, win0_0.index t = ![t.val % 8, 0] ∧ win0_1.index t = ![0, t.val / 8] ∧ win0_2.index t = ![t.val % 8, t.val / 8] ∧ win0_3.index t = ![t.val % 8, t.val / 8] :=
  (by decide +kernel : ∀ t : Fin grid0.N, _)

theorem at_lt (t : Fin cfg0.N) (j : Fin 1024) : t.val / 8 * 1024 + j.val < 1024 := by
  have : t.val < 8 := t.isLt
  omega

theorem rows_in (t : Fin cfg0.N) (i : Fin 1024) (k : Fin 2816) : (iblk m c 0 t : FVec Ideal S1024x2816 .bf16) (ix2 i k)
    = rows m c (ix2 (⟨t.val % 8 * 1024 + i.val, by omega⟩ : Fin 8192) k) := by
  have z : (((cfg0.win 0).blk t).view.emb (ix2 i k) : S8192x2816.Idx) = (ix2 (⟨t.val % 8 * 1024 + i.val, by omega⟩ : Fin 8192) k : S8192x2816.Idx) := by
    blk_ext [idx t]
  refine Eq.trans ?_ (row_at m c _ k)
  unfold iblk
  generalize V m c = A
  rw [View.read_apply, cast_eq]
  exact congrArg (A main_v3) z

theorem factor_in (t : Fin cfg0.N) (k : Fin 2816) (j : Fin 1024) : (iblk m c 1 t : FVec Ideal S2816x1024 .bf16) (ix2 k j)
    = factor (weights m c) k ⟨t.val / 8 * 1024 + j.val, at_lt t j⟩ := by
  have z : (((cfg0.win 1).blk t).view.emb (ix2 k j) : S2816x1024.Idx) = (ix2 k (⟨t.val / 8 * 1024 + j.val, at_lt t j⟩ : Fin 1024) : S2816x1024.Idx) := by
    blk_ext [idx t]
  refine Eq.trans ?_ (factor_at m c k _)
  unfold iblk
  generalize V m c = A
  rw [View.read_apply, cast_eq]
  exact congrArg (A main_v2) z

theorem carried_in (t : Fin cfg0.N) (i : Fin 1024) (j : Fin 1024) : (iblk m c 2 t : FVec Ideal S1024x1024 .f32) (ix2 i j)
    = carried m c (ix2 (⟨t.val % 8 * 1024 + i.val, by omega⟩ : Fin 8192) (⟨t.val / 8 * 1024 + j.val, at_lt t j⟩ : Fin 1024)) := by
  have z : (((cfg0.win 2).blk t).view.emb (ix2 i j) : S8192x1024.Idx)
      = (ix2 (⟨t.val % 8 * 1024 + i.val, by omega⟩ : Fin 8192) (⟨t.val / 8 * 1024 + j.val, at_lt t j⟩ : Fin 1024) : S8192x1024.Idx) := by
    blk_ext [idx t]
  refine Eq.trans ?_ (congrFun (V_main_arg2 m c) _)
  unfold iblk
  generalize V m c = A
  rw [View.read_apply, cast_eq]
  exact congrArg (A main_arg2) z

variable (R : FVec Ideal S8192x1024 .f32)
  (hR : ∀ i j, R (ix2 i j) = (∑ k : Fin 2816, rows m c (ix2 i k) * factor (weights m c) k j) + carried m c (ix2 i j))
include hR

/-- The kernel's result array. -/
theorem final : (dats m 0 c).arrAt 3 cfg0.N = R := by
  refine (dats m 0 c).arrAt_eq_of_covers 3 R (by decide +kernel) fun t _ y => ?_
  have hlt : t.val < 8 := t.isLt
  rw [cast_eq, after0_3]
  obtain ⟨i, j, hy⟩ : ∃ (i : Fin 1024) (j : Fin 1024), (y : S1024x1024.Idx) = ix2 i j := by
    refine ⟨y 0, y 1, ?_⟩
    funext a
    fin_cases a <;> rfl
  have hz : (((cfg0.win 3).blk t).view.emb (ix2 i j : S1024x1024.Idx) : S8192x1024.Idx)
      = ix2 (⟨t.val % 8 * 1024 + i.val, by omega⟩ : Fin 8192) (⟨t.val / 8 * 1024 + j.val, at_lt t j⟩ : Fin 1024) := by
    blk_ext [idx t]
  subst hy
  refine (?_ : _ = R _).trans (congrArg R hz.symm)
  rw [hR]
  refine (block_at (iblk m c 0 t) (iblk m c 1 t) (iblk m c 2 t) i j).trans ?_
  refine congrArg₂ (· + ·) (Finset.sum_congr rfl fun k _ => ?_) (carried_in m c t i j)
  rw [rows_in, factor_in]
end

section
open Cert.Reference4Ideal Cert.Reference4Ideal.Gen

/-- The reference's result, as a function of its arguments. -/
def res (A : FVec Ideal S8192x2816 .f32) (W : FVec Ideal S2752x1024 .f32) (X : FVec Ideal S8192x1024 .f32) : FVec Ideal S8192x1024 .f32 := addf X (Host.dotGeneral dot_S8192x2752_S2752x1024_S8192x1024_1_0_0_1_n_n none (extractStridedSlice S8192x2752 ![0, 0] A slices_S8192x2816_S8192x2752_0_0 : FVec Ideal S8192x2752 .f32) W : FVec Ideal S8192x1024 .f32)

theorem res_at (A : FVec Ideal S8192x2816 .f32) (W : FVec Ideal S2752x1024 .f32) (X : FVec Ideal S8192x1024 .f32) (i : Fin 8192) (j : Fin 1024) :
    res A W X (ix2 i j) = (∑ k : Fin 2816, A (ix2 i k) * factor W k j) + X (ix2 i j) := by
  refine Eq.trans ?_ (congrArg (· + X (ix2 i j)) (Pad.sum_pad (fun k => A (ix2 i k)) (fun k => W (ix2 k j))).symm)
  refine Eq.trans ?_ (add_comm _ _)
  pointwise [res]
end

theorem frame [Cert.Kernel4.Facts] : Cert.quiescent_Kernel4 := fun m ρ _ => Cert.Kernel4.Gen.frame (F := Bits) m ρ

theorem ideal_frame [Cert.Kernel4Ideal.Facts] : Cert.quiescent_Kernel4Ideal := fun m ρ _ => Cert.Kernel4Ideal.Gen.frame (F := Ideal) m ρ

theorem reference_frame [Cert.Reference4Ideal.Facts] : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic [Cert.Kernel4Ideal.Facts] [Cert.Reference4Ideal.Facts] : Cert.algebraic_Kernel4Ideal_Reference4Ideal := by
  intro m g m' g' _ hargs
  refine ⟨fun c => res (rows m c) (weights m c) (carried m c), ?_, ?_⟩
  · refine (θ_run Cert.Kernel4Ideal.defs _ _).mono ?_ (Cert.Kernel4Ideal.Value.run_blocks (F := Ideal) m g)
    intro r h c
    exact ⟨(h c).1.trans (final m c _ (res_at _ _ _)), (h c).2⟩
  · refine (θ_run Cert.Reference4Ideal.defs _ _).mono ?_ (Cert.Reference4Ideal.Value.run (F := Ideal) m' g')
    intro r h c
    refine ⟨(h c).1.trans ?_, (h c).2⟩
    rw [(hargs c).1, (hargs c).2.1, (hargs c).2.2]
    rfl

end Cert.Down

end
-- ==== Proof.DAct.lean ====
/- The gradient through the down-projection: the kernel's ideal reading leaves what the reference leaves. -/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import proofs.«01_k».proof.Proof.Pad
public import Idealize.ShloMosaic.Lib.Pipeline.ValueKit
public import Idealize.ShloMosaic.Adequacy

@[expose] public section

set_option maxRecDepth 16384

noncomputable section

namespace Cert.DAct

open Idealize.ShloMosaic Idealize.ShloMosaic.TcCoe Idealize.SL.Sem

section
open Cert.Kernel5Ideal Cert.Kernel5Ideal.Gen
variable (m : (ℓ : Loc nD τ sig) → Buf (Elt Ideal) ℓ) (c : Dev nD)

/-- The gradient and the weights as launched. -/
def rows : FVec Ideal S8192x1024 .f32 := m ((c.tc : Thread nD τ).loc main_arg0)
def weights : FVec Ideal S2752x1024 .f32 := m ((c.tc : Thread nD τ).loc main_arg1)

/-- The weights turned over, followed by columns of zeros. -/
def factor (W : FVec Ideal S2752x1024 .f32) (k : Fin 1024) (j : Fin 2816) : EReal := if h : j.val < 2752 then W (ix2 (⟨j.val, h⟩ : Fin 2752) k) else 0

theorem V_rows : (V m c main_v3 : FVec Ideal S8192x1024 .bf16) = truncf .bf16 (rows m c) bitsLt_bf16_f32 := by
  unfold V rows
  after_results <;> rfl

theorem V_factor : (V m c main_v4 : FVec Ideal S1024x2816 .bf16) = transpose S1024x2816 [1, 0] (concatenate S2816x1024 0 [⟨S2752x1024, (truncf .bf16 (weights m c) bitsLt_bf16_f32 : FVec Ideal S2752x1024 .bf16)⟩, ⟨S64x1024, (broadcastInDim S64x1024 ![] bcast_S_S64x1024 (constant S_ .bf16 0x0000#16 : FVec Ideal S_ .bf16) : FVec Ideal S64x1024 .bf16)⟩] concatenates_S2752x1024_S64x1024_S2816x1024_d0 : FVec Ideal S2816x1024 .bf16) transposes_S2816x1024_S1024x2816_1_0 := by
  unfold V weights
  after_results <;> rfl

theorem row_at (i : Fin 8192) (k : Fin 1024) : (V m c main_v3 : FVec Ideal S8192x1024 .bf16) (ix2 i k) = rows m c (ix2 i k) := by
  rw [V_rows]
  generalize rows m c = A
  pointwise

theorem factor_at (k : Fin 1024) (j : Fin 2816) : (V m c main_v4 : FVec Ideal S1024x2816 .bf16) (ix2 k j) = factor (weights m c) k j := by
  rw [V_factor]
  generalize weights m c = W
  pointwise
  unfold factor
  first | rfl | (split_ifs <;> first | rfl | omega)

/-- A block of the product. -/
theorem block_at (A : Vec Ideal S1024x1024 .bf16) (B : Vec Ideal S1024x1408 .bf16) (i : Fin 1024) (j : Fin 1408) :
    (out0_2 A B : FVec Ideal S1024x1408 .f32) (ix2 i j) = ∑ k : Fin 1024, A (ix2 i k) * B (ix2 k j) := by
  have z2 : (![0, 0] : Fin 2 → Nat) = fun _ => 0 := funext fun a => by fin_cases a <;> rfl
  unfold out0_2
  rw [View.canon_unit_zero (S := S1024x1408) z2]
  simp only [View.ld_unit_zero (S := S1024x1024) z2, View.ld_unit_zero (S := S1024x1408) z2]
  pointwise [k0_pay1]

theorem idx : ∀ t : Fin cfg0.N, win0_0.index t = ![t.val % 8, 0] ∧ win0_1.index t = ![0, t.val / 8] ∧ win0_2.index t = ![t.val % 8, t.val / 8] :=
  (by decide +kernel : ∀ t : Fin grid0.N, _)

theorem at_lt (t : Fin cfg0.N) (j : Fin 1408) : t.val / 8 * 1408 + j.val < 2816 := by
  have : t.val < 16 := t.isLt
  omega

theorem rows_in (t : Fin cfg0.N) (i : Fin 1024) (k : Fin 1024) : (iblk m c 0 t : FVec Ideal S1024x1024 .bf16) (ix2 i k)
    = rows m c (ix2 (⟨t.val % 8 * 1024 + i.val, by omega⟩ : Fin 8192) k) := by
  have z : (((cfg0.win 0).blk t).view.emb (ix2 i k) : S8192x1024.Idx) = (ix2 (⟨t.val % 8 * 1024 + i.val, by omega⟩ : Fin 8192) k : S8192x1024.Idx) := by
    blk_ext [idx t]
  refine Eq.trans ?_ (row_at m c _ k)
  unfold iblk
  generalize V m c = A
  rw [View.read_apply, cast_eq]
  exact congrArg (A main_v3) z

theorem factor_in (t : Fin cfg0.N) (k : Fin 1024) (j : Fin 1408) : (iblk m c 1 t : FVec Ideal S1024x1408 .bf16) (ix2 k j)
    = factor (weights m c) k ⟨t.val / 8 * 1408 + j.val, at_lt t j⟩ := by
  have z : (((cfg0.win 1).blk t).view.emb (ix2 k j) : S1024x2816.Idx) = (ix2 k (⟨t.val / 8 * 1408 + j.val, at_lt t j⟩ : Fin 2816) : S1024x2816.Idx) := by
    blk_ext [idx t]
  refine Eq.trans ?_ (factor_at m c k _)
  unfold iblk
  generalize V m c = A
  rw [View.read_apply, cast_eq]
  exact congrArg (A main_v4) z

variable (R : FVec Ideal S8192x2816 .f32)
  (hR : ∀ i j, R (ix2 i j) = ∑ k : Fin 1024, rows m c (ix2 i k) * factor (weights m c) k j)
include hR

/-- The kernel's result array. -/
theorem final : (dats m 0 c).arrAt 2 cfg0.N = R := by
  refine (dats m 0 c).arrAt_eq_of_covers 2 R (by decide +kernel) fun t _ y => ?_
  have hlt : t.val < 16 := t.isLt
  rw [cast_eq, after0_2]
  obtain ⟨i, j, hy⟩ : ∃ (i : Fin 1024) (j : Fin 1408), (y : S1024x1408.Idx) = ix2 i j := by
    refine ⟨y 0, y 1, ?_⟩
    funext a
    fin_cases a <;> rfl
  have hz : (((cfg0.win 2).blk t).view.emb (ix2 i j : S1024x1408.Idx) : S8192x2816.Idx)
      = ix2 (⟨t.val % 8 * 1024 + i.val, by omega⟩ : Fin 8192) (⟨t.val / 8 * 1408 + j.val, at_lt t j⟩ : Fin 2816) := by
    blk_ext [idx t]
  subst hy
  refine (?_ : _ = R _).trans (congrArg R hz.symm)
  rw [hR]
  refine (block_at (iblk m c 0 t) (iblk m c 1 t) i j).trans ?_
  refine Finset.sum_congr rfl fun k _ => ?_
  rw [rows_in, factor_in]
end

section
open Cert.Reference5Ideal Cert.Reference5Ideal.Gen

/-- The reference's result, as a function of its arguments. -/
def res (A : FVec Ideal S8192x1024 .f32) (W : FVec Ideal S2752x1024 .f32) : FVec Ideal S8192x2816 .f32 := concatenate S8192x2816 1 [⟨S8192x2752, (Host.dotGeneral dot_S8192x1024_S2752x1024_S8192x2752_1_1_0_0_n_n none A W : FVec Ideal S8192x2752 .f32)⟩, ⟨S8192x64, (broadcastInDim S8192x64 ![] bcast_S_S8192x64 (constant S_ .f32 0x00000000#32 : FVec Ideal S_ .f32) : FVec Ideal S8192x64 .f32)⟩] concatenates_S8192x2752_S8192x64_S8192x2816_d1

theorem res_at (A : FVec Ideal S8192x1024 .f32) (W : FVec Ideal S2752x1024 .f32) (i : Fin 8192) (j : Fin 2816) :
    res A W (ix2 i j) = ∑ k : Fin 1024, A (ix2 i k) * factor W k j := by
  pointwise [res]
  unfold factor
  repeat' split
  · rfl
  · simp only [mul_zero, Finset.sum_const_zero]
end

theorem frame [Cert.Kernel5.Facts] : Cert.quiescent_Kernel5 := fun m ρ _ => Cert.Kernel5.Gen.frame (F := Bits) m ρ

theorem ideal_frame [Cert.Kernel5Ideal.Facts] : Cert.quiescent_Kernel5Ideal := fun m ρ _ => Cert.Kernel5Ideal.Gen.frame (F := Ideal) m ρ

theorem reference_frame [Cert.Reference5Ideal.Facts] : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic [Cert.Kernel5Ideal.Facts] [Cert.Reference5Ideal.Facts] : Cert.algebraic_Kernel5Ideal_Reference5Ideal := by
  intro m g m' g' _ hargs
  refine ⟨fun c => res (rows m c) (weights m c), ?_, ?_⟩
  · refine (θ_run Cert.Kernel5Ideal.defs _ _).mono ?_ (Cert.Kernel5Ideal.Value.run_blocks (F := Ideal) m g)
    intro r h c
    exact ⟨(h c).1.trans (final m c _ (res_at _ _)), (h c).2⟩
  · refine (θ_run Cert.Reference5Ideal.defs _ _).mono ?_ (Cert.Reference5Ideal.Value.run (F := Ideal) m' g')
    intro r h c
    refine ⟨(h c).1.trans ?_, (h c).2⟩
    rw [(hargs c).1, (hargs c).2]
    rfl

end Cert.DAct

end
-- ==== Proof.DUpGate.lean ====
/- The gradient through the up-projection's half of gates: the kernel's ideal reading leaves what the reference leaves. -/
module

public import proofs.«01_k».proof.Defs
public import proofs.«01_k».proof.Proof.Gen.Kernel6.Frame
public import proofs.«01_k».proof.Proof.Gen.Kernel6Ideal.Value
public import proofs.«01_k».proof.Proof.Gen.Reference6Ideal.Run
public import proofs.«01_k».proof.Proof.Pad
public import Idealize.ShloMosaic.Lib.Pipeline.ValueKit
public import Idealize.ShloMosaic.Adequacy

@[expose] public section

set_option maxRecDepth 16384

noncomputable section

namespace Cert.DUpGate

open Idealize.ShloMosaic Idealize.ShloMosaic.TcCoe Idealize.SL.Sem

section
open Cert.Kernel6Ideal Cert.Kernel6Ideal.Gen
variable (m : (ℓ : Loc nD τ sig) → Buf (Elt Ideal) ℓ) (c : Dev nD)

/-- The gradient and the weights as launched. -/
def rows : FVec Ideal S8192x2816 .f32 := m ((c.tc : Thread nD τ).loc main_arg0)
def weights : FVec Ideal S1024x5504 .f32 := m ((c.tc : Thread nD τ).loc main_arg1)

/-- The weights' half of gates turned over, followed by rows of zeros. -/
def factor (W : FVec Ideal S1024x5504 .f32) (k : Fin 2816) (j : Fin 1024) : EReal := if h : k.val < 2752 then W (ix2 j (⟨k.val, by omega⟩ : Fin 5504)) else 0

theorem V_rows : (V m c main_v7 : FVec Ideal S8192x2816 .bf16) = truncf .bf16 (rows m c) bitsLt_bf16_f32 := by
  unfold V rows
  after_results <;> rfl

theorem V_factor : (V m c main_v8 : FVec Ideal S2816x1024 .bf16) = extractStridedSlice S2816x1024 ![0, 0] (transpose S5632x1024 [1, 0] (concatenate S1024x5632 1
    [⟨S1024x2752, extractStridedSlice S1024x2752 ![0, 0] (truncf .bf16 (weights m c) bitsLt_bf16_f32 : FVec Ideal S1024x5504 .bf16) slices_S1024x5504_S1024x2752_0_0⟩,
     ⟨S1024x64, (broadcastInDim S1024x64 ![] bcast_S_S1024x64 (constant S_ .bf16 0x0000#16 : FVec Ideal S_ .bf16) : FVec Ideal S1024x64 .bf16)⟩,
     ⟨S1024x2752, extractStridedSlice S1024x2752 ![0, 2752] (truncf .bf16 (weights m c) bitsLt_bf16_f32 : FVec Ideal S1024x5504 .bf16) slices_S1024x5504_S1024x2752_0_2752⟩,
     ⟨S1024x64, (broadcastInDim S1024x64 ![] bcast_S_S1024x64 (constant S_ .bf16 0x0000#16 : FVec Ideal S_ .bf16) : FVec Ideal S1024x64 .bf16)⟩]
    concatenates_S1024x2752_S1024x64_S1024x2752_S1024x64_S1024x5632_d1 : FVec Ideal S1024x5632 .bf16) transposes_S1024x5632_S5632x1024_1_0 : FVec Ideal S5632x1024 .bf16) slices_S5632x1024_S2816x1024_0_0 := by
  unfold V weights
  after_results <;> rfl

theorem row_at (i : Fin 8192) (k : Fin 2816) : (V m c main_v7 : FVec Ideal S8192x2816 .bf16) (ix2 i k) = rows m c (ix2 i k) := by
  rw [V_rows]
  generalize rows m c = A
  pointwise

theorem factor_at (k : Fin 2816) (j : Fin 1024) : (V m c main_v8 : FVec Ideal S2816x1024 .bf16) (ix2 k j) = factor (weights m c) k j := by
  rw [V_factor]
  generalize weights m c = W
  pointwise
  unfold factor
  repeat' split
  all_goals first | omega | exact congrArg (fun l => W (ix2 j l)) (Fin.mk_eq_mk.mpr (by omega)) | rfl

/-- A block of the product. -/
theorem block_at (A : Vec Ideal S1024x2816 .bf16) (B : Vec Ideal S2816x1024 .bf16) (i : Fin 1024) (j : Fin 1024) :
    (out0_2 A B : FVec Ideal S1024x1024 .f32) (ix2 i j) = ∑ k : Fin 2816, A (ix2 i k) * B (ix2 k j) := by
  have z2 : (![0, 0] : Fin 2 → Nat) = fun _ => 0 := funext fun a => by fin_cases a <;> rfl
  unfold out0_2
  rw [View.canon_unit_zero (S := S1024x1024) z2]
  simp only [View.ld_unit_zero (S := S1024x2816) z2, View.ld_unit_zero (S := S2816x1024) z2]
  pointwise [k0_pay1]

theorem idx : ∀ t : Fin cfg0.N, win0_0.index t = ![t.val % 8, 0] ∧ win0_1.index t = ![0, t.val / 8] ∧ win0_2.index t = ![t.val % 8, t.val / 8] :=
  (by decide +kernel : ∀ t : Fin grid0.N, _)

theorem at_lt (t : Fin cfg0.N) (j : Fin 1024) : t.val / 8 * 1024 + j.val < 1024 := by
  have : t.val < 8 := t.isLt
  omega

theorem rows_in (t : Fin cfg0.N) (i : Fin 1024) (k : Fin 2816) : (iblk m c 0 t : FVec Ideal S1024x2816 .bf16) (ix2 i k)
    = rows m c (ix2 (⟨t.val % 8 * 1024 + i.val, by omega⟩ : Fin 8192) k) := by
  have z : (((cfg0.win 0).blk t).view.emb (ix2 i k) : S8192x2816.Idx) = (ix2 (⟨t.val % 8 * 1024 + i.val, by omega⟩ : Fin 8192) k : S8192x2816.Idx) := by
    blk_ext [idx t]
  refine Eq.trans ?_ (row_at m c _ k)
  unfold iblk
  generalize V m c = A
  rw [View.read_apply, cast_eq]
  exact congrArg (A main_v7) z

theorem factor_in (t : Fin cfg0.N) (k : Fin 2816) (j : Fin 1024) : (iblk m c 1 t : FVec Ideal S2816x1024 .bf16) (ix2 k j)
    = factor (weights m c) k ⟨t.val / 8 * 1024 + j.val, at_lt t j⟩ := by
  have z : (((cfg0.win 1).blk t).view.emb (ix2 k j) : S2816x1024.Idx) = (ix2 k (⟨t.val / 8 * 1024 + j.val, at_lt t j⟩ : Fin 1024) : S2816x1024.Idx) := by
    blk_ext [idx t]
  refine Eq.trans ?_ (factor_at m c k _)
  unfold iblk
  generalize V m c = A
  rw [View.read_apply, cast_eq]
  exact congrArg (A main_v8) z

variable (R : FVec Ideal S8192x1024 .f32)
  (hR : ∀ i j, R (ix2 i j) = ∑ k : Fin 2816, rows m c (ix2 i k) * factor (weights m c) k j)
include hR

/-- The kernel's result array. -/
theorem final : (dats m 0 c).arrAt 2 cfg0.N = R := by
  refine (dats m 0 c).arrAt_eq_of_covers 2 R (by decide +kernel) fun t _ y => ?_
  have hlt : t.val < 8 := t.isLt
  rw [cast_eq, after0_2]
  obtain ⟨i, j, hy⟩ : ∃ (i : Fin 1024) (j : Fin 1024), (y : S1024x1024.Idx) = ix2 i j := by
    refine ⟨y 0, y 1, ?_⟩
    funext a
    fin_cases a <;> rfl
  have hz : (((cfg0.win 2).blk t).view.emb (ix2 i j : S1024x1024.Idx) : S8192x1024.Idx)
      = ix2 (⟨t.val % 8 * 1024 + i.val, by omega⟩ : Fin 8192) (⟨t.val / 8 * 1024 + j.val, at_lt t j⟩ : Fin 1024) := by
    blk_ext [idx t]
  subst hy
  refine (?_ : _ = R _).trans (congrArg R hz.symm)
  rw [hR]
  refine (block_at (iblk m c 0 t) (iblk m c 1 t) i j).trans ?_
  refine Finset.sum_congr rfl fun k _ => ?_
  rw [rows_in, factor_in]
end

section
open Cert.Reference6Ideal Cert.Reference6Ideal.Gen

/-- The reference's result, as a function of its arguments. -/
def res (A : FVec Ideal S8192x2816 .f32) (W : FVec Ideal S1024x5504 .f32) : FVec Ideal S8192x1024 .f32 := Host.dotGeneral dot_S8192x5504_S1024x5504_S8192x1024_1_1_0_0_n_n none (concatenate S8192x5504 1 [⟨S8192x2752, (extractStridedSlice S8192x2752 ![0, 0] A slices_S8192x2816_S8192x2752_0_0 : FVec Ideal S8192x2752 .f32)⟩, ⟨S8192x2752, (broadcastInDim S8192x2752 ![] bcast_S_S8192x2752 (constant S_ .f32 0x00000000#32 : FVec Ideal S_ .f32) : FVec Ideal S8192x2752 .f32)⟩] concatenates_S8192x2752_S8192x2752_S8192x5504_d1 : FVec Ideal S8192x5504 .f32) W

theorem res_at (A : FVec Ideal S8192x2816 .f32) (W : FVec Ideal S1024x5504 .f32) (i : Fin 8192) (j : Fin 1024) :
    res A W (ix2 i j) = ∑ k : Fin 2816, A (ix2 i k) * factor W k j := by
  refine Eq.trans ?_ (Pad.sum_pad (fun k => A (ix2 i k)) (fun k => W (ix2 j (⟨k.val, by omega⟩ : Fin 5504)))).symm
  refine Eq.trans ?_ (Pad.sum_first (fun k => A (ix2 i (⟨k.val, by omega⟩ : Fin 2816))) (fun l => W (ix2 j l)))
  pointwise [res]
end

theorem frame [Cert.Kernel6.Facts] : Cert.quiescent_Kernel6 := fun m ρ _ => Cert.Kernel6.Gen.frame (F := Bits) m ρ

theorem ideal_frame [Cert.Kernel6Ideal.Facts] : Cert.quiescent_Kernel6Ideal := fun m ρ _ => Cert.Kernel6Ideal.Gen.frame (F := Ideal) m ρ

theorem reference_frame [Cert.Reference6Ideal.Facts] : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic [Cert.Kernel6Ideal.Facts] [Cert.Reference6Ideal.Facts] : Cert.algebraic_Kernel6Ideal_Reference6Ideal := by
  intro m g m' g' _ hargs
  refine ⟨fun c => res (rows m c) (weights m c), ?_, ?_⟩
  · refine (θ_run Cert.Kernel6Ideal.defs _ _).mono ?_ (Cert.Kernel6Ideal.Value.run_blocks (F := Ideal) m g)
    intro r h c
    exact ⟨(h c).1.trans (final m c _ (res_at _ _)), (h c).2⟩
  · refine (θ_run Cert.Reference6Ideal.defs _ _).mono ?_ (Cert.Reference6Ideal.Value.run (F := Ideal) m' g')
    intro r h c
    refine ⟨(h c).1.trans ?_, (h c).2⟩
    rw [(hargs c).1, (hargs c).2]
    rfl

end Cert.DUpGate

end
-- ==== Proof.DUpValue.lean ====
/- The gradient through the up-projection's half of values, added to the gates': the kernel's ideal reading leaves what the
   reference leaves. -/
module

public import proofs.«01_k».proof.Defs
public import proofs.«01_k».proof.Proof.Gen.Kernel7.Frame
public import proofs.«01_k».proof.Proof.Gen.Kernel7Ideal.Value
public import proofs.«01_k».proof.Proof.Gen.Reference7Ideal.Run
public import proofs.«01_k».proof.Proof.Pad
public import Idealize.ShloMosaic.Lib.Pipeline.ValueKit
public import Idealize.ShloMosaic.Adequacy

@[expose] public section

set_option maxRecDepth 16384

noncomputable section

namespace Cert.DUpValue

open Idealize.ShloMosaic Idealize.ShloMosaic.TcCoe Idealize.SL.Sem

section
open Cert.Kernel7Ideal Cert.Kernel7Ideal.Gen
variable (m : (ℓ : Loc nD τ sig) → Buf (Elt Ideal) ℓ) (c : Dev nD)

/-- The gradient, the weights and what the product is added to as launched. -/
def rows : FVec Ideal S8192x2816 .f32 := m ((c.tc : Thread nD τ).loc main_arg0)
def weights : FVec Ideal S1024x5504 .f32 := m ((c.tc : Thread nD τ).loc main_arg1)
def carried : FVec Ideal S8192x1024 .f32 := m ((c.tc : Thread nD τ).loc main_arg2)

/-- The weights' half of values turned over, followed by rows of zeros. -/
def factor (W : FVec Ideal S1024x5504 .f32) (k : Fin 2816) (j : Fin 1024) : EReal := if h : k.val < 2752 then W (ix2 j (⟨2752 + k.val, by omega⟩ : Fin 5504)) else 0

theorem V_rows : (V m c main_v7 : FVec Ideal S8192x2816 .bf16) = truncf .bf16 (rows m c) bitsLt_bf16_f32 := by
  unfold V rows
  after_results <;> rfl

theorem V_factor : (V m c main_v8 : FVec Ideal S2816x1024 .bf16) = extractStridedSlice S2816x1024 ![2816, 0] (transpose S5632x1024 [1, 0] (concatenate S1024x5632 1
    [⟨S1024x2752, extractStridedSlice S1024x2752 ![0, 0] (truncf .bf16 (weights m c) bitsLt_bf16_f32 : FVec Ideal S1024x5504 .bf16) slices_S1024x5504_S1024x2752_0_0⟩,
     ⟨S1024x64, (broadcastInDim S1024x64 ![] bcast_S_S1024x64 (constant S_ .bf16 0x0000#16 : FVec Ideal S_ .bf16) : FVec Ideal S1024x64 .bf16)⟩,
     ⟨S1024x2752, extractStridedSlice S1024x2752 ![0, 2752] (truncf .bf16 (weights m c) bitsLt_bf16_f32 : FVec Ideal S1024x5504 .bf16) slices_S1024x5504_S1024x2752_0_2752⟩,
     ⟨S1024x64, (broadcastInDim S1024x64 ![] bcast_S_S1024x64 (constant S_ .bf16 0x0000#16 : FVec Ideal S_ .bf16) : FVec Ideal S1024x64 .bf16)⟩]
    concatenates_S1024x2752_S1024x64_S1024x2752_S1024x64_S1024x5632_d1 : FVec Ideal S1024x5632 .bf16) transposes_S1024x5632_S5632x1024_1_0 : FVec Ideal S5632x1024 .bf16) slices_S5632x1024_S2816x1024_2816_0 := by
  unfold V weights
  after_results <;> rfl

theorem row_at (i : Fin 8192) (k : Fin 2816) : (V m c main_v7 : FVec Ideal S8192x2816 .bf16) (ix2 i k) = rows m c (ix2 i k) := by
  rw [V_rows]
  generalize rows m c = A
  pointwise

theorem factor_at (k : Fin 2816) (j : Fin 1024) : (V m c main_v8 : FVec Ideal S2816x1024 .bf16) (ix2 k j) = factor (weights m c) k j := by
  rw [V_factor]
  generalize weights m c = W
  pointwise
  unfold factor
  repeat' split
  all_goals first | omega | exact congrArg (fun l => W (ix2 j l)) (Fin.mk_eq_mk.mpr (by omega)) | rfl

/-- A block of the product. -/
theorem block_at (A : Vec Ideal S1024x2816 .bf16) (B : Vec Ideal S2816x1024 .bf16) (X : Vec Ideal S1024x1024 .f32) (i : Fin 1024) (j : Fin 1024) :
    (out0_3 A B X : FVec Ideal S1024x1024 .f32) (ix2 i j) = (∑ k : Fin 2816, A (ix2 i k) * B (ix2 k j)) + X (ix2 i j) := by
  have z2 : (![0, 0] : Fin 2 → Nat) = fun _ => 0 := funext fun a => by fin_cases a <;> rfl
  unfold out0_3
  rw [View.canon_unit_zero (S := S1024x1024) z2]
  simp only [View.ld_unit_zero (S := S1024x2816) z2, View.ld_unit_zero (S := S2816x1024) z2, View.ld_unit_zero (S := S1024x1024) z2]
  pointwise [k0_pay1]

theorem idx : ∀ t : Fin cfg0.N, win0_0.index t = ![t.val % 8, 0] ∧ win0_1.index t = ![0, t.val / 8] ∧ win0_2.index t = ![t.val % 8, t.val / 8] ∧ win0_3.index t = ![t.val % 8, t.val / 8] :=
  (by decide +kernel : ∀ t : Fin grid0.N, _)

theorem at_lt (t : Fin cfg0.N) (j : Fin 1024) : t.val / 8 * 1024 + j.val < 1024 := by
  have : t.val < 8 := t.isLt
  omega

theorem rows_in (t : Fin cfg0.N) (i : Fin 1024) (k : Fin 2816) : (iblk m c 0 t : FVec Ideal S1024x2816 .bf16) (ix2 i k)
    = rows m c (ix2 (⟨t.val % 8 * 1024 + i.val, by omega⟩ : Fin 8192) k) := by
  have z : (((cfg0.win 0).blk t).view.emb (ix2 i k) : S8192x2816.Idx) = (ix2 (⟨t.val % 8 * 1024 + i.val, by omega⟩ : Fin 8192) k : S8192x2816.Idx) := by
    blk_ext [idx t]
  refine Eq.trans ?_ (row_at m c _ k)
  unfold iblk
  generalize V m c = A
  rw [View.read_apply, cast_eq]
  exact congrArg (A main_v7) z

theorem factor_in (t : Fin cfg0.N) (k : Fin 2816) (j : Fin 1024) : (iblk m c 1 t : FVec Ideal S2816x1024 .bf16) (ix2 k j)
    = factor (weights m c) k ⟨t.val / 8 * 1024 + j.val, at_lt t j⟩ := by
  have z : (((cfg0.win 1).blk t).view.emb (ix2 k j) : S2816x1024.Idx) = (ix2 k (⟨t.val / 8 * 1024 + j.val, at_lt t j⟩ : Fin 1024) : S2816x1024.Idx) := by
    blk_ext [idx t]
  refine Eq.trans ?_ (factor_at m c k _)
  unfold iblk
  generalize V m c = A
  rw [View.read_apply, cast_eq]
  exact congrArg (A main_v8) z

theorem carried_in (t : Fin cfg0.N) (i : Fin 1024) (j : Fin 1024) : (iblk m c 2 t : FVec Ideal S1024x1024 .f32) (ix2 i j)
    = carried m c (ix2 (⟨t.val % 8 * 1024 + i.val, by omega⟩ : Fin 8192) (⟨t.val / 8 * 1024 + j.val, at_lt t j⟩ : Fin 1024)) := by
  have z : (((cfg0.win 2).blk t).view.emb (ix2 i j) : S8192x1024.Idx)
      = (ix2 (⟨t.val % 8 * 1024 + i.val, by omega⟩ : Fin 8192) (⟨t.val / 8 * 1024 + j.val, at_lt t j⟩ : Fin 1024) : S8192x1024.Idx) := by
    blk_ext [idx t]
  refine Eq.trans ?_ (congrFun (V_main_arg2 m c) _)
  unfold iblk
  generalize V m c = A
  rw [View.read_apply, cast_eq]
  exact congrArg (A main_arg2) z

variable (R : FVec Ideal S8192x1024 .f32)
  (hR : ∀ i j, R (ix2 i j) = (∑ k : Fin 2816, rows m c (ix2 i k) * factor (weights m c) k j) + carried m c (ix2 i j))
include hR

/-- The kernel's result array. -/
theorem final : (dats m 0 c).arrAt 3 cfg0.N = R := by
  refine (dats m 0 c).arrAt_eq_of_covers 3 R (by decide +kernel) fun t _ y => ?_
  have hlt : t.val < 8 := t.isLt
  rw [cast_eq, after0_3]
  obtain ⟨i, j, hy⟩ : ∃ (i : Fin 1024) (j : Fin 1024), (y : S1024x1024.Idx) = ix2 i j := by
    refine ⟨y 0, y 1, ?_⟩
    funext a
    fin_cases a <;> rfl
  have hz : (((cfg0.win 3).blk t).view.emb (ix2 i j : S1024x1024.Idx) : S8192x1024.Idx)
      = ix2 (⟨t.val % 8 * 1024 + i.val, by omega⟩ : Fin 8192) (⟨t.val / 8 * 1024 + j.val, at_lt t j⟩ : Fin 1024) := by
    blk_ext [idx t]
  subst hy
  refine (?_ : _ = R _).trans (congrArg R hz.symm)
  rw [hR]
  refine (block_at (iblk m c 0 t) (iblk m c 1 t) (iblk m c 2 t) i j).trans ?_
  refine congrArg₂ (· + ·) (Finset.sum_congr rfl fun k _ => ?_) (carried_in m c t i j)
  rw [rows_in, factor_in]
end

section
open Cert.Reference7Ideal Cert.Reference7Ideal.Gen

/-- The reference's result, as a function of its arguments. -/
def res (A : FVec Ideal S8192x2816 .f32) (W : FVec Ideal S1024x5504 .f32) (X : FVec Ideal S8192x1024 .f32) : FVec Ideal S8192x1024 .f32 := addf X (Host.dotGeneral dot_S8192x5504_S1024x5504_S8192x1024_1_1_0_0_n_n none (concatenate S8192x5504 1 [⟨S8192x2752, (broadcastInDim S8192x2752 ![] bcast_S_S8192x2752 (constant S_ .f32 0x00000000#32 : FVec Ideal S_ .f32) : FVec Ideal S8192x2752 .f32)⟩, ⟨S8192x2752, (extractStridedSlice S8192x2752 ![0, 0] A slices_S8192x2816_S8192x2752_0_0 : FVec Ideal S8192x2752 .f32)⟩] concatenates_S8192x2752_S8192x2752_S8192x5504_d1 : FVec Ideal S8192x5504 .f32) W : FVec Ideal S8192x1024 .f32)

theorem res_at (A : FVec Ideal S8192x2816 .f32) (W : FVec Ideal S1024x5504 .f32) (X : FVec Ideal S8192x1024 .f32) (i : Fin 8192) (j : Fin 1024) :
    res A W X (ix2 i j) = (∑ k : Fin 2816, A (ix2 i k) * factor W k j) + X (ix2 i j) := by
  refine Eq.trans ?_ (congrArg (· + X (ix2 i j)) (Pad.sum_pad (fun k => A (ix2 i k)) (fun k => W (ix2 j (⟨2752 + k.val, by omega⟩ : Fin 5504)))).symm)
  refine Eq.trans ?_ (congrArg (· + X (ix2 i j)) (Pad.sum_second (fun k => A (ix2 i (⟨k.val, by omega⟩ : Fin 2816))) (fun l => W (ix2 j l))))
  refine Eq.trans ?_ (add_comm _ _)
  pointwise [res]
end

theorem frame [Cert.Kernel7.Facts] : Cert.quiescent_Kernel7 := fun m ρ _ => Cert.Kernel7.Gen.frame (F := Bits) m ρ

theorem ideal_frame [Cert.Kernel7Ideal.Facts] : Cert.quiescent_Kernel7Ideal := fun m ρ _ => Cert.Kernel7Ideal.Gen.frame (F := Ideal) m ρ

theorem reference_frame [Cert.Reference7Ideal.Facts] : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic [Cert.Kernel7Ideal.Facts] [Cert.Reference7Ideal.Facts] : Cert.algebraic_Kernel7Ideal_Reference7Ideal := by
  intro m g m' g' _ hargs
  refine ⟨fun c => res (rows m c) (weights m c) (carried m c), ?_, ?_⟩
  · refine (θ_run Cert.Kernel7Ideal.defs _ _).mono ?_ (Cert.Kernel7Ideal.Value.run_blocks (F := Ideal) m g)
    intro r h c
    exact ⟨(h c).1.trans (final m c _ (res_at _ _ _)), (h c).2⟩
  · refine (θ_run Cert.Reference7Ideal.defs _ _).mono ?_ (Cert.Reference7Ideal.Value.run (F := Ideal) m' g')
    intro r h c
    refine ⟨(h c).1.trans ?_, (h c).2⟩
    rw [(hargs c).1, (hargs c).2.1, (hargs c).2.2]
    rfl

end Cert.DUpValue

end
-- ==== Proof.DwUp.lean ====
/- The gradient of a half of the up-projection's weights: the kernel's ideal reading leaves what the reference leaves. -/
module

public import proofs.«01_k».proof.Defs
public import proofs.«01_k».proof.Proof.Gen.Kernel8.Frame
public import proofs.«01_k».proof.Proof.Gen.Kernel8Ideal.Value
public import proofs.«01_k».proof.Proof.Gen.Reference8Ideal.Run
public import Idealize.ShloMosaic.Lib.Pipeline.ValueKit
public import Idealize.ShloMosaic.Adequacy

@[expose] public section

set_option maxRecDepth 16384

noncomputable section

namespace Cert.DwUp

open Idealize.ShloMosaic Idealize.ShloMosaic.TcCoe Idealize.SL.Sem

/-- What a quarter of the rows adds to a column of one factor against a column of the other. -/
def quarter (A : Fin 8192 → EReal) (B : Fin 8192 → EReal) (s : Fin 4) : EReal :=
  ∑ r : Fin 2048, A ⟨s.val * 2048 + r.val, by omega⟩ * B ⟨s.val * 2048 + r.val, by omega⟩

theorem sum_quarters (A B : Fin 8192 → EReal) : ∑ r, A r * B r = quarter A B 0 + quarter A B 1 + quarter A B 2 + quarter A B 3 :=
  (Fin.sum_univ_tiles 4 2048 rfl fun r => A r * B r).trans (Fin.sum_univ_four fun s => quarter A B s)

section
open Cert.Kernel8Ideal Cert.Kernel8Ideal.Gen Cert.Kernel8Ideal.Value
variable (m : (ℓ : Loc nD τ sig) → Buf (Elt Ideal) ℓ) (c : Dev nD)

/-- The factors as launched. -/
def left : FVec Ideal S8192x1024 .f32 := m ((c.tc : Thread nD τ).loc main_arg0)
def right : FVec Ideal S8192x2816 .f32 := m ((c.tc : Thread nD τ).loc main_arg1)

theorem V_left : (V m c main_v0 : FVec Ideal S8192x1024 .bf16) = truncf .bf16 (left m c) bitsLt_bf16_f32 := by
  unfold V left
  after_results <;> rfl

theorem V_right : (V m c main_v1 : FVec Ideal S8192x2816 .bf16) = truncf .bf16 (right m c) bitsLt_bf16_f32 := by
  unfold V right
  after_results <;> rfl

theorem left_at (r : Fin 8192) (i : Fin 1024) : (V m c main_v0 : FVec Ideal S8192x1024 .bf16) (ix2 r i) = left m c (ix2 r i) := by
  rw [V_left]
  generalize left m c = A
  pointwise

theorem right_at (r : Fin 8192) (j : Fin 2816) : (V m c main_v1 : FVec Ideal S8192x2816 .bf16) (ix2 r j) = right m c (ix2 r j) := by
  rw [V_right]
  generalize right m c = B
  pointwise

/-- One point's addition. -/
theorem add_at (X : Vec Ideal S1024x1408 .f32) (A : Vec Ideal S2048x1024 .bf16) (B : Vec Ideal S2048x1408 .bf16) (i : Fin 1024) (j : Fin 1408) :
    (k0_pay2 X A B : FVec Ideal S1024x1408 .f32) (ix2 i j) = X (ix2 i j) + ∑ r : Fin 2048, A (ix2 r i) * B (ix2 r j) := by
  pointwise [k0_pay2]

theorem zero_at (i : Fin 1024) (j : Fin 1408) : (k0_pay1 (F := Ideal) : FVec Ideal S1024x1408 .f32) (ix2 i j) = 0 := by
  pointwise [k0_pay1]

theorem idx : ∀ t : Fin cfg0.N, win0_0.index t = ![t.val % 4, t.val / 4 / 2] ∧ win0_1.index t = ![t.val % 4, t.val / 4 % 2] :=
  (by decide +kernel : ∀ t : Fin grid0.N, _)

theorem run_eq (i : Fin 1024) (j : Fin 2816) : run2Of (ix2 i j : S1024x2816.Idx) = 2 * (i.val / 1024) + j.val / 1408 := by
  show _ * (i.val / 1024 - 0) + _ * (j.val / 1408 - 0) = _
  omega

theorem loc_eq (i : Fin 1024) (j : Fin 2816) : loc2Of (ix2 i j : S1024x2816.Idx) = (ix2 (⟨i.val % 1024, by omega⟩ : Fin 1024) (⟨j.val % 1408, by omega⟩ : Fin 1408) : S1024x1408.Idx) := by
  funext a
  fin_cases a <;> rfl

section
variable (i : Fin 1024) (j : Fin 2816) (s : Fin 4) (n : ℕ) (h : n < cfg0.N) (hn : n = 4 * run2Of (ix2 i j : S1024x2816.Idx) + s.val)
include hn

theorem left_in (r : Fin 2048) : (iblk m c 0 ⟨n, h⟩ : FVec Ideal S2048x1024 .bf16) (ix2 r (⟨i.val % 1024, by omega⟩ : Fin 1024))
    = left m c (ix2 (⟨s.val * 2048 + r.val, by omega⟩ : Fin 8192) i) := by
  have e : win0_0.index ⟨n, h⟩ = ![s.val, i.val / 1024] := by
    rw [(idx ⟨n, h⟩).1]
    show ![n % 4, n / 4 / 2] = _
    rw [show n % 4 = s.val by have := run_eq i j; omega, show n / 4 / 2 = i.val / 1024 by have := run_eq i j; omega]
  have z : (((cfg0.win 0).blk ⟨n, h⟩).view.emb (ix2 r (⟨i.val % 1024, by omega⟩ : Fin 1024)) : S8192x1024.Idx)
      = (ix2 (⟨s.val * 2048 + r.val, by omega⟩ : Fin 8192) i : S8192x1024.Idx) := by
    blk_ext [e]
  refine Eq.trans ?_ (left_at m c _ i)
  unfold iblk
  generalize V m c = A
  rw [View.read_apply, cast_eq]
  exact congrArg (A main_v0) z

theorem right_in (r : Fin 2048) : (iblk m c 1 ⟨n, h⟩ : FVec Ideal S2048x1408 .bf16) (ix2 r (⟨j.val % 1408, by omega⟩ : Fin 1408))
    = right m c (ix2 (⟨s.val * 2048 + r.val, by omega⟩ : Fin 8192) j) := by
  have e : win0_1.index ⟨n, h⟩ = ![s.val, j.val / 1408] := by
    rw [(idx ⟨n, h⟩).2]
    show ![n % 4, n / 4 % 2] = _
    rw [show n % 4 = s.val by have := run_eq i j; omega, show n / 4 % 2 = j.val / 1408 by have := run_eq i j; omega]
  have z : (((cfg0.win 1).blk ⟨n, h⟩).view.emb (ix2 r (⟨j.val % 1408, by omega⟩ : Fin 1408)) : S8192x2816.Idx)
      = (ix2 (⟨s.val * 2048 + r.val, by omega⟩ : Fin 8192) j : S8192x2816.Idx) := by
    blk_ext [e]
  refine Eq.trans ?_ (right_at m c _ j)
  unfold iblk
  generalize V m c = A
  rw [View.read_apply, cast_eq]
  exact congrArg (A main_v1) z

/-- The point of a run that takes a quarter's rows adds that quarter. -/
theorem quarter_at (X : Vec Ideal S1024x1408 .f32) : (k0_pay2 X (iblk m c 0 ⟨n, h⟩) (iblk m c 1 ⟨n, h⟩) : FVec Ideal S1024x1408 .f32) (loc2Of (ix2 i j : S1024x2816.Idx))
    = X (loc2Of (ix2 i j : S1024x2816.Idx)) + quarter (fun r => left m c (ix2 r i)) (fun r => right m c (ix2 r j)) s := by
  rw [loc_eq]
  refine (add_at X (iblk m c 0 ⟨n, h⟩) (iblk m c 1 ⟨n, h⟩) _ _).trans (congrArg _ (Finset.sum_congr rfl fun r _ => ?_))
  rw [left_in m c i j s n h hn r, right_in m c i j s n h hn r]
end

/-- The kernel's result array. -/
theorem final_at (i : Fin 1024) (j : Fin 2816) : (G2 m c : FVec Ideal S1024x2816 .f32) (ix2 i j) = ∑ r : Fin 8192, left m c (ix2 r i) * right m c (ix2 r j) := by
  have hb : 4 * run2Of (ix2 i j : S1024x2816.Idx) + 3 < cfg0.N := by
    have := run_eq i j
    show 4 * run2Of (ix2 i j : S1024x2816.Idx) + 3 < 8
    omega
  unfold G2
  rw [dif_pos hb, Pipeline.accAt_succ, Pipeline.accAt_succ, Pipeline.accAt_succ, Pipeline.accAt_zero]
  unfold step2 reset2
  rw [quarter_at m c i j 3 (4 * run2Of (ix2 i j : S1024x2816.Idx) + (2 + 1)) _ rfl, quarter_at m c i j 2 (4 * run2Of (ix2 i j : S1024x2816.Idx) + (1 + 1)) _ rfl,
    quarter_at m c i j 1 (4 * run2Of (ix2 i j : S1024x2816.Idx) + (0 + 1)) _ rfl, quarter_at m c i j 0 (4 * run2Of (ix2 i j : S1024x2816.Idx)) _ rfl, loc_eq, zero_at, zero_add]
  exact (sum_quarters (fun r => left m c (ix2 r i)) (fun r => right m c (ix2 r j))).symm
end

section
open Cert.Reference8Ideal Cert.Reference8Ideal.Gen

/-- The reference's result, as a function of its arguments. -/
def res (A : FVec Ideal S8192x1024 .f32) (B : FVec Ideal S8192x2816 .f32) : FVec Ideal S1024x2816 .f32 :=
  transpose S1024x2816 [1, 0] (Host.dotGeneral dot_S8192x2816_S8192x1024_S2816x1024_0_0_1_1_n_n none B A : FVec Ideal S2816x1024 .f32) transposes_S2816x1024_S1024x2816_1_0

theorem res_at (A : FVec Ideal S8192x1024 .f32) (B : FVec Ideal S8192x2816 .f32) (i : Fin 1024) (j : Fin 2816) :
    res A B (ix2 i j) = ∑ r : Fin 8192, A (ix2 r i) * B (ix2 r j) := by
  refine Eq.trans ?_ (Finset.sum_congr rfl fun r _ => mul_comm (B (ix2 r j)) (A (ix2 r i)))
  pointwise [res]
end

theorem frame [Cert.Kernel8.Facts] : Cert.quiescent_Kernel8 := fun m ρ _ => Cert.Kernel8.Gen.frame (F := Bits) m ρ

theorem ideal_frame [Cert.Kernel8Ideal.Facts] : Cert.quiescent_Kernel8Ideal := fun m ρ _ => Cert.Kernel8Ideal.Gen.frame (F := Ideal) m ρ

theorem reference_frame [Cert.Reference8Ideal.Facts] : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic [Cert.Kernel8Ideal.Facts] [Cert.Reference8Ideal.Facts] : Cert.algebraic_Kernel8Ideal_Reference8Ideal := by
  intro m g m' g' _ hargs
  refine ⟨fun c => res (left m c) (right m c), ?_, ?_⟩
  · refine (θ_run Cert.Kernel8Ideal.defs _ _).mono ?_ (Cert.Kernel8Ideal.Value.run (F := Ideal) m g)
    intro r h c
    refine ⟨(h c).1.trans ?_, (h c).2⟩
    funext y
    obtain ⟨i, j, rfl⟩ : ∃ (i : Fin 1024) (j : Fin 2816), y = ix2 i j := ⟨y 0, y 1, by funext a; fin_cases a <;> rfl⟩
    exact (final_at m c i j).trans (res_at (left m c) (right m c) i j).symm
  · refine (θ_run Cert.Reference8Ideal.defs _ _).mono ?_ (Cert.Reference8Ideal.Value.run (F := Ideal) m' g')
    intro r h c
    refine ⟨(h c).1.trans ?_, (h c).2⟩
    rw [(hargs c).1, (hargs c).2]
    rfl

end Cert.DwUp

end
-- ==== Proof.DwDown.lean ====
/- The gradient of the down-projection's weights: the kernel's ideal reading leaves what the reference leaves. -/
module

public import proofs.«01_k».proof.Defs
public import proofs.«01_k».proof.Proof.Gen.Kernel9.Frame
public import proofs.«01_k».proof.Proof.Gen.Kernel9Ideal.Value
public import proofs.«01_k».proof.Proof.Gen.Reference9Ideal.Run
public import Idealize.ShloMosaic.Lib.Pipeline.ValueKit
public import Idealize.ShloMosaic.Adequacy

@[expose] public section

set_option maxRecDepth 16384

noncomputable section

namespace Cert.DwDown

open Idealize.ShloMosaic Idealize.ShloMosaic.TcCoe Idealize.SL.Sem

/-- What a quarter of the rows adds to a column of one factor against a column of the other. -/
def quarter (A : Fin 8192 → EReal) (B : Fin 8192 → EReal) (s : Fin 4) : EReal :=
  ∑ r : Fin 2048, A ⟨s.val * 2048 + r.val, by omega⟩ * B ⟨s.val * 2048 + r.val, by omega⟩

theorem sum_quarters (A B : Fin 8192 → EReal) : ∑ r, A r * B r = quarter A B 0 + quarter A B 1 + quarter A B 2 + quarter A B 3 :=
  (Fin.sum_univ_tiles 4 2048 rfl fun r => A r * B r).trans (Fin.sum_univ_four fun s => quarter A B s)

section
open Cert.Kernel9Ideal Cert.Kernel9Ideal.Gen Cert.Kernel9Ideal.Value
variable (m : (ℓ : Loc nD τ sig) → Buf (Elt Ideal) ℓ) (c : Dev nD)

/-- The factors as launched. -/
def left : FVec Ideal S8192x2816 .f32 := m ((c.tc : Thread nD τ).loc main_arg0)
def right : FVec Ideal S8192x1024 .f32 := m ((c.tc : Thread nD τ).loc main_arg1)

theorem V_left : (V m c main_v0 : FVec Ideal S8192x2816 .bf16) = truncf .bf16 (left m c) bitsLt_bf16_f32 := by
  unfold V left
  after_results <;> rfl

theorem V_right : (V m c main_v1 : FVec Ideal S8192x1024 .bf16) = truncf .bf16 (right m c) bitsLt_bf16_f32 := by
  unfold V right
  after_results <;> rfl

theorem left_at (r : Fin 8192) (i : Fin 2816) : (V m c main_v0 : FVec Ideal S8192x2816 .bf16) (ix2 r i) = left m c (ix2 r i) := by
  rw [V_left]
  generalize left m c = A
  pointwise

theorem right_at (r : Fin 8192) (j : Fin 1024) : (V m c main_v1 : FVec Ideal S8192x1024 .bf16) (ix2 r j) = right m c (ix2 r j) := by
  rw [V_right]
  generalize right m c = B
  pointwise

/-- One point's addition. -/
theorem add_at (X : Vec Ideal S1408x1024 .f32) (A : Vec Ideal S2048x1408 .bf16) (B : Vec Ideal S2048x1024 .bf16) (i : Fin 1408) (j : Fin 1024) :
    (k0_pay2 X A B : FVec Ideal S1408x1024 .f32) (ix2 i j) = X (ix2 i j) + ∑ r : Fin 2048, A (ix2 r i) * B (ix2 r j) := by
  pointwise [k0_pay2]

theorem zero_at (i : Fin 1408) (j : Fin 1024) : (k0_pay1 (F := Ideal) : FVec Ideal S1408x1024 .f32) (ix2 i j) = 0 := by
  pointwise [k0_pay1]

theorem idx : ∀ t : Fin cfg0.N, win0_0.index t = ![t.val % 4, t.val / 4 / 1] ∧ win0_1.index t = ![t.val % 4, t.val / 4 % 1] :=
  (by decide +kernel : ∀ t : Fin grid0.N, _)

theorem run_eq (i : Fin 2816) (j : Fin 1024) : run2Of (ix2 i j : S2816x1024.Idx) = 1 * (i.val / 1408) + j.val / 1024 := by
  show _ * (i.val / 1408 - 0) + _ * (j.val / 1024 - 0) = _
  omega

theorem loc_eq (i : Fin 2816) (j : Fin 1024) : loc2Of (ix2 i j : S2816x1024.Idx) = (ix2 (⟨i.val % 1408, by omega⟩ : Fin 1408) (⟨j.val % 1024, by omega⟩ : Fin 1024) : S1408x1024.Idx) := by
  funext a
  fin_cases a <;> rfl

section
variable (i : Fin 2816) (j : Fin 1024) (s : Fin 4) (n : ℕ) (h : n < cfg0.N) (hn : n = 4 * run2Of (ix2 i j : S2816x1024.Idx) + s.val)
include hn

theorem left_in (r : Fin 2048) : (iblk m c 0 ⟨n, h⟩ : FVec Ideal S2048x1408 .bf16) (ix2 r (⟨i.val % 1408, by omega⟩ : Fin 1408))
    = left m c (ix2 (⟨s.val * 2048 + r.val, by omega⟩ : Fin 8192) i) := by
  have e : win0_0.index ⟨n, h⟩ = ![s.val, i.val / 1408] := by
    rw [(idx ⟨n, h⟩).1]
    show ![n % 4, n / 4 / 1] = _
    rw [show n % 4 = s.val by have := run_eq i j; omega, show n / 4 / 1 = i.val / 1408 by have := run_eq i j; omega]
  have z : (((cfg0.win 0).blk ⟨n, h⟩).view.emb (ix2 r (⟨i.val % 1408, by omega⟩ : Fin 1408)) : S8192x2816.Idx)
      = (ix2 (⟨s.val * 2048 + r.val, by omega⟩ : Fin 8192) i : S8192x2816.Idx) := by
    blk_ext [e]
  refine Eq.trans ?_ (left_at m c _ i)
  unfold iblk
  generalize V m c = A
  rw [View.read_apply, cast_eq]
  exact congrArg (A main_v0) z

theorem right_in (r : Fin 2048) : (iblk m c 1 ⟨n, h⟩ : FVec Ideal S2048x1024 .bf16) (ix2 r (⟨j.val % 1024, by omega⟩ : Fin 1024))
    = right m c (ix2 (⟨s.val * 2048 + r.val, by omega⟩ : Fin 8192) j) := by
  have e : win0_1.index ⟨n, h⟩ = ![s.val, j.val / 1024] := by
    rw [(idx ⟨n, h⟩).2]
    show ![n % 4, n / 4 % 1] = _
    rw [show n % 4 = s.val by have := run_eq i j; omega, show n / 4 % 1 = j.val / 1024 by have := run_eq i j; omega]
  have z : (((cfg0.win 1).blk ⟨n, h⟩).view.emb (ix2 r (⟨j.val % 1024, by omega⟩ : Fin 1024)) : S8192x1024.Idx)
      = (ix2 (⟨s.val * 2048 + r.val, by omega⟩ : Fin 8192) j : S8192x1024.Idx) := by
    blk_ext [e]
  refine Eq.trans ?_ (right_at m c _ j)
  unfold iblk
  generalize V m c = A
  rw [View.read_apply, cast_eq]
  exact congrArg (A main_v1) z

/-- The point of a run that takes a quarter's rows adds that quarter. -/
theorem quarter_at (X : Vec Ideal S1408x1024 .f32) : (k0_pay2 X (iblk m c 0 ⟨n, h⟩) (iblk m c 1 ⟨n, h⟩) : FVec Ideal S1408x1024 .f32) (loc2Of (ix2 i j : S2816x1024.Idx))
    = X (loc2Of (ix2 i j : S2816x1024.Idx)) + quarter (fun r => left m c (ix2 r i)) (fun r => right m c (ix2 r j)) s := by
  rw [loc_eq]
  refine (add_at X (iblk m c 0 ⟨n, h⟩) (iblk m c 1 ⟨n, h⟩) _ _).trans (congrArg _ (Finset.sum_congr rfl fun r _ => ?_))
  rw [left_in m c i j s n h hn r, right_in m c i j s n h hn r]
end

/-- The kernel's result array. -/
theorem final_at (i : Fin 2816) (j : Fin 1024) : (G2 m c : FVec Ideal S2816x1024 .f32) (ix2 i j) = ∑ r : Fin 8192, left m c (ix2 r i) * right m c (ix2 r j) := by
  have hb : 4 * run2Of (ix2 i j : S2816x1024.Idx) + 3 < cfg0.N := by
    have := run_eq i j
    show 4 * run2Of (ix2 i j : S2816x1024.Idx) + 3 < 8
    omega
  unfold G2
  rw [dif_pos hb, Pipeline.accAt_succ, Pipeline.accAt_succ, Pipeline.accAt_succ, Pipeline.accAt_zero]
  unfold step2 reset2
  rw [quarter_at m c i j 3 (4 * run2Of (ix2 i j : S2816x1024.Idx) + (2 + 1)) _ rfl, quarter_at m c i j 2 (4 * run2Of (ix2 i j : S2816x1024.Idx) + (1 + 1)) _ rfl,
    quarter_at m c i j 1 (4 * run2Of (ix2 i j : S2816x1024.Idx) + (0 + 1)) _ rfl, quarter_at m c i j 0 (4 * run2Of (ix2 i j : S2816x1024.Idx)) _ rfl, loc_eq, zero_at, zero_add]
  exact (sum_quarters (fun r => left m c (ix2 r i)) (fun r => right m c (ix2 r j))).symm
end

section
open Cert.Reference9Ideal Cert.Reference9Ideal.Gen

/-- The reference's result, as a function of its arguments. -/
def res (A : FVec Ideal S8192x2816 .f32) (B : FVec Ideal S8192x1024 .f32) : FVec Ideal S2816x1024 .f32 :=
  transpose S2816x1024 [1, 0] (Host.dotGeneral dot_S8192x1024_S8192x2816_S1024x2816_0_0_1_1_n_n none B A : FVec Ideal S1024x2816 .f32) transposes_S1024x2816_S2816x1024_1_0

theorem res_at (A : FVec Ideal S8192x2816 .f32) (B : FVec Ideal S8192x1024 .f32) (i : Fin 2816) (j : Fin 1024) :
    res A B (ix2 i j) = ∑ r : Fin 8192, A (ix2 r i) * B (ix2 r j) := by
  refine Eq.trans ?_ (Finset.sum_congr rfl fun r _ => mul_comm (B (ix2 r j)) (A (ix2 r i)))
  pointwise [res]
end

theorem frame [Cert.Kernel9.Facts] : Cert.quiescent_Kernel9 := fun m ρ _ => Cert.Kernel9.Gen.frame (F := Bits) m ρ

theorem ideal_frame [Cert.Kernel9Ideal.Facts] : Cert.quiescent_Kernel9Ideal := fun m ρ _ => Cert.Kernel9Ideal.Gen.frame (F := Ideal) m ρ

theorem reference_frame [Cert.Reference9Ideal.Facts] : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem algebraic [Cert.Kernel9Ideal.Facts] [Cert.Reference9Ideal.Facts] : Cert.algebraic_Kernel9Ideal_Reference9Ideal := by
  intro m g m' g' _ hargs
  refine ⟨fun c => res (left m c) (right m c), ?_, ?_⟩
  · refine (θ_run Cert.Kernel9Ideal.defs _ _).mono ?_ (Cert.Kernel9Ideal.Value.run (F := Ideal) m g)
    intro r h c
    refine ⟨(h c).1.trans ?_, (h c).2⟩
    funext y
    obtain ⟨i, j, rfl⟩ : ∃ (i : Fin 2816) (j : Fin 1024), y = ix2 i j := ⟨y 0, y 1, by funext a; fin_cases a <;> rfl⟩
    exact (final_at m c i j).trans (res_at (left m c) (right m c) i j).symm
  · refine (θ_run Cert.Reference9Ideal.defs _ _).mono ?_ (Cert.Reference9Ideal.Value.run (F := Ideal) m' g')
    intro r h c
    refine ⟨(h c).1.trans ?_, (h c).2⟩
    rw [(hargs c).1, (hargs c).2]
    rfl

end Cert.DwDown

end
-- ==== Proof.MixOut.lean ====
/- The mixing layer's output projection, added to what the layer was given: the kernel's ideal reading leaves what the
   reference leaves. -/
module

public import proofs.«01_k».proof.Defs
public import proofs.«01_k».proof.Proof.Gen.Kernel10.Frame
public import proofs.«01_k».proof.Proof.Gen.Kernel10Ideal.Value
public import proofs.«01_k».proof.Proof.Gen.Reference10Ideal.Run
public import proofs.«01_k».proof.Proof.Pad
public import Idealize.ShloMosaic.Lib.Pipeline.ValueKit
public import Idealize.ShloMosaic.Adequacy

@[expose] public section

set_option maxRecDepth 16384

noncomputable section

namespace Cert.MixOut

open Idealize.ShloMosaic Idealize.ShloMosaic.TcCoe Idealize.SL.Sem

section
open Cert.Kernel10Ideal Cert.Kernel10Ideal.Gen
variable (m : (ℓ : Loc nD τ sig) → Buf (Elt Ideal) ℓ) (c : Dev nD)

/-- The rows, the weights and what the product is added to as launched. -/
def rows : FVec Ideal S8192x1024 .f32 := m ((c.tc : Thread nD τ).loc main_arg0)
def weights : FVec Ideal S1024x1024 .f32 := m ((c.tc : Thread nD τ).loc main_arg1)
def carried : FVec Ideal S8192x1024 .f32 := m ((c.tc : Thread nD τ).loc main_arg2)

/-- The weights. -/
def factor (W : FVec Ideal S1024x1024 .f32) (k : Fin 1024) (j : Fin 1024) : EReal := W (ix2 k j)

theorem V_rows : (V m c main_v0 : FVec Ideal S8192x1024 .bf16) = truncf .bf16 (rows m c) bitsLt_bf16_f32 := by
  unfold V rows
  after_results <;> rfl

theorem V_factor : (V m c main_v1 : FVec Ideal S1024x1024 .bf16) = (truncf .bf16 (weights m c) bitsLt_bf16_f32 : FVec Ideal S1024x1024 .bf16) := by
  unfold V weights
  after_results <;> rfl

theorem row_at (i : Fin 8192) (k : Fin 1024) : (V m c main_v0 : FVec Ideal S8192x1024 .bf16) (ix2 i k) = rows m c (ix2 i k) := by
  rw [V_rows]
  generalize rows m c = A
  pointwise

theorem factor_at (k : Fin 1024) (j : Fin 1024) : (V m c main_v1 : FVec Ideal S1024x1024 .bf16) (ix2 k j) = factor (weights m c) k j := by
  rw [V_factor]
  generalize weights m c = W
  pointwise
  rfl

/-- A block of the product. -/
theorem block_at (A : Vec Ideal S1024x1024 .bf16) (B : Vec Ideal S1024x1024 .bf16) (X : Vec Ideal S1024x1024 .f32) (i : Fin 1024) (j : Fin 1024) :
    (out0_3 A B X : FVec Ideal S1024x1024 .f32) (ix2 i j) = (∑ k : Fin 1024, A (ix2 i k) * B (ix2 k j)) + X (ix2 i j) := by
  have z2 : (![0, 0] : Fin 2 → Nat) = fun _ => 0 := funext fun a => by fin_cases a <;> rfl
  unfold out0_3
  rw [View.canon_unit_zero (S := S1024x1024) z2]
  simp only [View.ld_unit_zero (S := S1024x1024) z2, View.ld_unit_zero (S := S1024x1024) z2, View.ld_unit_zero (S := S1024x1024) z2]
  pointwise [k0_pay1]

theorem idx : ∀ t : Fin cfg0.N, win0_0.index t = ![t.val % 8, 0] ∧ win0_1.index t = ![0, t.val / 8] ∧ win0_2.index t = ![t.val % 8, t.val / 8] ∧ win0_3.index t = ![t.val % 8, t.val / 8] :=
  (by decide +kernel : ∀ t : Fin grid0.N, _)

theorem at_lt (t : Fin cfg0.N) (j : Fin 1024) : t.val / 8 * 1024 + j.val < 1024 := by
  have : t.val < 8 := t.isLt
  omega

theorem rows_in (t : Fin cfg0.N) (i : Fin 1024) (k : Fin 1024) : (iblk m c 0 t : FVec Ideal S1024x1024 .bf16) (ix2 i k)
    = rows m c (ix2 (⟨t.val % 8 * 1024 + i.val, by omega⟩ : Fin 8192) k) := by
  have z : (((cfg0.win 0).blk t).view.emb (ix2 i k) : S8192x1024.Idx) = (ix2 (⟨t.val % 8 * 1024 + i.val, by omega⟩ : Fin 8192) k : S8192x1024.Idx) := by
    blk_ext [idx t]
  refine Eq.trans ?_ (row_at m c _ k)
  unfold iblk
  generalize V m c = A
  rw [View.read_apply, cast_eq]
  exact congrArg (A main_v0) z

theorem factor_in (t : Fin cfg0.N) (k : Fin 1024) (j : Fin 1024) : (iblk m c 1 t : FVec Ideal S1024x1024 .bf16) (ix2 k j)
    = factor (weights m c) k ⟨t.val / 8 * 1024 + j.val, at_lt t j⟩ := by
  have z : (((cfg0.win 1).blk t).view.emb (ix2 k j) : S1024x1024.Idx) = (ix2 k (⟨t.val / 8 * 1024 + j.val, at_lt t j⟩ : Fin 1024) : S1024x1024.Idx) := by
    blk_ext [idx t]
  refine Eq.trans ?_ (factor_at m c k _)
  unfold iblk
  generalize V m c = A
  rw [View.read_apply, cast_eq]
  exact congrArg (A main_v1) z

theorem carried_in (t : Fin cfg0.N) (i : Fin 1024) (j : Fin 1024) : (iblk m c 2 t : FVec Ideal S1024x1024 .f32) (ix2 i j)
    = carried m c (ix2 (⟨t.val % 8 * 1024 + i.val, by omega⟩ : Fin 8192) (⟨t.val / 8 * 1024 + j.val, at_lt t j⟩ : Fin 1024)) := by
  have z : (((cfg0.win 2).blk t).view.emb (ix2 i j) : S8192x1024.Idx)
      = (ix2 (⟨t.val % 8 * 1024 + i.val, by omega⟩ : Fin 8192) (⟨t.val / 8 * 1024 + j.val, at_lt t j⟩ : Fin 1024) : S8192x1024.Idx) := by
    blk_ext [idx t]
  refine Eq.trans ?_ (congrFun (V_main_arg2 m c) _)
  unfold iblk
  generalize V m c = A
  rw [View.read_apply, cast_eq]
  exact congrArg (A main_arg2) z

variable (R : FVec Ideal S8192x1024 .f32)
  (hR : ∀ i j, R (ix2 i j) = (∑ k : Fin 1024, rows m c (ix2 i k) * factor (weights m c) k j) + carried m c (ix2 i j))
include hR

/-- The kernel's result array. -/
theorem final : (dats m 0 c).arrAt 3 cfg0.N = R := by
  refine (dats m 0 c).arrAt_eq_of_covers 3 R (by decide +kernel) fun t _ y => ?_
  have hlt : t.val < 8 := t.isLt
  rw [cast_eq, after0_3]
  obtain ⟨i, j, hy⟩ : ∃ (i : Fin 1024) (j : Fin 1024), (y : S1024x1024.Idx) = ix2 i j := by
    refine ⟨y 0, y 1, ?_⟩
    funext a
    fin_cases a <;> rfl
  have hz : (((cfg0.win 3).blk t).view.emb (ix2 i j : S1024x1024.Idx) : S8192x1024.Idx)
      = ix2 (⟨t.val % 8 * 1024 + i.val, by omega⟩ : Fin 8192) (⟨t.val / 8 * 1024 + j.val, at_lt t j⟩ : Fin 1024) := by
    blk_ext [idx t]
  subst hy
  refine (?_ : _ = R _).trans (congrArg R hz.symm)
  rw [hR]
  refine (block_at (iblk m c 0 t) (iblk m c 1 t) (iblk m c 2 t) i j).trans ?_
  refine congrArg₂ (· + ·) (Finset.sum_congr rfl fun k _ => ?_) (carried_in m c t i j)
  rw [rows_in, factor_in]
end

section
open Cert.Reference10Ideal Cert.Reference10Ideal.Gen

/-- The reference's result, as a function of its arguments. -/
def res (A : FVec Ideal S8192x1024 .f32) (W : FVec Ideal S1024x1024 .f32) (X : FVec Ideal S8192x1024 .f32) : FVec Ideal S8192x1024 .f32 := addf X (Host.dotGeneral dot_S8192x1024_S1024x1024_S8192x1024_1_0_0_1_n_n none A W : FVec Ideal S8192x1024 .f32)

theorem res_at (A : FVec Ideal S8192x1024 .f32) (W : FVec Ideal S1024x1024 .f32) (X : FVec Ideal S8192x1024 .f32) (i : Fin 8192) (j : Fin 1024) :
    res A W X (ix2 i j) = (∑ k : Fin 1024, A (ix2 i k) * factor W k j) + X (ix2 i j) := by
  refine Eq.trans ?_ (add_comm _ _)
  pointwise [res, factor]
end

theorem frame [Cert.Kernel10.Facts] : Cert.quiescent_Kernel10 := fun m ρ _ => Cert.Kernel10.Gen.frame (F := Bits) m ρ

theorem ideal_frame [Cert.Kernel10Ideal.Facts] : Cert.quiescent_Kernel10Ideal := fun m ρ _ => Cert.Kernel10Ideal.Gen.frame (F := Ideal) m ρ

theorem reference_frame [Cert.Reference10Ideal.Facts] : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem algebraic [Cert.Kernel10Ideal.Facts] [Cert.Reference10Ideal.Facts] : Cert.algebraic_Kernel10Ideal_Reference10Ideal := by
  intro m g m' g' _ hargs
  refine ⟨fun c => res (rows m c) (weights m c) (carried m c), ?_, ?_⟩
  · refine (θ_run Cert.Kernel10Ideal.defs _ _).mono ?_ (Cert.Kernel10Ideal.Value.run_blocks (F := Ideal) m g)
    intro r h c
    exact ⟨(h c).1.trans (final m c _ (res_at _ _ _)), (h c).2⟩
  · refine (θ_run Cert.Reference10Ideal.defs _ _).mono ?_ (Cert.Reference10Ideal.Value.run (F := Ideal) m' g')
    intro r h c
    refine ⟨(h c).1.trans ?_, (h c).2⟩
    rw [(hargs c).1, (hargs c).2.1, (hargs c).2.2]
    rfl

end Cert.MixOut

end
-- ==== Proof.DMixOut.lean ====
/- The gradient through the mixing layer's output projection: the kernel's ideal reading leaves what the reference leaves. -/
module

public import proofs.«01_k».proof.Defs
public import proofs.«01_k».proof.Proof.Gen.Kernel11.Frame
public import proofs.«01_k».proof.Proof.Gen.Kernel11Ideal.Value
public import proofs.«01_k».proof.Proof.Gen.Reference11Ideal.Run
public import proofs.«01_k».proof.Proof.Pad
public import Idealize.ShloMosaic.Lib.Pipeline.ValueKit
public import Idealize.ShloMosaic.Adequacy

@[expose] public section

set_option maxRecDepth 16384

noncomputable section

namespace Cert.DMixOut

open Idealize.ShloMosaic Idealize.ShloMosaic.TcCoe Idealize.SL.Sem

section
open Cert.Kernel11Ideal Cert.Kernel11Ideal.Gen
variable (m : (ℓ : Loc nD τ sig) → Buf (Elt Ideal) ℓ) (c : Dev nD)

/-- The gradient and the weights as launched. -/
def rows : FVec Ideal S8192x1024 .f32 := m ((c.tc : Thread nD τ).loc main_arg0)
def weights : FVec Ideal S1024x1024 .f32 := m ((c.tc : Thread nD τ).loc main_arg1)

/-- The weights turned over. -/
def factor (W : FVec Ideal S1024x1024 .f32) (k : Fin 1024) (j : Fin 1024) : EReal := W (ix2 j k)

theorem V_rows : (V m c main_v0 : FVec Ideal S8192x1024 .bf16) = truncf .bf16 (rows m c) bitsLt_bf16_f32 := by
  unfold V rows
  after_results <;> rfl

theorem V_factor : (V m c main_v2 : FVec Ideal S1024x1024 .bf16) = transpose S1024x1024 [1, 0] (truncf .bf16 (weights m c) bitsLt_bf16_f32 : FVec Ideal S1024x1024 .bf16) transposes_S1024x1024_S1024x1024_1_0 := by
  unfold V weights
  after_results <;> rfl

theorem row_at (i : Fin 8192) (k : Fin 1024) : (V m c main_v0 : FVec Ideal S8192x1024 .bf16) (ix2 i k) = rows m c (ix2 i k) := by
  rw [V_rows]
  generalize rows m c = A
  pointwise

theorem factor_at (k : Fin 1024) (j : Fin 1024) : (V m c main_v2 : FVec Ideal S1024x1024 .bf16) (ix2 k j) = factor (weights m c) k j := by
  rw [V_factor]
  generalize weights m c = W
  pointwise
  rfl

/-- A block of the product. -/
theorem block_at (A : Vec Ideal S1024x1024 .bf16) (B : Vec Ideal S1024x1024 .bf16) (i : Fin 1024) (j : Fin 1024) :
    (out0_2 A B : FVec Ideal S1024x1024 .f32) (ix2 i j) = ∑ k : Fin 1024, A (ix2 i k) * B (ix2 k j) := by
  have z2 : (![0, 0] : Fin 2 → Nat) = fun _ => 0 := funext fun a => by fin_cases a <;> rfl
  unfold out0_2
  rw [View.canon_unit_zero (S := S1024x1024) z2]
  simp only [View.ld_unit_zero (S := S1024x1024) z2, View.ld_unit_zero (S := S1024x1024) z2]
  pointwise [k0_pay1]

theorem idx : ∀ t : Fin cfg0.N, win0_0.index t = ![t.val % 8, 0] ∧ win0_1.index t = ![0, t.val / 8] ∧ win0_2.index t = ![t.val % 8, t.val / 8] :=
  (by decide +kernel : ∀ t : Fin grid0.N, _)

theorem at_lt (t : Fin cfg0.N) (j : Fin 1024) : t.val / 8 * 1024 + j.val < 1024 := by
  have : t.val < 8 := t.isLt
  omega

theorem rows_in (t : Fin cfg0.N) (i : Fin 1024) (k : Fin 1024) : (iblk m c 0 t : FVec Ideal S1024x1024 .bf16) (ix2 i k)
    = rows m c (ix2 (⟨t.val % 8 * 1024 + i.val, by omega⟩ : Fin 8192) k) := by
  have z : (((cfg0.win 0).blk t).view.emb (ix2 i k) : S8192x1024.Idx) = (ix2 (⟨t.val % 8 * 1024 + i.val, by omega⟩ : Fin 8192) k : S8192x1024.Idx) := by
    blk_ext [idx t]
  refine Eq.trans ?_ (row_at m c _ k)
  unfold iblk
  generalize V m c = A
  rw [View.read_apply, cast_eq]
  exact congrArg (A main_v0) z

theorem factor_in (t : Fin cfg0.N) (k : Fin 1024) (j : Fin 1024) : (iblk m c 1 t : FVec Ideal S1024x1024 .bf16) (ix2 k j)
    = factor (weights m c) k ⟨t.val / 8 * 1024 + j.val, at_lt t j⟩ := by
  have z : (((cfg0.win 1).blk t).view.emb (ix2 k j) : S1024x1024.Idx) = (ix2 k (⟨t.val / 8 * 1024 + j.val, at_lt t j⟩ : Fin 1024) : S1024x1024.Idx) := by
    blk_ext [idx t]
  refine Eq.trans ?_ (factor_at m c k _)
  unfold iblk
  generalize V m c = A
  rw [View.read_apply, cast_eq]
  exact congrArg (A main_v2) z

variable (R : FVec Ideal S8192x1024 .f32)
  (hR : ∀ i j, R (ix2 i j) = ∑ k : Fin 1024, rows m c (ix2 i k) * factor (weights m c) k j)
include hR

/-- The kernel's result array. -/
theorem final : (dats m 0 c).arrAt 2 cfg0.N = R := by
  refine (dats m 0 c).arrAt_eq_of_covers 2 R (by decide +kernel) fun t _ y => ?_
  have hlt : t.val < 8 := t.isLt
  rw [cast_eq, after0_2]
  obtain ⟨i, j, hy⟩ : ∃ (i : Fin 1024) (j : Fin 1024), (y : S1024x1024.Idx) = ix2 i j := by
    refine ⟨y 0, y 1, ?_⟩
    funext a
    fin_cases a <;> rfl
  have hz : (((cfg0.win 2).blk t).view.emb (ix2 i j : S1024x1024.Idx) : S8192x1024.Idx)
      = ix2 (⟨t.val % 8 * 1024 + i.val, by omega⟩ : Fin 8192) (⟨t.val / 8 * 1024 + j.val, at_lt t j⟩ : Fin 1024) := by
    blk_ext [idx t]
  subst hy
  refine (?_ : _ = R _).trans (congrArg R hz.symm)
  rw [hR]
  refine (block_at (iblk m c 0 t) (iblk m c 1 t) i j).trans ?_
  refine Finset.sum_congr rfl fun k _ => ?_
  rw [rows_in, factor_in]
end

section
open Cert.Reference11Ideal Cert.Reference11Ideal.Gen

/-- The reference's result, as a function of its arguments. -/
def res (A : FVec Ideal S8192x1024 .f32) (W : FVec Ideal S1024x1024 .f32) : FVec Ideal S8192x1024 .f32 := Host.dotGeneral dot_S8192x1024_S1024x1024_S8192x1024_1_1_0_0_n_n none A W

theorem res_at (A : FVec Ideal S8192x1024 .f32) (W : FVec Ideal S1024x1024 .f32) (i : Fin 8192) (j : Fin 1024) :
    res A W (ix2 i j) = ∑ k : Fin 1024, A (ix2 i k) * factor W k j := by
  pointwise [res, factor]
end

theorem frame [Cert.Kernel11.Facts] : Cert.quiescent_Kernel11 := fun m ρ _ => Cert.Kernel11.Gen.frame (F := Bits) m ρ

theorem ideal_frame [Cert.Kernel11Ideal.Facts] : Cert.quiescent_Kernel11Ideal := fun m ρ _ => Cert.Kernel11Ideal.Gen.frame (F := Ideal) m ρ

theorem reference_frame [Cert.Reference11Ideal.Facts] : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem algebraic [Cert.Kernel11Ideal.Facts] [Cert.Reference11Ideal.Facts] : Cert.algebraic_Kernel11Ideal_Reference11Ideal := by
  intro m g m' g' _ hargs
  refine ⟨fun c => res (rows m c) (weights m c), ?_, ?_⟩
  · refine (θ_run Cert.Kernel11Ideal.defs _ _).mono ?_ (Cert.Kernel11Ideal.Value.run_blocks (F := Ideal) m g)
    intro r h c
    exact ⟨(h c).1.trans (final m c _ (res_at _ _)), (h c).2⟩
  · refine (θ_run Cert.Reference11Ideal.defs _ _).mono ?_ (Cert.Reference11Ideal.Value.run (F := Ideal) m' g')
    intro r h c
    refine ⟨(h c).1.trans ?_, (h c).2⟩
    rw [(hargs c).1, (hargs c).2]
    rfl

end Cert.DMixOut

end
-- ==== Proof.DwSquare.lean ====
/- The gradient of a square block of weights: the kernel's ideal reading leaves what the reference leaves. -/
module

public import proofs.«01_k».proof.Defs
public import proofs.«01_k».proof.Proof.Gen.Kernel12.Frame
public import proofs.«01_k».proof.Proof.Gen.Kernel12Ideal.Value
public import proofs.«01_k».proof.Proof.Gen.Reference12Ideal.Run
public import Idealize.ShloMosaic.Lib.Pipeline.ValueKit
public import Idealize.ShloMosaic.Adequacy

@[expose] public section

set_option maxRecDepth 16384

noncomputable section

namespace Cert.DwSquare

open Idealize.ShloMosaic Idealize.ShloMosaic.TcCoe Idealize.SL.Sem

/-- What a quarter of the rows adds to a column of one factor against a column of the other. -/
def quarter (A : Fin 8192 → EReal) (B : Fin 8192 → EReal) (s : Fin 4) : EReal :=
  ∑ r : Fin 2048, A ⟨s.val * 2048 + r.val, by omega⟩ * B ⟨s.val * 2048 + r.val, by omega⟩

theorem sum_quarters (A B : Fin 8192 → EReal) : ∑ r, A r * B r = quarter A B 0 + quarter A B 1 + quarter A B 2 + quarter A B 3 :=
  (Fin.sum_univ_tiles 4 2048 rfl fun r => A r * B r).trans (Fin.sum_univ_four fun s => quarter A B s)

section
open Cert.Kernel12Ideal Cert.Kernel12Ideal.Gen Cert.Kernel12Ideal.Value
variable (m : (ℓ : Loc nD τ sig) → Buf (Elt Ideal) ℓ) (c : Dev nD)

/-- The factors as launched. -/
def left : FVec Ideal S8192x1024 .f32 := m ((c.tc : Thread nD τ).loc main_arg0)
def right : FVec Ideal S8192x1024 .f32 := m ((c.tc : Thread nD τ).loc main_arg1)

theorem V_left : (V m c main_v0 : FVec Ideal S8192x1024 .bf16) = truncf .bf16 (left m c) bitsLt_bf16_f32 := by
  unfold V left
  after_results <;> rfl

theorem V_right : (V m c main_v1 : FVec Ideal S8192x1024 .bf16) = truncf .bf16 (right m c) bitsLt_bf16_f32 := by
  unfold V right
  after_results <;> rfl

theorem left_at (r : Fin 8192) (i : Fin 1024) : (V m c main_v0 : FVec Ideal S8192x1024 .bf16) (ix2 r i) = left m c (ix2 r i) := by
  rw [V_left]
  generalize left m c = A
  pointwise

theorem right_at (r : Fin 8192) (j : Fin 1024) : (V m c main_v1 : FVec Ideal S8192x1024 .bf16) (ix2 r j) = right m c (ix2 r j) := by
  rw [V_right]
  generalize right m c = B
  pointwise

/-- One point's addition. -/
theorem add_at (X : Vec Ideal S1024x1024 .f32) (A : Vec Ideal S2048x1024 .bf16) (B : Vec Ideal S2048x1024 .bf16) (i : Fin 1024) (j : Fin 1024) :
    (k0_pay2 X A B : FVec Ideal S1024x1024 .f32) (ix2 i j) = X (ix2 i j) + ∑ r : Fin 2048, A (ix2 r i) * B (ix2 r j) := by
  pointwise [k0_pay2]

theorem zero_at (i : Fin 1024) (j : Fin 1024) : (k0_pay1 (F := Ideal) : FVec Ideal S1024x1024 .f32) (ix2 i j) = 0 := by
  pointwise [k0_pay1]

theorem idx : ∀ t : Fin cfg0.N, win0_0.index t = ![t.val % 4, t.val / 4 / 1] ∧ win0_1.index t = ![t.val % 4, t.val / 4 % 1] :=
  (by decide +kernel : ∀ t : Fin grid0.N, _)

theorem run_eq (i : Fin 1024) (j : Fin 1024) : run2Of (ix2 i j : S1024x1024.Idx) = 1 * (i.val / 1024) + j.val / 1024 := by
  show _ * (i.val / 1024 - 0) + _ * (j.val / 1024 - 0) = _
  omega

theorem loc_eq (i : Fin 1024) (j : Fin 1024) : loc2Of (ix2 i j : S1024x1024.Idx) = (ix2 (⟨i.val % 1024, by omega⟩ : Fin 1024) (⟨j.val % 1024, by omega⟩ : Fin 1024) : S1024x1024.Idx) := by
  funext a
  fin_cases a <;> rfl

section
variable (i : Fin 1024) (j : Fin 1024) (s : Fin 4) (n : ℕ) (h : n < cfg0.N) (hn : n = 4 * run2Of (ix2 i j : S1024x1024.Idx) + s.val)
include hn

theorem left_in (r : Fin 2048) : (iblk m c 0 ⟨n, h⟩ : FVec Ideal S2048x1024 .bf16) (ix2 r (⟨i.val % 1024, by omega⟩ : Fin 1024))
    = left m c (ix2 (⟨s.val * 2048 + r.val, by omega⟩ : Fin 8192) i) := by
  have e : win0_0.index ⟨n, h⟩ = ![s.val, i.val / 1024] := by
    rw [(idx ⟨n, h⟩).1]
    show ![n % 4, n / 4 / 1] = _
    rw [show n % 4 = s.val by have := run_eq i j; omega, show n / 4 / 1 = i.val / 1024 by have := run_eq i j; omega]
  have z : (((cfg0.win 0).blk ⟨n, h⟩).view.emb (ix2 r (⟨i.val % 1024, by omega⟩ : Fin 1024)) : S8192x1024.Idx)
      = (ix2 (⟨s.val * 2048 + r.val, by omega⟩ : Fin 8192) i : S8192x1024.Idx) := by
    blk_ext [e]
  refine Eq.trans ?_ (left_at m c _ i)
  unfold iblk
  generalize V m c = A
  rw [View.read_apply, cast_eq]
  exact congrArg (A main_v0) z

theorem right_in (r : Fin 2048) : (iblk m c 1 ⟨n, h⟩ : FVec Ideal S2048x1024 .bf16) (ix2 r (⟨j.val % 1024, by omega⟩ : Fin 1024))
    = right m c (ix2 (⟨s.val * 2048 + r.val, by omega⟩ : Fin 8192) j) := by
  have e : win0_1.index ⟨n, h⟩ = ![s.val, j.val / 1024] := by
    rw [(idx ⟨n, h⟩).2]
    show ![n % 4, n / 4 % 1] = _
    rw [show n % 4 = s.val by have := run_eq i j; omega, show n / 4 % 1 = j.val / 1024 by have := run_eq i j; omega]
  have z : (((cfg0.win 1).blk ⟨n, h⟩).view.emb (ix2 r (⟨j.val % 1024, by omega⟩ : Fin 1024)) : S8192x1024.Idx)
      = (ix2 (⟨s.val * 2048 + r.val, by omega⟩ : Fin 8192) j : S8192x1024.Idx) := by
    blk_ext [e]
  refine Eq.trans ?_ (right_at m c _ j)
  unfold iblk
  generalize V m c = A
  rw [View.read_apply, cast_eq]
  exact congrArg (A main_v1) z

/-- The point of a run that takes a quarter's rows adds that quarter. -/
theorem quarter_at (X : Vec Ideal S1024x1024 .f32) : (k0_pay2 X (iblk m c 0 ⟨n, h⟩) (iblk m c 1 ⟨n, h⟩) : FVec Ideal S1024x1024 .f32) (loc2Of (ix2 i j : S1024x1024.Idx))
    = X (loc2Of (ix2 i j : S1024x1024.Idx)) + quarter (fun r => left m c (ix2 r i)) (fun r => right m c (ix2 r j)) s := by
  rw [loc_eq]
  refine (add_at X (iblk m c 0 ⟨n, h⟩) (iblk m c 1 ⟨n, h⟩) _ _).trans (congrArg _ (Finset.sum_congr rfl fun r _ => ?_))
  rw [left_in m c i j s n h hn r, right_in m c i j s n h hn r]
end

/-- The kernel's result array. -/
theorem final_at (i : Fin 1024) (j : Fin 1024) : (G2 m c : FVec Ideal S1024x1024 .f32) (ix2 i j) = ∑ r : Fin 8192, left m c (ix2 r i) * right m c (ix2 r j) := by
  have hb : 4 * run2Of (ix2 i j : S1024x1024.Idx) + 3 < cfg0.N := by
    have := run_eq i j
    show 4 * run2Of (ix2 i j : S1024x1024.Idx) + 3 < 4
    omega
  unfold G2
  rw [dif_pos hb, Pipeline.accAt_succ, Pipeline.accAt_succ, Pipeline.accAt_succ, Pipeline.accAt_zero]
  unfold step2 reset2
  rw [quarter_at m c i j 3 (4 * run2Of (ix2 i j : S1024x1024.Idx) + (2 + 1)) _ rfl, quarter_at m c i j 2 (4 * run2Of (ix2 i j : S1024x1024.Idx) + (1 + 1)) _ rfl,
    quarter_at m c i j 1 (4 * run2Of (ix2 i j : S1024x1024.Idx) + (0 + 1)) _ rfl, quarter_at m c i j 0 (4 * run2Of (ix2 i j : S1024x1024.Idx)) _ rfl, loc_eq, zero_at, zero_add]
  exact (sum_quarters (fun r => left m c (ix2 r i)) (fun r => right m c (ix2 r j))).symm
end

section
open Cert.Reference12Ideal Cert.Reference12Ideal.Gen

/-- The reference's result, as a function of its arguments. -/
def res (A : FVec Ideal S8192x1024 .f32) (B : FVec Ideal S8192x1024 .f32) : FVec Ideal S1024x1024 .f32 :=
  transpose S1024x1024 [1, 0] (Host.dotGeneral dot_S8192x1024_S8192x1024_S1024x1024_0_0_1_1_n_n none B A : FVec Ideal S1024x1024 .f32) transposes_S1024x1024_S1024x1024_1_0

theorem res_at (A : FVec Ideal S8192x1024 .f32) (B : FVec Ideal S8192x1024 .f32) (i : Fin 1024) (j : Fin 1024) :
    res A B (ix2 i j) = ∑ r : Fin 8192, A (ix2 r i) * B (ix2 r j) := by
  refine Eq.trans ?_ (Finset.sum_congr rfl fun r _ => mul_comm (B (ix2 r j)) (A (ix2 r i)))
  pointwise [res]
end

theorem frame [Cert.Kernel12.Facts] : Cert.quiescent_Kernel12 := fun m ρ _ => Cert.Kernel12.Gen.frame (F := Bits) m ρ

theorem ideal_frame [Cert.Kernel12Ideal.Facts] : Cert.quiescent_Kernel12Ideal := fun m ρ _ => Cert.Kernel12Ideal.Gen.frame (F := Ideal) m ρ

theorem reference_frame [Cert.Reference12Ideal.Facts] : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem algebraic [Cert.Kernel12Ideal.Facts] [Cert.Reference12Ideal.Facts] : Cert.algebraic_Kernel12Ideal_Reference12Ideal := by
  intro m g m' g' _ hargs
  refine ⟨fun c => res (left m c) (right m c), ?_, ?_⟩
  · refine (θ_run Cert.Kernel12Ideal.defs _ _).mono ?_ (Cert.Kernel12Ideal.Value.run (F := Ideal) m g)
    intro r h c
    refine ⟨(h c).1.trans ?_, (h c).2⟩
    funext y
    obtain ⟨i, j, rfl⟩ : ∃ (i : Fin 1024) (j : Fin 1024), y = ix2 i j := ⟨y 0, y 1, by funext a; fin_cases a <;> rfl⟩
    exact (final_at m c i j).trans (res_at (left m c) (right m c) i j).symm
  · refine (θ_run Cert.Reference12Ideal.defs _ _).mono ?_ (Cert.Reference12Ideal.Value.run (F := Ideal) m' g')
    intro r h c
    refine ⟨(h c).1.trans ?_, (h c).2⟩
    rw [(hargs c).1, (hargs c).2]
    rfl

end Cert.DwSquare

end
-- ==== Proof.DwInRwkv.lean ====
/- The gradient of the input projection's weights, the recurrence's columns: the kernel's ideal reading leaves what the
   reference leaves. -/
module

public import proofs.«01_k».proof.Defs
public import proofs.«01_k».proof.Proof.Gen.Kernel13.Frame
public import proofs.«01_k».proof.Proof.Gen.Kernel13Ideal.Value
public import proofs.«01_k».proof.Proof.Gen.Reference13Ideal.Run
public import Idealize.ShloMosaic.Lib.Pipeline.ValueKit
public import Idealize.ShloMosaic.Adequacy

@[expose] public section

set_option maxRecDepth 16384

noncomputable section

namespace Cert.DwInRwkv

open Idealize.ShloMosaic Idealize.ShloMosaic.TcCoe Idealize.SL.Sem

/-- What a quarter of the rows adds to a column of one factor against a column of the other. -/
def quarter (A : Fin 8192 → EReal) (B : Fin 8192 → EReal) (s : Fin 4) : EReal :=
  ∑ r : Fin 2048, A ⟨s.val * 2048 + r.val, by omega⟩ * B ⟨s.val * 2048 + r.val, by omega⟩

theorem sum_quarters (A B : Fin 8192 → EReal) : ∑ r, A r * B r = quarter A B 0 + quarter A B 1 + quarter A B 2 + quarter A B 3 :=
  (Fin.sum_univ_tiles 4 2048 rfl fun r => A r * B r).trans (Fin.sum_univ_four fun s => quarter A B s)

section
open Cert.Kernel13Ideal Cert.Kernel13Ideal.Gen Cert.Kernel13Ideal.Value
variable (m : (ℓ : Loc nD τ sig) → Buf (Elt Ideal) ℓ) (c : Dev nD)

/-- The factors as launched. -/
def left : FVec Ideal S8192x1024 .f32 := m ((c.tc : Thread nD τ).loc main_arg0)
def right : FVec Ideal S8192x1792 .f32 := m ((c.tc : Thread nD τ).loc main_arg1)

theorem V_left : (V m c main_v0 : FVec Ideal S8192x1024 .bf16) = truncf .bf16 (left m c) bitsLt_bf16_f32 := by
  unfold V left
  after_results <;> rfl

theorem V_right : (V m c main_v1 : FVec Ideal S8192x1792 .bf16) = truncf .bf16 (right m c) bitsLt_bf16_f32 := by
  unfold V right
  after_results <;> rfl

theorem left_at (r : Fin 8192) (i : Fin 1024) : (V m c main_v0 : FVec Ideal S8192x1024 .bf16) (ix2 r i) = left m c (ix2 r i) := by
  rw [V_left]
  generalize left m c = A
  pointwise

theorem right_at (r : Fin 8192) (j : Fin 1792) : (V m c main_v1 : FVec Ideal S8192x1792 .bf16) (ix2 r j) = right m c (ix2 r j) := by
  rw [V_right]
  generalize right m c = B
  pointwise

/-- One point's addition. -/
theorem add_at (X : Vec Ideal S1024x896 .f32) (A : Vec Ideal S2048x1024 .bf16) (B : Vec Ideal S2048x896 .bf16) (i : Fin 1024) (j : Fin 896) :
    (k0_pay2 X A B : FVec Ideal S1024x896 .f32) (ix2 i j) = X (ix2 i j) + ∑ r : Fin 2048, A (ix2 r i) * B (ix2 r j) := by
  pointwise [k0_pay2]

theorem zero_at (i : Fin 1024) (j : Fin 896) : (k0_pay1 (F := Ideal) : FVec Ideal S1024x896 .f32) (ix2 i j) = 0 := by
  pointwise [k0_pay1]

theorem idx : ∀ t : Fin cfg0.N, win0_0.index t = ![t.val % 4, t.val / 4 / 2] ∧ win0_1.index t = ![t.val % 4, t.val / 4 % 2] :=
  (by decide +kernel : ∀ t : Fin grid0.N, _)

theorem run_eq (i : Fin 1024) (j : Fin 1792) : run2Of (ix2 i j : S1024x1792.Idx) = 2 * (i.val / 1024) + j.val / 896 := by
  show _ * (i.val / 1024 - 0) + _ * (j.val / 896 - 0) = _
  omega

theorem loc_eq (i : Fin 1024) (j : Fin 1792) : loc2Of (ix2 i j : S1024x1792.Idx) = (ix2 (⟨i.val % 1024, by omega⟩ : Fin 1024) (⟨j.val % 896, by omega⟩ : Fin 896) : S1024x896.Idx) := by
  funext a
  fin_cases a <;> rfl

section
variable (i : Fin 1024) (j : Fin 1792) (s : Fin 4) (n : ℕ) (h : n < cfg0.N) (hn : n = 4 * run2Of (ix2 i j : S1024x1792.Idx) + s.val)
include hn

theorem left_in (r : Fin 2048) : (iblk m c 0 ⟨n, h⟩ : FVec Ideal S2048x1024 .bf16) (ix2 r (⟨i.val % 1024, by omega⟩ : Fin 1024))
    = left m c (ix2 (⟨s.val * 2048 + r.val, by omega⟩ : Fin 8192) i) := by
  have e : win0_0.index ⟨n, h⟩ = ![s.val, i.val / 1024] := by
    rw [(idx ⟨n, h⟩).1]
    show ![n % 4, n / 4 / 2] = _
    rw [show n % 4 = s.val by have := run_eq i j; omega, show n / 4 / 2 = i.val / 1024 by have := run_eq i j; omega]
  have z : (((cfg0.win 0).blk ⟨n, h⟩).view.emb (ix2 r (⟨i.val % 1024, by omega⟩ : Fin 1024)) : S8192x1024.Idx)
      = (ix2 (⟨s.val * 2048 + r.val, by omega⟩ : Fin 8192) i : S8192x1024.Idx) := by
    blk_ext [e]
  refine Eq.trans ?_ (left_at m c _ i)
  unfold iblk
  generalize V m c = A
  rw [View.read_apply, cast_eq]
  exact congrArg (A main_v0) z

theorem right_in (r : Fin 2048) : (iblk m c 1 ⟨n, h⟩ : FVec Ideal S2048x896 .bf16) (ix2 r (⟨j.val % 896, by omega⟩ : Fin 896))
    = right m c (ix2 (⟨s.val * 2048 + r.val, by omega⟩ : Fin 8192) j) := by
  have e : win0_1.index ⟨n, h⟩ = ![s.val, j.val / 896] := by
    rw [(idx ⟨n, h⟩).2]
    show ![n % 4, n / 4 % 2] = _
    rw [show n % 4 = s.val by have := run_eq i j; omega, show n / 4 % 2 = j.val / 896 by have := run_eq i j; omega]
  have z : (((cfg0.win 1).blk ⟨n, h⟩).view.emb (ix2 r (⟨j.val % 896, by omega⟩ : Fin 896)) : S8192x1792.Idx)
      = (ix2 (⟨s.val * 2048 + r.val, by omega⟩ : Fin 8192) j : S8192x1792.Idx) := by
    blk_ext [e]
  refine Eq.trans ?_ (right_at m c _ j)
  unfold iblk
  generalize V m c = A
  rw [View.read_apply, cast_eq]
  exact congrArg (A main_v1) z

/-- The point of a run that takes a quarter's rows adds that quarter. -/
theorem quarter_at (X : Vec Ideal S1024x896 .f32) : (k0_pay2 X (iblk m c 0 ⟨n, h⟩) (iblk m c 1 ⟨n, h⟩) : FVec Ideal S1024x896 .f32) (loc2Of (ix2 i j : S1024x1792.Idx))
    = X (loc2Of (ix2 i j : S1024x1792.Idx)) + quarter (fun r => left m c (ix2 r i)) (fun r => right m c (ix2 r j)) s := by
  rw [loc_eq]
  refine (add_at X (iblk m c 0 ⟨n, h⟩) (iblk m c 1 ⟨n, h⟩) _ _).trans (congrArg _ (Finset.sum_congr rfl fun r _ => ?_))
  rw [left_in m c i j s n h hn r, right_in m c i j s n h hn r]
end

/-- The kernel's result array. -/
theorem final_at (i : Fin 1024) (j : Fin 1792) : (G2 m c : FVec Ideal S1024x1792 .f32) (ix2 i j) = ∑ r : Fin 8192, left m c (ix2 r i) * right m c (ix2 r j) := by
  have hb : 4 * run2Of (ix2 i j : S1024x1792.Idx) + 3 < cfg0.N := by
    have := run_eq i j
    show 4 * run2Of (ix2 i j : S1024x1792.Idx) + 3 < 8
    omega
  unfold G2
  rw [dif_pos hb, Pipeline.accAt_succ, Pipeline.accAt_succ, Pipeline.accAt_succ, Pipeline.accAt_zero]
  unfold step2 reset2
  rw [quarter_at m c i j 3 (4 * run2Of (ix2 i j : S1024x1792.Idx) + (2 + 1)) _ rfl, quarter_at m c i j 2 (4 * run2Of (ix2 i j : S1024x1792.Idx) + (1 + 1)) _ rfl,
    quarter_at m c i j 1 (4 * run2Of (ix2 i j : S1024x1792.Idx) + (0 + 1)) _ rfl, quarter_at m c i j 0 (4 * run2Of (ix2 i j : S1024x1792.Idx)) _ rfl, loc_eq, zero_at, zero_add]
  exact (sum_quarters (fun r => left m c (ix2 r i)) (fun r => right m c (ix2 r j))).symm
end

section
open Cert.Reference13Ideal Cert.Reference13Ideal.Gen

/-- The reference's result, as a function of its arguments. -/
def res (A : FVec Ideal S8192x1024 .f32) (B : FVec Ideal S8192x1792 .f32) : FVec Ideal S1024x1792 .f32 :=
  transpose S1024x1792 [1, 0] (Host.dotGeneral dot_S8192x1792_S8192x1024_S1792x1024_0_0_1_1_n_n none B A : FVec Ideal S1792x1024 .f32) transposes_S1792x1024_S1024x1792_1_0

theorem res_at (A : FVec Ideal S8192x1024 .f32) (B : FVec Ideal S8192x1792 .f32) (i : Fin 1024) (j : Fin 1792) :
    res A B (ix2 i j) = ∑ r : Fin 8192, A (ix2 r i) * B (ix2 r j) := by
  refine Eq.trans ?_ (Finset.sum_congr rfl fun r _ => mul_comm (B (ix2 r j)) (A (ix2 r i)))
  pointwise [res]
end

theorem frame [Cert.Kernel13.Facts] : Cert.quiescent_Kernel13 := fun m ρ _ => Cert.Kernel13.Gen.frame (F := Bits) m ρ

theorem ideal_frame [Cert.Kernel13Ideal.Facts] : Cert.quiescent_Kernel13Ideal := fun m ρ _ => Cert.Kernel13Ideal.Gen.frame (F := Ideal) m ρ

theorem reference_frame [Cert.Reference13Ideal.Facts] : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem algebraic [Cert.Kernel13Ideal.Facts] [Cert.Reference13Ideal.Facts] : Cert.algebraic_Kernel13Ideal_Reference13Ideal := by
  intro m g m' g' _ hargs
  refine ⟨fun c => res (left m c) (right m c), ?_, ?_⟩
  · refine (θ_run Cert.Kernel13Ideal.defs _ _).mono ?_ (Cert.Kernel13Ideal.Value.run (F := Ideal) m g)
    intro r h c
    refine ⟨(h c).1.trans ?_, (h c).2⟩
    funext y
    obtain ⟨i, j, rfl⟩ : ∃ (i : Fin 1024) (j : Fin 1792), y = ix2 i j := ⟨y 0, y 1, by funext a; fin_cases a <;> rfl⟩
    exact (final_at m c i j).trans (res_at (left m c) (right m c) i j).symm
  · refine (θ_run Cert.Reference13Ideal.defs _ _).mono ?_ (Cert.Reference13Ideal.Value.run (F := Ideal) m' g')
    intro r h c
    refine ⟨(h c).1.trans ?_, (h c).2⟩
    rw [(hargs c).1, (hargs c).2]
    rfl

end Cert.DwInRwkv

end
-- ==== Proof.DwInOg.lean ====
/- The gradient of the input projection's weights, the output gate's columns: the kernel's ideal reading leaves what the
   reference leaves. -/
module

public import proofs.«01_k».proof.Defs
public import proofs.«01_k».proof.Proof.Gen.Kernel14.Frame
public import proofs.«01_k».proof.Proof.Gen.Kernel14Ideal.Value
public import proofs.«01_k».proof.Proof.Gen.Reference14Ideal.Run
public import Idealize.ShloMosaic.Lib.Pipeline.ValueKit
public import Idealize.ShloMosaic.Adequacy

@[expose] public section

set_option maxRecDepth 16384

noncomputable section

namespace Cert.DwInOg

open Idealize.ShloMosaic Idealize.ShloMosaic.TcCoe Idealize.SL.Sem

/-- What a quarter of the rows adds to a column of one factor against a column of the other. -/
def quarter (A : Fin 8192 → EReal) (B : Fin 8192 → EReal) (s : Fin 4) : EReal :=
  ∑ r : Fin 2048, A ⟨s.val * 2048 + r.val, by omega⟩ * B ⟨s.val * 2048 + r.val, by omega⟩

theorem sum_quarters (A B : Fin 8192 → EReal) : ∑ r, A r * B r = quarter A B 0 + quarter A B 1 + quarter A B 2 + quarter A B 3 :=
  (Fin.sum_univ_tiles 4 2048 rfl fun r => A r * B r).trans (Fin.sum_univ_four fun s => quarter A B s)

section
open Cert.Kernel14Ideal Cert.Kernel14Ideal.Gen Cert.Kernel14Ideal.Value
variable (m : (ℓ : Loc nD τ sig) → Buf (Elt Ideal) ℓ) (c : Dev nD)

/-- The factors as launched. -/
def left : FVec Ideal S8192x1024 .f32 := m ((c.tc : Thread nD τ).loc main_arg0)
def right : FVec Ideal S8192x512 .f32 := m ((c.tc : Thread nD τ).loc main_arg1)

theorem V_left : (V m c main_v0 : FVec Ideal S8192x1024 .bf16) = truncf .bf16 (left m c) bitsLt_bf16_f32 := by
  unfold V left
  after_results <;> rfl

theorem V_right : (V m c main_v1 : FVec Ideal S8192x512 .bf16) = truncf .bf16 (right m c) bitsLt_bf16_f32 := by
  unfold V right
  after_results <;> rfl

theorem left_at (r : Fin 8192) (i : Fin 1024) : (V m c main_v0 : FVec Ideal S8192x1024 .bf16) (ix2 r i) = left m c (ix2 r i) := by
  rw [V_left]
  generalize left m c = A
  pointwise

theorem right_at (r : Fin 8192) (j : Fin 512) : (V m c main_v1 : FVec Ideal S8192x512 .bf16) (ix2 r j) = right m c (ix2 r j) := by
  rw [V_right]
  generalize right m c = B
  pointwise

/-- One point's addition. -/
theorem add_at (X : Vec Ideal S1024x512 .f32) (A : Vec Ideal S2048x1024 .bf16) (B : Vec Ideal S2048x512 .bf16) (i : Fin 1024) (j : Fin 512) :
    (k0_pay2 X A B : FVec Ideal S1024x512 .f32) (ix2 i j) = X (ix2 i j) + ∑ r : Fin 2048, A (ix2 r i) * B (ix2 r j) := by
  pointwise [k0_pay2]

theorem zero_at (i : Fin 1024) (j : Fin 512) : (k0_pay1 (F := Ideal) : FVec Ideal S1024x512 .f32) (ix2 i j) = 0 := by
  pointwise [k0_pay1]

theorem idx : ∀ t : Fin cfg0.N, win0_0.index t = ![t.val % 4, t.val / 4 / 1] ∧ win0_1.index t = ![t.val % 4, t.val / 4 % 1] :=
  (by decide +kernel : ∀ t : Fin grid0.N, _)

theorem run_eq (i : Fin 1024) (j : Fin 512) : run2Of (ix2 i j : S1024x512.Idx) = 1 * (i.val / 1024) + j.val / 512 := by
  show _ * (i.val / 1024 - 0) + _ * (j.val / 512 - 0) = _
  omega

theorem loc_eq (i : Fin 1024) (j : Fin 512) : loc2Of (ix2 i j : S1024x512.Idx) = (ix2 (⟨i.val % 1024, by omega⟩ : Fin 1024) (⟨j.val % 512, by omega⟩ : Fin 512) : S1024x512.Idx) := by
  funext a
  fin_cases a <;> rfl

section
variable (i : Fin 1024) (j : Fin 512) (s : Fin 4) (n : ℕ) (h : n < cfg0.N) (hn : n = 4 * run2Of (ix2 i j : S1024x512.Idx) + s.val)
include hn

theorem left_in (r : Fin 2048) : (iblk m c 0 ⟨n, h⟩ : FVec Ideal S2048x1024 .bf16) (ix2 r (⟨i.val % 1024, by omega⟩ : Fin 1024))
    = left m c (ix2 (⟨s.val * 2048 + r.val, by omega⟩ : Fin 8192) i) := by
  have e : win0_0.index ⟨n, h⟩ = ![s.val, i.val / 1024] := by
    rw [(idx ⟨n, h⟩).1]
    show ![n % 4, n / 4 / 1] = _
    rw [show n % 4 = s.val by have := run_eq i j; omega, show n / 4 / 1 = i.val / 1024 by have := run_eq i j; omega]
  have z : (((cfg0.win 0).blk ⟨n, h⟩).view.emb (ix2 r (⟨i.val % 1024, by omega⟩ : Fin 1024)) : S8192x1024.Idx)
      = (ix2 (⟨s.val * 2048 + r.val, by omega⟩ : Fin 8192) i : S8192x1024.Idx) := by
    blk_ext [e]
  refine Eq.trans ?_ (left_at m c _ i)
  unfold iblk
  generalize V m c = A
  rw [View.read_apply, cast_eq]
  exact congrArg (A main_v0) z

theorem right_in (r : Fin 2048) : (iblk m c 1 ⟨n, h⟩ : FVec Ideal S2048x512 .bf16) (ix2 r (⟨j.val % 512, by omega⟩ : Fin 512))
    = right m c (ix2 (⟨s.val * 2048 + r.val, by omega⟩ : Fin 8192) j) := by
  have e : win0_1.index ⟨n, h⟩ = ![s.val, j.val / 512] := by
    rw [(idx ⟨n, h⟩).2]
    show ![n % 4, n / 4 % 1] = _
    rw [show n % 4 = s.val by have := run_eq i j; omega, show n / 4 % 1 = j.val / 512 by have := run_eq i j; omega]
  have z : (((cfg0.win 1).blk ⟨n, h⟩).view.emb (ix2 r (⟨j.val % 512, by omega⟩ : Fin 512)) : S8192x512.Idx)
      = (ix2 (⟨s.val * 2048 + r.val, by omega⟩ : Fin 8192) j : S8192x512.Idx) := by
    blk_ext [e]
  refine Eq.trans ?_ (right_at m c _ j)
  unfold iblk
  generalize V m c = A
  rw [View.read_apply, cast_eq]
  exact congrArg (A main_v1) z

/-- The point of a run that takes a quarter's rows adds that quarter. -/
theorem quarter_at (X : Vec Ideal S1024x512 .f32) : (k0_pay2 X (iblk m c 0 ⟨n, h⟩) (iblk m c 1 ⟨n, h⟩) : FVec Ideal S1024x512 .f32) (loc2Of (ix2 i j : S1024x512.Idx))
    = X (loc2Of (ix2 i j : S1024x512.Idx)) + quarter (fun r => left m c (ix2 r i)) (fun r => right m c (ix2 r j)) s := by
  rw [loc_eq]
  refine (add_at X (iblk m c 0 ⟨n, h⟩) (iblk m c 1 ⟨n, h⟩) _ _).trans (congrArg _ (Finset.sum_congr rfl fun r _ => ?_))
  rw [left_in m c i j s n h hn r, right_in m c i j s n h hn r]
end

/-- The kernel's result array. -/
theorem final_at (i : Fin 1024) (j : Fin 512) : (G2 m c : FVec Ideal S1024x512 .f32) (ix2 i j) = ∑ r : Fin 8192, left m c (ix2 r i) * right m c (ix2 r j) := by
  have hb : 4 * run2Of (ix2 i j : S1024x512.Idx) + 3 < cfg0.N := by
    have := run_eq i j
    show 4 * run2Of (ix2 i j : S1024x512.Idx) + 3 < 4
    omega
  unfold G2
  rw [dif_pos hb, Pipeline.accAt_succ, Pipeline.accAt_succ, Pipeline.accAt_succ, Pipeline.accAt_zero]
  unfold step2 reset2
  rw [quarter_at m c i j 3 (4 * run2Of (ix2 i j : S1024x512.Idx) + (2 + 1)) _ rfl, quarter_at m c i j 2 (4 * run2Of (ix2 i j : S1024x512.Idx) + (1 + 1)) _ rfl,
    quarter_at m c i j 1 (4 * run2Of (ix2 i j : S1024x512.Idx) + (0 + 1)) _ rfl, quarter_at m c i j 0 (4 * run2Of (ix2 i j : S1024x512.Idx)) _ rfl, loc_eq, zero_at, zero_add]
  exact (sum_quarters (fun r => left m c (ix2 r i)) (fun r => right m c (ix2 r j))).symm
end

section
open Cert.Reference14Ideal Cert.Reference14Ideal.Gen

/-- The reference's result, as a function of its arguments. -/
def res (A : FVec Ideal S8192x1024 .f32) (B : FVec Ideal S8192x512 .f32) : FVec Ideal S1024x512 .f32 :=
  transpose S1024x512 [1, 0] (Host.dotGeneral dot_S8192x512_S8192x1024_S512x1024_0_0_1_1_n_n none B A : FVec Ideal S512x1024 .f32) transposes_S512x1024_S1024x512_1_0

theorem res_at (A : FVec Ideal S8192x1024 .f32) (B : FVec Ideal S8192x512 .f32) (i : Fin 1024) (j : Fin 512) :
    res A B (ix2 i j) = ∑ r : Fin 8192, A (ix2 r i) * B (ix2 r j) := by
  refine Eq.trans ?_ (Finset.sum_congr rfl fun r _ => mul_comm (B (ix2 r j)) (A (ix2 r i)))
  pointwise [res]
end

theorem frame [Cert.Kernel14.Facts] : Cert.quiescent_Kernel14 := fun m ρ _ => Cert.Kernel14.Gen.frame (F := Bits) m ρ

theorem ideal_frame [Cert.Kernel14Ideal.Facts] : Cert.quiescent_Kernel14Ideal := fun m ρ _ => Cert.Kernel14Ideal.Gen.frame (F := Ideal) m ρ

theorem reference_frame [Cert.Reference14Ideal.Facts] : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

theorem algebraic [Cert.Kernel14Ideal.Facts] [Cert.Reference14Ideal.Facts] : Cert.algebraic_Kernel14Ideal_Reference14Ideal := by
  intro m g m' g' _ hargs
  refine ⟨fun c => res (left m c) (right m c), ?_, ?_⟩
  · refine (θ_run Cert.Kernel14Ideal.defs _ _).mono ?_ (Cert.Kernel14Ideal.Value.run (F := Ideal) m g)
    intro r h c
    refine ⟨(h c).1.trans ?_, (h c).2⟩
    funext y
    obtain ⟨i, j, rfl⟩ : ∃ (i : Fin 1024) (j : Fin 512), y = ix2 i j := ⟨y 0, y 1, by funext a; fin_cases a <;> rfl⟩
    exact (final_at m c i j).trans (res_at (left m c) (right m c) i j).symm
  · refine (θ_run Cert.Reference14Ideal.defs _ _).mono ?_ (Cert.Reference14Ideal.Value.run (F := Ideal) m' g')
    intro r h c
    refine ⟨(h c).1.trans ?_, (h c).2⟩
    rw [(hargs c).1, (hargs c).2]
    rfl

end Cert.DwInOg

end
-- ==== Proof.DwInAfab.lean ====
/- The gradient of the input projection's weights, the gate ranks' columns: the kernel's ideal reading leaves what the
   reference leaves. -/
module

public import proofs.«01_k».proof.Defs
public import proofs.«01_k».proof.Proof.Gen.Kernel15.Frame
public import proofs.«01_k».proof.Proof.Gen.Kernel15Ideal.Value
public import proofs.«01_k».proof.Proof.Gen.Reference15Ideal.Run
public import Idealize.ShloMosaic.Lib.Pipeline.ValueKit
public import Idealize.ShloMosaic.Adequacy

@[expose] public section

set_option maxRecDepth 16384

noncomputable section

namespace Cert.DwInAfab

open Idealize.ShloMosaic Idealize.ShloMosaic.TcCoe Idealize.SL.Sem

/-- What a quarter of the rows adds to a column of one factor against a column of the other. -/
def quarter (A : Fin 8192 → EReal) (B : Fin 8192 → EReal) (s : Fin 4) : EReal :=
  ∑ r : Fin 2048, A ⟨s.val * 2048 + r.val, by omega⟩ * B ⟨s.val * 2048 + r.val, by omega⟩

theorem sum_quarters (A B : Fin 8192 → EReal) : ∑ r, A r * B r = quarter A B 0 + quarter A B 1 + quarter A B 2 + quarter A B 3 :=
  (Fin.sum_univ_tiles 4 2048 rfl fun r => A r * B r).trans (Fin.sum_univ_four fun s => quarter A B s)

section
open Cert.Kernel15Ideal Cert.Kernel15Ideal.Gen Cert.Kernel15Ideal.Value
variable (m : (ℓ : Loc nD τ sig) → Buf (Elt Ideal) ℓ) (c : Dev nD)

/-- The factors as launched. -/
def left : FVec Ideal S8192x1024 .f32 := m ((c.tc : Thread nD τ).loc main_arg0)
def right : FVec Ideal S8192x128 .f32 := m ((c.tc : Thread nD τ).loc main_arg1)

theorem V_left : (V m c main_v0 : FVec Ideal S8192x1024 .bf16) = truncf .bf16 (left m c) bitsLt_bf16_f32 := by
  unfold V left
  after_results <;> rfl

theorem V_right : (V m c main_v1 : FVec Ideal S8192x128 .bf16) = truncf .bf16 (right m c) bitsLt_bf16_f32 := by
  unfold V right
  after_results <;> rfl

theorem left_at (r : Fin 8192) (i : Fin 1024) : (V m c main_v0 : FVec Ideal S8192x1024 .bf16) (ix2 r i) = left m c (ix2 r i) := by
  rw [V_left]
  generalize left m c = A
  pointwise

theorem right_at (r : Fin 8192) (j : Fin 128) : (V m c main_v1 : FVec Ideal S8192x128 .bf16) (ix2 r j) = right m c (ix2 r j) := by
  rw [V_right]
  generalize right m c = B
  pointwise

/-- One point's addition. -/
theorem add_at (X : Vec Ideal S1024x128 .f32) (A : Vec Ideal S2048x1024 .bf16) (B : Vec Ideal S2048x128 .bf16) (i : Fin 1024) (j : Fin 128) :
    (k0_pay2 X A B : FVec Ideal S1024x128 .f32) (ix2 i j) = X (ix2 i j) + ∑ r : Fin 2048, A (ix2 r i) * B (ix2 r j) := by
  pointwise [k0_pay2]

theorem zero_at (i : Fin 1024) (j : Fin 128) : (k0_pay1 (F := Ideal) : FVec Ideal S1024x128 .f32) (ix2 i j) = 0 := by
  pointwise [k0_pay1]

theorem idx : ∀ t : Fin cfg0.N, win0_0.index t = ![t.val % 4, t.val / 4 / 1] ∧ win0_1.index t = ![t.val % 4, t.val / 4 % 1] :=
  (by decide +kernel : ∀ t : Fin grid0.N, _)

theorem run_eq (i : Fin 1024) (j : Fin 128) : run2Of (ix2 i j : S1024x128.Idx) = 1 * (i.val / 1024) + j.val / 128 := by
  show _ * (i.val / 1024 - 0) + _ * (j.val / 128 - 0) = _
  omega

theorem loc_eq (i : Fin 1024) (j : Fin 128) : loc2Of (ix2 i j : S1024x128.Idx) = (ix2 (⟨i.val % 1024, by omega⟩ : Fin 1024) (⟨j.val % 128, by omega⟩ : Fin 128) : S1024x128.Idx) := by
  funext a
  fin_cases a <;> rfl

section
variable (i : Fin 1024) (j : Fin 128) (s : Fin 4) (n : ℕ) (h : n < cfg0.N) (hn : n = 4 * run2Of (ix2 i j : S1024x128.Idx) + s.val)
include hn

theorem left_in (r : Fin 2048) : (iblk m c 0 ⟨n, h⟩ : FVec Ideal S2048x1024 .bf16) (ix2 r (⟨i.val % 1024, by omega⟩ : Fin 1024))
    = left m c (ix2 (⟨s.val * 2048 + r.val, by omega⟩ : Fin 8192) i) := by
  have e : win0_0.index ⟨n, h⟩ = ![s.val, i.val / 1024] := by
    rw [(idx ⟨n, h⟩).1]
    show ![n % 4, n / 4 / 1] = _
    rw [show n % 4 = s.val by have := run_eq i j; omega, show n / 4 / 1 = i.val / 1024 by have := run_eq i j; omega]
  have z : (((cfg0.win 0).blk ⟨n, h⟩).view.emb (ix2 r (⟨i.val % 1024, by omega⟩ : Fin 1024)) : S8192x1024.Idx)
      = (ix2 (⟨s.val * 2048 + r.val, by omega⟩ : Fin 8192) i : S8192x1024.Idx) := by
    blk_ext [e]
  refine Eq.trans ?_ (left_at m c _ i)
  unfold iblk
  generalize V m c = A
  rw [View.read_apply, cast_eq]
  exact congrArg (A main_v0) z

theorem right_in (r : Fin 2048) : (iblk m c 1 ⟨n, h⟩ : FVec Ideal S2048x128 .bf16) (ix2 r (⟨j.val % 128, by omega⟩ : Fin 128))
    = right m c (ix2 (⟨s.val * 2048 + r.val, by omega⟩ : Fin 8192) j) := by
  have e : win0_1.index ⟨n, h⟩ = ![s.val, j.val / 128] := by
    rw [(idx ⟨n, h⟩).2]
    show ![n % 4, n / 4 % 1] = _
    rw [show n % 4 = s.val by have := run_eq i j; omega, show n / 4 % 1 = j.val / 128 by have := run_eq i j; omega]
  have z : (((cfg0.win 1).blk ⟨n, h⟩).view.emb (ix2 r (⟨j.val % 128, by omega⟩ : Fin 128)) : S8192x128.Idx)
      = (ix2 (⟨s.val * 2048 + r.val, by omega⟩ : Fin 8192) j : S8192x128.Idx) := by
    blk_ext [e]
  refine Eq.trans ?_ (right_at m c _ j)
  unfold iblk
  generalize V m c = A
  rw [View.read_apply, cast_eq]
  exact congrArg (A main_v1) z

/-- The point of a run that takes a quarter's rows adds that quarter. -/
theorem quarter_at (X : Vec Ideal S1024x128 .f32) : (k0_pay2 X (iblk m c 0 ⟨n, h⟩) (iblk m c 1 ⟨n, h⟩) : FVec Ideal S1024x128 .f32) (loc2Of (ix2 i j : S1024x128.Idx))
    = X (loc2Of (ix2 i j : S1024x128.Idx)) + quarter (fun r => left m c (ix2 r i)) (fun r => right m c (ix2 r j)) s := by
  rw [loc_eq]
  refine (add_at X (iblk m c 0 ⟨n, h⟩) (iblk m c 1 ⟨n, h⟩) _ _).trans (congrArg _ (Finset.sum_congr rfl fun r _ => ?_))
  rw [left_in m c i j s n h hn r, right_in m c i j s n h hn r]
end

/-- The kernel's result array. -/
theorem final_at (i : Fin 1024) (j : Fin 128) : (G2 m c : FVec Ideal S1024x128 .f32) (ix2 i j) = ∑ r : Fin 8192, left m c (ix2 r i) * right m c (ix2 r j) := by
  have hb : 4 * run2Of (ix2 i j : S1024x128.Idx) + 3 < cfg0.N := by
    have := run_eq i j
    show 4 * run2Of (ix2 i j : S1024x128.Idx) + 3 < 4
    omega
  unfold G2
  rw [dif_pos hb, Pipeline.accAt_succ, Pipeline.accAt_succ, Pipeline.accAt_succ, Pipeline.accAt_zero]
  unfold step2 reset2
  rw [quarter_at m c i j 3 (4 * run2Of (ix2 i j : S1024x128.Idx) + (2 + 1)) _ rfl, quarter_at m c i j 2 (4 * run2Of (ix2 i j : S1024x128.Idx) + (1 + 1)) _ rfl,
    quarter_at m c i j 1 (4 * run2Of (ix2 i j : S1024x128.Idx) + (0 + 1)) _ rfl, quarter_at m c i j 0 (4 * run2Of (ix2 i j : S1024x128.Idx)) _ rfl, loc_eq, zero_at, zero_add]
  exact (sum_quarters (fun r => left m c (ix2 r i)) (fun r => right m c (ix2 r j))).symm
end

section
open Cert.Reference15Ideal Cert.Reference15Ideal.Gen

/-- The reference's result, as a function of its arguments. -/
def res (A : FVec Ideal S8192x1024 .f32) (B : FVec Ideal S8192x128 .f32) : FVec Ideal S1024x128 .f32 :=
  transpose S1024x128 [1, 0] (Host.dotGeneral dot_S8192x128_S8192x1024_S128x1024_0_0_1_1_n_n none B A : FVec Ideal S128x1024 .f32) transposes_S128x1024_S1024x128_1_0

theorem res_at (A : FVec Ideal S8192x1024 .f32) (B : FVec Ideal S8192x128 .f32) (i : Fin 1024) (j : Fin 128) :
    res A B (ix2 i j) = ∑ r : Fin 8192, A (ix2 r i) * B (ix2 r j) := by
  refine Eq.trans ?_ (Finset.sum_congr rfl fun r _ => mul_comm (B (ix2 r j)) (A (ix2 r i)))
  pointwise [res]
end

theorem frame [Cert.Kernel15.Facts] : Cert.quiescent_Kernel15 := fun m ρ _ => Cert.Kernel15.Gen.frame (F := Bits) m ρ

theorem ideal_frame [Cert.Kernel15Ideal.Facts] : Cert.quiescent_Kernel15Ideal := fun m ρ _ => Cert.Kernel15Ideal.Gen.frame (F := Ideal) m ρ

theorem reference_frame [Cert.Reference15Ideal.Facts] : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

theorem algebraic [Cert.Kernel15Ideal.Facts] [Cert.Reference15Ideal.Facts] : Cert.algebraic_Kernel15Ideal_Reference15Ideal := by
  intro m g m' g' _ hargs
  refine ⟨fun c => res (left m c) (right m c), ?_, ?_⟩
  · refine (θ_run Cert.Kernel15Ideal.defs _ _).mono ?_ (Cert.Kernel15Ideal.Value.run (F := Ideal) m g)
    intro r h c
    refine ⟨(h c).1.trans ?_, (h c).2⟩
    funext y
    obtain ⟨i, j, rfl⟩ : ∃ (i : Fin 1024) (j : Fin 128), y = ix2 i j := ⟨y 0, y 1, by funext a; fin_cases a <;> rfl⟩
    exact (final_at m c i j).trans (res_at (left m c) (right m c) i j).symm
  · refine (θ_run Cert.Reference15Ideal.defs _ _).mono ?_ (Cert.Reference15Ideal.Value.run (F := Ideal) m' g')
    intro r h c
    refine ⟨(h c).1.trans ?_, (h c).2⟩
    rw [(hargs c).1, (hargs c).2]
    rfl

end Cert.DwInAfab

end
-- ==== Proof.DwMixer.lean ====
/- The gradient of a mixer's output weights: the kernel's ideal reading leaves what the reference leaves. -/
module

public import proofs.«01_k».proof.Defs
public import proofs.«01_k».proof.Proof.Gen.Kernel16.Frame
public import proofs.«01_k».proof.Proof.Gen.Kernel16Ideal.Value
public import proofs.«01_k».proof.Proof.Gen.Reference16Ideal.Run
public import Idealize.ShloMosaic.Lib.Pipeline.ValueKit
public import Idealize.ShloMosaic.Adequacy

@[expose] public section

set_option maxRecDepth 16384

noncomputable section

namespace Cert.DwMixer

open Idealize.ShloMosaic Idealize.ShloMosaic.TcCoe Idealize.SL.Sem

/-- What a quarter of the rows adds to a column of one factor against a column of the other. -/
def quarter (A : Fin 8192 → EReal) (B : Fin 8192 → EReal) (s : Fin 4) : EReal :=
  ∑ r : Fin 2048, A ⟨s.val * 2048 + r.val, by omega⟩ * B ⟨s.val * 2048 + r.val, by omega⟩

theorem sum_quarters (A B : Fin 8192 → EReal) : ∑ r, A r * B r = quarter A B 0 + quarter A B 1 + quarter A B 2 + quarter A B 3 :=
  (Fin.sum_univ_tiles 4 2048 rfl fun r => A r * B r).trans (Fin.sum_univ_four fun s => quarter A B s)

section
open Cert.Kernel16Ideal Cert.Kernel16Ideal.Gen Cert.Kernel16Ideal.Value
variable (m : (ℓ : Loc nD τ sig) → Buf (Elt Ideal) ℓ) (c : Dev nD)

/-- The factors as launched. -/
def left : FVec Ideal S8192x512 .f32 := m ((c.tc : Thread nD τ).loc main_arg0)
def right : FVec Ideal S8192x1024 .f32 := m ((c.tc : Thread nD τ).loc main_arg1)

theorem V_left : (V m c main_v0 : FVec Ideal S8192x512 .bf16) = truncf .bf16 (left m c) bitsLt_bf16_f32 := by
  unfold V left
  after_results <;> rfl

theorem V_right : (V m c main_v1 : FVec Ideal S8192x1024 .bf16) = truncf .bf16 (right m c) bitsLt_bf16_f32 := by
  unfold V right
  after_results <;> rfl

theorem left_at (r : Fin 8192) (i : Fin 512) : (V m c main_v0 : FVec Ideal S8192x512 .bf16) (ix2 r i) = left m c (ix2 r i) := by
  rw [V_left]
  generalize left m c = A
  pointwise

theorem right_at (r : Fin 8192) (j : Fin 1024) : (V m c main_v1 : FVec Ideal S8192x1024 .bf16) (ix2 r j) = right m c (ix2 r j) := by
  rw [V_right]
  generalize right m c = B
  pointwise

/-- One point's addition. -/
theorem add_at (X : Vec Ideal S512x1024 .f32) (A : Vec Ideal S2048x512 .bf16) (B : Vec Ideal S2048x1024 .bf16) (i : Fin 512) (j : Fin 1024) :
    (k0_pay2 X A B : FVec Ideal S512x1024 .f32) (ix2 i j) = X (ix2 i j) + ∑ r : Fin 2048, A (ix2 r i) * B (ix2 r j) := by
  pointwise [k0_pay2]

theorem zero_at (i : Fin 512) (j : Fin 1024) : (k0_pay1 (F := Ideal) : FVec Ideal S512x1024 .f32) (ix2 i j) = 0 := by
  pointwise [k0_pay1]

theorem idx : ∀ t : Fin cfg0.N, win0_0.index t = ![t.val % 4, t.val / 4 / 1] ∧ win0_1.index t = ![t.val % 4, t.val / 4 % 1] :=
  (by decide +kernel : ∀ t : Fin grid0.N, _)

theorem run_eq (i : Fin 512) (j : Fin 1024) : run2Of (ix2 i j : S512x1024.Idx) = 1 * (i.val / 512) + j.val / 1024 := by
  show _ * (i.val / 512 - 0) + _ * (j.val / 1024 - 0) = _
  omega

theorem loc_eq (i : Fin 512) (j : Fin 1024) : loc2Of (ix2 i j : S512x1024.Idx) = (ix2 (⟨i.val % 512, by omega⟩ : Fin 512) (⟨j.val % 1024, by omega⟩ : Fin 1024) : S512x1024.Idx) := by
  funext a
  fin_cases a <;> rfl

section
variable (i : Fin 512) (j : Fin 1024) (s : Fin 4) (n : ℕ) (h : n < cfg0.N) (hn : n = 4 * run2Of (ix2 i j : S512x1024.Idx) + s.val)
include hn

theorem left_in (r : Fin 2048) : (iblk m c 0 ⟨n, h⟩ : FVec Ideal S2048x512 .bf16) (ix2 r (⟨i.val % 512, by omega⟩ : Fin 512))
    = left m c (ix2 (⟨s.val * 2048 + r.val, by omega⟩ : Fin 8192) i) := by
  have e : win0_0.index ⟨n, h⟩ = ![s.val, i.val / 512] := by
    rw [(idx ⟨n, h⟩).1]
    show ![n % 4, n / 4 / 1] = _
    rw [show n % 4 = s.val by have := run_eq i j; omega, show n / 4 / 1 = i.val / 512 by have := run_eq i j; omega]
  have z : (((cfg0.win 0).blk ⟨n, h⟩).view.emb (ix2 r (⟨i.val % 512, by omega⟩ : Fin 512)) : S8192x512.Idx)
      = (ix2 (⟨s.val * 2048 + r.val, by omega⟩ : Fin 8192) i : S8192x512.Idx) := by
    blk_ext [e]
  refine Eq.trans ?_ (left_at m c _ i)
  unfold iblk
  generalize V m c = A
  rw [View.read_apply, cast_eq]
  exact congrArg (A main_v0) z

theorem right_in (r : Fin 2048) : (iblk m c 1 ⟨n, h⟩ : FVec Ideal S2048x1024 .bf16) (ix2 r (⟨j.val % 1024, by omega⟩ : Fin 1024))
    = right m c (ix2 (⟨s.val * 2048 + r.val, by omega⟩ : Fin 8192) j) := by
  have e : win0_1.index ⟨n, h⟩ = ![s.val, j.val / 1024] := by
    rw [(idx ⟨n, h⟩).2]
    show ![n % 4, n / 4 % 1] = _
    rw [show n % 4 = s.val by have := run_eq i j; omega, show n / 4 % 1 = j.val / 1024 by have := run_eq i j; omega]
  have z : (((cfg0.win 1).blk ⟨n, h⟩).view.emb (ix2 r (⟨j.val % 1024, by omega⟩ : Fin 1024)) : S8192x1024.Idx)
      = (ix2 (⟨s.val * 2048 + r.val, by omega⟩ : Fin 8192) j : S8192x1024.Idx) := by
    blk_ext [e]
  refine Eq.trans ?_ (right_at m c _ j)
  unfold iblk
  generalize V m c = A
  rw [View.read_apply, cast_eq]
  exact congrArg (A main_v1) z

/-- The point of a run that takes a quarter's rows adds that quarter. -/
theorem quarter_at (X : Vec Ideal S512x1024 .f32) : (k0_pay2 X (iblk m c 0 ⟨n, h⟩) (iblk m c 1 ⟨n, h⟩) : FVec Ideal S512x1024 .f32) (loc2Of (ix2 i j : S512x1024.Idx))
    = X (loc2Of (ix2 i j : S512x1024.Idx)) + quarter (fun r => left m c (ix2 r i)) (fun r => right m c (ix2 r j)) s := by
  rw [loc_eq]
  refine (add_at X (iblk m c 0 ⟨n, h⟩) (iblk m c 1 ⟨n, h⟩) _ _).trans (congrArg _ (Finset.sum_congr rfl fun r _ => ?_))
  rw [left_in m c i j s n h hn r, right_in m c i j s n h hn r]
end

/-- The kernel's result array. -/
theorem final_at (i : Fin 512) (j : Fin 1024) : (G2 m c : FVec Ideal S512x1024 .f32) (ix2 i j) = ∑ r : Fin 8192, left m c (ix2 r i) * right m c (ix2 r j) := by
  have hb : 4 * run2Of (ix2 i j : S512x1024.Idx) + 3 < cfg0.N := by
    have := run_eq i j
    show 4 * run2Of (ix2 i j : S512x1024.Idx) + 3 < 4
    omega
  unfold G2
  rw [dif_pos hb, Pipeline.accAt_succ, Pipeline.accAt_succ, Pipeline.accAt_succ, Pipeline.accAt_zero]
  unfold step2 reset2
  rw [quarter_at m c i j 3 (4 * run2Of (ix2 i j : S512x1024.Idx) + (2 + 1)) _ rfl, quarter_at m c i j 2 (4 * run2Of (ix2 i j : S512x1024.Idx) + (1 + 1)) _ rfl,
    quarter_at m c i j 1 (4 * run2Of (ix2 i j : S512x1024.Idx) + (0 + 1)) _ rfl, quarter_at m c i j 0 (4 * run2Of (ix2 i j : S512x1024.Idx)) _ rfl, loc_eq, zero_at, zero_add]
  exact (sum_quarters (fun r => left m c (ix2 r i)) (fun r => right m c (ix2 r j))).symm
end

section
open Cert.Reference16Ideal Cert.Reference16Ideal.Gen

/-- The reference's result, as a function of its arguments. -/
def res (A : FVec Ideal S8192x512 .f32) (B : FVec Ideal S8192x1024 .f32) : FVec Ideal S512x1024 .f32 :=
  transpose S512x1024 [1, 0] (Host.dotGeneral dot_S8192x1024_S8192x512_S1024x512_0_0_1_1_n_n none B A : FVec Ideal S1024x512 .f32) transposes_S1024x512_S512x1024_1_0

theorem res_at (A : FVec Ideal S8192x512 .f32) (B : FVec Ideal S8192x1024 .f32) (i : Fin 512) (j : Fin 1024) :
    res A B (ix2 i j) = ∑ r : Fin 8192, A (ix2 r i) * B (ix2 r j) := by
  refine Eq.trans ?_ (Finset.sum_congr rfl fun r _ => mul_comm (B (ix2 r j)) (A (ix2 r i)))
  pointwise [res]
end

theorem frame [Cert.Kernel16.Facts] : Cert.quiescent_Kernel16 := fun m ρ _ => Cert.Kernel16.Gen.frame (F := Bits) m ρ

theorem ideal_frame [Cert.Kernel16Ideal.Facts] : Cert.quiescent_Kernel16Ideal := fun m ρ _ => Cert.Kernel16Ideal.Gen.frame (F := Ideal) m ρ

theorem reference_frame [Cert.Reference16Ideal.Facts] : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

theorem algebraic [Cert.Kernel16Ideal.Facts] [Cert.Reference16Ideal.Facts] : Cert.algebraic_Kernel16Ideal_Reference16Ideal := by
  intro m g m' g' _ hargs
  refine ⟨fun c => res (left m c) (right m c), ?_, ?_⟩
  · refine (θ_run Cert.Kernel16Ideal.defs _ _).mono ?_ (Cert.Kernel16Ideal.Value.run (F := Ideal) m g)
    intro r h c
    refine ⟨(h c).1.trans ?_, (h c).2⟩
    funext y
    obtain ⟨i, j, rfl⟩ : ∃ (i : Fin 512) (j : Fin 1024), y = ix2 i j := ⟨y 0, y 1, by funext a; fin_cases a <;> rfl⟩
    exact (final_at m c i j).trans (res_at (left m c) (right m c) i j).symm
  · refine (θ_run Cert.Reference16Ideal.defs _ _).mono ?_ (Cert.Reference16Ideal.Value.run (F := Ideal) m' g')
    intro r h c
    refine ⟨(h c).1.trans ?_, (h c).2⟩
    rw [(hargs c).1, (hargs c).2]
    rfl

end Cert.DwMixer

end
-- ==== Proof.MixerOut.lean ====
/- A mixer's output projection: the kernel's ideal reading leaves what the reference leaves. -/
module

public import proofs.«01_k».proof.Defs
public import proofs.«01_k».proof.Proof.Gen.Kernel17.Frame
public import proofs.«01_k».proof.Proof.Gen.Kernel17Ideal.Value
public import proofs.«01_k».proof.Proof.Gen.Reference17Ideal.Run
public import proofs.«01_k».proof.Proof.Pad
public import Idealize.ShloMosaic.Lib.Pipeline.ValueKit
public import Idealize.ShloMosaic.Adequacy

@[expose] public section

set_option maxRecDepth 16384

noncomputable section

namespace Cert.MixerOut

open Idealize.ShloMosaic Idealize.ShloMosaic.TcCoe Idealize.SL.Sem

section
open Cert.Kernel17Ideal Cert.Kernel17Ideal.Gen
variable (m : (ℓ : Loc nD τ sig) → Buf (Elt Ideal) ℓ) (c : Dev nD)

/-- The rows and the weights as launched. -/
def rows : FVec Ideal S8192x512 .f32 := m ((c.tc : Thread nD τ).loc main_arg0)
def weights : FVec Ideal S512x1024 .f32 := m ((c.tc : Thread nD τ).loc main_arg1)

/-- The weights. -/
def factor (W : FVec Ideal S512x1024 .f32) (k : Fin 512) (j : Fin 1024) : EReal := W (ix2 k j)

theorem V_rows : (V m c main_v0 : FVec Ideal S8192x512 .bf16) = truncf .bf16 (rows m c) bitsLt_bf16_f32 := by
  unfold V rows
  after_results <;> rfl

theorem V_factor : (V m c main_v1 : FVec Ideal S512x1024 .bf16) = (truncf .bf16 (weights m c) bitsLt_bf16_f32 : FVec Ideal S512x1024 .bf16) := by
  unfold V weights
  after_results <;> rfl

theorem row_at (i : Fin 8192) (k : Fin 512) : (V m c main_v0 : FVec Ideal S8192x512 .bf16) (ix2 i k) = rows m c (ix2 i k) := by
  rw [V_rows]
  generalize rows m c = A
  pointwise

theorem factor_at (k : Fin 512) (j : Fin 1024) : (V m c main_v1 : FVec Ideal S512x1024 .bf16) (ix2 k j) = factor (weights m c) k j := by
  rw [V_factor]
  generalize weights m c = W
  pointwise
  rfl

/-- A block of the product. -/
theorem block_at (A : Vec Ideal S1024x512 .bf16) (B : Vec Ideal S512x1024 .bf16) (i : Fin 1024) (j : Fin 1024) :
    (out0_2 A B : FVec Ideal S1024x1024 .f32) (ix2 i j) = ∑ k : Fin 512, A (ix2 i k) * B (ix2 k j) := by
  have z2 : (![0, 0] : Fin 2 → Nat) = fun _ => 0 := funext fun a => by fin_cases a <;> rfl
  unfold out0_2
  rw [View.canon_unit_zero (S := S1024x1024) z2]
  simp only [View.ld_unit_zero (S := S1024x512) z2, View.ld_unit_zero (S := S512x1024) z2]
  pointwise [k0_pay1]

theorem idx : ∀ t : Fin cfg0.N, win0_0.index t = ![t.val % 8, 0] ∧ win0_1.index t = ![0, t.val / 8] ∧ win0_2.index t = ![t.val % 8, t.val / 8] :=
  (by decide +kernel : ∀ t : Fin grid0.N, _)

theorem at_lt (t : Fin cfg0.N) (j : Fin 1024) : t.val / 8 * 1024 + j.val < 1024 := by
  have : t.val < 8 := t.isLt
  omega

theorem rows_in (t : Fin cfg0.N) (i : Fin 1024) (k : Fin 512) : (iblk m c 0 t : FVec Ideal S1024x512 .bf16) (ix2 i k)
    = rows m c (ix2 (⟨t.val % 8 * 1024 + i.val, by omega⟩ : Fin 8192) k) := by
  have z : (((cfg0.win 0).blk t).view.emb (ix2 i k) : S8192x512.Idx) = (ix2 (⟨t.val % 8 * 1024 + i.val, by omega⟩ : Fin 8192) k : S8192x512.Idx) := by
    blk_ext [idx t]
  refine Eq.trans ?_ (row_at m c _ k)
  unfold iblk
  generalize V m c = A
  rw [View.read_apply, cast_eq]
  exact congrArg (A main_v0) z

theorem factor_in (t : Fin cfg0.N) (k : Fin 512) (j : Fin 1024) : (iblk m c 1 t : FVec Ideal S512x1024 .bf16) (ix2 k j)
    = factor (weights m c) k ⟨t.val / 8 * 1024 + j.val, at_lt t j⟩ := by
  have z : (((cfg0.win 1).blk t).view.emb (ix2 k j) : S512x1024.Idx) = (ix2 k (⟨t.val / 8 * 1024 + j.val, at_lt t j⟩ : Fin 1024) : S512x1024.Idx) := by
    blk_ext [idx t]
  refine Eq.trans ?_ (factor_at m c k _)
  unfold iblk
  generalize V m c = A
  rw [View.read_apply, cast_eq]
  exact congrArg (A main_v1) z

variable (R : FVec Ideal S8192x1024 .f32)
  (hR : ∀ i j, R (ix2 i j) = ∑ k : Fin 512, rows m c (ix2 i k) * factor (weights m c) k j)
include hR

/-- The kernel's result array. -/
theorem final : (dats m 0 c).arrAt 2 cfg0.N = R := by
  refine (dats m 0 c).arrAt_eq_of_covers 2 R (by decide +kernel) fun t _ y => ?_
  have hlt : t.val < 8 := t.isLt
  rw [cast_eq, after0_2]
  obtain ⟨i, j, hy⟩ : ∃ (i : Fin 1024) (j : Fin 1024), (y : S1024x1024.Idx) = ix2 i j := by
    refine ⟨y 0, y 1, ?_⟩
    funext a
    fin_cases a <;> rfl
  have hz : (((cfg0.win 2).blk t).view.emb (ix2 i j : S1024x1024.Idx) : S8192x1024.Idx)
      = ix2 (⟨t.val % 8 * 1024 + i.val, by omega⟩ : Fin 8192) (⟨t.val / 8 * 1024 + j.val, at_lt t j⟩ : Fin 1024) := by
    blk_ext [idx t]
  subst hy
  refine (?_ : _ = R _).trans (congrArg R hz.symm)
  rw [hR]
  refine (block_at (iblk m c 0 t) (iblk m c 1 t) i j).trans ?_
  refine Finset.sum_congr rfl fun k _ => ?_
  rw [rows_in, factor_in]
end

section
open Cert.Reference17Ideal Cert.Reference17Ideal.Gen

/-- The reference's result, as a function of its arguments. -/
def res (A : FVec Ideal S8192x512 .f32) (W : FVec Ideal S512x1024 .f32) : FVec Ideal S8192x1024 .f32 := Host.dotGeneral dot_S8192x512_S512x1024_S8192x1024_1_0_0_1_n_n none A W

theorem res_at (A : FVec Ideal S8192x512 .f32) (W : FVec Ideal S512x1024 .f32) (i : Fin 8192) (j : Fin 1024) :
    res A W (ix2 i j) = ∑ k : Fin 512, A (ix2 i k) * factor W k j := by
  pointwise [res, factor]
end

theorem frame [Cert.Kernel17.Facts] : Cert.quiescent_Kernel17 := fun m ρ _ => Cert.Kernel17.Gen.frame (F := Bits) m ρ

theorem ideal_frame [Cert.Kernel17Ideal.Facts] : Cert.quiescent_Kernel17Ideal := fun m ρ _ => Cert.Kernel17Ideal.Gen.frame (F := Ideal) m ρ

theorem reference_frame [Cert.Reference17Ideal.Facts] : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

theorem algebraic [Cert.Kernel17Ideal.Facts] [Cert.Reference17Ideal.Facts] : Cert.algebraic_Kernel17Ideal_Reference17Ideal := by
  intro m g m' g' _ hargs
  refine ⟨fun c => res (rows m c) (weights m c), ?_, ?_⟩
  · refine (θ_run Cert.Kernel17Ideal.defs _ _).mono ?_ (Cert.Kernel17Ideal.Value.run_blocks (F := Ideal) m g)
    intro r h c
    exact ⟨(h c).1.trans (final m c _ (res_at _ _)), (h c).2⟩
  · refine (θ_run Cert.Reference17Ideal.defs _ _).mono ?_ (Cert.Reference17Ideal.Value.run (F := Ideal) m' g')
    intro r h c
    refine ⟨(h c).1.trans ?_, (h c).2⟩
    rw [(hargs c).1, (hargs c).2]
    rfl

end Cert.MixerOut

end
-- ==== Proof.DMixer.lean ====
/- The gradient through a mixer's output projection: the kernel's ideal reading leaves what the reference leaves. -/
module

public import proofs.«01_k».proof.Defs
public import proofs.«01_k».proof.Proof.Gen.Kernel18.Frame
public import proofs.«01_k».proof.Proof.Gen.Kernel18Ideal.Value
public import proofs.«01_k».proof.Proof.Gen.Reference18Ideal.Run
public import proofs.«01_k».proof.Proof.Pad
public import Idealize.ShloMosaic.Lib.Pipeline.ValueKit
public import Idealize.ShloMosaic.Adequacy

@[expose] public section

set_option maxRecDepth 16384

noncomputable section

namespace Cert.DMixer

open Idealize.ShloMosaic Idealize.ShloMosaic.TcCoe Idealize.SL.Sem

section
open Cert.Kernel18Ideal Cert.Kernel18Ideal.Gen
variable (m : (ℓ : Loc nD τ sig) → Buf (Elt Ideal) ℓ) (c : Dev nD)

/-- The gradient and the weights as launched. -/
def rows : FVec Ideal S8192x1024 .f32 := m ((c.tc : Thread nD τ).loc main_arg0)
def weights : FVec Ideal S512x1024 .f32 := m ((c.tc : Thread nD τ).loc main_arg1)

/-- The weights turned over. -/
def factor (W : FVec Ideal S512x1024 .f32) (k : Fin 1024) (j : Fin 512) : EReal := W (ix2 j k)

theorem V_rows : (V m c main_v0 : FVec Ideal S8192x1024 .bf16) = truncf .bf16 (rows m c) bitsLt_bf16_f32 := by
  unfold V rows
  after_results <;> rfl

theorem V_factor : (V m c main_v2 : FVec Ideal S1024x512 .bf16) = transpose S1024x512 [1, 0] (truncf .bf16 (weights m c) bitsLt_bf16_f32 : FVec Ideal S512x1024 .bf16) transposes_S512x1024_S1024x512_1_0 := by
  unfold V weights
  after_results <;> rfl

theorem row_at (i : Fin 8192) (k : Fin 1024) : (V m c main_v0 : FVec Ideal S8192x1024 .bf16) (ix2 i k) = rows m c (ix2 i k) := by
  rw [V_rows]
  generalize rows m c = A
  pointwise

theorem factor_at (k : Fin 1024) (j : Fin 512) : (V m c main_v2 : FVec Ideal S1024x512 .bf16) (ix2 k j) = factor (weights m c) k j := by
  rw [V_factor]
  generalize weights m c = W
  pointwise
  rfl

/-- A block of the product. -/
theorem block_at (A : Vec Ideal S1024x1024 .bf16) (B : Vec Ideal S1024x512 .bf16) (i : Fin 1024) (j : Fin 512) :
    (out0_2 A B : FVec Ideal S1024x512 .f32) (ix2 i j) = ∑ k : Fin 1024, A (ix2 i k) * B (ix2 k j) := by
  have z2 : (![0, 0] : Fin 2 → Nat) = fun _ => 0 := funext fun a => by fin_cases a <;> rfl
  unfold out0_2
  rw [View.canon_unit_zero (S := S1024x512) z2]
  simp only [View.ld_unit_zero (S := S1024x1024) z2, View.ld_unit_zero (S := S1024x512) z2]
  pointwise [k0_pay1]

theorem idx : ∀ t : Fin cfg0.N, win0_0.index t = ![t.val % 8, 0] ∧ win0_1.index t = ![0, t.val / 8] ∧ win0_2.index t = ![t.val % 8, t.val / 8] :=
  (by decide +kernel : ∀ t : Fin grid0.N, _)

theorem at_lt (t : Fin cfg0.N) (j : Fin 512) : t.val / 8 * 512 + j.val < 512 := by
  have : t.val < 8 := t.isLt
  omega

theorem rows_in (t : Fin cfg0.N) (i : Fin 1024) (k : Fin 1024) : (iblk m c 0 t : FVec Ideal S1024x1024 .bf16) (ix2 i k)
    = rows m c (ix2 (⟨t.val % 8 * 1024 + i.val, by omega⟩ : Fin 8192) k) := by
  have z : (((cfg0.win 0).blk t).view.emb (ix2 i k) : S8192x1024.Idx) = (ix2 (⟨t.val % 8 * 1024 + i.val, by omega⟩ : Fin 8192) k : S8192x1024.Idx) := by
    blk_ext [idx t]
  refine Eq.trans ?_ (row_at m c _ k)
  unfold iblk
  generalize V m c = A
  rw [View.read_apply, cast_eq]
  exact congrArg (A main_v0) z

theorem factor_in (t : Fin cfg0.N) (k : Fin 1024) (j : Fin 512) : (iblk m c 1 t : FVec Ideal S1024x512 .bf16) (ix2 k j)
    = factor (weights m c) k ⟨t.val / 8 * 512 + j.val, at_lt t j⟩ := by
  have z : (((cfg0.win 1).blk t).view.emb (ix2 k j) : S1024x512.Idx) = (ix2 k (⟨t.val / 8 * 512 + j.val, at_lt t j⟩ : Fin 512) : S1024x512.Idx) := by
    blk_ext [idx t]
  refine Eq.trans ?_ (factor_at m c k _)
  unfold iblk
  generalize V m c = A
  rw [View.read_apply, cast_eq]
  exact congrArg (A main_v2) z

variable (R : FVec Ideal S8192x512 .f32)
  (hR : ∀ i j, R (ix2 i j) = ∑ k : Fin 1024, rows m c (ix2 i k) * factor (weights m c) k j)
include hR

/-- The kernel's result array. -/
theorem final : (dats m 0 c).arrAt 2 cfg0.N = R := by
  refine (dats m 0 c).arrAt_eq_of_covers 2 R (by decide +kernel) fun t _ y => ?_
  have hlt : t.val < 8 := t.isLt
  rw [cast_eq, after0_2]
  obtain ⟨i, j, hy⟩ : ∃ (i : Fin 1024) (j : Fin 512), (y : S1024x512.Idx) = ix2 i j := by
    refine ⟨y 0, y 1, ?_⟩
    funext a
    fin_cases a <;> rfl
  have hz : (((cfg0.win 2).blk t).view.emb (ix2 i j : S1024x512.Idx) : S8192x512.Idx)
      = ix2 (⟨t.val % 8 * 1024 + i.val, by omega⟩ : Fin 8192) (⟨t.val / 8 * 512 + j.val, at_lt t j⟩ : Fin 512) := by
    blk_ext [idx t]
  subst hy
  refine (?_ : _ = R _).trans (congrArg R hz.symm)
  rw [hR]
  refine (block_at (iblk m c 0 t) (iblk m c 1 t) i j).trans ?_
  refine Finset.sum_congr rfl fun k _ => ?_
  rw [rows_in, factor_in]
end

section
open Cert.Reference18Ideal Cert.Reference18Ideal.Gen

/-- The reference's result, as a function of its arguments. -/
def res (A : FVec Ideal S8192x1024 .f32) (W : FVec Ideal S512x1024 .f32) : FVec Ideal S8192x512 .f32 := Host.dotGeneral dot_S8192x1024_S512x1024_S8192x512_1_1_0_0_n_n none A W

theorem res_at (A : FVec Ideal S8192x1024 .f32) (W : FVec Ideal S512x1024 .f32) (i : Fin 8192) (j : Fin 512) :
    res A W (ix2 i j) = ∑ k : Fin 1024, A (ix2 i k) * factor W k j := by
  pointwise [res, factor]
end

theorem frame [Cert.Kernel18.Facts] : Cert.quiescent_Kernel18 := fun m ρ _ => Cert.Kernel18.Gen.frame (F := Bits) m ρ

theorem ideal_frame [Cert.Kernel18Ideal.Facts] : Cert.quiescent_Kernel18Ideal := fun m ρ _ => Cert.Kernel18Ideal.Gen.frame (F := Ideal) m ρ

theorem reference_frame [Cert.Reference18Ideal.Facts] : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

theorem algebraic [Cert.Kernel18Ideal.Facts] [Cert.Reference18Ideal.Facts] : Cert.algebraic_Kernel18Ideal_Reference18Ideal := by
  intro m g m' g' _ hargs
  refine ⟨fun c => res (rows m c) (weights m c), ?_, ?_⟩
  · refine (θ_run Cert.Kernel18Ideal.defs _ _).mono ?_ (Cert.Kernel18Ideal.Value.run_blocks (F := Ideal) m g)
    intro r h c
    exact ⟨(h c).1.trans (final m c _ (res_at _ _)), (h c).2⟩
  · refine (θ_run Cert.Reference18Ideal.defs _ _).mono ?_ (Cert.Reference18Ideal.Value.run (F := Ideal) m' g')
    intro r h c
    refine ⟨(h c).1.trans ?_, (h c).2⟩
    rw [(hargs c).1, (hargs c).2]
    rfl

end Cert.DMixer

end
-- ==== Proof.DInQkv.lean ====
/- The gradient through the input projection's columns of the attention's queries, keys and values:
   the kernel's ideal reading leaves what the reference leaves. -/
module

public import proofs.«01_k».proof.Defs
public import proofs.«01_k».proof.Proof.Gen.Kernel19.Frame
public import proofs.«01_k».proof.Proof.Gen.Kernel19Ideal.Value
public import proofs.«01_k».proof.Proof.Gen.Reference19Ideal.Run
public import proofs.«01_k».proof.Proof.Pad
public import Idealize.ShloMosaic.Lib.Pipeline.ValueKit
public import Idealize.ShloMosaic.Adequacy

@[expose] public section

set_option maxRecDepth 16384

noncomputable section

namespace Cert.DInQkv

open Idealize.ShloMosaic Idealize.ShloMosaic.TcCoe Idealize.SL.Sem

section
open Cert.Kernel19Ideal Cert.Kernel19Ideal.Gen
variable (m : (ℓ : Loc nD τ sig) → Buf (Elt Ideal) ℓ) (c : Dev nD)

/-- The gradient and the weights as launched. -/
def rows : FVec Ideal S8192x1024 .f32 := m ((c.tc : Thread nD τ).loc main_arg0)
def weights : FVec Ideal S1024x5408 .f32 := m ((c.tc : Thread nD τ).loc main_arg1)

/-- The weights' columns turned over. -/
def factor (W : FVec Ideal S1024x5408 .f32) (k : Fin 1024) (j : Fin 1024) : EReal := W (ix2 j (⟨k.val, by omega⟩ : Fin 5408))

theorem V_rows : (V m c main_v9 : FVec Ideal S8192x1024 .bf16) = truncf .bf16 (rows m c) bitsLt_bf16_f32 := by
  unfold V rows
  after_results <;> rfl

theorem V_factor : (V m c main_v10 : FVec Ideal S1024x1024 .bf16) = extractStridedSlice S1024x1024 ![0, 0] (transpose S5632x1024 [1, 0] (concatenate S1024x5632 1
    [⟨S1024x1536, extractStridedSlice S1024x1536 ![0, 0] (truncf .bf16 (weights m c) bitsLt_bf16_f32 : FVec Ideal S1024x5408 .bf16) slices_S1024x5408_S1024x1536_0_0⟩,
     ⟨S1024x1536, extractStridedSlice S1024x1536 ![0, 1568] (truncf .bf16 (weights m c) bitsLt_bf16_f32 : FVec Ideal S1024x5408 .bf16) slices_S1024x5408_S1024x1536_0_1568⟩,
     ⟨S1024x2048, extractStridedSlice S1024x2048 ![0, 3360] (truncf .bf16 (weights m c) bitsLt_bf16_f32 : FVec Ideal S1024x5408 .bf16) slices_S1024x5408_S1024x2048_0_3360⟩,
     ⟨S1024x256, extractStridedSlice S1024x256 ![0, 3104] (truncf .bf16 (weights m c) bitsLt_bf16_f32 : FVec Ideal S1024x5408 .bf16) slices_S1024x5408_S1024x256_0_3104⟩,
     ⟨S1024x32, extractStridedSlice S1024x32 ![0, 1536] (truncf .bf16 (weights m c) bitsLt_bf16_f32 : FVec Ideal S1024x5408 .bf16) slices_S1024x5408_S1024x32_0_1536⟩,
     ⟨S1024x224, (broadcastInDim S1024x224 ![] bcast_S_S1024x224 (constant S_ .bf16 0x0000#16 : FVec Ideal S_ .bf16) : FVec Ideal S1024x224 .bf16)⟩]
    concatenates_S1024x1536_S1024x1536_S1024x2048_S1024x256_S1024x32_S1024x224_S1024x5632_d1 : FVec Ideal S1024x5632 .bf16) transposes_S1024x5632_S5632x1024_1_0 : FVec Ideal S5632x1024 .bf16) slices_S5632x1024_S1024x1024_0_0 := by
  unfold V weights
  after_results <;> rfl

theorem row_at (i : Fin 8192) (k : Fin 1024) : (V m c main_v9 : FVec Ideal S8192x1024 .bf16) (ix2 i k) = rows m c (ix2 i k) := by
  rw [V_rows]
  generalize rows m c = A
  pointwise

theorem factor_at (k : Fin 1024) (j : Fin 1024) : (V m c main_v10 : FVec Ideal S1024x1024 .bf16) (ix2 k j) = factor (weights m c) k j := by
  rw [V_factor]
  generalize weights m c = W
  pointwise
  unfold factor
  repeat' split
  all_goals first | omega | exact congrArg (fun l => W (ix2 j l)) (Fin.mk_eq_mk.mpr (by omega)) | rfl

/-- A block of the product. -/
theorem block_at (A : Vec Ideal S1024x1024 .bf16) (B : Vec Ideal S1024x1024 .bf16) (i : Fin 1024) (j : Fin 1024) :
    (out0_2 A B : FVec Ideal S1024x1024 .f32) (ix2 i j) = ∑ k : Fin 1024, A (ix2 i k) * B (ix2 k j) := by
  have z2 : (![0, 0] : Fin 2 → Nat) = fun _ => 0 := funext fun a => by fin_cases a <;> rfl
  unfold out0_2
  rw [View.canon_unit_zero (S := S1024x1024) z2]
  simp only [View.ld_unit_zero (S := S1024x1024) z2, View.ld_unit_zero (S := S1024x1024) z2]
  pointwise [k0_pay1]

theorem idx : ∀ t : Fin cfg0.N, win0_0.index t = ![t.val % 8, 0] ∧ win0_1.index t = ![0, t.val / 8] ∧ win0_2.index t = ![t.val % 8, t.val / 8] :=
  (by decide +kernel : ∀ t : Fin grid0.N, _)

theorem at_lt (t : Fin cfg0.N) (j : Fin 1024) : t.val / 8 * 1024 + j.val < 1024 := by
  have : t.val < 8 := t.isLt
  omega

theorem rows_in (t : Fin cfg0.N) (i : Fin 1024) (k : Fin 1024) : (iblk m c 0 t : FVec Ideal S1024x1024 .bf16) (ix2 i k)
    = rows m c (ix2 (⟨t.val % 8 * 1024 + i.val, by omega⟩ : Fin 8192) k) := by
  have z : (((cfg0.win 0).blk t).view.emb (ix2 i k) : S8192x1024.Idx) = (ix2 (⟨t.val % 8 * 1024 + i.val, by omega⟩ : Fin 8192) k : S8192x1024.Idx) := by
    blk_ext [idx t]
  refine Eq.trans ?_ (row_at m c _ k)
  unfold iblk
  generalize V m c = A
  rw [View.read_apply, cast_eq]
  exact congrArg (A main_v9) z

theorem factor_in (t : Fin cfg0.N) (k : Fin 1024) (j : Fin 1024) : (iblk m c 1 t : FVec Ideal S1024x1024 .bf16) (ix2 k j)
    = factor (weights m c) k ⟨t.val / 8 * 1024 + j.val, at_lt t j⟩ := by
  have z : (((cfg0.win 1).blk t).view.emb (ix2 k j) : S1024x1024.Idx) = (ix2 k (⟨t.val / 8 * 1024 + j.val, at_lt t j⟩ : Fin 1024) : S1024x1024.Idx) := by
    blk_ext [idx t]
  refine Eq.trans ?_ (factor_at m c k _)
  unfold iblk
  generalize V m c = A
  rw [View.read_apply, cast_eq]
  exact congrArg (A main_v10) z

variable (R : FVec Ideal S8192x1024 .f32)
  (hR : ∀ i j, R (ix2 i j) = ∑ k : Fin 1024, rows m c (ix2 i k) * factor (weights m c) k j)
include hR

/-- The kernel's result array. -/
theorem final : (dats m 0 c).arrAt 2 cfg0.N = R := by
  refine (dats m 0 c).arrAt_eq_of_covers 2 R (by decide +kernel) fun t _ y => ?_
  have hlt : t.val < 8 := t.isLt
  rw [cast_eq, after0_2]
  obtain ⟨i, j, hy⟩ : ∃ (i : Fin 1024) (j : Fin 1024), (y : S1024x1024.Idx) = ix2 i j := by
    refine ⟨y 0, y 1, ?_⟩
    funext a
    fin_cases a <;> rfl
  have hz : (((cfg0.win 2).blk t).view.emb (ix2 i j : S1024x1024.Idx) : S8192x1024.Idx)
      = ix2 (⟨t.val % 8 * 1024 + i.val, by omega⟩ : Fin 8192) (⟨t.val / 8 * 1024 + j.val, at_lt t j⟩ : Fin 1024) := by
    blk_ext [idx t]
  subst hy
  refine (?_ : _ = R _).trans (congrArg R hz.symm)
  rw [hR]
  refine (block_at (iblk m c 0 t) (iblk m c 1 t) i j).trans ?_
  refine Finset.sum_congr rfl fun k _ => ?_
  rw [rows_in, factor_in]
end

section
open Cert.Reference19Ideal Cert.Reference19Ideal.Gen

/-- The reference's result, as a function of its arguments. -/
def res (A : FVec Ideal S8192x1024 .f32) (W : FVec Ideal S1024x5408 .f32) : FVec Ideal S8192x1024 .f32 := Host.dotGeneral dot_S8192x1024_S1024x1024_S8192x1024_1_1_0_0_n_n none A (extractStridedSlice S1024x1024 ![0, 0] W slices_S1024x5408_S1024x1024_0_0 : FVec Ideal S1024x1024 .f32)

theorem res_at (A : FVec Ideal S8192x1024 .f32) (W : FVec Ideal S1024x5408 .f32) (i : Fin 8192) (j : Fin 1024) :
    res A W (ix2 i j) = ∑ k : Fin 1024, A (ix2 i k) * factor W k j := by
  pointwise [res, factor]
end

theorem frame [Cert.Kernel19.Facts] : Cert.quiescent_Kernel19 := fun m ρ _ => Cert.Kernel19.Gen.frame (F := Bits) m ρ

theorem ideal_frame [Cert.Kernel19Ideal.Facts] : Cert.quiescent_Kernel19Ideal := fun m ρ _ => Cert.Kernel19Ideal.Gen.frame (F := Ideal) m ρ

theorem reference_frame [Cert.Reference19Ideal.Facts] : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)

theorem algebraic [Cert.Kernel19Ideal.Facts] [Cert.Reference19Ideal.Facts] : Cert.algebraic_Kernel19Ideal_Reference19Ideal := by
  intro m g m' g' _ hargs
  refine ⟨fun c => res (rows m c) (weights m c), ?_, ?_⟩
  · refine (θ_run Cert.Kernel19Ideal.defs _ _).mono ?_ (Cert.Kernel19Ideal.Value.run_blocks (F := Ideal) m g)
    intro r h c
    exact ⟨(h c).1.trans (final m c _ (res_at _ _)), (h c).2⟩
  · refine (θ_run Cert.Reference19Ideal.defs _ _).mono ?_ (Cert.Reference19Ideal.Value.run (F := Ideal) m' g')
    intro r h c
    refine ⟨(h c).1.trans ?_, (h c).2⟩
    rw [(hargs c).1, (hargs c).2]
    rfl

end Cert.DInQkv

end
-- ==== Proof.DInOg.lean ====
/- The gradient through the input projection's columns of the attention's output gate, added to what the columns before gave:
   the kernel's ideal reading leaves what the reference leaves. -/
module

public import proofs.«01_k».proof.Defs
public import proofs.«01_k».proof.Proof.Gen.Kernel20.Frame
public import proofs.«01_k».proof.Proof.Gen.Kernel20Ideal.Value
public import proofs.«01_k».proof.Proof.Gen.Reference20Ideal.Run
public import proofs.«01_k».proof.Proof.Pad
public import Idealize.ShloMosaic.Lib.Pipeline.ValueKit
public import Idealize.ShloMosaic.Adequacy

@[expose] public section

set_option maxRecDepth 16384

noncomputable section

namespace Cert.DInOg

open Idealize.ShloMosaic Idealize.ShloMosaic.TcCoe Idealize.SL.Sem

section
open Cert.Kernel20Ideal Cert.Kernel20Ideal.Gen
variable (m : (ℓ : Loc nD τ sig) → Buf (Elt Ideal) ℓ) (c : Dev nD)

/-- The gradient, the weights and what the product is added to as launched. -/
def rows : FVec Ideal S8192x512 .f32 := m ((c.tc : Thread nD τ).loc main_arg0)
def weights : FVec Ideal S1024x5408 .f32 := m ((c.tc : Thread nD τ).loc main_arg1)
def carried : FVec Ideal S8192x1024 .f32 := m ((c.tc : Thread nD τ).loc main_arg2)

/-- The weights' columns turned over. -/
def factor (W : FVec Ideal S1024x5408 .f32) (k : Fin 512) (j : Fin 1024) : EReal := W (ix2 j (⟨1024 + k.val, by omega⟩ : Fin 5408))

theorem V_rows : (V m c main_v9 : FVec Ideal S8192x512 .bf16) = truncf .bf16 (rows m c) bitsLt_bf16_f32 := by
  unfold V rows
  after_results <;> rfl

theorem V_factor : (V m c main_v10 : FVec Ideal S512x1024 .bf16) = extractStridedSlice S512x1024 ![1024, 0] (transpose S5632x1024 [1, 0] (concatenate S1024x5632 1
    [⟨S1024x1536, extractStridedSlice S1024x1536 ![0, 0] (truncf .bf16 (weights m c) bitsLt_bf16_f32 : FVec Ideal S1024x5408 .bf16) slices_S1024x5408_S1024x1536_0_0⟩,
     ⟨S1024x1536, extractStridedSlice S1024x1536 ![0, 1568] (truncf .bf16 (weights m c) bitsLt_bf16_f32 : FVec Ideal S1024x5408 .bf16) slices_S1024x5408_S1024x1536_0_1568⟩,
     ⟨S1024x2048, extractStridedSlice S1024x2048 ![0, 3360] (truncf .bf16 (weights m c) bitsLt_bf16_f32 : FVec Ideal S1024x5408 .bf16) slices_S1024x5408_S1024x2048_0_3360⟩,
     ⟨S1024x256, extractStridedSlice S1024x256 ![0, 3104] (truncf .bf16 (weights m c) bitsLt_bf16_f32 : FVec Ideal S1024x5408 .bf16) slices_S1024x5408_S1024x256_0_3104⟩,
     ⟨S1024x32, extractStridedSlice S1024x32 ![0, 1536] (truncf .bf16 (weights m c) bitsLt_bf16_f32 : FVec Ideal S1024x5408 .bf16) slices_S1024x5408_S1024x32_0_1536⟩,
     ⟨S1024x224, (broadcastInDim S1024x224 ![] bcast_S_S1024x224 (constant S_ .bf16 0x0000#16 : FVec Ideal S_ .bf16) : FVec Ideal S1024x224 .bf16)⟩]
    concatenates_S1024x1536_S1024x1536_S1024x2048_S1024x256_S1024x32_S1024x224_S1024x5632_d1 : FVec Ideal S1024x5632 .bf16) transposes_S1024x5632_S5632x1024_1_0 : FVec Ideal S5632x1024 .bf16) slices_S5632x1024_S512x1024_1024_0 := by
  unfold V weights
  after_results <;> rfl

theorem row_at (i : Fin 8192) (k : Fin 512) : (V m c main_v9 : FVec Ideal S8192x512 .bf16) (ix2 i k) = rows m c (ix2 i k) := by
  rw [V_rows]
  generalize rows m c = A
  pointwise

theorem factor_at (k : Fin 512) (j : Fin 1024) : (V m c main_v10 : FVec Ideal S512x1024 .bf16) (ix2 k j) = factor (weights m c) k j := by
  rw [V_factor]
  generalize weights m c = W
  pointwise
  unfold factor
  repeat' split
  all_goals first | omega | exact congrArg (fun l => W (ix2 j l)) (Fin.mk_eq_mk.mpr (by omega)) | rfl

/-- A block of the product. -/
theorem block_at (A : Vec Ideal S1024x512 .bf16) (B : Vec Ideal S512x1024 .bf16) (X : Vec Ideal S1024x1024 .f32) (i : Fin 1024) (j : Fin 1024) :
    (out0_3 A B X : FVec Ideal S1024x1024 .f32) (ix2 i j) = (∑ k : Fin 512, A (ix2 i k) * B (ix2 k j)) + X (ix2 i j) := by
  have z2 : (![0, 0] : Fin 2 → Nat) = fun _ => 0 := funext fun a => by fin_cases a <;> rfl
  unfold out0_3
  rw [View.canon_unit_zero (S := S1024x1024) z2]
  simp only [View.ld_unit_zero (S := S1024x512) z2, View.ld_unit_zero (S := S512x1024) z2, View.ld_unit_zero (S := S1024x1024) z2]
  pointwise [k0_pay1]

theorem idx : ∀ t : Fin cfg0.N, win0_0.index t = ![t.val % 8, 0] ∧ win0_1.index t = ![0, t.val / 8] ∧ win0_2.index t = ![t.val % 8, t.val / 8] ∧ win0_3.index t = ![t.val % 8, t.val / 8] :=
  (by decide +kernel : ∀ t : Fin grid0.N, _)

theorem at_lt (t : Fin cfg0.N) (j : Fin 1024) : t.val / 8 * 1024 + j.val < 1024 := by
  have : t.val < 8 := t.isLt
  omega

theorem rows_in (t : Fin cfg0.N) (i : Fin 1024) (k : Fin 512) : (iblk m c 0 t : FVec Ideal S1024x512 .bf16) (ix2 i k)
    = rows m c (ix2 (⟨t.val % 8 * 1024 + i.val, by omega⟩ : Fin 8192) k) := by
  have z : (((cfg0.win 0).blk t).view.emb (ix2 i k) : S8192x512.Idx) = (ix2 (⟨t.val % 8 * 1024 + i.val, by omega⟩ : Fin 8192) k : S8192x512.Idx) := by
    blk_ext [idx t]
  refine Eq.trans ?_ (row_at m c _ k)
  unfold iblk
  generalize V m c = A
  rw [View.read_apply, cast_eq]
  exact congrArg (A main_v9) z

theorem factor_in (t : Fin cfg0.N) (k : Fin 512) (j : Fin 1024) : (iblk m c 1 t : FVec Ideal S512x1024 .bf16) (ix2 k j)
    = factor (weights m c) k ⟨t.val / 8 * 1024 + j.val, at_lt t j⟩ := by
  have z : (((cfg0.win 1).blk t).view.emb (ix2 k j) : S512x1024.Idx) = (ix2 k (⟨t.val / 8 * 1024 + j.val, at_lt t j⟩ : Fin 1024) : S512x1024.Idx) := by
    blk_ext [idx t]
  refine Eq.trans ?_ (factor_at m c k _)
  unfold iblk
  generalize V m c = A
  rw [View.read_apply, cast_eq]
  exact congrArg (A main_v10) z

theorem carried_in (t : Fin cfg0.N) (i : Fin 1024) (j : Fin 1024) : (iblk m c 2 t : FVec Ideal S1024x1024 .f32) (ix2 i j)
    = carried m c (ix2 (⟨t.val % 8 * 1024 + i.val, by omega⟩ : Fin 8192) (⟨t.val / 8 * 1024 + j.val, at_lt t j⟩ : Fin 1024)) := by
  have z : (((cfg0.win 2).blk t).view.emb (ix2 i j) : S8192x1024.Idx)
      = (ix2 (⟨t.val % 8 * 1024 + i.val, by omega⟩ : Fin 8192) (⟨t.val / 8 * 1024 + j.val, at_lt t j⟩ : Fin 1024) : S8192x1024.Idx) := by
    blk_ext [idx t]
  refine Eq.trans ?_ (congrFun (V_main_arg2 m c) _)
  unfold iblk
  generalize V m c = A
  rw [View.read_apply, cast_eq]
  exact congrArg (A main_arg2) z

variable (R : FVec Ideal S8192x1024 .f32)
  (hR : ∀ i j, R (ix2 i j) = (∑ k : Fin 512, rows m c (ix2 i k) * factor (weights m c) k j) + carried m c (ix2 i j))
include hR

/-- The kernel's result array. -/
theorem final : (dats m 0 c).arrAt 3 cfg0.N = R := by
  refine (dats m 0 c).arrAt_eq_of_covers 3 R (by decide +kernel) fun t _ y => ?_
  have hlt : t.val < 8 := t.isLt
  rw [cast_eq, after0_3]
  obtain ⟨i, j, hy⟩ : ∃ (i : Fin 1024) (j : Fin 1024), (y : S1024x1024.Idx) = ix2 i j := by
    refine ⟨y 0, y 1, ?_⟩
    funext a
    fin_cases a <;> rfl
  have hz : (((cfg0.win 3).blk t).view.emb (ix2 i j : S1024x1024.Idx) : S8192x1024.Idx)
      = ix2 (⟨t.val % 8 * 1024 + i.val, by omega⟩ : Fin 8192) (⟨t.val / 8 * 1024 + j.val, at_lt t j⟩ : Fin 1024) := by
    blk_ext [idx t]
  subst hy
  refine (?_ : _ = R _).trans (congrArg R hz.symm)
  rw [hR]
  refine (block_at (iblk m c 0 t) (iblk m c 1 t) (iblk m c 2 t) i j).trans ?_
  refine congrArg₂ (· + ·) (Finset.sum_congr rfl fun k _ => ?_) (carried_in m c t i j)
  rw [rows_in, factor_in]
end

section
open Cert.Reference20Ideal Cert.Reference20Ideal.Gen

/-- The reference's result, as a function of its arguments. -/
def res (A : FVec Ideal S8192x512 .f32) (W : FVec Ideal S1024x5408 .f32) (X : FVec Ideal S8192x1024 .f32) : FVec Ideal S8192x1024 .f32 := addf X (Host.dotGeneral dot_S8192x512_S1024x512_S8192x1024_1_1_0_0_n_n none A (extractStridedSlice S1024x512 ![0, 1024] W slices_S1024x5408_S1024x512_0_1024 : FVec Ideal S1024x512 .f32) : FVec Ideal S8192x1024 .f32)

theorem res_at (A : FVec Ideal S8192x512 .f32) (W : FVec Ideal S1024x5408 .f32) (X : FVec Ideal S8192x1024 .f32) (i : Fin 8192) (j : Fin 1024) :
    res A W X (ix2 i j) = (∑ k : Fin 512, A (ix2 i k) * factor W k j) + X (ix2 i j) := by
  refine Eq.trans ?_ (add_comm _ _)
  pointwise [res, factor]
end

theorem frame [Cert.Kernel20.Facts] : Cert.quiescent_Kernel20 := fun m ρ _ => Cert.Kernel20.Gen.frame (F := Bits) m ρ

theorem ideal_frame [Cert.Kernel20Ideal.Facts] : Cert.quiescent_Kernel20Ideal := fun m ρ _ => Cert.Kernel20Ideal.Gen.frame (F := Ideal) m ρ

theorem reference_frame [Cert.Reference20Ideal.Facts] : Cert.quiescent_Reference20Ideal := fun m ρ _ =>
  (θ_run Cert.Reference20Ideal.defs _ _).mono (fun r h => ⟨fun c => (h c).2, sem_eq_zero_of_no_sems (by decide) r.2⟩)
    (Cert.Reference20Ideal.Value.run (F := Ideal) m ρ)

theorem algebraic [Cert.Kernel20Ideal.Facts] [Cert.Reference20Ideal.Facts] : Cert.algebraic_Kernel20Ideal_Reference20Ideal := by
  intro m g m' g' _ hargs
  refine ⟨fun c => res (rows m c) (weights m c) (carried m c), ?_, ?_⟩
  · refine (θ_run Cert.Kernel20Ideal.defs _ _).mono ?_ (Cert.Kernel20Ideal.Value.run_blocks (F := Ideal) m g)
    intro r h c
    exact ⟨(h c).1.trans (final m c _ (res_at _ _ _)), (h c).2⟩
  · refine (θ_run Cert.Reference20Ideal.defs _ _).mono ?_ (Cert.Reference20Ideal.Value.run (F := Ideal) m' g')
    intro r h c
    refine ⟨(h c).1.trans ?_, (h c).2⟩
    rw [(hargs c).1, (hargs c).2.1, (hargs c).2.2]
    rfl

end Cert.DInOg

end
-- ==== Proof.DInRwkv.lean ====
/- The gradient through the input projection's columns of the recurrence, added to what the columns before gave:
   the kernel's ideal reading leaves what the reference leaves. -/
module

public import proofs.«01_k».proof.Defs
public import proofs.«01_k».proof.Proof.Gen.Kernel21.Frame
public import proofs.«01_k».proof.Proof.Gen.Kernel21Ideal.Value
public import proofs.«01_k».proof.Proof.Gen.Reference21Ideal.Run
public import proofs.«01_k».proof.Proof.Pad
public import Idealize.ShloMosaic.Lib.Pipeline.ValueKit
public import Idealize.ShloMosaic.Adequacy

@[expose] public section

set_option maxRecDepth 16384

noncomputable section

namespace Cert.DInRwkv

open Idealize.ShloMosaic Idealize.ShloMosaic.TcCoe Idealize.SL.Sem

section
open Cert.Kernel21Ideal Cert.Kernel21Ideal.Gen
variable (m : (ℓ : Loc nD τ sig) → Buf (Elt Ideal) ℓ) (c : Dev nD)

/-- The gradient, the weights and what the product is added to as launched. -/
def rows : FVec Ideal S8192x1792 .f32 := m ((c.tc : Thread nD τ).loc main_arg0)
def weights : FVec Ideal S1024x5408 .f32 := m ((c.tc : Thread nD τ).loc main_arg1)
def carried : FVec Ideal S8192x1024 .f32 := m ((c.tc : Thread nD τ).loc main_arg2)

/-- The weights' columns turned over. -/
def factor (W : FVec Ideal S1024x5408 .f32) (k : Fin 1792) (j : Fin 1024) : EReal := W (ix2 j (⟨1568 + k.val, by omega⟩ : Fin 5408))

theorem V_rows : (V m c main_v12 : FVec Ideal S8192x1792 .bf16) = truncf .bf16 (rows m c) bitsLt_bf16_f32 := by
  unfold V rows
  after_results <;> rfl

theorem V_factor : (V m c main_v11 : FVec Ideal S1792x1024 .bf16) = concatenate S1792x1024 0 [⟨S1536x1024, extractStridedSlice S1536x1024 ![1536, 0] (transpose S5632x1024 [1, 0] (concatenate S1024x5632 1
    [⟨S1024x1536, extractStridedSlice S1024x1536 ![0, 0] (truncf .bf16 (weights m c) bitsLt_bf16_f32 : FVec Ideal S1024x5408 .bf16) slices_S1024x5408_S1024x1536_0_0⟩,
     ⟨S1024x1536, extractStridedSlice S1024x1536 ![0, 1568] (truncf .bf16 (weights m c) bitsLt_bf16_f32 : FVec Ideal S1024x5408 .bf16) slices_S1024x5408_S1024x1536_0_1568⟩,
     ⟨S1024x2048, extractStridedSlice S1024x2048 ![0, 3360] (truncf .bf16 (weights m c) bitsLt_bf16_f32 : FVec Ideal S1024x5408 .bf16) slices_S1024x5408_S1024x2048_0_3360⟩,
     ⟨S1024x256, extractStridedSlice S1024x256 ![0, 3104] (truncf .bf16 (weights m c) bitsLt_bf16_f32 : FVec Ideal S1024x5408 .bf16) slices_S1024x5408_S1024x256_0_3104⟩,
     ⟨S1024x32, extractStridedSlice S1024x32 ![0, 1536] (truncf .bf16 (weights m c) bitsLt_bf16_f32 : FVec Ideal S1024x5408 .bf16) slices_S1024x5408_S1024x32_0_1536⟩,
     ⟨S1024x224, (broadcastInDim S1024x224 ![] bcast_S_S1024x224 (constant S_ .bf16 0x0000#16 : FVec Ideal S_ .bf16) : FVec Ideal S1024x224 .bf16)⟩]
    concatenates_S1024x1536_S1024x1536_S1024x2048_S1024x256_S1024x32_S1024x224_S1024x5632_d1 : FVec Ideal S1024x5632 .bf16) transposes_S1024x5632_S5632x1024_1_0 : FVec Ideal S5632x1024 .bf16) slices_S5632x1024_S1536x1024_1536_0⟩, ⟨S256x1024, extractStridedSlice S256x1024 ![5120, 0] (transpose S5632x1024 [1, 0] (concatenate S1024x5632 1
    [⟨S1024x1536, extractStridedSlice S1024x1536 ![0, 0] (truncf .bf16 (weights m c) bitsLt_bf16_f32 : FVec Ideal S1024x5408 .bf16) slices_S1024x5408_S1024x1536_0_0⟩,
     ⟨S1024x1536, extractStridedSlice S1024x1536 ![0, 1568] (truncf .bf16 (weights m c) bitsLt_bf16_f32 : FVec Ideal S1024x5408 .bf16) slices_S1024x5408_S1024x1536_0_1568⟩,
     ⟨S1024x2048, extractStridedSlice S1024x2048 ![0, 3360] (truncf .bf16 (weights m c) bitsLt_bf16_f32 : FVec Ideal S1024x5408 .bf16) slices_S1024x5408_S1024x2048_0_3360⟩,
     ⟨S1024x256, extractStridedSlice S1024x256 ![0, 3104] (truncf .bf16 (weights m c) bitsLt_bf16_f32 : FVec Ideal S1024x5408 .bf16) slices_S1024x5408_S1024x256_0_3104⟩,
     ⟨S1024x32, extractStridedSlice S1024x32 ![0, 1536] (truncf .bf16 (weights m c) bitsLt_bf16_f32 : FVec Ideal S1024x5408 .bf16) slices_S1024x5408_S1024x32_0_1536⟩,
     ⟨S1024x224, (broadcastInDim S1024x224 ![] bcast_S_S1024x224 (constant S_ .bf16 0x0000#16 : FVec Ideal S_ .bf16) : FVec Ideal S1024x224 .bf16)⟩]
    concatenates_S1024x1536_S1024x1536_S1024x2048_S1024x256_S1024x32_S1024x224_S1024x5632_d1 : FVec Ideal S1024x5632 .bf16) transposes_S1024x5632_S5632x1024_1_0 : FVec Ideal S5632x1024 .bf16) slices_S5632x1024_S256x1024_5120_0⟩] concatenates_S1536x1024_S256x1024_S1792x1024_d0 := by
  unfold V weights
  after_results <;> rfl

theorem row_at (i : Fin 8192) (k : Fin 1792) : (V m c main_v12 : FVec Ideal S8192x1792 .bf16) (ix2 i k) = rows m c (ix2 i k) := by
  rw [V_rows]
  generalize rows m c = A
  pointwise

theorem factor_at (k : Fin 1792) (j : Fin 1024) : (V m c main_v11 : FVec Ideal S1792x1024 .bf16) (ix2 k j) = factor (weights m c) k j := by
  rw [V_factor]
  generalize weights m c = W
  pointwise
  unfold factor
  repeat' split
  all_goals first | omega | exact congrArg (fun l => W (ix2 j l)) (Fin.mk_eq_mk.mpr (by omega)) | rfl

/-- A block of the product. -/
theorem block_at (A : Vec Ideal S1024x1792 .bf16) (B : Vec Ideal S1792x1024 .bf16) (X : Vec Ideal S1024x1024 .f32) (i : Fin 1024) (j : Fin 1024) :
    (out0_3 A B X : FVec Ideal S1024x1024 .f32) (ix2 i j) = (∑ k : Fin 1792, A (ix2 i k) * B (ix2 k j)) + X (ix2 i j) := by
  have z2 : (![0, 0] : Fin 2 → Nat) = fun _ => 0 := funext fun a => by fin_cases a <;> rfl
  unfold out0_3
  rw [View.canon_unit_zero (S := S1024x1024) z2]
  simp only [View.ld_unit_zero (S := S1024x1792) z2, View.ld_unit_zero (S := S1792x1024) z2, View.ld_unit_zero (S := S1024x1024) z2]
  pointwise [k0_pay1]

theorem idx : ∀ t : Fin cfg0.N, win0_0.index t = ![t.val % 8, 0] ∧ win0_1.index t = ![0, t.val / 8] ∧ win0_2.index t = ![t.val % 8, t.val / 8] ∧ win0_3.index t = ![t.val % 8, t.val / 8] :=
  (by decide +kernel : ∀ t : Fin grid0.N, _)

theorem at_lt (t : Fin cfg0.N) (j : Fin 1024) : t.val / 8 * 1024 + j.val < 1024 := by
  have : t.val < 8 := t.isLt
  omega

theorem rows_in (t : Fin cfg0.N) (i : Fin 1024) (k : Fin 1792) : (iblk m c 0 t : FVec Ideal S1024x1792 .bf16) (ix2 i k)
    = rows m c (ix2 (⟨t.val % 8 * 1024 + i.val, by omega⟩ : Fin 8192) k) := by
  have z : (((cfg0.win 0).blk t).view.emb (ix2 i k) : S8192x1792.Idx) = (ix2 (⟨t.val % 8 * 1024 + i.val, by omega⟩ : Fin 8192) k : S8192x1792.Idx) := by
    blk_ext [idx t]
  refine Eq.trans ?_ (row_at m c _ k)
  unfold iblk
  generalize V m c = A
  rw [View.read_apply, cast_eq]
  exact congrArg (A main_v12) z

theorem factor_in (t : Fin cfg0.N) (k : Fin 1792) (j : Fin 1024) : (iblk m c 1 t : FVec Ideal S1792x1024 .bf16) (ix2 k j)
    = factor (weights m c) k ⟨t.val / 8 * 1024 + j.val, at_lt t j⟩ := by
  have z : (((cfg0.win 1).blk t).view.emb (ix2 k j) : S1792x1024.Idx) = (ix2 k (⟨t.val / 8 * 1024 + j.val, at_lt t j⟩ : Fin 1024) : S1792x1024.Idx) := by
    blk_ext [idx t]
  refine Eq.trans ?_ (factor_at m c k _)
  unfold iblk
  generalize V m c = A
  rw [View.read_apply, cast_eq]
  exact congrArg (A main_v11) z

theorem carried_in (t : Fin cfg0.N) (i : Fin 1024) (j : Fin 1024) : (iblk m c 2 t : FVec Ideal S1024x1024 .f32) (ix2 i j)
    = carried m c (ix2 (⟨t.val % 8 * 1024 + i.val, by omega⟩ : Fin 8192) (⟨t.val / 8 * 1024 + j.val, at_lt t j⟩ : Fin 1024)) := by
  have z : (((cfg0.win 2).blk t).view.emb (ix2 i j) : S8192x1024.Idx)
      = (ix2 (⟨t.val % 8 * 1024 + i.val, by omega⟩ : Fin 8192) (⟨t.val / 8 * 1024 + j.val, at_lt t j⟩ : Fin 1024) : S8192x1024.Idx) := by
    blk_ext [idx t]
  refine Eq.trans ?_ (congrFun (V_main_arg2 m c) _)
  unfold iblk
  generalize V m c = A
  rw [View.read_apply, cast_eq]
  exact congrArg (A main_arg2) z

variable (R : FVec Ideal S8192x1024 .f32)
  (hR : ∀ i j, R (ix2 i j) = (∑ k : Fin 1792, rows m c (ix2 i k) * factor (weights m c) k j) + carried m c (ix2 i j))
include hR

/-- The kernel's result array. -/
theorem final : (dats m 0 c).arrAt 3 cfg0.N = R := by
  refine (dats m 0 c).arrAt_eq_of_covers 3 R (by decide +kernel) fun t _ y => ?_
  have hlt : t.val < 8 := t.isLt
  rw [cast_eq, after0_3]
  obtain ⟨i, j, hy⟩ : ∃ (i : Fin 1024) (j : Fin 1024), (y : S1024x1024.Idx) = ix2 i j := by
    refine ⟨y 0, y 1, ?_⟩
    funext a
    fin_cases a <;> rfl
  have hz : (((cfg0.win 3).blk t).view.emb (ix2 i j : S1024x1024.Idx) : S8192x1024.Idx)
      = ix2 (⟨t.val % 8 * 1024 + i.val, by omega⟩ : Fin 8192) (⟨t.val / 8 * 1024 + j.val, at_lt t j⟩ : Fin 1024) := by
    blk_ext [idx t]
  subst hy
  refine (?_ : _ = R _).trans (congrArg R hz.symm)
  rw [hR]
  refine (block_at (iblk m c 0 t) (iblk m c 1 t) (iblk m c 2 t) i j).trans ?_
  refine congrArg₂ (· + ·) (Finset.sum_congr rfl fun k _ => ?_) (carried_in m c t i j)
  rw [rows_in, factor_in]
end

section
open Cert.Reference21Ideal Cert.Reference21Ideal.Gen

/-- The reference's result, as a function of its arguments. -/
def res (A : FVec Ideal S8192x1792 .f32) (W : FVec Ideal S1024x5408 .f32) (X : FVec Ideal S8192x1024 .f32) : FVec Ideal S8192x1024 .f32 := addf X (Host.dotGeneral dot_S8192x1792_S1024x1792_S8192x1024_1_1_0_0_n_n none A (extractStridedSlice S1024x1792 ![0, 1568] W slices_S1024x5408_S1024x1792_0_1568 : FVec Ideal S1024x1792 .f32) : FVec Ideal S8192x1024 .f32)

theorem res_at (A : FVec Ideal S8192x1792 .f32) (W : FVec Ideal S1024x5408 .f32) (X : FVec Ideal S8192x1024 .f32) (i : Fin 8192) (j : Fin 1024) :
    res A W X (ix2 i j) = (∑ k : Fin 1792, A (ix2 i k) * factor W k j) + X (ix2 i j) := by
  refine Eq.trans ?_ (add_comm _ _)
  pointwise [res, factor]
end

theorem frame [Cert.Kernel21.Facts] : Cert.quiescent_Kernel21 := fun m ρ _ => Cert.Kernel21.Gen.frame (F := Bits) m ρ

theorem ideal_frame [Cert.Kernel21Ideal.Facts] : Cert.quiescent_Kernel21Ideal := fun m ρ _ => Cert.Kernel21Ideal.Gen.frame (F := Ideal) m ρ

theorem reference_frame [Cert.Reference21Ideal.Facts] : Cert.quiescent_Reference21Ideal := fun m ρ _ =>
  (θ_run Cert.Reference21Ideal.defs _ _).mono (fun r h => ⟨fun c => (h c).2, sem_eq_zero_of_no_sems (by decide) r.2⟩)
    (Cert.Reference21Ideal.Value.run (F := Ideal) m ρ)

theorem algebraic [Cert.Kernel21Ideal.Facts] [Cert.Reference21Ideal.Facts] : Cert.algebraic_Kernel21Ideal_Reference21Ideal := by
  intro m g m' g' _ hargs
  refine ⟨fun c => res (rows m c) (weights m c) (carried m c), ?_, ?_⟩
  · refine (θ_run Cert.Kernel21Ideal.defs _ _).mono ?_ (Cert.Kernel21Ideal.Value.run_blocks (F := Ideal) m g)
    intro r h c
    exact ⟨(h c).1.trans (final m c _ (res_at _ _ _)), (h c).2⟩
  · refine (θ_run Cert.Reference21Ideal.defs _ _).mono ?_ (Cert.Reference21Ideal.Value.run (F := Ideal) m' g')
    intro r h c
    refine ⟨(h c).1.trans ?_, (h c).2⟩
    rw [(hargs c).1, (hargs c).2.1, (hargs c).2.2]
    rfl

end Cert.DInRwkv

end
-- ==== Proof.DInGa.lean ====
/- The gradient through the input projection's columns of the attention's merge gate, added to what the columns before gave:
   the kernel's ideal reading leaves what the reference leaves. -/
module

public import proofs.«01_k».proof.Defs
public import proofs.«01_k».proof.Proof.Gen.Kernel22.Frame
public import proofs.«01_k».proof.Proof.Gen.Kernel22Ideal.Value
public import proofs.«01_k».proof.Proof.Gen.Reference22Ideal.Run
public import proofs.«01_k».proof.Proof.Pad
public import Idealize.ShloMosaic.Lib.Pipeline.ValueKit
public import Idealize.ShloMosaic.Adequacy

@[expose] public section

set_option maxRecDepth 16384

noncomputable section

namespace Cert.DInGa

open Idealize.ShloMosaic Idealize.ShloMosaic.TcCoe Idealize.SL.Sem

section
open Cert.Kernel22Ideal Cert.Kernel22Ideal.Gen
variable (m : (ℓ : Loc nD τ sig) → Buf (Elt Ideal) ℓ) (c : Dev nD)

/-- The gradient, the weights and what the product is added to as launched. -/
def rows : FVec Ideal S8192x1024 .f32 := m ((c.tc : Thread nD τ).loc main_arg0)
def weights : FVec Ideal S1024x5408 .f32 := m ((c.tc : Thread nD τ).loc main_arg1)
def carried : FVec Ideal S8192x1024 .f32 := m ((c.tc : Thread nD τ).loc main_arg2)

/-- The weights' columns turned over. -/
def factor (W : FVec Ideal S1024x5408 .f32) (k : Fin 1024) (j : Fin 1024) : EReal := W (ix2 j (⟨3360 + k.val, by omega⟩ : Fin 5408))

theorem V_rows : (V m c main_v9 : FVec Ideal S8192x1024 .bf16) = truncf .bf16 (rows m c) bitsLt_bf16_f32 := by
  unfold V rows
  after_results <;> rfl

theorem V_factor : (V m c main_v10 : FVec Ideal S1024x1024 .bf16) = extractStridedSlice S1024x1024 ![3072, 0] (transpose S5632x1024 [1, 0] (concatenate S1024x5632 1
    [⟨S1024x1536, extractStridedSlice S1024x1536 ![0, 0] (truncf .bf16 (weights m c) bitsLt_bf16_f32 : FVec Ideal S1024x5408 .bf16) slices_S1024x5408_S1024x1536_0_0⟩,
     ⟨S1024x1536, extractStridedSlice S1024x1536 ![0, 1568] (truncf .bf16 (weights m c) bitsLt_bf16_f32 : FVec Ideal S1024x5408 .bf16) slices_S1024x5408_S1024x1536_0_1568⟩,
     ⟨S1024x2048, extractStridedSlice S1024x2048 ![0, 3360] (truncf .bf16 (weights m c) bitsLt_bf16_f32 : FVec Ideal S1024x5408 .bf16) slices_S1024x5408_S1024x2048_0_3360⟩,
     ⟨S1024x256, extractStridedSlice S1024x256 ![0, 3104] (truncf .bf16 (weights m c) bitsLt_bf16_f32 : FVec Ideal S1024x5408 .bf16) slices_S1024x5408_S1024x256_0_3104⟩,
     ⟨S1024x32, extractStridedSlice S1024x32 ![0, 1536] (truncf .bf16 (weights m c) bitsLt_bf16_f32 : FVec Ideal S1024x5408 .bf16) slices_S1024x5408_S1024x32_0_1536⟩,
     ⟨S1024x224, (broadcastInDim S1024x224 ![] bcast_S_S1024x224 (constant S_ .bf16 0x0000#16 : FVec Ideal S_ .bf16) : FVec Ideal S1024x224 .bf16)⟩]
    concatenates_S1024x1536_S1024x1536_S1024x2048_S1024x256_S1024x32_S1024x224_S1024x5632_d1 : FVec Ideal S1024x5632 .bf16) transposes_S1024x5632_S5632x1024_1_0 : FVec Ideal S5632x1024 .bf16) slices_S5632x1024_S1024x1024_3072_0 := by
  unfold V weights
  after_results <;> rfl

theorem row_at (i : Fin 8192) (k : Fin 1024) : (V m c main_v9 : FVec Ideal S8192x1024 .bf16) (ix2 i k) = rows m c (ix2 i k) := by
  rw [V_rows]
  generalize rows m c = A
  pointwise

theorem factor_at (k : Fin 1024) (j : Fin 1024) : (V m c main_v10 : FVec Ideal S1024x1024 .bf16) (ix2 k j) = factor (weights m c) k j := by
  rw [V_factor]
  generalize weights m c = W
  pointwise
  unfold factor
  repeat' split
  all_goals first | omega | exact congrArg (fun l => W (ix2 j l)) (Fin.mk_eq_mk.mpr (by omega)) | rfl

/-- A block of the product. -/
theorem block_at (A : Vec Ideal S1024x1024 .bf16) (B : Vec Ideal S1024x1024 .bf16) (X : Vec Ideal S1024x1024 .f32) (i : Fin 1024) (j : Fin 1024) :
    (out0_3 A B X : FVec Ideal S1024x1024 .f32) (ix2 i j) = (∑ k : Fin 1024, A (ix2 i k) * B (ix2 k j)) + X (ix2 i j) := by
  have z2 : (![0, 0] : Fin 2 → Nat) = fun _ => 0 := funext fun a => by fin_cases a <;> rfl
  unfold out0_3
  rw [View.canon_unit_zero (S := S1024x1024) z2]
  simp only [View.ld_unit_zero (S := S1024x1024) z2, View.ld_unit_zero (S := S1024x1024) z2, View.ld_unit_zero (S := S1024x1024) z2]
  pointwise [k0_pay1]

theorem idx : ∀ t : Fin cfg0.N, win0_0.index t = ![t.val % 8, 0] ∧ win0_1.index t = ![0, t.val / 8] ∧ win0_2.index t = ![t.val % 8, t.val / 8] ∧ win0_3.index t = ![t.val % 8, t.val / 8] :=
  (by decide +kernel : ∀ t : Fin grid0.N, _)

theorem at_lt (t : Fin cfg0.N) (j : Fin 1024) : t.val / 8 * 1024 + j.val < 1024 := by
  have : t.val < 8 := t.isLt
  omega

theorem rows_in (t : Fin cfg0.N) (i : Fin 1024) (k : Fin 1024) : (iblk m c 0 t : FVec Ideal S1024x1024 .bf16) (ix2 i k)
    = rows m c (ix2 (⟨t.val % 8 * 1024 + i.val, by omega⟩ : Fin 8192) k) := by
  have z : (((cfg0.win 0).blk t).view.emb (ix2 i k) : S8192x1024.Idx) = (ix2 (⟨t.val % 8 * 1024 + i.val, by omega⟩ : Fin 8192) k : S8192x1024.Idx) := by
    blk_ext [idx t]
  refine Eq.trans ?_ (row_at m c _ k)
  unfold iblk
  generalize V m c = A
  rw [View.read_apply, cast_eq]
  exact congrArg (A main_v9) z

theorem factor_in (t : Fin cfg0.N) (k : Fin 1024) (j : Fin 1024) : (iblk m c 1 t : FVec Ideal S1024x1024 .bf16) (ix2 k j)
    = factor (weights m c) k ⟨t.val / 8 * 1024 + j.val, at_lt t j⟩ := by
  have z : (((cfg0.win 1).blk t).view.emb (ix2 k j) : S1024x1024.Idx) = (ix2 k (⟨t.val / 8 * 1024 + j.val, at_lt t j⟩ : Fin 1024) : S1024x1024.Idx) := by
    blk_ext [idx t]
  refine Eq.trans ?_ (factor_at m c k _)
  unfold iblk
  generalize V m c = A
  rw [View.read_apply, cast_eq]
  exact congrArg (A main_v10) z

theorem carried_in (t : Fin cfg0.N) (i : Fin 1024) (j : Fin 1024) : (iblk m c 2 t : FVec Ideal S1024x1024 .f32) (ix2 i j)
    = carried m c (ix2 (⟨t.val % 8 * 1024 + i.val, by omega⟩ : Fin 8192) (⟨t.val / 8 * 1024 + j.val, at_lt t j⟩ : Fin 1024)) := by
  have z : (((cfg0.win 2).blk t).view.emb (ix2 i j) : S8192x1024.Idx)
      = (ix2 (⟨t.val % 8 * 1024 + i.val, by omega⟩ : Fin 8192) (⟨t.val / 8 * 1024 + j.val, at_lt t j⟩ : Fin 1024) : S8192x1024.Idx) := by
    blk_ext [idx t]
  refine Eq.trans ?_ (congrFun (V_main_arg2 m c) _)
  unfold iblk
  generalize V m c = A
  rw [View.read_apply, cast_eq]
  exact congrArg (A main_arg2) z

variable (R : FVec Ideal S8192x1024 .f32)
  (hR : ∀ i j, R (ix2 i j) = (∑ k : Fin 1024, rows m c (ix2 i k) * factor (weights m c) k j) + carried m c (ix2 i j))
include hR

/-- The kernel's result array. -/
theorem final : (dats m 0 c).arrAt 3 cfg0.N = R := by
  refine (dats m 0 c).arrAt_eq_of_covers 3 R (by decide +kernel) fun t _ y => ?_
  have hlt : t.val < 8 := t.isLt
  rw [cast_eq, after0_3]
  obtain ⟨i, j, hy⟩ : ∃ (i : Fin 1024) (j : Fin 1024), (y : S1024x1024.Idx) = ix2 i j := by
    refine ⟨y 0, y 1, ?_⟩
    funext a
    fin_cases a <;> rfl
  have hz : (((cfg0.win 3).blk t).view.emb (ix2 i j : S1024x1024.Idx) : S8192x1024.Idx)
      = ix2 (⟨t.val % 8 * 1024 + i.val, by omega⟩ : Fin 8192) (⟨t.val / 8 * 1024 + j.val, at_lt t j⟩ : Fin 1024) := by
    blk_ext [idx t]
  subst hy
  refine (?_ : _ = R _).trans (congrArg R hz.symm)
  rw [hR]
  refine (block_at (iblk m c 0 t) (iblk m c 1 t) (iblk m c 2 t) i j).trans ?_
  refine congrArg₂ (· + ·) (Finset.sum_congr rfl fun k _ => ?_) (carried_in m c t i j)
  rw [rows_in, factor_in]
end

section
open Cert.Reference22Ideal Cert.Reference22Ideal.Gen

/-- The reference's result, as a function of its arguments. -/
def res (A : FVec Ideal S8192x1024 .f32) (W : FVec Ideal S1024x5408 .f32) (X : FVec Ideal S8192x1024 .f32) : FVec Ideal S8192x1024 .f32 := addf X (Host.dotGeneral dot_S8192x1024_S1024x1024_S8192x1024_1_1_0_0_n_n none A (extractStridedSlice S1024x1024 ![0, 3360] W slices_S1024x5408_S1024x1024_0_3360 : FVec Ideal S1024x1024 .f32) : FVec Ideal S8192x1024 .f32)

theorem res_at (A : FVec Ideal S8192x1024 .f32) (W : FVec Ideal S1024x5408 .f32) (X : FVec Ideal S8192x1024 .f32) (i : Fin 8192) (j : Fin 1024) :
    res A W X (ix2 i j) = (∑ k : Fin 1024, A (ix2 i k) * factor W k j) + X (ix2 i j) := by
  refine Eq.trans ?_ (add_comm _ _)
  pointwise [res, factor]
end

theorem frame [Cert.Kernel22.Facts] : Cert.quiescent_Kernel22 := fun m ρ _ => Cert.Kernel22.Gen.frame (F := Bits) m ρ

theorem ideal_frame [Cert.Kernel22Ideal.Facts] : Cert.quiescent_Kernel22Ideal := fun m ρ _ => Cert.Kernel22Ideal.Gen.frame (F := Ideal) m ρ

theorem reference_frame [Cert.Reference22Ideal.Facts] : Cert.quiescent_Reference22Ideal := fun m ρ _ =>
  (θ_run Cert.Reference22Ideal.defs _ _).mono (fun r h => ⟨fun c => (h c).2, sem_eq_zero_of_no_sems (by decide) r.2⟩)
    (Cert.Reference22Ideal.Value.run (F := Ideal) m ρ)

theorem algebraic [Cert.Kernel22Ideal.Facts] [Cert.Reference22Ideal.Facts] : Cert.algebraic_Kernel22Ideal_Reference22Ideal := by
  intro m g m' g' _ hargs
  refine ⟨fun c => res (rows m c) (weights m c) (carried m c), ?_, ?_⟩
  · refine (θ_run Cert.Kernel22Ideal.defs _ _).mono ?_ (Cert.Kernel22Ideal.Value.run_blocks (F := Ideal) m g)
    intro r h c
    exact ⟨(h c).1.trans (final m c _ (res_at _ _ _)), (h c).2⟩
  · refine (θ_run Cert.Reference22Ideal.defs _ _).mono ?_ (Cert.Reference22Ideal.Value.run (F := Ideal) m' g')
    intro r h c
    refine ⟨(h c).1.trans ?_, (h c).2⟩
    rw [(hargs c).1, (hargs c).2.1, (hargs c).2.2]
    rfl

end Cert.DInGa

end
-- ==== Proof.DInGb.lean ====
/- The gradient through the input projection's columns of the recurrence's merge gate, added to what the columns before gave:
   the kernel's ideal reading leaves what the reference leaves. -/
module

public import proofs.«01_k».proof.Defs
public import proofs.«01_k».proof.Proof.Gen.Kernel23.Frame
public import proofs.«01_k».proof.Proof.Gen.Kernel23Ideal.Value
public import proofs.«01_k».proof.Proof.Gen.Reference23Ideal.Run
public import proofs.«01_k».proof.Proof.Pad
public import Idealize.ShloMosaic.Lib.Pipeline.ValueKit
public import Idealize.ShloMosaic.Adequacy

@[expose] public section

set_option maxRecDepth 16384

noncomputable section

namespace Cert.DInGb

open Idealize.ShloMosaic Idealize.ShloMosaic.TcCoe Idealize.SL.Sem

section
open Cert.Kernel23Ideal Cert.Kernel23Ideal.Gen
variable (m : (ℓ : Loc nD τ sig) → Buf (Elt Ideal) ℓ) (c : Dev nD)

/-- The gradient, the weights and what the product is added to as launched. -/
def rows : FVec Ideal S8192x1024 .f32 := m ((c.tc : Thread nD τ).loc main_arg0)
def weights : FVec Ideal S1024x5408 .f32 := m ((c.tc : Thread nD τ).loc main_arg1)
def carried : FVec Ideal S8192x1024 .f32 := m ((c.tc : Thread nD τ).loc main_arg2)

/-- The weights' columns turned over. -/
def factor (W : FVec Ideal S1024x5408 .f32) (k : Fin 1024) (j : Fin 1024) : EReal := W (ix2 j (⟨4384 + k.val, by omega⟩ : Fin 5408))

theorem V_rows : (V m c main_v9 : FVec Ideal S8192x1024 .bf16) = truncf .bf16 (rows m c) bitsLt_bf16_f32 := by
  unfold V rows
  after_results <;> rfl

theorem V_factor : (V m c main_v10 : FVec Ideal S1024x1024 .bf16) = extractStridedSlice S1024x1024 ![4096, 0] (transpose S5632x1024 [1, 0] (concatenate S1024x5632 1
    [⟨S1024x1536, extractStridedSlice S1024x1536 ![0, 0] (truncf .bf16 (weights m c) bitsLt_bf16_f32 : FVec Ideal S1024x5408 .bf16) slices_S1024x5408_S1024x1536_0_0⟩,
     ⟨S1024x1536, extractStridedSlice S1024x1536 ![0, 1568] (truncf .bf16 (weights m c) bitsLt_bf16_f32 : FVec Ideal S1024x5408 .bf16) slices_S1024x5408_S1024x1536_0_1568⟩,
     ⟨S1024x2048, extractStridedSlice S1024x2048 ![0, 3360] (truncf .bf16 (weights m c) bitsLt_bf16_f32 : FVec Ideal S1024x5408 .bf16) slices_S1024x5408_S1024x2048_0_3360⟩,
     ⟨S1024x256, extractStridedSlice S1024x256 ![0, 3104] (truncf .bf16 (weights m c) bitsLt_bf16_f32 : FVec Ideal S1024x5408 .bf16) slices_S1024x5408_S1024x256_0_3104⟩,
     ⟨S1024x32, extractStridedSlice S1024x32 ![0, 1536] (truncf .bf16 (weights m c) bitsLt_bf16_f32 : FVec Ideal S1024x5408 .bf16) slices_S1024x5408_S1024x32_0_1536⟩,
     ⟨S1024x224, (broadcastInDim S1024x224 ![] bcast_S_S1024x224 (constant S_ .bf16 0x0000#16 : FVec Ideal S_ .bf16) : FVec Ideal S1024x224 .bf16)⟩]
    concatenates_S1024x1536_S1024x1536_S1024x2048_S1024x256_S1024x32_S1024x224_S1024x5632_d1 : FVec Ideal S1024x5632 .bf16) transposes_S1024x5632_S5632x1024_1_0 : FVec Ideal S5632x1024 .bf16) slices_S5632x1024_S1024x1024_4096_0 := by
  unfold V weights
  after_results <;> rfl

theorem row_at (i : Fin 8192) (k : Fin 1024) : (V m c main_v9 : FVec Ideal S8192x1024 .bf16) (ix2 i k) = rows m c (ix2 i k) := by
  rw [V_rows]
  generalize rows m c = A
  pointwise

theorem factor_at (k : Fin 1024) (j : Fin 1024) : (V m c main_v10 : FVec Ideal S1024x1024 .bf16) (ix2 k j) = factor (weights m c) k j := by
  rw [V_factor]
  generalize weights m c = W
  pointwise
  unfold factor
  repeat' split
  all_goals first | omega | exact congrArg (fun l => W (ix2 j l)) (Fin.mk_eq_mk.mpr (by omega)) | rfl

/-- A block of the product. -/
theorem block_at (A : Vec Ideal S1024x1024 .bf16) (B : Vec Ideal S1024x1024 .bf16) (X : Vec Ideal S1024x1024 .f32) (i : Fin 1024) (j : Fin 1024) :
    (out0_3 A B X : FVec Ideal S1024x1024 .f32) (ix2 i j) = (∑ k : Fin 1024, A (ix2 i k) * B (ix2 k j)) + X (ix2 i j) := by
  have z2 : (![0, 0] : Fin 2 → Nat) = fun _ => 0 := funext fun a => by fin_cases a <;> rfl
  unfold out0_3
  rw [View.canon_unit_zero (S := S1024x1024) z2]
  simp only [View.ld_unit_zero (S := S1024x1024) z2, View.ld_unit_zero (S := S1024x1024) z2, View.ld_unit_zero (S := S1024x1024) z2]
  pointwise [k0_pay1]

theorem idx : ∀ t : Fin cfg0.N, win0_0.index t = ![t.val % 8, 0] ∧ win0_1.index t = ![0, t.val / 8] ∧ win0_2.index t = ![t.val % 8, t.val / 8] ∧ win0_3.index t = ![t.val % 8, t.val / 8] :=
  (by decide +kernel : ∀ t : Fin grid0.N, _)

theorem at_lt (t : Fin cfg0.N) (j : Fin 1024) : t.val / 8 * 1024 + j.val < 1024 := by
  have : t.val < 8 := t.isLt
  omega

theorem rows_in (t : Fin cfg0.N) (i : Fin 1024) (k : Fin 1024) : (iblk m c 0 t : FVec Ideal S1024x1024 .bf16) (ix2 i k)
    = rows m c (ix2 (⟨t.val % 8 * 1024 + i.val, by omega⟩ : Fin 8192) k) := by
  have z : (((cfg0.win 0).blk t).view.emb (ix2 i k) : S8192x1024.Idx) = (ix2 (⟨t.val % 8 * 1024 + i.val, by omega⟩ : Fin 8192) k : S8192x1024.Idx) := by
    blk_ext [idx t]
  refine Eq.trans ?_ (row_at m c _ k)
  unfold iblk
  generalize V m c = A
  rw [View.read_apply, cast_eq]
  exact congrArg (A main_v9) z

theorem factor_in (t : Fin cfg0.N) (k : Fin 1024) (j : Fin 1024) : (iblk m c 1 t : FVec Ideal S1024x1024 .bf16) (ix2 k j)
    = factor (weights m c) k ⟨t.val / 8 * 1024 + j.val, at_lt t j⟩ := by
  have z : (((cfg0.win 1).blk t).view.emb (ix2 k j) : S1024x1024.Idx) = (ix2 k (⟨t.val / 8 * 1024 + j.val, at_lt t j⟩ : Fin 1024) : S1024x1024.Idx) := by
    blk_ext [idx t]
  refine Eq.trans ?_ (factor_at m c k _)
  unfold iblk
  generalize V m c = A
  rw [View.read_apply, cast_eq]
  exact congrArg (A main_v10) z

theorem carried_in (t : Fin cfg0.N) (i : Fin 1024) (j : Fin 1024) : (iblk m c 2 t : FVec Ideal S1024x1024 .f32) (ix2 i j)
    = carried m c (ix2 (⟨t.val % 8 * 1024 + i.val, by omega⟩ : Fin 8192) (⟨t.val / 8 * 1024 + j.val, at_lt t j⟩ : Fin 1024)) := by
  have z : (((cfg0.win 2).blk t).view.emb (ix2 i j) : S8192x1024.Idx)
      = (ix2 (⟨t.val % 8 * 1024 + i.val, by omega⟩ : Fin 8192) (⟨t.val / 8 * 1024 + j.val, at_lt t j⟩ : Fin 1024) : S8192x1024.Idx) := by
    blk_ext [idx t]
  refine Eq.trans ?_ (congrFun (V_main_arg2 m c) _)
  unfold iblk
  generalize V m c = A
  rw [View.read_apply, cast_eq]
  exact congrArg (A main_arg2) z

variable (R : FVec Ideal S8192x1024 .f32)
  (hR : ∀ i j, R (ix2 i j) = (∑ k : Fin 1024, rows m c (ix2 i k) * factor (weights m c) k j) + carried m c (ix2 i j))
include hR

/-- The kernel's result array. -/
theorem final : (dats m 0 c).arrAt 3 cfg0.N = R := by
  refine (dats m 0 c).arrAt_eq_of_covers 3 R (by decide +kernel) fun t _ y => ?_
  have hlt : t.val < 8 := t.isLt
  rw [cast_eq, after0_3]
  obtain ⟨i, j, hy⟩ : ∃ (i : Fin 1024) (j : Fin 1024), (y : S1024x1024.Idx) = ix2 i j := by
    refine ⟨y 0, y 1, ?_⟩
    funext a
    fin_cases a <;> rfl
  have hz : (((cfg0.win 3).blk t).view.emb (ix2 i j : S1024x1024.Idx) : S8192x1024.Idx)
      = ix2 (⟨t.val % 8 * 1024 + i.val, by omega⟩ : Fin 8192) (⟨t.val / 8 * 1024 + j.val, at_lt t j⟩ : Fin 1024) := by
    blk_ext [idx t]
  subst hy
  refine (?_ : _ = R _).trans (congrArg R hz.symm)
  rw [hR]
  refine (block_at (iblk m c 0 t) (iblk m c 1 t) (iblk m c 2 t) i j).trans ?_
  refine congrArg₂ (· + ·) (Finset.sum_congr rfl fun k _ => ?_) (carried_in m c t i j)
  rw [rows_in, factor_in]
end

section
open Cert.Reference23Ideal Cert.Reference23Ideal.Gen

/-- The reference's result, as a function of its arguments. -/
def res (A : FVec Ideal S8192x1024 .f32) (W : FVec Ideal S1024x5408 .f32) (X : FVec Ideal S8192x1024 .f32) : FVec Ideal S8192x1024 .f32 := addf X (Host.dotGeneral dot_S8192x1024_S1024x1024_S8192x1024_1_1_0_0_n_n none A (extractStridedSlice S1024x1024 ![0, 4384] W slices_S1024x5408_S1024x1024_0_4384 : FVec Ideal S1024x1024 .f32) : FVec Ideal S8192x1024 .f32)

theorem res_at (A : FVec Ideal S8192x1024 .f32) (W : FVec Ideal S1024x5408 .f32) (X : FVec Ideal S8192x1024 .f32) (i : Fin 8192) (j : Fin 1024) :
    res A W X (ix2 i j) = (∑ k : Fin 1024, A (ix2 i k) * factor W k j) + X (ix2 i j) := by
  refine Eq.trans ?_ (add_comm _ _)
  pointwise [res, factor]
end

theorem frame [Cert.Kernel23.Facts] : Cert.quiescent_Kernel23 := fun m ρ _ => Cert.Kernel23.Gen.frame (F := Bits) m ρ

theorem ideal_frame [Cert.Kernel23Ideal.Facts] : Cert.quiescent_Kernel23Ideal := fun m ρ _ => Cert.Kernel23Ideal.Gen.frame (F := Ideal) m ρ

theorem reference_frame [Cert.Reference23Ideal.Facts] : Cert.quiescent_Reference23Ideal := fun m ρ _ =>
  (θ_run Cert.Reference23Ideal.defs _ _).mono (fun r h => ⟨fun c => (h c).2, sem_eq_zero_of_no_sems (by decide) r.2⟩)
    (Cert.Reference23Ideal.Value.run (F := Ideal) m ρ)

theorem algebraic [Cert.Kernel23Ideal.Facts] [Cert.Reference23Ideal.Facts] : Cert.algebraic_Kernel23Ideal_Reference23Ideal := by
  intro m g m' g' _ hargs
  refine ⟨fun c => res (rows m c) (weights m c) (carried m c), ?_, ?_⟩
  · refine (θ_run Cert.Kernel23Ideal.defs _ _).mono ?_ (Cert.Kernel23Ideal.Value.run_blocks (F := Ideal) m g)
    intro r h c
    exact ⟨(h c).1.trans (final m c _ (res_at _ _ _)), (h c).2⟩
  · refine (θ_run Cert.Reference23Ideal.defs _ _).mono ?_ (Cert.Reference23Ideal.Value.run (F := Ideal) m' g')
    intro r h c
    refine ⟨(h c).1.trans ?_, (h c).2⟩
    rw [(hargs c).1, (hargs c).2.1, (hargs c).2.2]
    rfl

end Cert.DInGb

end
-- ==== Proof.DInAfab.lean ====
/- The gradient through the input projection's columns of the attention's gate ranks, added to what the columns before gave:
   the kernel's ideal reading leaves what the reference leaves. -/
module

public import proofs.«01_k».proof.Defs
public import proofs.«01_k».proof.Proof.Gen.Kernel24.Frame
public import proofs.«01_k».proof.Proof.Gen.Kernel24Ideal.Value
public import proofs.«01_k».proof.Proof.Gen.Reference24Ideal.Run
public import proofs.«01_k».proof.Proof.Pad
public import Idealize.ShloMosaic.Lib.Pipeline.ValueKit
public import Idealize.ShloMosaic.Adequacy

@[expose] public section

set_option maxRecDepth 16384

noncomputable section

namespace Cert.DInAfab

open Idealize.ShloMosaic Idealize.ShloMosaic.TcCoe Idealize.SL.Sem

/-- A factor that is zero past the 32nd index leaves the sum of the products up to there. -/
theorem sum_pad (a : Fin 128 → EReal) (f : Fin 32 → EReal) :
    (∑ k : Fin 128, a k * (if h : k.val < 32 then f ⟨k.val, h⟩ else 0)) = ∑ k : Fin 32, a ⟨k.val, by omega⟩ * f k := by
  refine (Fin.sum_univ_add (a := 32) (b := 96) _).trans ?_
  have hz : ∀ x : Fin 96, a (Fin.natAdd 32 x) * (if h : (Fin.natAdd 32 x : Fin 128).val < 32 then f ⟨(Fin.natAdd 32 x : Fin 128).val, h⟩ else 0) = 0 := fun x => by
    rw [dif_neg (by rw [Fin.val_natAdd]; omega), mul_zero]
  rw [Finset.sum_congr rfl fun x _ => hz x, Finset.sum_const_zero, add_zero]
  refine Finset.sum_congr rfl fun x _ => ?_
  rw [dif_pos (by rw [Fin.val_castAdd]; exact x.isLt)]
  rfl

section
open Cert.Kernel24Ideal Cert.Kernel24Ideal.Gen
variable (m : (ℓ : Loc nD τ sig) → Buf (Elt Ideal) ℓ) (c : Dev nD)

/-- The gradient, the weights and what the product is added to as launched. -/
def rows : FVec Ideal S8192x128 .f32 := m ((c.tc : Thread nD τ).loc main_arg0)
def weights : FVec Ideal S1024x5408 .f32 := m ((c.tc : Thread nD τ).loc main_arg1)
def carried : FVec Ideal S8192x1024 .f32 := m ((c.tc : Thread nD τ).loc main_arg2)

/-- The weights' columns turned over, followed by rows of zeros. -/
def factor (W : FVec Ideal S1024x5408 .f32) (k : Fin 128) (j : Fin 1024) : EReal := if h : k.val < 32 then W (ix2 j (⟨1536 + k.val, by omega⟩ : Fin 5408)) else 0

theorem V_rows : (V m c main_v9 : FVec Ideal S8192x128 .bf16) = truncf .bf16 (rows m c) bitsLt_bf16_f32 := by
  unfold V rows
  after_results <;> rfl

theorem V_factor : (V m c main_v10 : FVec Ideal S128x1024 .bf16) = extractStridedSlice S128x1024 ![5376, 0] (transpose S5632x1024 [1, 0] (concatenate S1024x5632 1
    [⟨S1024x1536, extractStridedSlice S1024x1536 ![0, 0] (truncf .bf16 (weights m c) bitsLt_bf16_f32 : FVec Ideal S1024x5408 .bf16) slices_S1024x5408_S1024x1536_0_0⟩,
     ⟨S1024x1536, extractStridedSlice S1024x1536 ![0, 1568] (truncf .bf16 (weights m c) bitsLt_bf16_f32 : FVec Ideal S1024x5408 .bf16) slices_S1024x5408_S1024x1536_0_1568⟩,
     ⟨S1024x2048, extractStridedSlice S1024x2048 ![0, 3360] (truncf .bf16 (weights m c) bitsLt_bf16_f32 : FVec Ideal S1024x5408 .bf16) slices_S1024x5408_S1024x2048_0_3360⟩,
     ⟨S1024x256, extractStridedSlice S1024x256 ![0, 3104] (truncf .bf16 (weights m c) bitsLt_bf16_f32 : FVec Ideal S1024x5408 .bf16) slices_S1024x5408_S1024x256_0_3104⟩,
     ⟨S1024x32, extractStridedSlice S1024x32 ![0, 1536] (truncf .bf16 (weights m c) bitsLt_bf16_f32 : FVec Ideal S1024x5408 .bf16) slices_S1024x5408_S1024x32_0_1536⟩,
     ⟨S1024x224, (broadcastInDim S1024x224 ![] bcast_S_S1024x224 (constant S_ .bf16 0x0000#16 : FVec Ideal S_ .bf16) : FVec Ideal S1024x224 .bf16)⟩]
    concatenates_S1024x1536_S1024x1536_S1024x2048_S1024x256_S1024x32_S1024x224_S1024x5632_d1 : FVec Ideal S1024x5632 .bf16) transposes_S1024x5632_S5632x1024_1_0 : FVec Ideal S5632x1024 .bf16) slices_S5632x1024_S128x1024_5376_0 := by
  unfold V weights
  after_results <;> rfl

theorem row_at (i : Fin 8192) (k : Fin 128) : (V m c main_v9 : FVec Ideal S8192x128 .bf16) (ix2 i k) = rows m c (ix2 i k) := by
  rw [V_rows]
  generalize rows m c = A
  pointwise

theorem factor_at (k : Fin 128) (j : Fin 1024) : (V m c main_v10 : FVec Ideal S128x1024 .bf16) (ix2 k j) = factor (weights m c) k j := by
  rw [V_factor]
  generalize weights m c = W
  pointwise
  unfold factor
  repeat' split
  all_goals first | omega | exact congrArg (fun l => W (ix2 j l)) (Fin.mk_eq_mk.mpr (by omega)) | rfl

/-- A block of the product. -/
theorem block_at (A : Vec Ideal S1024x128 .bf16) (B : Vec Ideal S128x1024 .bf16) (X : Vec Ideal S1024x1024 .f32) (i : Fin 1024) (j : Fin 1024) :
    (out0_3 A B X : FVec Ideal S1024x1024 .f32) (ix2 i j) = (∑ k : Fin 128, A (ix2 i k) * B (ix2 k j)) + X (ix2 i j) := by
  have z2 : (![0, 0] : Fin 2 → Nat) = fun _ => 0 := funext fun a => by fin_cases a <;> rfl
  unfold out0_3
  rw [View.canon_unit_zero (S := S1024x1024) z2]
  simp only [View.ld_unit_zero (S := S1024x128) z2, View.ld_unit_zero (S := S128x1024) z2, View.ld_unit_zero (S := S1024x1024) z2]
  pointwise [k0_pay1]

theorem idx : ∀ t : Fin cfg0.N, win0_0.index t = ![t.val % 8, 0] ∧ win0_1.index t = ![0, t.val / 8] ∧ win0_2.index t = ![t.val % 8, t.val / 8] ∧ win0_3.index t = ![t.val % 8, t.val / 8] :=
  (by decide +kernel : ∀ t : Fin grid0.N, _)

theorem at_lt (t : Fin cfg0.N) (j : Fin 1024) : t.val / 8 * 1024 + j.val < 1024 := by
  have : t.val < 8 := t.isLt
  omega

theorem rows_in (t : Fin cfg0.N) (i : Fin 1024) (k : Fin 128) : (iblk m c 0 t : FVec Ideal S1024x128 .bf16) (ix2 i k)
    = rows m c (ix2 (⟨t.val % 8 * 1024 + i.val, by omega⟩ : Fin 8192) k) := by
  have z : (((cfg0.win 0).blk t).view.emb (ix2 i k) : S8192x128.Idx) = (ix2 (⟨t.val % 8 * 1024 + i.val, by omega⟩ : Fin 8192) k : S8192x128.Idx) := by
    blk_ext [idx t]
  refine Eq.trans ?_ (row_at m c _ k)
  unfold iblk
  generalize V m c = A
  rw [View.read_apply, cast_eq]
  exact congrArg (A main_v9) z

theorem factor_in (t : Fin cfg0.N) (k : Fin 128) (j : Fin 1024) : (iblk m c 1 t : FVec Ideal S128x1024 .bf16) (ix2 k j)
    = factor (weights m c) k ⟨t.val / 8 * 1024 + j.val, at_lt t j⟩ := by
  have z : (((cfg0.win 1).blk t).view.emb (ix2 k j) : S128x1024.Idx) = (ix2 k (⟨t.val / 8 * 1024 + j.val, at_lt t j⟩ : Fin 1024) : S128x1024.Idx) := by
    blk_ext [idx t]
  refine Eq.trans ?_ (factor_at m c k _)
  unfold iblk
  generalize V m c = A
  rw [View.read_apply, cast_eq]
  exact congrArg (A main_v10) z

theorem carried_in (t : Fin cfg0.N) (i : Fin 1024) (j : Fin 1024) : (iblk m c 2 t : FVec Ideal S1024x1024 .f32) (ix2 i j)
    = carried m c (ix2 (⟨t.val % 8 * 1024 + i.val, by omega⟩ : Fin 8192) (⟨t.val / 8 * 1024 + j.val, at_lt t j⟩ : Fin 1024)) := by
  have z : (((cfg0.win 2).blk t).view.emb (ix2 i j) : S8192x1024.Idx)
      = (ix2 (⟨t.val % 8 * 1024 + i.val, by omega⟩ : Fin 8192) (⟨t.val / 8 * 1024 + j.val, at_lt t j⟩ : Fin 1024) : S8192x1024.Idx) := by
    blk_ext [idx t]
  refine Eq.trans ?_ (congrFun (V_main_arg2 m c) _)
  unfold iblk
  generalize V m c = A
  rw [View.read_apply, cast_eq]
  exact congrArg (A main_arg2) z

variable (R : FVec Ideal S8192x1024 .f32)
  (hR : ∀ i j, R (ix2 i j) = (∑ k : Fin 128, rows m c (ix2 i k) * factor (weights m c) k j) + carried m c (ix2 i j))
include hR

/-- The kernel's result array. -/
theorem final : (dats m 0 c).arrAt 3 cfg0.N = R := by
  refine (dats m 0 c).arrAt_eq_of_covers 3 R (by decide +kernel) fun t _ y => ?_
  have hlt : t.val < 8 := t.isLt
  rw [cast_eq, after0_3]
  obtain ⟨i, j, hy⟩ : ∃ (i : Fin 1024) (j : Fin 1024), (y : S1024x1024.Idx) = ix2 i j := by
    refine ⟨y 0, y 1, ?_⟩
    funext a
    fin_cases a <;> rfl
  have hz : (((cfg0.win 3).blk t).view.emb (ix2 i j : S1024x1024.Idx) : S8192x1024.Idx)
      = ix2 (⟨t.val % 8 * 1024 + i.val, by omega⟩ : Fin 8192) (⟨t.val / 8 * 1024 + j.val, at_lt t j⟩ : Fin 1024) := by
    blk_ext [idx t]
  subst hy
  refine (?_ : _ = R _).trans (congrArg R hz.symm)
  rw [hR]
  refine (block_at (iblk m c 0 t) (iblk m c 1 t) (iblk m c 2 t) i j).trans ?_
  refine congrArg₂ (· + ·) (Finset.sum_congr rfl fun k _ => ?_) (carried_in m c t i j)
  rw [rows_in, factor_in]
end

section
open Cert.Reference24Ideal Cert.Reference24Ideal.Gen

/-- The reference's result, as a function of its arguments. -/
def res (A : FVec Ideal S8192x128 .f32) (W : FVec Ideal S1024x5408 .f32) (X : FVec Ideal S8192x1024 .f32) : FVec Ideal S8192x1024 .f32 := addf X (Host.dotGeneral dot_S8192x32_S1024x32_S8192x1024_1_1_0_0_n_n none (extractStridedSlice S8192x32 ![0, 0] A slices_S8192x128_S8192x32_0_0 : FVec Ideal S8192x32 .f32) (extractStridedSlice S1024x32 ![0, 1536] W slices_S1024x5408_S1024x32_0_1536 : FVec Ideal S1024x32 .f32) : FVec Ideal S8192x1024 .f32)

theorem res_at (A : FVec Ideal S8192x128 .f32) (W : FVec Ideal S1024x5408 .f32) (X : FVec Ideal S8192x1024 .f32) (i : Fin 8192) (j : Fin 1024) :
    res A W X (ix2 i j) = (∑ k : Fin 128, A (ix2 i k) * factor W k j) + X (ix2 i j) := by
  refine Eq.trans ?_ (congrArg (· + X (ix2 i j)) (sum_pad (fun k => A (ix2 i k)) (fun k => W (ix2 j (⟨1536 + k.val, by omega⟩ : Fin 5408)))).symm)
  refine Eq.trans ?_ (add_comm _ _)
  pointwise [res]
end

theorem frame [Cert.Kernel24.Facts] : Cert.quiescent_Kernel24 := fun m ρ _ => Cert.Kernel24.Gen.frame (F := Bits) m ρ

theorem ideal_frame [Cert.Kernel24Ideal.Facts] : Cert.quiescent_Kernel24Ideal := fun m ρ _ => Cert.Kernel24Ideal.Gen.frame (F := Ideal) m ρ

theorem reference_frame [Cert.Reference24Ideal.Facts] : Cert.quiescent_Reference24Ideal := fun m ρ _ =>
  (θ_run Cert.Reference24Ideal.defs _ _).mono (fun r h => ⟨fun c => (h c).2, sem_eq_zero_of_no_sems (by decide) r.2⟩)
    (Cert.Reference24Ideal.Value.run (F := Ideal) m ρ)

theorem algebraic [Cert.Kernel24Ideal.Facts] [Cert.Reference24Ideal.Facts] : Cert.algebraic_Kernel24Ideal_Reference24Ideal := by
  intro m g m' g' _ hargs
  refine ⟨fun c => res (rows m c) (weights m c) (carried m c), ?_, ?_⟩
  · refine (θ_run Cert.Kernel24Ideal.defs _ _).mono ?_ (Cert.Kernel24Ideal.Value.run_blocks (F := Ideal) m g)
    intro r h c
    exact ⟨(h c).1.trans (final m c _ (res_at _ _ _)), (h c).2⟩
  · refine (θ_run Cert.Reference24Ideal.defs _ _).mono ?_ (Cert.Reference24Ideal.Value.run (F := Ideal) m' g')
    intro r h c
    refine ⟨(h c).1.trans ?_, (h c).2⟩
    rw [(hargs c).1, (hargs c).2.1, (hargs c).2.2]
    rfl

end Cert.DInAfab

end
-- ==== Proof.Frame.lean ====
/- The run of the gradient kernel, over any reading of the numbers: what the four outputs and the carried state
   gradient hold after each grid point, the body's triple at every point, the run of the whole program, and its frame. -/
module

public import proofs.«01_k».proof.Proof.Gen.KernelIdeal.Frame.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 8 tile its block (1 store of `S1x4x64x1024`, checked by the kernel's evaluation: Lib/Ring.lean `Piece.tiledL`, linear in the pieces, through a loop's `@[irreducible]` trip theorem too), so they cover it. -/
theorem cover0_A_8 (c : Dev nD) (i : grid0.Coords) (arg2 : Memref sig .tc .vmem S4x64x256 .f32) (harg2 : arg2.IsWhole) (arg3 : Memref sig .tc .vmem S4x64x256 .f32) (harg3 : arg3.IsWhole) (arg4 : Memref sig .tc .vmem S4x64x512 .f32) (harg4 : arg4.IsWhole) (arg5 : Memref sig .tc .vmem S4x64x128 .f32) (harg5 : arg5.IsWhole) (arg6 : Memref sig .tc .vmem S1x128x256 .f32) (harg6 : arg6.IsWhole) (arg7 : Memref sig .tc .vmem S1x1x256 .f32) (harg7 : arg7.IsWhole) (arg8 : Memref sig .tc .vmem S4x64x512 .f32) (harg8 : arg8.IsWhole) (arg9 : Memref sig .tc .vmem S1x4x1x128x256 .f32) (harg9 : arg9.IsWhole) (arg10 : Memref sig .tc .vmem S1x4x64x1024 .f32) (harg10 : arg10.IsWhole) (arg11 : Memref sig .tc .vmem S1x4x64x128 .f32) (harg11 : arg11.IsWhole) (arg12 : Memref sig .tc .vmem S1x128x256 .f32) (harg12 : arg12.IsWhole) (arg13 : Memref sig .tc .vmem S1x1x256 .f32) (harg13 : arg13.IsWhole) (arg14 : Memref sig .tc .vmem S4x128x256 .f32) (harg14 : arg14.IsWhole) (hc0 : cond0_0 i)
    (x0 : Vec F S4x64x256 .f32) (x1 : Vec F S4x64x256 .f32) (x2 : Vec F S4x64x512 .f32) (x3 : Vec F S4x64x128 .f32) (x4 : Vec F S1x128x256 .f32) (x5 : Vec F S1x1x256 .f32) (x6 : Vec F S4x64x512 .f32) (x7 : Vec F S1x4x1x128x256 .f32) (y : S1x4x64x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1 S1x4x64x1024.size (by sl_kernel_rfl) y

/-- What case A leaves in output 8's staging buffer: its pieces read back over junk. -/
def out0_A_8 (c : Dev nD) (i : grid0.Coords) (arg2 : Memref sig .tc .vmem S4x64x256 .f32) (harg2 : arg2.IsWhole) (arg3 : Memref sig .tc .vmem S4x64x256 .f32) (harg3 : arg3.IsWhole) (arg4 : Memref sig .tc .vmem S4x64x512 .f32) (harg4 : arg4.IsWhole) (arg5 : Memref sig .tc .vmem S4x64x128 .f32) (harg5 : arg5.IsWhole) (arg6 : Memref sig .tc .vmem S1x128x256 .f32) (harg6 : arg6.IsWhole) (arg7 : Memref sig .tc .vmem S1x1x256 .f32) (harg7 : arg7.IsWhole) (arg8 : Memref sig .tc .vmem S4x64x512 .f32) (harg8 : arg8.IsWhole) (arg9 : Memref sig .tc .vmem S1x4x1x128x256 .f32) (harg9 : arg9.IsWhole) (arg10 : Memref sig .tc .vmem S1x4x64x1024 .f32) (harg10 : arg10.IsWhole) (arg11 : Memref sig .tc .vmem S1x4x64x128 .f32) (harg11 : arg11.IsWhole) (arg12 : Memref sig .tc .vmem S1x128x256 .f32) (harg12 : arg12.IsWhole) (arg13 : Memref sig .tc .vmem S1x1x256 .f32) (harg13 : arg13.IsWhole) (arg14 : Memref sig .tc .vmem S4x128x256 .f32) (harg14 : arg14.IsWhole) (hc0 : cond0_0 i)
    (x0 : Vec F S4x64x256 .f32) (x1 : Vec F S4x64x256 .f32) (x2 : Vec F S4x64x512 .f32) (x3 : Vec F S4x64x128 .f32) (x4 : Vec F S1x128x256 .f32) (x5 : Vec F S1x1x256 .f32) (x6 : Vec F S4x64x512 .f32) (x7 : Vec F S1x4x1x128x256 .f32) : Vec F S1x4x64x1024 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1)

/-- Case A's pieces for output 9 tile its block (1 store of `S1x4x64x128`, checked by the kernel's evaluation: Lib/Ring.lean `Piece.tiledL`, linear in the pieces, through a loop's `@[irreducible]` trip theorem too), so they cover it. -/
theorem cover0_A_9 (c : Dev nD) (i : grid0.Coords) (arg2 : Memref sig .tc .vmem S4x64x256 .f32) (harg2 : arg2.IsWhole) (arg3 : Memref sig .tc .vmem S4x64x256 .f32) (harg3 : arg3.IsWhole) (arg4 : Memref sig .tc .vmem S4x64x512 .f32) (harg4 : arg4.IsWhole) (arg5 : Memref sig .tc .vmem S4x64x128 .f32) (harg5 : arg5.IsWhole) (arg6 : Memref sig .tc .vmem S1x128x256 .f32) (harg6 : arg6.IsWhole) (arg7 : Memref sig .tc .vmem S1x1x256 .f32) (harg7 : arg7.IsWhole) (arg8 : Memref sig .tc .vmem S4x64x512 .f32) (harg8 : arg8.IsWhole) (arg9 : Memref sig .tc .vmem S1x4x1x128x256 .f32) (harg9 : arg9.IsWhole) (arg10 : Memref sig .tc .vmem S1x4x64x1024 .f32) (harg10 : arg10.IsWhole) (arg11 : Memref sig .tc .vmem S1x4x64x128 .f32) (harg11 : arg11.IsWhole) (arg12 : Memref sig .tc .vmem S1x128x256 .f32) (harg12 : arg12.IsWhole) (arg13 : Memref sig .tc .vmem S1x1x256 .f32) (harg13 : arg13.IsWhole) (arg14 : Memref sig .tc .vmem S4x128x256 .f32) (harg14 : arg14.IsWhole) (hc0 : cond0_0 i)
    (x0 : Vec F S4x64x256 .f32) (x1 : Vec F S4x64x256 .f32) (x2 : Vec F S4x64x512 .f32) (x3 : Vec F S4x64x128 .f32) (x4 : Vec F S1x128x256 .f32) (x5 : Vec F S1x1x256 .f32) (x6 : Vec F S4x64x512 .f32) (x7 : Vec F S1x4x1x128x256 .f32) (y : S1x4x64x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1 S1x4x64x128.size (by sl_kernel_rfl) y

/-- What case A leaves in output 9's staging buffer: its pieces read back over junk. -/
def out0_A_9 (c : Dev nD) (i : grid0.Coords) (arg2 : Memref sig .tc .vmem S4x64x256 .f32) (harg2 : arg2.IsWhole) (arg3 : Memref sig .tc .vmem S4x64x256 .f32) (harg3 : arg3.IsWhole) (arg4 : Memref sig .tc .vmem S4x64x512 .f32) (harg4 : arg4.IsWhole) (arg5 : Memref sig .tc .vmem S4x64x128 .f32) (harg5 : arg5.IsWhole) (arg6 : Memref sig .tc .vmem S1x128x256 .f32) (harg6 : arg6.IsWhole) (arg7 : Memref sig .tc .vmem S1x1x256 .f32) (harg7 : arg7.IsWhole) (arg8 : Memref sig .tc .vmem S4x64x512 .f32) (harg8 : arg8.IsWhole) (arg9 : Memref sig .tc .vmem S1x4x1x128x256 .f32) (harg9 : arg9.IsWhole) (arg10 : Memref sig .tc .vmem S1x4x64x1024 .f32) (harg10 : arg10.IsWhole) (arg11 : Memref sig .tc .vmem S1x4x64x128 .f32) (harg11 : arg11.IsWhole) (arg12 : Memref sig .tc .vmem S1x128x256 .f32) (harg12 : arg12.IsWhole) (arg13 : Memref sig .tc .vmem S1x1x256 .f32) (harg13 : arg13.IsWhole) (arg14 : Memref sig .tc .vmem S4x128x256 .f32) (harg14 : arg14.IsWhole) (hc0 : cond0_0 i)
    (x0 : Vec F S4x64x256 .f32) (x1 : Vec F S4x64x256 .f32) (x2 : Vec F S4x64x512 .f32) (x3 : Vec F S4x64x128 .f32) (x4 : Vec F S1x128x256 .f32) (x5 : Vec F S1x1x256 .f32) (x6 : Vec F S4x64x512 .f32) (x7 : Vec F S1x4x1x128x256 .f32) : Vec F S1x4x64x128 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1)

/-- Case A's pieces for output 10 tile its block (2 stores of `S1x128x256`, checked by the kernel's evaluation: Lib/Ring.lean `Piece.tiledL`, linear in the pieces, through a loop's `@[irreducible]` trip theorem too), so they cover it. -/
theorem cover0_A_10 (c : Dev nD) (i : grid0.Coords) (arg2 : Memref sig .tc .vmem S4x64x256 .f32) (harg2 : arg2.IsWhole) (arg3 : Memref sig .tc .vmem S4x64x256 .f32) (harg3 : arg3.IsWhole) (arg4 : Memref sig .tc .vmem S4x64x512 .f32) (harg4 : arg4.IsWhole) (arg5 : Memref sig .tc .vmem S4x64x128 .f32) (harg5 : arg5.IsWhole) (arg6 : Memref sig .tc .vmem S1x128x256 .f32) (harg6 : arg6.IsWhole) (arg7 : Memref sig .tc .vmem S1x1x256 .f32) (harg7 : arg7.IsWhole) (arg8 : Memref sig .tc .vmem S4x64x512 .f32) (harg8 : arg8.IsWhole) (arg9 : Memref sig .tc .vmem S1x4x1x128x256 .f32) (harg9 : arg9.IsWhole) (arg10 : Memref sig .tc .vmem S1x4x64x1024 .f32) (harg10 : arg10.IsWhole) (arg11 : Memref sig .tc .vmem S1x4x64x128 .f32) (harg11 : arg11.IsWhole) (arg12 : Memref sig .tc .vmem S1x128x256 .f32) (harg12 : arg12.IsWhole) (arg13 : Memref sig .tc .vmem S1x1x256 .f32) (harg13 : arg13.IsWhole) (arg14 : Memref sig .tc .vmem S4x128x256 .f32) (harg14 : arg14.IsWhole) (hc0 : cond0_0 i)
    (x0 : Vec F S4x64x256 .f32) (x1 : Vec F S4x64x256 .f32) (x2 : Vec F S4x64x512 .f32) (x3 : Vec F S4x64x128 .f32) (x4 : Vec F S1x128x256 .f32) (x5 : Vec F S1x1x256 .f32) (x6 : Vec F S4x64x512 .f32) (x7 : Vec F S1x4x1x128x256 .f32) (y : S1x128x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1 S1x128x256.size (by sl_kernel_rfl) y

/-- What case A leaves in output 10's staging buffer: its pieces read back over junk. -/
def out0_A_10 (c : Dev nD) (i : grid0.Coords) (arg2 : Memref sig .tc .vmem S4x64x256 .f32) (harg2 : arg2.IsWhole) (arg3 : Memref sig .tc .vmem S4x64x256 .f32) (harg3 : arg3.IsWhole) (arg4 : Memref sig .tc .vmem S4x64x512 .f32) (harg4 : arg4.IsWhole) (arg5 : Memref sig .tc .vmem S4x64x128 .f32) (harg5 : arg5.IsWhole) (arg6 : Memref sig .tc .vmem S1x128x256 .f32) (harg6 : arg6.IsWhole) (arg7 : Memref sig .tc .vmem S1x1x256 .f32) (harg7 : arg7.IsWhole) (arg8 : Memref sig .tc .vmem S4x64x512 .f32) (harg8 : arg8.IsWhole) (arg9 : Memref sig .tc .vmem S1x4x1x128x256 .f32) (harg9 : arg9.IsWhole) (arg10 : Memref sig .tc .vmem S1x4x64x1024 .f32) (harg10 : arg10.IsWhole) (arg11 : Memref sig .tc .vmem S1x4x64x128 .f32) (harg11 : arg11.IsWhole) (arg12 : Memref sig .tc .vmem S1x128x256 .f32) (harg12 : arg12.IsWhole) (arg13 : Memref sig .tc .vmem S1x1x256 .f32) (harg13 : arg13.IsWhole) (arg14 : Memref sig .tc .vmem S4x128x256 .f32) (harg14 : arg14.IsWhole) (hc0 : cond0_0 i)
    (x0 : Vec F S4x64x256 .f32) (x1 : Vec F S4x64x256 .f32) (x2 : Vec F S4x64x512 .f32) (x3 : Vec F S4x64x128 .f32) (x4 : Vec F S1x128x256 .f32) (x5 : Vec F S1x1x256 .f32) (x6 : Vec F S4x64x512 .f32) (x7 : Vec F S1x4x1x128x256 .f32) : Vec F S1x128x256 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1)

/-- Case A's pieces for output 11 tile its block (2 stores of `S1x1x256`, checked by the kernel's evaluation: Lib/Ring.lean `Piece.tiledL`, linear in the pieces, through a loop's `@[irreducible]` trip theorem too), so they cover it. -/
theorem cover0_A_11 (c : Dev nD) (i : grid0.Coords) (arg2 : Memref sig .tc .vmem S4x64x256 .f32) (harg2 : arg2.IsWhole) (arg3 : Memref sig .tc .vmem S4x64x256 .f32) (harg3 : arg3.IsWhole) (arg4 : Memref sig .tc .vmem S4x64x512 .f32) (harg4 : arg4.IsWhole) (arg5 : Memref sig .tc .vmem S4x64x128 .f32) (harg5 : arg5.IsWhole) (arg6 : Memref sig .tc .vmem S1x128x256 .f32) (harg6 : arg6.IsWhole) (arg7 : Memref sig .tc .vmem S1x1x256 .f32) (harg7 : arg7.IsWhole) (arg8 : Memref sig .tc .vmem S4x64x512 .f32) (harg8 : arg8.IsWhole) (arg9 : Memref sig .tc .vmem S1x4x1x128x256 .f32) (harg9 : arg9.IsWhole) (arg10 : Memref sig .tc .vmem S1x4x64x1024 .f32) (harg10 : arg10.IsWhole) (arg11 : Memref sig .tc .vmem S1x4x64x128 .f32) (harg11 : arg11.IsWhole) (arg12 : Memref sig .tc .vmem S1x128x256 .f32) (harg12 : arg12.IsWhole) (arg13 : Memref sig .tc .vmem S1x1x256 .f32) (harg13 : arg13.IsWhole) (arg14 : Memref sig .tc .vmem S4x128x256 .f32) (harg14 : arg14.IsWhole) (hc0 : cond0_0 i)
    (x0 : Vec F S4x64x256 .f32) (x1 : Vec F S4x64x256 .f32) (x2 : Vec F S4x64x512 .f32) (x3 : Vec F S4x64x128 .f32) (x4 : Vec F S1x128x256 .f32) (x5 : Vec F S1x1x256 .f32) (x6 : Vec F S4x64x512 .f32) (x7 : Vec F S1x4x1x128x256 .f32) (y : S1x1x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.1 S1x1x256.size (by sl_kernel_rfl) y

/-- What case A leaves in output 11's staging buffer: its pieces read back over junk. -/
def out0_A_11 (c : Dev nD) (i : grid0.Coords) (arg2 : Memref sig .tc .vmem S4x64x256 .f32) (harg2 : arg2.IsWhole) (arg3 : Memref sig .tc .vmem S4x64x256 .f32) (harg3 : arg3.IsWhole) (arg4 : Memref sig .tc .vmem S4x64x512 .f32) (harg4 : arg4.IsWhole) (arg5 : Memref sig .tc .vmem S4x64x128 .f32) (harg5 : arg5.IsWhole) (arg6 : Memref sig .tc .vmem S1x128x256 .f32) (harg6 : arg6.IsWhole) (arg7 : Memref sig .tc .vmem S1x1x256 .f32) (harg7 : arg7.IsWhole) (arg8 : Memref sig .tc .vmem S4x64x512 .f32) (harg8 : arg8.IsWhole) (arg9 : Memref sig .tc .vmem S1x4x1x128x256 .f32) (harg9 : arg9.IsWhole) (arg10 : Memref sig .tc .vmem S1x4x64x1024 .f32) (harg10 : arg10.IsWhole) (arg11 : Memref sig .tc .vmem S1x4x64x128 .f32) (harg11 : arg11.IsWhole) (arg12 : Memref sig .tc .vmem S1x128x256 .f32) (harg12 : arg12.IsWhole) (arg13 : Memref sig .tc .vmem S1x1x256 .f32) (harg13 : arg13.IsWhole) (arg14 : Memref sig .tc .vmem S4x128x256 .f32) (harg14 : arg14.IsWhole) (hc0 : cond0_0 i)
    (x0 : Vec F S4x64x256 .f32) (x1 : Vec F S4x64x256 .f32) (x2 : Vec F S4x64x512 .f32) (x3 : Vec F S4x64x128 .f32) (x4 : Vec F S1x128x256 .f32) (x5 : Vec F S1x1x256 .f32) (x6 : Vec F S4x64x512 .f32) (x7 : Vec F S1x4x1x128x256 .f32) : Vec F S1x1x256 .f32 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.1)

/-- Case A's pieces for scratch `arg14`, which the kernel carries between points, cover it: 2 pieces of `S4x128x256` tiling it (Lib/Ring.lean `Piece.tiledL`). -/
theorem scover0_A_0 (c : Dev nD) (i : grid0.Coords) (arg2 : Memref sig .tc .vmem S4x64x256 .f32) (harg2 : arg2.IsWhole) (arg3 : Memref sig .tc .vmem S4x64x256 .f32) (harg3 : arg3.IsWhole) (arg4 : Memref sig .tc .vmem S4x64x512 .f32) (harg4 : arg4.IsWhole) (arg5 : Memref sig .tc .vmem S4x64x128 .f32) (harg5 : arg5.IsWhole) (arg6 : Memref sig .tc .vmem S1x128x256 .f32) (harg6 : arg6.IsWhole) (arg7 : Memref sig .tc .vmem S1x1x256 .f32) (harg7 : arg7.IsWhole) (arg8 : Memref sig .tc .vmem S4x64x512 .f32) (harg8 : arg8.IsWhole) (arg9 : Memref sig .tc .vmem S1x4x1x128x256 .f32) (harg9 : arg9.IsWhole) (arg10 : Memref sig .tc .vmem S1x4x64x1024 .f32) (harg10 : arg10.IsWhole) (arg11 : Memref sig .tc .vmem S1x4x64x128 .f32) (harg11 : arg11.IsWhole) (arg12 : Memref sig .tc .vmem S1x128x256 .f32) (harg12 : arg12.IsWhole) (arg13 : Memref sig .tc .vmem S1x1x256 .f32) (harg13 : arg13.IsWhole) (arg14 : Memref sig .tc .vmem S4x128x256 .f32) (harg14 : arg14.IsWhole) (hc0 : cond0_0 i)
    (x0 : Vec F S4x64x256 .f32) (x1 : Vec F S4x64x256 .f32) (x2 : Vec F S4x64x512 .f32) (x3 : Vec F S4x64x128 .f32) (x4 : Vec F S1x128x256 .f32) (x5 : Vec F S1x1x256 .f32) (x6 : Vec F S4x64x512 .f32) (x7 : Vec F S1x4x1x128x256 .f32) (y : S4x128x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.2.1 S4x128x256.size (by sl_kernel_rfl) y

/-- What case A leaves in scratch `arg14`: its pieces read back over junk. -/
def sout0_A_0 (c : Dev nD) (i : grid0.Coords) (arg2 : Memref sig .tc .vmem S4x64x256 .f32) (harg2 : arg2.IsWhole) (arg3 : Memref sig .tc .vmem S4x64x256 .f32) (harg3 : arg3.IsWhole) (arg4 : Memref sig .tc .vmem S4x64x512 .f32) (harg4 : arg4.IsWhole) (arg5 : Memref sig .tc .vmem S4x64x128 .f32) (harg5 : arg5.IsWhole) (arg6 : Memref sig .tc .vmem S1x128x256 .f32) (harg6 : arg6.IsWhole) (arg7 : Memref sig .tc .vmem S1x1x256 .f32) (harg7 : arg7.IsWhole) (arg8 : Memref sig .tc .vmem S4x64x512 .f32) (harg8 : arg8.IsWhole) (arg9 : Memref sig .tc .vmem S1x4x1x128x256 .f32) (harg9 : arg9.IsWhole) (arg10 : Memref sig .tc .vmem S1x4x64x1024 .f32) (harg10 : arg10.IsWhole) (arg11 : Memref sig .tc .vmem S1x4x64x128 .f32) (harg11 : arg11.IsWhole) (arg12 : Memref sig .tc .vmem S1x128x256 .f32) (harg12 : arg12.IsWhole) (arg13 : Memref sig .tc .vmem S1x1x256 .f32) (harg13 : arg13.IsWhole) (arg14 : Memref sig .tc .vmem S4x128x256 .f32) (harg14 : arg14.IsWhole) (hc0 : cond0_0 i)
    (x0 : Vec F S4x64x256 .f32) (x1 : Vec F S4x64x256 .f32) (x2 : Vec F S4x64x512 .f32) (x3 : Vec F S4x64x128 .f32) (x4 : Vec F S1x128x256 .f32) (x5 : Vec F S1x1x256 .f32) (x6 : Vec F S4x64x512 .f32) (x7 : Vec F S1x4x1x128x256 .f32) : Vec F S4x128x256 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.2.1)

/-- Case B's pieces for output 8 tile its block (1 store of `S1x4x64x1024`, checked by the kernel's evaluation: Lib/Ring.lean `Piece.tiledL`, linear in the pieces, through a loop's `@[irreducible]` trip theorem too), so they cover it. -/
theorem cover0_B_8 (c : Dev nD) (i : grid0.Coords) (arg2 : Memref sig .tc .vmem S4x64x256 .f32) (harg2 : arg2.IsWhole) (arg3 : Memref sig .tc .vmem S4x64x256 .f32) (harg3 : arg3.IsWhole) (arg4 : Memref sig .tc .vmem S4x64x512 .f32) (harg4 : arg4.IsWhole) (arg5 : Memref sig .tc .vmem S4x64x128 .f32) (harg5 : arg5.IsWhole) (arg6 : Memref sig .tc .vmem S1x128x256 .f32) (harg6 : arg6.IsWhole) (arg7 : Memref sig .tc .vmem S1x1x256 .f32) (harg7 : arg7.IsWhole) (arg8 : Memref sig .tc .vmem S4x64x512 .f32) (harg8 : arg8.IsWhole) (arg9 : Memref sig .tc .vmem S1x4x1x128x256 .f32) (harg9 : arg9.IsWhole) (arg10 : Memref sig .tc .vmem S1x4x64x1024 .f32) (harg10 : arg10.IsWhole) (arg11 : Memref sig .tc .vmem S1x4x64x128 .f32) (harg11 : arg11.IsWhole) (arg12 : Memref sig .tc .vmem S1x128x256 .f32) (harg12 : arg12.IsWhole) (arg13 : Memref sig .tc .vmem S1x1x256 .f32) (harg13 : arg13.IsWhole) (arg14 : Memref sig .tc .vmem S4x128x256 .f32) (harg14 : arg14.IsWhole) (hc0 : ¬cond0_0 i)
    (x0 : Vec F S4x64x256 .f32) (x1 : Vec F S4x64x256 .f32) (x2 : Vec F S4x64x512 .f32) (x3 : Vec F S4x64x128 .f32) (x4 : Vec F S1x128x256 .f32) (x5 : Vec F S1x1x256 .f32) (x6 : Vec F S4x64x512 .f32) (x7 : Vec F S1x4x1x128x256 .f32) (xo10 : Vec F S1x128x256 .f32) (xo11 : Vec F S1x1x256 .f32) (xs0 : Vec F S4x128x256 .f32) (y : S1x4x64x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo10 xo11 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo10 xo11 xs0).1 S1x4x64x1024.size (by sl_kernel_rfl) y

/-- What case B leaves in output 8's staging buffer: its pieces read back over junk. -/
def out0_B_8 (c : Dev nD) (i : grid0.Coords) (arg2 : Memref sig .tc .vmem S4x64x256 .f32) (harg2 : arg2.IsWhole) (arg3 : Memref sig .tc .vmem S4x64x256 .f32) (harg3 : arg3.IsWhole) (arg4 : Memref sig .tc .vmem S4x64x512 .f32) (harg4 : arg4.IsWhole) (arg5 : Memref sig .tc .vmem S4x64x128 .f32) (harg5 : arg5.IsWhole) (arg6 : Memref sig .tc .vmem S1x128x256 .f32) (harg6 : arg6.IsWhole) (arg7 : Memref sig .tc .vmem S1x1x256 .f32) (harg7 : arg7.IsWhole) (arg8 : Memref sig .tc .vmem S4x64x512 .f32) (harg8 : arg8.IsWhole) (arg9 : Memref sig .tc .vmem S1x4x1x128x256 .f32) (harg9 : arg9.IsWhole) (arg10 : Memref sig .tc .vmem S1x4x64x1024 .f32) (harg10 : arg10.IsWhole) (arg11 : Memref sig .tc .vmem S1x4x64x128 .f32) (harg11 : arg11.IsWhole) (arg12 : Memref sig .tc .vmem S1x128x256 .f32) (harg12 : arg12.IsWhole) (arg13 : Memref sig .tc .vmem S1x1x256 .f32) (harg13 : arg13.IsWhole) (arg14 : Memref sig .tc .vmem S4x128x256 .f32) (harg14 : arg14.IsWhole) (hc0 : ¬cond0_0 i)
    (x0 : Vec F S4x64x256 .f32) (x1 : Vec F S4x64x256 .f32) (x2 : Vec F S4x64x512 .f32) (x3 : Vec F S4x64x128 .f32) (x4 : Vec F S1x128x256 .f32) (x5 : Vec F S1x1x256 .f32) (x6 : Vec F S4x64x512 .f32) (x7 : Vec F S1x4x1x128x256 .f32) (xo10 : Vec F S1x128x256 .f32) (xo11 : Vec F S1x1x256 .f32) (xs0 : Vec F S4x128x256 .f32) : Vec F S1x4x64x1024 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo10 xo11 xs0).1)

/-- Case B's pieces for output 9 tile its block (1 store of `S1x4x64x128`, checked by the kernel's evaluation: Lib/Ring.lean `Piece.tiledL`, linear in the pieces, through a loop's `@[irreducible]` trip theorem too), so they cover it. -/
theorem cover0_B_9 (c : Dev nD) (i : grid0.Coords) (arg2 : Memref sig .tc .vmem S4x64x256 .f32) (harg2 : arg2.IsWhole) (arg3 : Memref sig .tc .vmem S4x64x256 .f32) (harg3 : arg3.IsWhole) (arg4 : Memref sig .tc .vmem S4x64x512 .f32) (harg4 : arg4.IsWhole) (arg5 : Memref sig .tc .vmem S4x64x128 .f32) (harg5 : arg5.IsWhole) (arg6 : Memref sig .tc .vmem S1x128x256 .f32) (harg6 : arg6.IsWhole) (arg7 : Memref sig .tc .vmem S1x1x256 .f32) (harg7 : arg7.IsWhole) (arg8 : Memref sig .tc .vmem S4x64x512 .f32) (harg8 : arg8.IsWhole) (arg9 : Memref sig .tc .vmem S1x4x1x128x256 .f32) (harg9 : arg9.IsWhole) (arg10 : Memref sig .tc .vmem S1x4x64x1024 .f32) (harg10 : arg10.IsWhole) (arg11 : Memref sig .tc .vmem S1x4x64x128 .f32) (harg11 : arg11.IsWhole) (arg12 : Memref sig .tc .vmem S1x128x256 .f32) (harg12 : arg12.IsWhole) (arg13 : Memref sig .tc .vmem S1x1x256 .f32) (harg13 : arg13.IsWhole) (arg14 : Memref sig .tc .vmem S4x128x256 .f32) (harg14 : arg14.IsWhole) (hc0 : ¬cond0_0 i)
    (x0 : Vec F S4x64x256 .f32) (x1 : Vec F S4x64x256 .f32) (x2 : Vec F S4x64x512 .f32) (x3 : Vec F S4x64x128 .f32) (x4 : Vec F S1x128x256 .f32) (x5 : Vec F S1x1x256 .f32) (x6 : Vec F S4x64x512 .f32) (x7 : Vec F S1x4x1x128x256 .f32) (xo10 : Vec F S1x128x256 .f32) (xo11 : Vec F S1x1x256 .f32) (xs0 : Vec F S4x128x256 .f32) (y : S1x4x64x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo10 xo11 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo10 xo11 xs0).2.1 S1x4x64x128.size (by sl_kernel_rfl) y

/-- What case B leaves in output 9's staging buffer: its pieces read back over junk. -/
def out0_B_9 (c : Dev nD) (i : grid0.Coords) (arg2 : Memref sig .tc .vmem S4x64x256 .f32) (harg2 : arg2.IsWhole) (arg3 : Memref sig .tc .vmem S4x64x256 .f32) (harg3 : arg3.IsWhole) (arg4 : Memref sig .tc .vmem S4x64x512 .f32) (harg4 : arg4.IsWhole) (arg5 : Memref sig .tc .vmem S4x64x128 .f32) (harg5 : arg5.IsWhole) (arg6 : Memref sig .tc .vmem S1x128x256 .f32) (harg6 : arg6.IsWhole) (arg7 : Memref sig .tc .vmem S1x1x256 .f32) (harg7 : arg7.IsWhole) (arg8 : Memref sig .tc .vmem S4x64x512 .f32) (harg8 : arg8.IsWhole) (arg9 : Memref sig .tc .vmem S1x4x1x128x256 .f32) (harg9 : arg9.IsWhole) (arg10 : Memref sig .tc .vmem S1x4x64x1024 .f32) (harg10 : arg10.IsWhole) (arg11 : Memref sig .tc .vmem S1x4x64x128 .f32) (harg11 : arg11.IsWhole) (arg12 : Memref sig .tc .vmem S1x128x256 .f32) (harg12 : arg12.IsWhole) (arg13 : Memref sig .tc .vmem S1x1x256 .f32) (harg13 : arg13.IsWhole) (arg14 : Memref sig .tc .vmem S4x128x256 .f32) (harg14 : arg14.IsWhole) (hc0 : ¬cond0_0 i)
    (x0 : Vec F S4x64x256 .f32) (x1 : Vec F S4x64x256 .f32) (x2 : Vec F S4x64x512 .f32) (x3 : Vec F S4x64x128 .f32) (x4 : Vec F S1x128x256 .f32) (x5 : Vec F S1x1x256 .f32) (x6 : Vec F S4x64x512 .f32) (x7 : Vec F S1x4x1x128x256 .f32) (xo10 : Vec F S1x128x256 .f32) (xo11 : Vec F S1x1x256 .f32) (xs0 : Vec F S4x128x256 .f32) : Vec F S1x4x64x128 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo10 xo11 xs0).2.1)

/-- Case B's pieces for output 10 tile its block (1 store of `S1x128x256`, checked by the kernel's evaluation: Lib/Ring.lean `Piece.tiledL`, linear in the pieces, through a loop's `@[irreducible]` trip theorem too), so they cover it. -/
theorem cover0_B_10 (c : Dev nD) (i : grid0.Coords) (arg2 : Memref sig .tc .vmem S4x64x256 .f32) (harg2 : arg2.IsWhole) (arg3 : Memref sig .tc .vmem S4x64x256 .f32) (harg3 : arg3.IsWhole) (arg4 : Memref sig .tc .vmem S4x64x512 .f32) (harg4 : arg4.IsWhole) (arg5 : Memref sig .tc .vmem S4x64x128 .f32) (harg5 : arg5.IsWhole) (arg6 : Memref sig .tc .vmem S1x128x256 .f32) (harg6 : arg6.IsWhole) (arg7 : Memref sig .tc .vmem S1x1x256 .f32) (harg7 : arg7.IsWhole) (arg8 : Memref sig .tc .vmem S4x64x512 .f32) (harg8 : arg8.IsWhole) (arg9 : Memref sig .tc .vmem S1x4x1x128x256 .f32) (harg9 : arg9.IsWhole) (arg10 : Memref sig .tc .vmem S1x4x64x1024 .f32) (harg10 : arg10.IsWhole) (arg11 : Memref sig .tc .vmem S1x4x64x128 .f32) (harg11 : arg11.IsWhole) (arg12 : Memref sig .tc .vmem S1x128x256 .f32) (harg12 : arg12.IsWhole) (arg13 : Memref sig .tc .vmem S1x1x256 .f32) (harg13 : arg13.IsWhole) (arg14 : Memref sig .tc .vmem S4x128x256 .f32) (harg14 : arg14.IsWhole) (hc0 : ¬cond0_0 i)
    (x0 : Vec F S4x64x256 .f32) (x1 : Vec F S4x64x256 .f32) (x2 : Vec F S4x64x512 .f32) (x3 : Vec F S4x64x128 .f32) (x4 : Vec F S1x128x256 .f32) (x5 : Vec F S1x1x256 .f32) (x6 : Vec F S4x64x512 .f32) (x7 : Vec F S1x4x1x128x256 .f32) (xo10 : Vec F S1x128x256 .f32) (xo11 : Vec F S1x1x256 .f32) (xs0 : Vec F S4x128x256 .f32) (y : S1x128x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo10 xo11 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo10 xo11 xs0).2.2.1 S1x128x256.size (by sl_kernel_rfl) y

/-- What case B leaves in output 10's staging buffer: its pieces read back over junk. -/
def out0_B_10 (c : Dev nD) (i : grid0.Coords) (arg2 : Memref sig .tc .vmem S4x64x256 .f32) (harg2 : arg2.IsWhole) (arg3 : Memref sig .tc .vmem S4x64x256 .f32) (harg3 : arg3.IsWhole) (arg4 : Memref sig .tc .vmem S4x64x512 .f32) (harg4 : arg4.IsWhole) (arg5 : Memref sig .tc .vmem S4x64x128 .f32) (harg5 : arg5.IsWhole) (arg6 : Memref sig .tc .vmem S1x128x256 .f32) (harg6 : arg6.IsWhole) (arg7 : Memref sig .tc .vmem S1x1x256 .f32) (harg7 : arg7.IsWhole) (arg8 : Memref sig .tc .vmem S4x64x512 .f32) (harg8 : arg8.IsWhole) (arg9 : Memref sig .tc .vmem S1x4x1x128x256 .f32) (harg9 : arg9.IsWhole) (arg10 : Memref sig .tc .vmem S1x4x64x1024 .f32) (harg10 : arg10.IsWhole) (arg11 : Memref sig .tc .vmem S1x4x64x128 .f32) (harg11 : arg11.IsWhole) (arg12 : Memref sig .tc .vmem S1x128x256 .f32) (harg12 : arg12.IsWhole) (arg13 : Memref sig .tc .vmem S1x1x256 .f32) (harg13 : arg13.IsWhole) (arg14 : Memref sig .tc .vmem S4x128x256 .f32) (harg14 : arg14.IsWhole) (hc0 : ¬cond0_0 i)
    (x0 : Vec F S4x64x256 .f32) (x1 : Vec F S4x64x256 .f32) (x2 : Vec F S4x64x512 .f32) (x3 : Vec F S4x64x128 .f32) (x4 : Vec F S1x128x256 .f32) (x5 : Vec F S1x1x256 .f32) (x6 : Vec F S4x64x512 .f32) (x7 : Vec F S1x4x1x128x256 .f32) (xo10 : Vec F S1x128x256 .f32) (xo11 : Vec F S1x1x256 .f32) (xs0 : Vec F S4x128x256 .f32) : Vec F S1x128x256 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo10 xo11 xs0).2.2.1)

/-- Case B's pieces for output 11 tile its block (1 store of `S1x1x256`, checked by the kernel's evaluation: Lib/Ring.lean `Piece.tiledL`, linear in the pieces, through a loop's `@[irreducible]` trip theorem too), so they cover it. -/
theorem cover0_B_11 (c : Dev nD) (i : grid0.Coords) (arg2 : Memref sig .tc .vmem S4x64x256 .f32) (harg2 : arg2.IsWhole) (arg3 : Memref sig .tc .vmem S4x64x256 .f32) (harg3 : arg3.IsWhole) (arg4 : Memref sig .tc .vmem S4x64x512 .f32) (harg4 : arg4.IsWhole) (arg5 : Memref sig .tc .vmem S4x64x128 .f32) (harg5 : arg5.IsWhole) (arg6 : Memref sig .tc .vmem S1x128x256 .f32) (harg6 : arg6.IsWhole) (arg7 : Memref sig .tc .vmem S1x1x256 .f32) (harg7 : arg7.IsWhole) (arg8 : Memref sig .tc .vmem S4x64x512 .f32) (harg8 : arg8.IsWhole) (arg9 : Memref sig .tc .vmem S1x4x1x128x256 .f32) (harg9 : arg9.IsWhole) (arg10 : Memref sig .tc .vmem S1x4x64x1024 .f32) (harg10 : arg10.IsWhole) (arg11 : Memref sig .tc .vmem S1x4x64x128 .f32) (harg11 : arg11.IsWhole) (arg12 : Memref sig .tc .vmem S1x128x256 .f32) (harg12 : arg12.IsWhole) (arg13 : Memref sig .tc .vmem S1x1x256 .f32) (harg13 : arg13.IsWhole) (arg14 : Memref sig .tc .vmem S4x128x256 .f32) (harg14 : arg14.IsWhole) (hc0 : ¬cond0_0 i)
    (x0 : Vec F S4x64x256 .f32) (x1 : Vec F S4x64x256 .f32) (x2 : Vec F S4x64x512 .f32) (x3 : Vec F S4x64x128 .f32) (x4 : Vec F S1x128x256 .f32) (x5 : Vec F S1x1x256 .f32) (x6 : Vec F S4x64x512 .f32) (x7 : Vec F S1x4x1x128x256 .f32) (xo10 : Vec F S1x128x256 .f32) (xo11 : Vec F S1x1x256 .f32) (xs0 : Vec F S4x128x256 .f32) (y : S1x1x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo10 xo11 xs0).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo10 xo11 xs0).2.2.2.1 S1x1x256.size (by sl_kernel_rfl) y

/-- What case B leaves in output 11's staging buffer: its pieces read back over junk. -/
def out0_B_11 (c : Dev nD) (i : grid0.Coords) (arg2 : Memref sig .tc .vmem S4x64x256 .f32) (harg2 : arg2.IsWhole) (arg3 : Memref sig .tc .vmem S4x64x256 .f32) (harg3 : arg3.IsWhole) (arg4 : Memref sig .tc .vmem S4x64x512 .f32) (harg4 : arg4.IsWhole) (arg5 : Memref sig .tc .vmem S4x64x128 .f32) (harg5 : arg5.IsWhole) (arg6 : Memref sig .tc .vmem S1x128x256 .f32) (harg6 : arg6.IsWhole) (arg7 : Memref sig .tc .vmem S1x1x256 .f32) (harg7 : arg7.IsWhole) (arg8 : Memref sig .tc .vmem S4x64x512 .f32) (harg8 : arg8.IsWhole) (arg9 : Memref sig .tc .vmem S1x4x1x128x256 .f32) (harg9 : arg9.IsWhole) (arg10 : Memref sig .tc .vmem S1x4x64x1024 .f32) (harg10 : arg10.IsWhole) (arg11 : Memref sig .tc .vmem S1x4x64x128 .f32) (harg11 : arg11.IsWhole) (arg12 : Memref sig .tc .vmem S1x128x256 .f32) (harg12 : arg12.IsWhole) (arg13 : Memref sig .tc .vmem S1x1x256 .f32) (harg13 : arg13.IsWhole) (arg14 : Memref sig .tc .vmem S4x128x256 .f32) (harg14 : arg14.IsWhole) (hc0 : ¬cond0_0 i)
    (x0 : Vec F S4x64x256 .f32) (x1 : Vec F S4x64x256 .f32) (x2 : Vec F S4x64x512 .f32) (x3 : Vec F S4x64x128 .f32) (x4 : Vec F S1x128x256 .f32) (x5 : Vec F S1x1x256 .f32) (x6 : Vec F S4x64x512 .f32) (x7 : Vec F S1x4x1x128x256 .f32) (xo10 : Vec F S1x128x256 .f32) (xo11 : Vec F S1x1x256 .f32) (xs0 : Vec F S4x128x256 .f32) : Vec F S1x1x256 .f32 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo10 xo11 xs0).2.2.2.1)

/-- Case B's pieces for scratch `arg14`, which the kernel carries between points, cover it: 1 piece of `S4x128x256` tiling it (Lib/Ring.lean `Piece.tiledL`). -/
theorem scover0_B_0 (c : Dev nD) (i : grid0.Coords) (arg2 : Memref sig .tc .vmem S4x64x256 .f32) (harg2 : arg2.IsWhole) (arg3 : Memref sig .tc .vmem S4x64x256 .f32) (harg3 : arg3.IsWhole) (arg4 : Memref sig .tc .vmem S4x64x512 .f32) (harg4 : arg4.IsWhole) (arg5 : Memref sig .tc .vmem S4x64x128 .f32) (harg5 : arg5.IsWhole) (arg6 : Memref sig .tc .vmem S1x128x256 .f32) (harg6 : arg6.IsWhole) (arg7 : Memref sig .tc .vmem S1x1x256 .f32) (harg7 : arg7.IsWhole) (arg8 : Memref sig .tc .vmem S4x64x512 .f32) (harg8 : arg8.IsWhole) (arg9 : Memref sig .tc .vmem S1x4x1x128x256 .f32) (harg9 : arg9.IsWhole) (arg10 : Memref sig .tc .vmem S1x4x64x1024 .f32) (harg10 : arg10.IsWhole) (arg11 : Memref sig .tc .vmem S1x4x64x128 .f32) (harg11 : arg11.IsWhole) (arg12 : Memref sig .tc .vmem S1x128x256 .f32) (harg12 : arg12.IsWhole) (arg13 : Memref sig .tc .vmem S1x1x256 .f32) (harg13 : arg13.IsWhole) (arg14 : Memref sig .tc .vmem S4x128x256 .f32) (harg14 : arg14.IsWhole) (hc0 : ¬cond0_0 i)
    (x0 : Vec F S4x64x256 .f32) (x1 : Vec F S4x64x256 .f32) (x2 : Vec F S4x64x512 .f32) (x3 : Vec F S4x64x128 .f32) (x4 : Vec F S1x128x256 .f32) (x5 : Vec F S1x1x256 .f32) (x6 : Vec F S4x64x512 .f32) (x7 : Vec F S1x4x1x128x256 .f32) (xo10 : Vec F S1x128x256 .f32) (xo11 : Vec F S1x1x256 .f32) (xs0 : Vec F S4x128x256 .f32) (y : S4x128x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo10 xo11 xs0).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo10 xo11 xs0).2.2.2.2.1 S4x128x256.size (by sl_kernel_rfl) y

/-- What case B leaves in scratch `arg14`: its pieces read back over junk. -/
def sout0_B_0 (c : Dev nD) (i : grid0.Coords) (arg2 : Memref sig .tc .vmem S4x64x256 .f32) (harg2 : arg2.IsWhole) (arg3 : Memref sig .tc .vmem S4x64x256 .f32) (harg3 : arg3.IsWhole) (arg4 : Memref sig .tc .vmem S4x64x512 .f32) (harg4 : arg4.IsWhole) (arg5 : Memref sig .tc .vmem S4x64x128 .f32) (harg5 : arg5.IsWhole) (arg6 : Memref sig .tc .vmem S1x128x256 .f32) (harg6 : arg6.IsWhole) (arg7 : Memref sig .tc .vmem S1x1x256 .f32) (harg7 : arg7.IsWhole) (arg8 : Memref sig .tc .vmem S4x64x512 .f32) (harg8 : arg8.IsWhole) (arg9 : Memref sig .tc .vmem S1x4x1x128x256 .f32) (harg9 : arg9.IsWhole) (arg10 : Memref sig .tc .vmem S1x4x64x1024 .f32) (harg10 : arg10.IsWhole) (arg11 : Memref sig .tc .vmem S1x4x64x128 .f32) (harg11 : arg11.IsWhole) (arg12 : Memref sig .tc .vmem S1x128x256 .f32) (harg12 : arg12.IsWhole) (arg13 : Memref sig .tc .vmem S1x1x256 .f32) (harg13 : arg13.IsWhole) (arg14 : Memref sig .tc .vmem S4x128x256 .f32) (harg14 : arg14.IsWhole) (hc0 : ¬cond0_0 i)
    (x0 : Vec F S4x64x256 .f32) (x1 : Vec F S4x64x256 .f32) (x2 : Vec F S4x64x512 .f32) (x3 : Vec F S4x64x128 .f32) (x4 : Vec F S1x128x256 .f32) (x5 : Vec F S1x1x256 .f32) (x6 : Vec F S4x64x512 .f32) (x7 : Vec F S1x4x1x128x256 .f32) (xo10 : Vec F S1x128x256 .f32) (xo11 : Vec F S1x1x256 .f32) (xs0 : Vec F S4x128x256 .f32) : Vec F S4x128x256 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo10 xo11 xs0).2.2.2.2.1)

/-! ## What the outputs hold after each point -/

/-- What the five buffers the body writes hold after a point: the four outputs' blocks in window order, then the
    state gradient the kernel carries. -/
abbrev Left (F : FTy → Type) [FloatOps F] : Type :=
  Vec F S1x4x64x1024 .f32 × Vec F S1x4x64x128 .f32 × Vec F S1x128x256 .f32 × Vec F S1x1x256 .f32 × Vec F S4x128x256 .f32

/-- A direction's first point: nothing is taken over from the point before. -/
def stepA (c : Dev nD) (t : Fin cfg0.N) (h0 : t.val % 32 = 0) : Left F :=
  (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t))

/-- Every other point: the two sums and the state gradient are taken over from the point before, `p`. -/
def stepB (c : Dev nD) (t : Fin cfg0.N) (h0 : ¬t.val % 32 = 0) (p : Left F) : Left F :=
  (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) p.2.2.1 p.2.2.2.1 p.2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) p.2.2.1 p.2.2.2.1 p.2.2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) p.2.2.1 p.2.2.2.1 p.2.2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) p.2.2.1 p.2.2.2.1 p.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) p.2.2.1 p.2.2.2.1 p.2.2.2.2)

/-- What is left after the body at position `n`. -/
def outsAt0 (c : Dev nD) : (n : ℕ) → n < cfg0.N → Left F
  | 0, hn => stepA m c ⟨0, hn⟩ (Nat.zero_mod _)
  | n + 1, hn =>
    if h0 : (n + 1) % 32 = 0 then stepA m c ⟨n + 1, hn⟩ h0
    else stepB m c ⟨n + 1, hn⟩ h0 (outsAt0 c n (Nat.lt_of_succ_lt hn))

theorem outsAt0_A' (c : Dev nD) (t : Fin cfg0.N) (h0 : t.val % 32 = 0) :
    outsAt0 m c t.val t.isLt = stepA m c t h0 := by
  obtain ⟨n, hn⟩ := t
  cases n with
  | zero => rfl
  | succ n => rw [outsAt0]; exact dif_pos h0

theorem outsAt0_B' (c : Dev nD) (t : Fin cfg0.N) (h0 : ¬t.val % 32 = 0) :
    outsAt0 m c t.val t.isLt = stepB m c t h0 (outsAt0 m c (t.val - 1) (Nat.lt_of_le_of_lt (Nat.sub_le _ _) t.isLt)) := by
  obtain ⟨n, hn⟩ := t
  cases n with
  | zero => exact absurd (Nat.zero_mod _) h0
  | succ n => rw [outsAt0]; exact dif_neg h0

/-- `outsAt0` at a direction's first point, written out. -/
theorem outsAt0_A (c : Dev nD) (t : Fin cfg0.N) (h0 : t.val % 32 = 0) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  rw [outsAt0_A' m c t h0, stepA]

/-- `outsAt0` at every other point, written out. -/
theorem outsAt0_B (c : Dev nD) (t : Fin cfg0.N) (h0 : ¬t.val % 32 = 0) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  rw [outsAt0_B' m c t h0, stepB]

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
    | ⟨11, _⟩ => (outsAt0 m c t.val t.isLt).2.2.2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2.1 := by dsimp only [dats]
theorem after0_11 (c : Dev nD) (t : Fin cfg0.N) : (dats m 0 c).after 11 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
/-- At a point of case B output 10's current staging buffer holds what the body left at the point before: the point is
    not the first, the buffer was not written back between (`flush0_10`), the window is live and uncut (Lib/Pipeline/Frame.lean
    `Dat.before_out_kept`). -/
theorem before0_10_B (c : Dev nD) (t : Fin cfg0.N) (h0 : ¬t.val % 32 = 0) (d) :
    (dats m 0 c).before 10 t d = (outsAt0 m c (t.val - 1) (Nat.lt_of_le_of_lt (Nat.sub_le _ _) t.isLt)).2.2.1 := by
  have hN : t.val < 64 := lt_of_lt_of_eq t.isLt (show cfg0.N = 64 from N_0)
  rw [Dat.before_out_kept _ 10 rfl t (by omega) (Bool.eq_false_iff.mpr fun h => by have := (flush0_10 _).mp h; dsimp only at this; omega)
    (fun _ => rfl) (fun _ _ => rfl)]
  dsimp only [dats]
/-- At a point of case B output 11's current staging buffer holds what the body left at the point before: the point is
    not the first, the buffer was not written back between (`flush0_11`), the window is live and uncut (Lib/Pipeline/Frame.lean
    `Dat.before_out_kept`). -/
theorem before0_11_B (c : Dev nD) (t : Fin cfg0.N) (h0 : ¬t.val % 32 = 0) (d) :
    (dats m 0 c).before 11 t d = (outsAt0 m c (t.val - 1) (Nat.lt_of_le_of_lt (Nat.sub_le _ _) t.isLt)).2.2.2.1 := by
  have hN : t.val < 64 := lt_of_lt_of_eq t.isLt (show cfg0.N = 64 from N_0)
  rw [Dat.before_out_kept _ 11 rfl t (by omega) (Bool.eq_false_iff.mpr fun h => by have := (flush0_11 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.succ = PhiS m c (t.val + 1) t.isLt from rfl, PhiS_succ]
  have hN : t.val < 64 := lt_of_lt_of_eq t.isLt (show cfg0.N = 64 from N_0)
  by_cases h0 : t.val % 32 = 0
  · by_cases hz : t.val = 0
    · rw [PhiS_castSucc m c t, PhiS_zero m c _ _ hz, PhiA0_eq]
      rw [outsAt0_A m c t h0]
      unfold out0_A_8 out0_A_9 out0_A_10 out0_A_11 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_A c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [HS0]; · iexact HS0
      iintro ⟨H0, H1, H2, H3, H4, H5, H6, H7, ⟨%e8, H8⟩, ⟨%e9, H9⟩, ⟨%e10, H10⟩, ⟨%e11, H11⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _)
      unfold owns; iexists _; isplitr
      swap; · iexact H11
      ipureintro; exact View.read_writes_of_cover _ _ _ _ _ (cover0_A_11 c _ _ _ _ _ _ _ _ _ _ _ _ _ _ _ _ _ _ _ _ _ _ _ _ _ _ _ _ _ _ _ _ _ _ _ _)
    · rw [PhiS_castSucc m c t, PhiS_pos m c _ _ hz]
      rw [outsAt0_A m c t h0]
      unfold out0_A_8 out0_A_9 out0_A_10 out0_A_11 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_A c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [HS0]; · iexists _; iexact HS0
      iintro ⟨H0, H1, H2, H3, H4, H5, H6, H7, ⟨%e8, H8⟩, ⟨%e9, H9⟩, ⟨%e10, H10⟩, ⟨%e11, H11⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _)
      unfold owns; iexists _; isplitr
      swap; · iexact H11
      ipureintro; exact View.read_writes_of_cover _ _ _ _ _ (cover0_A_11 c _ _ _ _ _ _ _ _ _ _ _ _ _ _ _ _ _ _ _ _ _ _ _ _ _ _ _ _ _ _ _ _ _ _ _ _)
  · by_cases hz : t.val = 0
    · exfalso; have hN : t.val < 64 := lt_of_lt_of_eq t.isLt (show cfg0.N = 64 from N_0); omega
    · rw [PhiS_castSucc m c t, PhiS_pos m c _ _ hz]
      rw [outsAt0_B m c t h0]
      simp only [before0_10_B m c t h0, before0_11_B m c t h0]
      unfold out0_B_8 out0_B_9 out0_B_10 out0_B_11 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_B c (grid0.coords t) _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _ _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexact H10
      isplitl [H11]; · iexact H11
      isplitl [HS0]; · iexact HS0
      iintro ⟨H0, H1, H2, H3, H4, H5, H6, H7, ⟨%e8, H8⟩, ⟨%e9, H9⟩, ⟨%e10, H10⟩, ⟨%e11, H11⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_B_10 c _ _ _ _ _ _ _ _ _ _ _ _ _ _ _ _ _ _ _ _ _ _ _ _ _ _ _ _ _ _ _ _ _ _ _ _ _ _ _)
      unfold owns; iexists _; isplitr
      swap; · iexact H11
      ipureintro; exact View.read_writes_of_cover _ _ _ _ _ (cover0_B_11 c _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: the arguments end as they began, every counter at zero, at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Gen

end
-- ==== Proof.SameText.lean ====
/- The kernel's own program and its ideal reading are one text: their tables of bodies and their main functions are equal,
   at any float values. -/
module

public import proofs.«01_k».proof.Defs
public import proofs.«01_k».proof.Proof.Gen.Kernel
public import proofs.«01_k».proof.Proof.Gen.KernelIdeal

@[expose] public section

noncomputable section

namespace Cert.SameText

open Idealize.ShloMosaic Idealize.SL.Sem

variable {F : FTy → Type} [FloatOps F]

theorem body_eq : (@Cert.Kernel.cc0_gla_bwd F _ _) = (@Cert.KernelIdeal.cc0_gla_bwd F _ _) := rfl

set_option maxHeartbeats 1000000 in
theorem bodies_eq : (Cert.Kernel.defs₀ (F := F)) = (Cert.KernelIdeal.defs₀ (F := F)) := by
  unfold Cert.Kernel.defs₀ Cert.KernelIdeal.defs₀
  rw [body_eq]
  generalize (@Cert.KernelIdeal.cc0_gla_bwd F _ _) = f
  refine congrArg Defs.onTc ?_
  refine funext fun l => ?_
  refine funext fun x => ?_
  rcases l with ⟨_ | n, h⟩
  · rcases x with ⟨t, s⟩
    exact rfl
  · exact absurd h (by omega)

set_option maxHeartbeats 1000000 in
theorem defs_heq : HEq (Cert.Kernel.defs (F := F)) (Cert.KernelIdeal.defs (F := F)) := by
  unfold Cert.Kernel.defs Cert.KernelIdeal.defs
  have h := bodies_eq (F := F)
  generalize Cert.Kernel.defs₀ (F := F) = d at h
  subst h
  generalize Cert.KernelIdeal.defs₀ (F := F) = d
  exact HEq.rfl

theorem defs_eq : Cert.Kernel.defs (F := F) = Cert.KernelIdeal.defs (F := F) := eq_of_heq defs_heq

theorem main_heq : HEq (Cert.Kernel.main (F := F)) (Cert.KernelIdeal.main (F := F)) := HEq.rfl

theorem main_eq : Cert.Kernel.main (F := F) = Cert.KernelIdeal.main (F := F) := eq_of_heq main_heq

end Cert.SameText

end
-- ==== Proof.Spec.lean ====
/- The backward pass of one head of gated linear attention on one chunk of 64 rows, as sums and products of extended reals.
   Rows count in the order of the recurrence. -/
module

public import Idealize.ShloMosaic.Lib.Pointwise

@[expose] public section

noncomputable section

namespace Cert.Spec

open Idealize.ShloMosaic

/-- The log of a gate: minus the softplus of minus the gate's argument, over 16. -/
def logGate (z : EReal) : EReal := (min z 0 - Ideal.log (1 + Ideal.exp (0 - max z (-z)))) * ((1 / 16 : ℝ) : EReal)

/-- One head's arrays on one chunk: queries, keys, log gates, values, the gradient of the output, the state the chunk began
    with, and the gradient of the state it left. -/
structure Head where
  q : Fin 64 → Fin 64 → EReal
  k : Fin 64 → Fin 64 → EReal
  la : Fin 64 → Fin 64 → EReal
  v : Fin 64 → Fin 128 → EReal
  dO : Fin 64 → Fin 128 → EReal
  S : Fin 64 → Fin 128 → EReal
  G : Fin 64 → Fin 128 → EReal

namespace Head
variable (H : Head)

/-- The log gates summed from the chunk's first row. -/
def b (t e : Fin 64) : EReal := ∑ s : Fin 64, if s ≤ t then H.la s e else 0
def qs (t e : Fin 64) : EReal := H.q t e * ((1 / 8 : ℝ) : EReal)
def up (t e : Fin 64) : EReal := Ideal.exp (H.b t e - H.b 32 e)
def down (t e : Fin 64) : EReal := Ideal.exp (H.b 32 e - H.b t e)
def full (t e : Fin 64) : EReal := Ideal.exp (H.b t e)
def rest (t e : Fin 64) : EReal := Ideal.exp (H.b 63 e - H.b t e)
def decay (e : Fin 64) : EReal := Ideal.exp (H.b 63 e)
def qi (t e : Fin 64) : EReal := H.qs t e * H.up t e
def ki (t e : Fin 64) : EReal := H.k t e * H.down t e
def qe (t e : Fin 64) : EReal := H.qs t e * H.full t e
def kd (t e : Fin 64) : EReal := H.k t e * H.rest t e
/-- The rows' attention to the rows before them. -/
def A (t s : Fin 64) : EReal := if s ≤ t then ∑ e : Fin 64, H.qi t e * H.ki s e else 0
def dA (t s : Fin 64) : EReal := if s ≤ t then ∑ v : Fin 128, H.dO t v * H.v s v else 0
def dqi (t e : Fin 64) : EReal := ∑ s : Fin 64, H.dA t s * H.ki s e
def dki (s e : Fin 64) : EReal := ∑ t : Fin 64, H.dA t s * H.qi t e
def dqe (t e : Fin 64) : EReal := ∑ v : Fin 128, H.dO t v * H.S e v
def dkd (s e : Fin 64) : EReal := ∑ v : Fin 128, H.G e v * H.v s v
/-- The gradients of the queries, the keys and the values. -/
def dq (t e : Fin 64) : EReal := (H.dqe t e * H.full t e + H.dqi t e * H.up t e) * ((1 / 8 : ℝ) : EReal)
def dk (s e : Fin 64) : EReal := H.dkd s e * H.rest s e + H.dki s e * H.down s e
def dv (s : Fin 64) (v : Fin 128) : EReal := (∑ e : Fin 64, H.G e v * H.kd s e) + ∑ t : Fin 64, H.dO t v * H.A t s
/-- The gradient of the state the chunk began with. -/
def dS (e : Fin 64) (v : Fin 128) : EReal := ∑ t : Fin 64, H.dO t v * H.qe t e
def next (e : Fin 64) (v : Fin 128) : EReal := H.G e v * H.decay e + H.dS e v

end Head

end Cert.Spec

end
-- ==== Proof.Body.lean ====
/- The kernel's body at one point of its grid: the values its output block and its scratch are made of, one by one, from
   the blocks it reads. -/
module

public import proofs.«01_k».proof.Proof.Gen.KernelIdeal.Skeleton
public import proofs.«01_k».proof.Proof.Spec

@[expose] public section

noncomputable section

namespace Cert.Body

open Idealize.ShloMosaic Idealize.ShloMosaic.TcCoe
open Cert.KernelIdeal Cert.KernelIdeal.Gen

/-- What the body reads: the direction, the blocks of its windows, and the gradient of the state its scratch carries. -/
structure In where
  a0 : BitVec 32
  q : FVec Ideal S4x64x256 .f32
  k : FVec Ideal S4x64x256 .f32
  v : FVec Ideal S4x64x512 .f32
  af : FVec Ideal S4x64x128 .f32
  wa : FVec Ideal S1x128x256 .f32
  ba : FVec Ideal S1x1x256 .f32
  dO : FVec Ideal S4x64x512 .f32
  st : FVec Ideal S1x4x1x128x256 .f32
  ds : FVec Ideal S4x128x256 .f32

def v112 (I : In) : IVec S1x1x256 32 := iota .tc S1x1x256 32 [2] iota_S1x1x256_d2_w32
def v72 (I : In) : IVec S64x64 32 := k0_pay25
def v78 (I : In) : IVec S64x64 1 := k0_pay26 I.a0 (v72 I)
def v4 (I : In) : FVec Ideal S4x64x256 .f32 := k0_pay9 I.q
def v22 (I : In) : FVec Ideal S4x64x256 .f32 := k0_pay15 I.af I.wa I.ba
def v24 (I : In) : FVec Ideal S4x64x256 .f32 := k0_pay16 I.af I.wa I.ba
def v69 (I : In) : FVec Ideal S4x64x256 .f32 := k0_pay24 I.a0 (v22 I) (v24 I)
def v101 (I : In) : FVec Ideal S4x64x256 .f32 := k0_pay33 I.a0 (v4 I) (v69 I)
def v6 (I : In) : FVec Ideal S4x64x256 .f32 := k0_pay10 I.k
def v105 (I : In) : FVec Ideal S4x64x256 .f32 := k0_pay35 I.a0 (v6 I) (v69 I)
def v146 (I : In) : FVec Ideal S4x64x64 .f32 := k0_pay53 (v78 I) (v101 I) (v105 I) (v112 I)
def v109 (I : In) : FVec Ideal S4x64x256 .f32 := k0_pay37 I.a0 (v6 I) (v69 I)
def v150 (I : In) : FVec Ideal S4x64x256 .f32 := k0_pay55 (v109 I) (v112 I)
def v193 (I : In) : FVec Ideal S4x128x256 .f32 := k0_pay71 I.ds
def v201 (I : In) : FVec Ideal S4x64x128 .f32 := k0_pay75 I.dO
def v184 (I : In) : FVec Ideal S4x64x64 .f32 := k0_pay68 (v78 I) (v101 I) (v105 I) (v112 I)
def v203 (I : In) : FVec Ideal S4x64x128 .f32 := k0_pay77 I.dO
def v207 (I : In) : FVec Ideal S4x64x128 .f32 := k0_pay78 (v109 I) (v112 I) I.ds
def v226 (I : In) : FVec Ideal S4x64x512 .f32 := k0_pay83 (v184 I) (v203 I) (v207 I)
def v165 (I : In) : FVec Ideal S4x64x64 .f32 := k0_pay60 (v78 I) (v101 I) (v105 I) (v112 I)
def v157 (I : In) : FVec Ideal S1x1x256 .f32 := k0_pay56 (v112 I)
def v169 (I : In) : FVec Ideal S4x64x256 .f32 := k0_pay63 (v109 I) (v157 I)
def v202 (I : In) : FVec Ideal S4x64x128 .f32 := k0_pay76 I.dO
def v255 (I : In) : FVec Ideal S4x64x512 .f32 := k0_pay90 (v165 I) (v169 I) (v193 I) (v202 I)
def v286 (I : In) : FVec Ideal S4x64x512 .f32 := k0_pay94 (v146 I) (v150 I) (v193 I) (v201 I) (v226 I) (v255 I)
def v114 (I : In) : IVec S1x1x256 1 := k0_pay40
def v116 (I : In) : IVec S1x1x256 1 := k0_pay41
def v131 (I : In) : FVec Ideal S4x64x256 .f32 := k0_pay48 (v109 I) (v114 I) (v116 I)
def v290 (I : In) : FVec Ideal S4x64x128 .f32 := k0_pay95 (v131 I) (v193 I)
def v127 (I : In) : FVec Ideal S4x64x64 .f32 := k0_pay46 (v78 I) (v101 I) (v105 I) (v114 I) (v116 I)
def v200 (I : In) : FVec Ideal S4x64x128 .f32 := k0_pay74 I.dO
def v300 (I : In) : FVec Ideal S4x128x64 .f32 := k0_pay99 (v127 I) (v200 I)
def v314 (I : In) : FVec Ideal S4x64x512 .f32 := k0_pay103 (v286 I) (v290 I) (v300 I)
def v104 (I : In) : FVec Ideal S4x64x256 .f32 := k0_pay34 I.a0 (v69 I)
def v108 (I : In) : FVec Ideal S4x64x256 .f32 := k0_pay36 I.a0 (v69 I)
def v8 (I : In) : FVec Ideal S4x64x512 .f32 := k0_pay11 I.v
def v120 (I : In) : FVec Ideal S4x64x128 .f32 := k0_pay43 (v8 I)
def v122 (I : In) : FVec Ideal S4x64x256 .f32 := k0_pay44 (v101 I) (v114 I) (v116 I)
def v125 (I : In) : IVec S4x64x64 1 := k0_pay45 (v78 I)
def v139 (I : In) : FVec Ideal S4x64x128 .f32 := k0_pay50 (v8 I)
def v141 (I : In) : FVec Ideal S4x64x256 .f32 := k0_pay51 (v101 I) (v112 I)
def v144 (I : In) : IVec S4x64x64 1 := k0_pay52 (v78 I)
def v158 (I : In) : FVec Ideal S4x64x128 .f32 := k0_pay57 (v8 I)
def v160 (I : In) : FVec Ideal S4x64x256 .f32 := k0_pay58 (v101 I) (v112 I)
def v163 (I : In) : IVec S4x64x64 1 := k0_pay59 (v78 I)
def v177 (I : In) : FVec Ideal S4x64x128 .f32 := k0_pay65 (v8 I)
def v179 (I : In) : FVec Ideal S4x64x256 .f32 := k0_pay66 (v101 I) (v112 I)
def v182 (I : In) : IVec S4x64x64 1 := k0_pay67 (v78 I)
def v247 (I : In) : FVec Ideal S4x64x256 .f32 := k0_pay88 (v158 I) (v160 I) (v163 I) (v177 I) (v179 I) (v182 I) (v202 I) (v203 I)
def v277 (I : In) : FVec Ideal S4x64x256 .f32 := k0_pay92 (v139 I) (v141 I) (v144 I) (v201 I) (v247 I)
def v119 (I : In) : FVec Ideal S1x1x256 .f32 := k0_pay42 (v114 I) (v116 I)
def v138 (I : In) : FVec Ideal S1x1x256 .f32 := k0_pay49 (v112 I)
def v209 (I : In) : FVec Ideal S4x64x256 .f32 := k0_pay79 (v8 I) (v112 I) I.ds
def v233 (I : In) : FVec Ideal S4x64x256 .f32 := k0_pay84 (v157 I) (v158 I) (v193 I) (v209 I)
def v293 (I : In) : FVec Ideal S4x64x256 .f32 := k0_pay96 (v119 I) (v120 I) (v138 I) (v139 I) (v193 I) (v233 I)
def v329 (I : In) : FVec Ideal S4x64x256 .f32 := k0_pay106 (v104 I) (v108 I) (v120 I) (v122 I) (v125 I) (v200 I) (v277 I) (v293 I)
def v100 (I : In) : FVec Ideal S4x64x256 .f32 := k0_pay32 I.a0 (v69 I)
def v110 (I : In) : FVec Ideal S4x64x256 .f32 := k0_pay38 (v69 I)
def v176 (I : In) : FVec Ideal S1x1x256 .f32 := k0_pay64 (v112 I)
def v251 (I : In) : FVec Ideal S4x64x256 .f32 := k0_pay89 (v105 I) (v157 I) (v158 I) (v163 I) (v176 I) (v177 I) (v182 I) (v202 I) (v203 I)
def v281 (I : In) : FVec Ideal S4x64x256 .f32 := k0_pay93 (v105 I) (v138 I) (v139 I) (v144 I) (v201 I) (v251 I)
def v16 (I : In) : FVec Ideal S4x128x256 .f32 := k0_pay13 I.st
def v129 (I : In) : FVec Ideal S4x128x256 .f32 := k0_pay47 (v16 I) (v114 I) (v116 I)
def v148 (I : In) : FVec Ideal S4x128x256 .f32 := k0_pay54 (v16 I) (v112 I)
def v166 (I : In) : FVec Ideal S4x128x256 .f32 := k0_pay61 (v112 I)
def v167 (I : In) : FVec Ideal S4x128x256 .f32 := k0_pay62 (v16 I) (v166 I)
def v211 (I : In) : FVec Ideal S4x64x256 .f32 := k0_pay81 (v16 I) (v112 I) I.dO
def v236 (I : In) : FVec Ideal S4x64x256 .f32 := k0_pay85 (v167 I) (v202 I) (v211 I)
def v296 (I : In) : FVec Ideal S4x64x256 .f32 := k0_pay97 (v129 I) (v148 I) (v200 I) (v201 I) (v236 I)
def v347 (I : In) : FVec Ideal S4x64x256 .f32 := k0_pay111 (v100 I) (v105 I) (v110 I) (v119 I) (v120 I) (v125 I) (v200 I) (v281 I) (v296 I)
def v389 (I : In) : FVec Ideal S4x64x1024 .f32 := k0_pay117 (v314 I) (v329 I) (v347 I)
def v111 (I : In) : FVec Ideal S4x64x256 .f32 := k0_pay39 (v4 I) (v69 I)
def v95 (I : In) : FVec Ideal S4x1x256 .f32 := k0_pay30 I.a0 (v69 I)
def v198 (I : In) : FVec Ideal S4x128x256 .f32 := k0_pay72 (v95 I) I.ds
def v210 (I : In) : FVec Ideal S4x128x256 .f32 := k0_pay80 (v111 I) I.dO
def v239 (I : In) : FVec Ideal S4x128x256 .f32 := k0_pay86 (v111 I) (v157 I) (v176 I) (v198 I) (v202 I) (v210 I)
def v299 (I : In) : FVec Ideal S4x128x256 .f32 := k0_pay98 (v111 I) (v119 I) (v138 I) (v200 I) (v201 I) (v239 I)

/-- The block of gradients, and the scratch. -/
def out (I : In) : FVec Ideal S1x4x64x1024 .f32 := k0_pay1 (v389 I)
def next (I : In) : FVec Ideal S4x128x256 .f32 := k0_pay5 (v299 I)

end Cert.Body

end
-- ==== Proof.Blocks.lean ====
/- What the kernel's body leaves at a point of its grid: the block of gradients and the scratch, as functions of the blocks
   it reads. -/
module

public import proofs.«01_k».proof.Proof.Frame
public import proofs.«01_k».proof.Proof.Body

@[expose] public section

set_option maxRecDepth 16384

noncomputable section

namespace Cert.Blocks

open Idealize.ShloMosaic Idealize.ShloMosaic.TcCoe Idealize.ShloMosaic.Tactic
open Cert.KernelIdeal Cert.KernelIdeal.Gen

theorem z3 : (![0, 0, 0] : Fin 3 → Nat) = fun _ => 0 := funext fun a => by fin_cases a <;> rfl
theorem z4 : (![0, 0, 0, 0] : Fin 4 → Nat) = fun _ => 0 := funext fun a => by fin_cases a <;> rfl
theorem z5 : (![0, 0, 0, 0, 0] : Fin 5 → Nat) = fun _ => 0 := funext fun a => by fin_cases a <;> rfl

theorem out0_A_8_eq (c : Dev nD) (i : grid0.Coords) (arg2 : Memref sig .tc .vmem S4x64x256 .f32) (harg2 : arg2.IsWhole) (arg3 : Memref sig .tc .vmem S4x64x256 .f32) (harg3 : arg3.IsWhole) (arg4 : Memref sig .tc .vmem S4x64x512 .f32) (harg4 : arg4.IsWhole) (arg5 : Memref sig .tc .vmem S4x64x128 .f32) (harg5 : arg5.IsWhole) (arg6 : Memref sig .tc .vmem S1x128x256 .f32) (harg6 : arg6.IsWhole) (arg7 : Memref sig .tc .vmem S1x1x256 .f32) (harg7 : arg7.IsWhole) (arg8 : Memref sig .tc .vmem S4x64x512 .f32) (harg8 : arg8.IsWhole) (arg9 : Memref sig .tc .vmem S1x4x1x128x256 .f32) (harg9 : arg9.IsWhole) (arg10 : Memref sig .tc .vmem S1x4x64x1024 .f32) (harg10 : arg10.IsWhole) (arg11 : Memref sig .tc .vmem S1x4x64x128 .f32) (harg11 : arg11.IsWhole) (arg12 : Memref sig .tc .vmem S1x128x256 .f32) (harg12 : arg12.IsWhole) (arg13 : Memref sig .tc .vmem S1x1x256 .f32) (harg13 : arg13.IsWhole) (arg14 : Memref sig .tc .vmem S4x128x256 .f32) (harg14 : arg14.IsWhole) (hc0 : cond0_0 i)
    (x0 : Vec Ideal S4x64x256 .f32) (x1 : Vec Ideal S4x64x256 .f32) (x2 : Vec Ideal S4x64x512 .f32) (x3 : Vec Ideal S4x64x128 .f32) (x4 : Vec Ideal S1x128x256 .f32) (x5 : Vec Ideal S1x1x256 .f32) (x6 : Vec Ideal S4x64x512 .f32) (x7 : Vec Ideal S1x4x1x128x256 .f32) :
    out0_A_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = Body.out ⟨BitVec.ofNat 32 (i 0).val, x0, x1, x2, x3, x4, x5, x6, x7, k0_pay6⟩ := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  rw [View.canon_unit_zero (S := S1x4x64x1024) z4]
  simp only [View.readCov_unit_zero (S := S4x128x256) _ z3, View.readAt_eq_ld, harg2.read_unread, harg3.read_unread, harg4.read_unread, harg5.read_unread, harg6.read_unread, harg7.read_unread, harg8.read_unread, harg9.read_unread, View.ld_unit_zero (S := S4x64x256) z3, View.ld_unit_zero (S := S4x64x512) z3, View.ld_unit_zero (S := S4x64x128) z3, View.ld_unit_zero (S := S1x128x256) z3, View.ld_unit_zero (S := S1x1x256) z3, View.ld_unit_zero (S := S4x128x256) z3, View.ld_unit_zero (S := S1x4x1x128x256) z5]
  rfl

theorem sout0_A_0_eq (c : Dev nD) (i : grid0.Coords) (arg2 : Memref sig .tc .vmem S4x64x256 .f32) (harg2 : arg2.IsWhole) (arg3 : Memref sig .tc .vmem S4x64x256 .f32) (harg3 : arg3.IsWhole) (arg4 : Memref sig .tc .vmem S4x64x512 .f32) (harg4 : arg4.IsWhole) (arg5 : Memref sig .tc .vmem S4x64x128 .f32) (harg5 : arg5.IsWhole) (arg6 : Memref sig .tc .vmem S1x128x256 .f32) (harg6 : arg6.IsWhole) (arg7 : Memref sig .tc .vmem S1x1x256 .f32) (harg7 : arg7.IsWhole) (arg8 : Memref sig .tc .vmem S4x64x512 .f32) (harg8 : arg8.IsWhole) (arg9 : Memref sig .tc .vmem S1x4x1x128x256 .f32) (harg9 : arg9.IsWhole) (arg10 : Memref sig .tc .vmem S1x4x64x1024 .f32) (harg10 : arg10.IsWhole) (arg11 : Memref sig .tc .vmem S1x4x64x128 .f32) (harg11 : arg11.IsWhole) (arg12 : Memref sig .tc .vmem S1x128x256 .f32) (harg12 : arg12.IsWhole) (arg13 : Memref sig .tc .vmem S1x1x256 .f32) (harg13 : arg13.IsWhole) (arg14 : Memref sig .tc .vmem S4x128x256 .f32) (harg14 : arg14.IsWhole) (hc0 : cond0_0 i)
    (x0 : Vec Ideal S4x64x256 .f32) (x1 : Vec Ideal S4x64x256 .f32) (x2 : Vec Ideal S4x64x512 .f32) (x3 : Vec Ideal S4x64x128 .f32) (x4 : Vec Ideal S1x128x256 .f32) (x5 : Vec Ideal S1x1x256 .f32) (x6 : Vec Ideal S4x64x512 .f32) (x7 : Vec Ideal S1x4x1x128x256 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = Body.next ⟨BitVec.ofNat 32 (i 0).val, x0, x1, x2, x3, x4, x5, x6, x7, k0_pay6⟩ := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  rw [View.canon_cons_unit_zero (S := S4x128x256) z3]
  simp only [View.readCov_unit_zero (S := S4x128x256) _ z3, View.readAt_eq_ld, harg2.read_unread, harg3.read_unread, harg4.read_unread, harg5.read_unread, harg6.read_unread, harg7.read_unread, harg8.read_unread, harg9.read_unread, View.ld_unit_zero (S := S4x64x256) z3, View.ld_unit_zero (S := S4x64x512) z3, View.ld_unit_zero (S := S4x64x128) z3, View.ld_unit_zero (S := S1x128x256) z3, View.ld_unit_zero (S := S1x1x256) z3, View.ld_unit_zero (S := S4x128x256) z3, View.ld_unit_zero (S := S1x4x1x128x256) z5]
  rfl

theorem out0_B_8_eq (c : Dev nD) (i : grid0.Coords) (arg2 : Memref sig .tc .vmem S4x64x256 .f32) (harg2 : arg2.IsWhole) (arg3 : Memref sig .tc .vmem S4x64x256 .f32) (harg3 : arg3.IsWhole) (arg4 : Memref sig .tc .vmem S4x64x512 .f32) (harg4 : arg4.IsWhole) (arg5 : Memref sig .tc .vmem S4x64x128 .f32) (harg5 : arg5.IsWhole) (arg6 : Memref sig .tc .vmem S1x128x256 .f32) (harg6 : arg6.IsWhole) (arg7 : Memref sig .tc .vmem S1x1x256 .f32) (harg7 : arg7.IsWhole) (arg8 : Memref sig .tc .vmem S4x64x512 .f32) (harg8 : arg8.IsWhole) (arg9 : Memref sig .tc .vmem S1x4x1x128x256 .f32) (harg9 : arg9.IsWhole) (arg10 : Memref sig .tc .vmem S1x4x64x1024 .f32) (harg10 : arg10.IsWhole) (arg11 : Memref sig .tc .vmem S1x4x64x128 .f32) (harg11 : arg11.IsWhole) (arg12 : Memref sig .tc .vmem S1x128x256 .f32) (harg12 : arg12.IsWhole) (arg13 : Memref sig .tc .vmem S1x1x256 .f32) (harg13 : arg13.IsWhole) (arg14 : Memref sig .tc .vmem S4x128x256 .f32) (harg14 : arg14.IsWhole) (hc0 : ¬cond0_0 i)
    (x0 : Vec Ideal S4x64x256 .f32) (x1 : Vec Ideal S4x64x256 .f32) (x2 : Vec Ideal S4x64x512 .f32) (x3 : Vec Ideal S4x64x128 .f32) (x4 : Vec Ideal S1x128x256 .f32) (x5 : Vec Ideal S1x1x256 .f32) (x6 : Vec Ideal S4x64x512 .f32) (x7 : Vec Ideal S1x4x1x128x256 .f32) (xo10 : Vec Ideal S1x128x256 .f32) (xo11 : Vec Ideal S1x1x256 .f32) (xs0 : Vec Ideal S4x128x256 .f32) :
    out0_B_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo10 xo11 xs0 = Body.out ⟨BitVec.ofNat 32 (i 0).val, x0, x1, x2, x3, x4, x5, x6, x7, xs0⟩ := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo10 xo11 xs0)]
  unfold kernelRun0_B
  dsimp only
  sl_unfold_words
  rw [View.canon_unit_zero (S := S1x4x64x1024) z4]
  simp only [View.readCov_unit_zero (S := S4x128x256) _ z3, View.readAt_eq_ld, harg2.read_unread, harg3.read_unread, harg4.read_unread, harg5.read_unread, harg6.read_unread, harg7.read_unread, harg8.read_unread, harg9.read_unread, harg14.read_unread, View.ld_unit_zero (S := S4x64x256) z3, View.ld_unit_zero (S := S4x64x512) z3, View.ld_unit_zero (S := S4x64x128) z3, View.ld_unit_zero (S := S1x128x256) z3, View.ld_unit_zero (S := S1x1x256) z3, View.ld_unit_zero (S := S4x128x256) z3, View.ld_unit_zero (S := S1x4x1x128x256) z5]
  rfl

theorem sout0_B_0_eq (c : Dev nD) (i : grid0.Coords) (arg2 : Memref sig .tc .vmem S4x64x256 .f32) (harg2 : arg2.IsWhole) (arg3 : Memref sig .tc .vmem S4x64x256 .f32) (harg3 : arg3.IsWhole) (arg4 : Memref sig .tc .vmem S4x64x512 .f32) (harg4 : arg4.IsWhole) (arg5 : Memref sig .tc .vmem S4x64x128 .f32) (harg5 : arg5.IsWhole) (arg6 : Memref sig .tc .vmem S1x128x256 .f32) (harg6 : arg6.IsWhole) (arg7 : Memref sig .tc .vmem S1x1x256 .f32) (harg7 : arg7.IsWhole) (arg8 : Memref sig .tc .vmem S4x64x512 .f32) (harg8 : arg8.IsWhole) (arg9 : Memref sig .tc .vmem S1x4x1x128x256 .f32) (harg9 : arg9.IsWhole) (arg10 : Memref sig .tc .vmem S1x4x64x1024 .f32) (harg10 : arg10.IsWhole) (arg11 : Memref sig .tc .vmem S1x4x64x128 .f32) (harg11 : arg11.IsWhole) (arg12 : Memref sig .tc .vmem S1x128x256 .f32) (harg12 : arg12.IsWhole) (arg13 : Memref sig .tc .vmem S1x1x256 .f32) (harg13 : arg13.IsWhole) (arg14 : Memref sig .tc .vmem S4x128x256 .f32) (harg14 : arg14.IsWhole) (hc0 : ¬cond0_0 i)
    (x0 : Vec Ideal S4x64x256 .f32) (x1 : Vec Ideal S4x64x256 .f32) (x2 : Vec Ideal S4x64x512 .f32) (x3 : Vec Ideal S4x64x128 .f32) (x4 : Vec Ideal S1x128x256 .f32) (x5 : Vec Ideal S1x1x256 .f32) (x6 : Vec Ideal S4x64x512 .f32) (x7 : Vec Ideal S1x4x1x128x256 .f32) (xo10 : Vec Ideal S1x128x256 .f32) (xo11 : Vec Ideal S1x1x256 .f32) (xs0 : Vec Ideal S4x128x256 .f32) :
    sout0_B_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo10 xo11 xs0 = Body.next ⟨BitVec.ofNat 32 (i 0).val, x0, x1, x2, x3, x4, x5, x6, x7, xs0⟩ := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo10 xo11 xs0)]
  unfold kernelRun0_B
  dsimp only
  sl_unfold_words
  rw [View.canon_unit_zero (S := S4x128x256) z3]
  simp only [View.readCov_unit_zero (S := S4x128x256) _ z3, View.readAt_eq_ld, harg2.read_unread, harg3.read_unread, harg4.read_unread, harg5.read_unread, harg6.read_unread, harg7.read_unread, harg8.read_unread, harg9.read_unread, harg14.read_unread, View.ld_unit_zero (S := S4x64x256) z3, View.ld_unit_zero (S := S4x64x512) z3, View.ld_unit_zero (S := S4x64x128) z3, View.ld_unit_zero (S := S1x128x256) z3, View.ld_unit_zero (S := S1x1x256) z3, View.ld_unit_zero (S := S4x128x256) z3, View.ld_unit_zero (S := S1x4x1x128x256) z5]
  rfl

end Cert.Blocks

end
-- ==== Proof.Step.lean ====
/- The gradients of gated linear attention's queries, keys and values, both directions, over the argument arrays of one
   device: 32 chunks of 64 rows, the gradient of the state carried from the last chunk to the first. -/
module

public import proofs.«01_k».proof.Proof.Spec

@[expose] public section

noncomputable section

namespace Cert.Step

open Idealize.ShloMosaic

/-- A head's lanes among the 256 of the keys and the 512 of the values. -/
def ln (h : Fin 4) (e : Fin 64) : Fin 256 := ⟨h.val * 64 + e.val, by omega⟩
def lv (h : Fin 4) (v : Fin 128) : Fin 512 := ⟨h.val * 128 + v.val, by omega⟩

/-- The array row of a chunk's row, and the place of a chunk: the second direction runs backwards. -/
def row (d : Fin 2) (c : Fin 32) (t : Fin 64) : Fin 2048 := if d = 0 then ⟨c.val * 64 + t.val, by omega⟩ else ⟨2047 - (c.val * 64 + t.val), by omega⟩
def place (d : Fin 2) (c : Fin 32) : Fin 32 := if d = 0 then c else ⟨31 - c.val, by omega⟩

theorem row_forth (c : Fin 32) (t : Fin 64) : row 0 c t = ⟨c.val * 64 + t.val, by omega⟩ := if_pos rfl
theorem row_back (c : Fin 32) (t : Fin 64) : row 1 c t = ⟨2047 - (c.val * 64 + t.val), by omega⟩ := if_neg (by decide)
theorem place_forth (c : Fin 32) : place 0 c = c := if_pos rfl
theorem place_back (c : Fin 32) : place 1 c = ⟨31 - c.val, by omega⟩ := if_neg (by decide)

/-- The arguments: the projections, the gates' weights and offsets of the two directions, the gradient of the attention's
    output, and the state each chunk began with. -/
structure Args where
  p : (⟨3, ![4, 2048, 5408]⟩ : Shape).Idx → EReal
  waf : (⟨2, ![16, 256]⟩ : Shape).Idx → EReal
  baf : (⟨1, ![256]⟩ : Shape).Idx → EReal
  wab : (⟨2, ![16, 256]⟩ : Shape).Idx → EReal
  bab : (⟨1, ![256]⟩ : Shape).Idx → EReal
  dO : (⟨3, ![4, 2048, 512]⟩ : Shape).Idx → EReal
  st : (⟨5, ![2, 4, 32, 128, 256]⟩ : Shape).Idx → EReal

namespace Args
variable (a : Args)

/-- A gate's argument. -/
def z (d : Fin 2) (n : Fin 4) (r : Fin 2048) (l : Fin 256) : EReal :=
  if d = 0 then (∑ x : Fin 16, a.p (ix3 n r ⟨1536 + x.val, by omega⟩) * a.waf (ix2 x l)) + a.baf (ix1 l)
  else (∑ x : Fin 16, a.p (ix3 n r ⟨1552 + x.val, by omega⟩) * a.wab (ix2 x l)) + a.bab (ix1 l)

/-- One head on one chunk, with the gradient of the state it left. -/
def head (d : Fin 2) (n : Fin 4) (c : Fin 32) (h : Fin 4) (G : Fin 64 → Fin 128 → EReal) : Spec.Head where
  q t e := a.p (ix3 n (row d c t) ⟨(ln h e).val, by omega⟩)
  k t e := a.p (ix3 n (row d c t) ⟨256 + (ln h e).val, by omega⟩)
  la t e := Spec.logGate (a.z d n (row d c t) (ln h e))
  v t v := a.p (ix3 n (row d c t) ⟨512 + (lv h v).val, by omega⟩)
  dO t v := a.dO (ix3 n (row d c t) (lv h v))
  S e v := a.st (ix5 d n (place d c) v (ln h e))
  G := G

/-- The gradient of the state after the last `k` chunks have been gone through. -/
def G (d : Fin 2) (n h : Fin 4) : ℕ → Fin 64 → Fin 128 → EReal
  | 0 => fun _ _ => 0
  | k + 1 => (a.head d n ⟨31 - k, by omega⟩ h (G d n h k)).next

/-- The head with the gradient that the later chunks leave. -/
def chunk (d : Fin 2) (n : Fin 4) (c : Fin 32) (h : Fin 4) : Spec.Head := a.head d n c h (a.G d n h (31 - c.val))

end Args

end Cert.Step

end
-- ==== Proof.BodyRead.lean ====
/- The body's values read at an index, direction by direction: a row in the order of the recurrence, a lane by its head. -/
module

public import proofs.«01_k».proof.Proof.Body
public import proofs.«01_k».proof.Proof.Step

@[expose] public section

set_option maxRecDepth 16384

noncomputable section

namespace Cert.Body

open Idealize.ShloMosaic Idealize.ShloMosaic.TcCoe
open Cert.KernelIdeal Cert.KernelIdeal.Gen
open Cert.Step (ln lv)

/-! ## Rows and lanes -/

/-- The block row of the recurrence's row: the second direction runs backwards. -/
def sg (d : Fin 2) (t : Fin 64) : Fin 64 := if d = 0 then t else ⟨63 - t.val, by omega⟩

theorem sg_sg (d : Fin 2) (t : Fin 64) : sg d (sg d t) = t := by
  revert d t; decide +kernel

def rows (d : Fin 2) : Fin 64 ≃ Fin 64 := ⟨sg d, sg d, sg_sg d, sg_sg d⟩

theorem sum_rows (d : Fin 2) (f : Fin 64 → EReal) : ∑ r, f r = ∑ t, f (sg d t) := (Equiv.sum_comp (rows d) f).symm

/-- A head's mask over the lanes. -/
def hm (h : Fin 4) (x : Fin 256) : EReal := if x.val / 64 = h.val then 1 else 0

theorem hm_ln (j h : Fin 4) (e : Fin 64) : hm j (ln h e) = if h = j then 1 else 0 := by
  have : (ln h e).val / 64 = h.val := by show (h.val * 64 + e.val) / 64 = h.val; omega
  rw [hm, this]
  exact if_congr Fin.ext_iff.symm rfl rfl

theorem sum_tiles (F : Fin 256 → EReal) : ∑ x, F x = ∑ j : Fin 4, ∑ e : Fin 64, F (ln j e) := Fin.sum_univ_tiles 4 64 rfl F

theorem sum_head (h : Fin 4) (F : Fin 256 → EReal) : ∑ x, F x * hm h x = ∑ e : Fin 64, F (ln h e) := by
  rw [sum_tiles, Finset.sum_eq_single h]
  · refine Finset.sum_congr rfl fun e _ => ?_
    rw [hm_ln, if_pos rfl, mul_one]
  · intro j _ hj
    refine Finset.sum_eq_zero fun e _ => ?_
    rw [hm_ln, if_neg hj, mul_zero]
  · intro hh; exact absurd (Finset.mem_univ _) hh

theorem sum_mask {N : ℕ} (j h : Fin 4) (e : Fin 64) (f g : Fin N → EReal) : (∑ x, f x * (g x * hm j (ln h e))) = (∑ x, f x * g x) * hm j (ln h e) := by
  rw [hm_ln]
  by_cases hj : h = j <;> simp [hj]

/-- Of the four heads' terms at a head's lane the head's own is left. -/
theorem pick (h : Fin 4) (e : Fin 64) (a : Fin 4 → EReal) :
    a 3 * hm 3 (ln h e) + a 2 * hm 2 (ln h e) + a 1 * hm 1 (ln h e) + a 0 * hm 0 (ln h e) = a h := by
  simp only [hm_ln]
  revert h; intro h
  fin_cases h <;> simp

theorem pick_onto (h : Fin 4) (e : Fin 64) (g : EReal) (a : Fin 4 → EReal) :
    g + a 3 * hm 3 (ln h e) + a 2 * hm 2 (ln h e) + a 1 * hm 1 (ln h e) + a 0 * hm 0 (ln h e) = g + a h := by
  rw [← pick h e a]
  simp only [add_assoc]

/-! ## The words of the masks -/

theorem bit_float (w : BitVec 1) : (FloatOps.sitofp .f32 (w.setWidth 32) : Ideal .f32) = if w = 1#1 then (1 : EReal) else 0 := by
  show (((w.setWidth 32).toInt : ℝ) : EReal) = _
  rcases (by revert w; decide : w = 0#1 ∨ w = 1#1) with rfl | rfl <;> simp

theorem lanes0 : ∀ x : Fin 256, IntOp.andi (IntOp.cmpi .sge (BitVec.ofNat 32 x.val) 0#32) (IntOp.cmpi .slt (BitVec.ofNat 32 x.val) 64#32) = 1#1 ↔ x.val / 64 = 0 := by
  decide +kernel
theorem lanes1 : ∀ x : Fin 256, IntOp.andi (IntOp.cmpi .sge (BitVec.ofNat 32 x.val) 64#32) (IntOp.cmpi .slt (BitVec.ofNat 32 x.val) 128#32) = 1#1 ↔ x.val / 64 = 1 := by
  decide +kernel
theorem lanes2 : ∀ x : Fin 256, IntOp.andi (IntOp.cmpi .sge (BitVec.ofNat 32 x.val) 128#32) (IntOp.cmpi .slt (BitVec.ofNat 32 x.val) 192#32) = 1#1 ↔ x.val / 64 = 2 := by
  decide +kernel
theorem lanes3 : ∀ x : Fin 256, IntOp.andi (IntOp.cmpi .sge (BitVec.ofNat 32 x.val) 192#32) (IntOp.cmpi .slt (BitVec.ofNat 32 x.val) 256#32) = 1#1 ↔ x.val / 64 = 3 := by
  decide +kernel

section
variable (x : Fin 256)

theorem mask0 : (FloatOps.sitofp .f32 (BitVec.setWidth 32 (IntOp.andi (IntOp.cmpi .sge (BitVec.ofNat 32 x.val) 0#32) (IntOp.cmpi .slt (BitVec.ofNat 32 x.val) 64#32))) : Ideal .f32) = hm 0 x :=
  (bit_float _).trans (if_congr (lanes0 x) rfl rfl)
theorem mask1 : (FloatOps.sitofp .f32 (BitVec.setWidth 32 (IntOp.andi (IntOp.cmpi .sge (BitVec.ofNat 32 x.val) 64#32) (IntOp.cmpi .slt (BitVec.ofNat 32 x.val) 128#32))) : Ideal .f32) = hm 1 x :=
  (bit_float _).trans (if_congr (lanes1 x) rfl rfl)
theorem mask2 : (FloatOps.sitofp .f32 (BitVec.setWidth 32 (IntOp.andi (IntOp.cmpi .sge (BitVec.ofNat 32 x.val) 128#32) (IntOp.cmpi .slt (BitVec.ofNat 32 x.val) 192#32))) : Ideal .f32) = hm 2 x :=
  (bit_float _).trans (if_congr (lanes2 x) rfl rfl)
theorem mask3 : (FloatOps.sitofp .f32 (BitVec.setWidth 32 (IntOp.andi (IntOp.cmpi .sge (BitVec.ofNat 32 x.val) 192#32) (IntOp.cmpi .slt (BitVec.ofNat 32 x.val) 256#32))) : Ideal .f32) = hm 3 x :=
  (bit_float _).trans (if_congr (lanes3 x) rfl rfl)
end

/-- The causal mask, a row against a row. -/
theorem causal : ∀ (d : Fin 2) (t s : Fin 64), IntOp.cmpi .sle (IntOp.muli (IntOp.subi (BitVec.ofNat 32 (sg d s).val) (BitVec.ofNat 32 (sg d t).val))
    (Scalar.subi 1#32 (Scalar.muli 2#32 (BitVec.ofNat 32 d.val)))) 0#32 = if s ≤ t then 1#1 else 0#1 := by
  decide +kernel

theorem low6 : ∀ (n : Fin 4) (r : Fin 64), IntOp.andi (BitVec.ofNat 32 (n.val * 64 + r.val)) 63#32 = BitVec.ofNat 32 r.val := by
  decide +kernel

theorem batch : ∀ (n j : Fin 4) (r s : Fin 64), IntOp.cmpi .eq (IntOp.shrsi .vector (BitVec.ofNat 32 (n.val * 64 + r.val)) 6#32)
    (IntOp.shrsi .vector (BitVec.ofNat 32 (j.val * 64 + s.val)) 6#32) = if j = n then 1#1 else 0#1 := by
  have h : ∀ (n : Fin 4) (r : Fin 64), IntOp.shrsi .vector (BitVec.ofNat 32 (n.val * 64 + r.val)) 6#32 = BitVec.ofNat 32 n.val := by
    decide +kernel
  intro n j r s
  rw [h, h]
  revert n j
  decide +kernel

theorem select_if (p : Prop) [Decidable p] (x y : EReal) : Scalar.select (if p then 1#1 else 0#1) x y = if p then x else y := by
  by_cases h : p <;> simp [h, Scalar.select]

theorem one_row (r0 : Fin 64) (f : Fin 64 → EReal) : ∑ r : Fin 64, Scalar.select (IntOp.cmpi .eq (BitVec.ofNat 32 r.val) (BitVec.ofNat 32 r0.val)) (f r) 0 = f r0 := by
  have hw : ∀ r r0 : Fin 64, IntOp.cmpi .eq (BitVec.ofNat 32 r.val) (BitVec.ofNat 32 r0.val) = if r = r0 then 1#1 else 0#1 := by
    decide +kernel
  rw [Finset.sum_eq_single r0]
  · rw [hw, if_pos rfl]; rfl
  · intro r _ hr; rw [hw, if_neg hr]; rfl
  · intro hh; exact absurd (Finset.mem_univ _) hh

theorem row_ref : ∀ d : Fin 2, Scalar.select (Scalar.cmpi .eq (BitVec.ofNat 32 d.val) 0#32) 32#32 31#32 = BitVec.ofNat 32 (sg d 32).val := by
  decide +kernel
theorem row_last : ∀ d : Fin 2, Scalar.select (Scalar.cmpi .eq (BitVec.ofNat 32 d.val) 0#32) 63#32 0#32 = BitVec.ofNat 32 (sg d 63).val := by
  decide +kernel

theorem eighth : Ideal.ofBits .f32 0x3E000000#32 = ((1 / 8 : ℝ) : EReal) := by
  simp [Ideal.ofBits, Ideal.ieee, -EReal.coe_mul]; norm_num
theorem sixteenth : Ideal.ofBits .f32 0x3D800000#32 = ((1 / 16 : ℝ) : EReal) := by
  simp [Ideal.ofBits, Ideal.ieee, -EReal.coe_mul]; norm_num

/-! ## The heads -/

/-- One batch row's head, as the blocks hold it. -/
def head (I : In) (d : Fin 2) (n h : Fin 4) : Spec.Head where
  q t e := I.q (ix3 n (sg d t) (ln h e))
  k t e := I.k (ix3 n (sg d t) (ln h e))
  la t e := Spec.logGate ((∑ x : Fin 128, I.af (ix3 n (sg d t) x) * I.wa (ix3 0 x (ln h e))) + I.ba (ix3 0 0 (ln h e)))
  v t v := I.v (ix3 n (sg d t) (lv h v))
  dO t v := I.dO (ix3 n (sg d t) (lv h v))
  S e v := I.st (ix5 0 n 0 v (ln h e))
  G e v := I.ds (ix3 n v (ln h e))

/-- A masked product of two heads' lanes is the head's product. -/
theorem lanes (h : Fin 4) (f g : Fin 256 → EReal) : (∑ x, f x * hm h x * g x) = ∑ e, f (ln h e) * g (ln h e) := by
  rw [← sum_head h fun x => f x * g x]
  exact Finset.sum_congr rfl fun x _ => mul_right_comm _ _ _

theorem fold177 (I : In) : k0_pay65 (v8 I) = v177 I := by rfl
theorem fold203 (I : In) : k0_pay77 I.dO = v203 I := by rfl

/-- The block of gradients holds the queries', the keys' and the values' side by side. -/
theorem out_pieces (I : In) (n : Fin 4) (r : Fin 64) : (∀ l : Fin 256, out I (ix4 0 n r ⟨l.val, by omega⟩) = v347 I (ix3 n r l))
    ∧ (∀ l : Fin 256, out I (ix4 0 n r ⟨256 + l.val, by omega⟩) = v329 I (ix3 n r l)) ∧ ∀ l : Fin 512, out I (ix4 0 n r ⟨512 + l.val, by omega⟩) = v314 I (ix3 n r l) := by
  refine ⟨fun l => ?_, fun l => ?_, fun l => ?_⟩
  · pointwise [out, k0_pay1, v389, k0_pay117]
  · pointwise [out, k0_pay1, v389, k0_pay117]
  · pointwise [out, k0_pay1, v389, k0_pay117]
    rw [dif_neg (show ¬ 512 + l.val < 256 by omega), dif_neg (show ¬ 512 + l.val - 256 < 256 by omega)]
    exact congrArg (fun l => v314 I (ix3 n r l)) (Fin.ext (by show 512 + l.val - 256 - 256 = l.val; omega))

section
variable (I : In) (d : Fin 2) (hd : I.a0 = BitVec.ofNat 32 d.val) (n h : Fin 4)
include hd

theorem weight (j : Fin 4) (t s : Fin 64) : (FloatOps.sitofp FTy.f32 (BitVec.setWidth 32 (IntOp.andi
      (IntOp.cmpi .sle (IntOp.muli (IntOp.subi (IntOp.andi (BitVec.ofNat 32 (ln j (sg d s)).val) 63#32) (IntOp.andi (BitVec.ofNat 32 (n.val * 64 + (sg d t).val)) 63#32))
        (Scalar.subi 1#32 (Scalar.muli 2#32 I.a0))) 0#32)
      (IntOp.cmpi .eq (IntOp.shrsi .vector (BitVec.ofNat 32 (n.val * 64 + (sg d t).val)) 6#32) (IntOp.shrsi .vector (BitVec.ofNat 32 (ln j (sg d s)).val) 6#32)))) : Ideal .f32)
      = if j = n then (if s ≤ t then (1 : EReal) else 0) else 0 := by
  rw [hd, show (ln j (sg d s)).val = j.val * 64 + (sg d s).val from rfl, low6, low6, causal, batch, bit_float]
  by_cases hj : j = n <;> by_cases hs : s ≤ t <;> simp [hj, hs, IntOp.andi]

theorem b_at (t e : Fin 64) : v69 I (ix3 n (sg d t) (ln h e)) = (head I d n h).b t e := by
  generalize hl : ln h e = l
  have key : v69 I (ix3 n (sg d t) l) = ∑ s : Fin 64, if s ≤ t then
      Spec.logGate ((∑ x : Fin 128, I.af (ix3 n (sg d s) x) * I.wa (ix3 0 x l)) + I.ba (ix3 0 0 l)) else 0 := by
    pointwise [v69, k0_pay24, k0_pay23, k0_pay22, k0_pay21, v24, k0_pay16, v22, k0_pay15, k0_pay12, k0_pay14]
    refine (sum_tiles _).trans ?_
    rw [Finset.sum_eq_single n]
    · rw [sum_rows d]
      refine Finset.sum_congr rfl fun s _ => ?_
      have h1 : (ln n (sg d s)).val / 64 = n.val := by show (n.val * 64 + (sg d s).val) / 64 = n.val; omega
      have h2 : (ln n (sg d s)).val % 64 = (sg d s).val := by show (n.val * 64 + (sg d s).val) % 64 = (sg d s).val; omega
      rw [weight I d hd n, if_pos rfl]
      simp only [h1, h2, Fin.eta, sixteenth]
      by_cases hs : s ≤ t
      · rw [if_pos hs, if_pos hs, one_mul]; rfl
      · rw [if_neg hs, if_neg hs, zero_mul]
    · intro j _ hj
      rw [sum_rows d]
      refine Finset.sum_eq_zero fun s _ => ?_
      rw [weight I d hd n, if_neg hj, zero_mul]
    · intro hh; exact absurd (Finset.mem_univ _) hh
  rw [key, ← hl]; rfl

theorem ref_at (l : Fin 256) : k0_pay28 I.a0 (v69 I) (ix3 n 0 l) = v69 I (ix3 n (sg d 32) l) := by
  pointwise [k0_pay28, k0_pay27]
  rw [hd, row_ref]
  exact one_row _ fun r => v69 I (ix3 n r l)

theorem last_at (l : Fin 256) : k0_pay30 I.a0 (v69 I) (ix3 n 0 l) = v69 I (ix3 n (sg d 63) l) := by
  pointwise [k0_pay30, k0_pay29]
  rw [hd, row_last]
  exact one_row _ fun r => v69 I (ix3 n r l)

theorem up_at (t e : Fin 64) : v100 I (ix3 n (sg d t) (ln h e)) = (head I d n h).up t e := by
  pointwise [v100, k0_pay32]
  rw [ref_at I d hd, b_at I d hd, b_at I d hd]; rfl
theorem down_at (t e : Fin 64) : v104 I (ix3 n (sg d t) (ln h e)) = (head I d n h).down t e := by
  pointwise [v104, k0_pay34]
  rw [ref_at I d hd, b_at I d hd, b_at I d hd]; rfl
theorem rest_at (t e : Fin 64) : v108 I (ix3 n (sg d t) (ln h e)) = (head I d n h).rest t e := by
  pointwise [v108, k0_pay36]
  rw [last_at I d hd, b_at I d hd, b_at I d hd]; rfl
theorem full_at (t e : Fin 64) : v110 I (ix3 n (sg d t) (ln h e)) = (head I d n h).full t e := by
  pointwise [v110, k0_pay38]
  rw [b_at I d hd]; rfl
theorem qi_at (t e : Fin 64) : v101 I (ix3 n (sg d t) (ln h e)) = (head I d n h).qi t e := by
  have := up_at I d hd n h t e
  unfold v100 at this
  pointwise [v101, k0_pay33, k0_pay31, v4, k0_pay9]
  rw [this, eighth]; rfl
theorem ki_at (t e : Fin 64) : v105 I (ix3 n (sg d t) (ln h e)) = (head I d n h).ki t e := by
  have := down_at I d hd n h t e
  unfold v104 at this
  pointwise [v105, k0_pay35, v6, k0_pay10]
  rw [this]; rfl
theorem kd_at (t e : Fin 64) : v109 I (ix3 n (sg d t) (ln h e)) = (head I d n h).kd t e := by
  have := rest_at I d hd n h t e
  unfold v108 at this
  pointwise [v109, k0_pay37, v6, k0_pay10]
  rw [this]; rfl
theorem qe_at (t e : Fin 64) : v111 I (ix3 n (sg d t) (ln h e)) = (head I d n h).qe t e := by
  have := full_at I d hd n h t e
  unfold v110 at this
  pointwise [v111, k0_pay39, k0_pay31, v4, k0_pay9]
  rw [this, eighth]; rfl

theorem A_of (s t : Fin 64) : Scalar.select (IntOp.cmpi .sle (IntOp.muli (IntOp.subi (BitVec.ofNat 32 (sg d s).val) (BitVec.ofNat 32 (sg d t).val))
    (Scalar.subi 1#32 (Scalar.muli 2#32 I.a0))) 0#32) (∑ x, v101 I (ix3 n (sg d t) x) * hm h x * v105 I (ix3 n (sg d s) x)) 0 = (head I d n h).A t s := by
  rw [hd, causal, select_if, lanes h]
  unfold Spec.Head.A
  refine if_congr Iff.rfl (Finset.sum_congr rfl fun e _ => ?_) rfl
  rw [qi_at I d hd n h, ki_at I d hd n h]

theorem A0 (t s : Fin 64) : v127 I (ix3 n (sg d t) (sg d s)) = (head I d n 0).A t s := by
  pointwise [v127, k0_pay46, k0_pay45, k0_pay44, k0_pay42, v114, v116, k0_pay40, k0_pay41, v78, k0_pay25, k0_pay26, v72, mask0]
  exact A_of I d hd n 0 s t
theorem A1 (t s : Fin 64) : v146 I (ix3 n (sg d t) (sg d s)) = (head I d n 1).A t s := by
  pointwise [v146, k0_pay53, k0_pay52, k0_pay51, k0_pay49, v112, v78, k0_pay25, k0_pay26, v72, mask1]
  exact A_of I d hd n 1 s t
theorem A2 (t s : Fin 64) : v165 I (ix3 n (sg d t) (sg d s)) = (head I d n 2).A t s := by
  pointwise [v165, k0_pay60, k0_pay59, k0_pay58, k0_pay56, v112, v78, k0_pay25, k0_pay26, v72, mask2]
  exact A_of I d hd n 2 s t
theorem A3 (t s : Fin 64) : v184 I (ix3 n (sg d t) (sg d s)) = (head I d n 3).A t s := by
  pointwise [v184, k0_pay68, k0_pay67, k0_pay66, k0_pay64, v112, v78, k0_pay25, k0_pay26, v72, mask3]
  exact A_of I d hd n 3 s t

theorem vhead0 (t : Fin 64) (x : Fin 128) : v120 I (ix3 n (sg d t) x) = (head I d n 0).v t x := by
  pointwise [v120, k0_pay43, v8, k0_pay11]
  exact congrArg (fun l => I.v (ix3 n (sg d t) l)) (Fin.ext (by show _ = 0 * 128 + x.val; dsimp only <;> omega))
theorem ohead0 (t : Fin 64) (x : Fin 128) : v200 I (ix3 n (sg d t) x) = (head I d n 0).dO t x := by
  pointwise [v200, k0_pay74]
  exact congrArg (fun l => I.dO (ix3 n (sg d t) l)) (Fin.ext (by show _ = 0 * 128 + x.val; dsimp only <;> omega))
theorem dA0 (t s : Fin 64) : k0_pay100 (v120 I) (v125 I) (v200 I) (ix3 n (sg d t) (sg d s)) = (head I d n 0).dA t s := by
  pointwise [k0_pay100, v125, k0_pay45, v78, k0_pay25, k0_pay26, v72]
  rw [hd, causal, select_if]
  refine if_congr Iff.rfl (Finset.sum_congr rfl fun x _ => ?_) rfl
  rw [ohead0 I d hd, vhead0 I d hd]
theorem vhead1 (t : Fin 64) (x : Fin 128) : v139 I (ix3 n (sg d t) x) = (head I d n 1).v t x := by
  pointwise [v139, k0_pay50, v8, k0_pay11]
  exact congrArg (fun l => I.v (ix3 n (sg d t) l)) (Fin.ext (by show _ = 1 * 128 + x.val; dsimp only <;> omega))
theorem ohead1 (t : Fin 64) (x : Fin 128) : v201 I (ix3 n (sg d t) x) = (head I d n 1).dO t x := by
  pointwise [v201, k0_pay75]
  exact congrArg (fun l => I.dO (ix3 n (sg d t) l)) (Fin.ext (by show _ = 1 * 128 + x.val; dsimp only <;> omega))
theorem dA1 (t s : Fin 64) : k0_pay91 (v139 I) (v144 I) (v201 I) (ix3 n (sg d t) (sg d s)) = (head I d n 1).dA t s := by
  pointwise [k0_pay91, v144, k0_pay52, v78, k0_pay25, k0_pay26, v72]
  rw [hd, causal, select_if]
  refine if_congr Iff.rfl (Finset.sum_congr rfl fun x _ => ?_) rfl
  rw [ohead1 I d hd, vhead1 I d hd]
theorem vhead2 (t : Fin 64) (x : Fin 128) : v158 I (ix3 n (sg d t) x) = (head I d n 2).v t x := by
  pointwise [v158, k0_pay57, v8, k0_pay11]
  exact congrArg (fun l => I.v (ix3 n (sg d t) l)) (Fin.ext (by show _ = 2 * 128 + x.val; dsimp only <;> omega))
theorem ohead2 (t : Fin 64) (x : Fin 128) : v202 I (ix3 n (sg d t) x) = (head I d n 2).dO t x := by
  pointwise [v202, k0_pay76]
  exact congrArg (fun l => I.dO (ix3 n (sg d t) l)) (Fin.ext (by show _ = 2 * 128 + x.val; dsimp only <;> omega))
theorem dA2 (t s : Fin 64) : k0_pay87 (v158 I) (v163 I) (v202 I) (ix3 n (sg d t) (sg d s)) = (head I d n 2).dA t s := by
  pointwise [k0_pay87, v163, k0_pay59, v78, k0_pay25, k0_pay26, v72]
  rw [hd, causal, select_if]
  refine if_congr Iff.rfl (Finset.sum_congr rfl fun x _ => ?_) rfl
  rw [ohead2 I d hd, vhead2 I d hd]
theorem vhead3 (t : Fin 64) (x : Fin 128) : v177 I (ix3 n (sg d t) x) = (head I d n 3).v t x := by
  pointwise [v177, k0_pay65, v8, k0_pay11]
  exact congrArg (fun l => I.v (ix3 n (sg d t) l)) (Fin.ext (by show _ = 3 * 128 + x.val; dsimp only <;> omega))
theorem ohead3 (t : Fin 64) (x : Fin 128) : v203 I (ix3 n (sg d t) x) = (head I d n 3).dO t x := by
  pointwise [v203, k0_pay77]
  exact congrArg (fun l => I.dO (ix3 n (sg d t) l)) (Fin.ext (by show _ = 3 * 128 + x.val; dsimp only <;> omega))
theorem dA3 (t s : Fin 64) : k0_pay82 (v177 I) (v182 I) (v203 I) (ix3 n (sg d t) (sg d s)) = (head I d n 3).dA t s := by
  pointwise [k0_pay82, v182, k0_pay67, v78, k0_pay25, k0_pay26, v72]
  rw [hd, causal, select_if]
  refine if_congr Iff.rfl (Finset.sum_congr rfl fun x _ => ?_) rfl
  rw [ohead3 I d hd, vhead3 I d hd]

theorem dqi0 (t e : Fin 64) : (∑ x, k0_pay100 (v120 I) (v125 I) (v200 I) (ix3 n (sg d t) x) * v105 I (ix3 n x (ln h e))) = ∑ s, (head I d n 0).dA t s * (head I d n h).ki s e := by
  rw [sum_rows d]
  exact Finset.sum_congr rfl fun s _ => by rw [dA0 I d hd, ki_at I d hd]
theorem dki0 (t e : Fin 64) : (∑ x, k0_pay100 (v120 I) (v125 I) (v200 I) (ix3 n x (sg d t)) * v101 I (ix3 n x (ln h e))) = ∑ s, (head I d n 0).dA s t * (head I d n h).qi s e := by
  rw [sum_rows d]
  exact Finset.sum_congr rfl fun s _ => by rw [dA0 I d hd, qi_at I d hd]
theorem dS0 (v : Fin 128) (e : Fin 64) : (∑ x, v200 I (ix3 n x v) * v111 I (ix3 n x (ln h e))) = ∑ t, (head I d n 0).dO t v * (head I d n h).qe t e := by
  rw [sum_rows d]
  exact Finset.sum_congr rfl fun s _ => by rw [ohead0 I d hd, qe_at I d hd]
theorem dvA0 (t : Fin 64) (v : Fin 128) : (∑ x, v200 I (ix3 n x v) * v127 I (ix3 n x (sg d t))) = ∑ s, (head I d n 0).dO s v * (head I d n 0).A s t := by
  rw [sum_rows d]
  exact Finset.sum_congr rfl fun s _ => by rw [ohead0 I d hd, A0 I d hd]
theorem dqi1 (t e : Fin 64) : (∑ x, k0_pay91 (v139 I) (v144 I) (v201 I) (ix3 n (sg d t) x) * v105 I (ix3 n x (ln h e))) = ∑ s, (head I d n 1).dA t s * (head I d n h).ki s e := by
  rw [sum_rows d]
  exact Finset.sum_congr rfl fun s _ => by rw [dA1 I d hd, ki_at I d hd]
theorem dki1 (t e : Fin 64) : (∑ x, k0_pay91 (v139 I) (v144 I) (v201 I) (ix3 n x (sg d t)) * v101 I (ix3 n x (ln h e))) = ∑ s, (head I d n 1).dA s t * (head I d n h).qi s e := by
  rw [sum_rows d]
  exact Finset.sum_congr rfl fun s _ => by rw [dA1 I d hd, qi_at I d hd]
theorem dS1 (v : Fin 128) (e : Fin 64) : (∑ x, v201 I (ix3 n x v) * v111 I (ix3 n x (ln h e))) = ∑ t, (head I d n 1).dO t v * (head I d n h).qe t e := by
  rw [sum_rows d]
  exact Finset.sum_congr rfl fun s _ => by rw [ohead1 I d hd, qe_at I d hd]
theorem dvA1 (t : Fin 64) (v : Fin 128) : (∑ x, v201 I (ix3 n x v) * v146 I (ix3 n x (sg d t))) = ∑ s, (head I d n 1).dO s v * (head I d n 1).A s t := by
  rw [sum_rows d]
  exact Finset.sum_congr rfl fun s _ => by rw [ohead1 I d hd, A1 I d hd]
theorem dqi2 (t e : Fin 64) : (∑ x, k0_pay87 (v158 I) (v163 I) (v202 I) (ix3 n (sg d t) x) * v105 I (ix3 n x (ln h e))) = ∑ s, (head I d n 2).dA t s * (head I d n h).ki s e := by
  rw [sum_rows d]
  exact Finset.sum_congr rfl fun s _ => by rw [dA2 I d hd, ki_at I d hd]
theorem dki2 (t e : Fin 64) : (∑ x, k0_pay87 (v158 I) (v163 I) (v202 I) (ix3 n x (sg d t)) * v101 I (ix3 n x (ln h e))) = ∑ s, (head I d n 2).dA s t * (head I d n h).qi s e := by
  rw [sum_rows d]
  exact Finset.sum_congr rfl fun s _ => by rw [dA2 I d hd, qi_at I d hd]
theorem dS2 (v : Fin 128) (e : Fin 64) : (∑ x, v202 I (ix3 n x v) * v111 I (ix3 n x (ln h e))) = ∑ t, (head I d n 2).dO t v * (head I d n h).qe t e := by
  rw [sum_rows d]
  exact Finset.sum_congr rfl fun s _ => by rw [ohead2 I d hd, qe_at I d hd]
theorem dvA2 (t : Fin 64) (v : Fin 128) : (∑ x, v202 I (ix3 n x v) * v165 I (ix3 n x (sg d t))) = ∑ s, (head I d n 2).dO s v * (head I d n 2).A s t := by
  rw [sum_rows d]
  exact Finset.sum_congr rfl fun s _ => by rw [ohead2 I d hd, A2 I d hd]
theorem dqi3 (t e : Fin 64) : (∑ x, k0_pay82 (v177 I) (v182 I) (v203 I) (ix3 n (sg d t) x) * v105 I (ix3 n x (ln h e))) = ∑ s, (head I d n 3).dA t s * (head I d n h).ki s e := by
  rw [sum_rows d]
  exact Finset.sum_congr rfl fun s _ => by rw [dA3 I d hd, ki_at I d hd]
theorem dki3 (t e : Fin 64) : (∑ x, k0_pay82 (v177 I) (v182 I) (v203 I) (ix3 n x (sg d t)) * v101 I (ix3 n x (ln h e))) = ∑ s, (head I d n 3).dA s t * (head I d n h).qi s e := by
  rw [sum_rows d]
  exact Finset.sum_congr rfl fun s _ => by rw [dA3 I d hd, qi_at I d hd]
theorem dS3 (v : Fin 128) (e : Fin 64) : (∑ x, v203 I (ix3 n x v) * v111 I (ix3 n x (ln h e))) = ∑ t, (head I d n 3).dO t v * (head I d n h).qe t e := by
  rw [sum_rows d]
  exact Finset.sum_congr rfl fun s _ => by rw [ohead3 I d hd, qe_at I d hd]
theorem dvA3 (t : Fin 64) (v : Fin 128) : (∑ x, v203 I (ix3 n x v) * v184 I (ix3 n x (sg d t))) = ∑ s, (head I d n 3).dO s v * (head I d n 3).A s t := by
  rw [sum_rows d]
  exact Finset.sum_congr rfl fun s _ => by rw [ohead3 I d hd, A3 I d hd]
theorem dvS (t : Fin 64) (v : Fin 128) : (∑ x, I.ds (ix3 n v x) * (v109 I (ix3 n (sg d t) x) * hm h x)) = ∑ e, (head I d n h).G e v * (head I d n h).kd t e := by
  rw [show (∑ x, I.ds (ix3 n v x) * (v109 I (ix3 n (sg d t) x) * hm h x)) = ∑ x, (I.ds (ix3 n v x) * v109 I (ix3 n (sg d t) x)) * hm h x from
    Finset.sum_congr rfl fun x _ => (mul_assoc _ _ _).symm, sum_head]
  exact Finset.sum_congr rfl fun e _ => by rw [kd_at I d hd]; rfl

/-! ## The gradients -/

theorem dqi_at (t e : Fin 64) : k0_pay102 (v105 I) (v119 I) (v120 I) (v125 I) (v200 I) (v281 I) (ix3 n (sg d t) (ln h e)) = (head I d n h).dqi t e := by
  pointwise [k0_pay102, v281, k0_pay93, v251, k0_pay89, v119, v138, v157, v176, k0_pay42, v114, v116, k0_pay40, k0_pay41, k0_pay49, k0_pay56, k0_pay64, v112, mask0, mask1, mask2, mask3]
  rw [dqi0 I d hd, dqi1 I d hd, dqi2 I d hd, dqi3 I d hd]
  exact pick h e fun j => ∑ s, (head I d n j).dA t s * (head I d n h).ki s e
theorem dki_at (t e : Fin 64) : k0_pay101 (v120 I) (v122 I) (v125 I) (v200 I) (v277 I) (ix3 n (sg d t) (ln h e)) = (head I d n h).dki t e := by
  pointwise [k0_pay101, v277, k0_pay92, v247, k0_pay88, v122, k0_pay44, v141, k0_pay51, v160, k0_pay58, v179, k0_pay66, k0_pay42, v114, v116, k0_pay40, k0_pay41, k0_pay49, k0_pay56, k0_pay64, v112, mask0, mask1, mask2, mask3]
  simp only [sum_mask]
  rw [dki0 I d hd, dki1 I d hd, dki2 I d hd, dki3 I d hd]
  exact pick h e fun j => ∑ s, (head I d n j).dA s t * (head I d n h).qi s e
theorem dkd_at (t e : Fin 64) : v293 I (ix3 n (sg d t) (ln h e)) = (head I d n h).dkd t e := by
  pointwise [v293, k0_pay96, v119, v138, v157, v233, k0_pay84, v209, k0_pay79, fold177 I, v193, k0_pay71, k0_pay42, v114, v116, k0_pay40, k0_pay41, k0_pay49, k0_pay56, k0_pay64, v112, mask0, mask1, mask2, mask3]
  simp only [vhead0 I d hd, vhead1 I d hd, vhead2 I d hd, vhead3 I d hd]
  exact pick h e fun j => ∑ v, (head I d n h).G e v * (head I d n j).v t v
theorem dqe_at (t e : Fin 64) : v296 I (ix3 n (sg d t) (ln h e)) = (head I d n h).dqe t e := by
  pointwise [v296, k0_pay97, v129, k0_pay47, v148, k0_pay54, v236, k0_pay85, v167, k0_pay62, v166, k0_pay61, v211, k0_pay81, fold203 I, v16, k0_pay13, k0_pay42, v114, v116, k0_pay40, k0_pay41, k0_pay49, k0_pay56, k0_pay64, v112, mask0, mask1, mask2, mask3]
  simp only [sum_mask, ohead0 I d hd, ohead1 I d hd, ohead2 I d hd, ohead3 I d hd]
  exact pick h e fun j => ∑ v, (head I d n j).dO t v * (head I d n h).S e v
theorem next_at (e : Fin 64) (v : Fin 128) : next I (ix3 n v (ln h e)) = (head I d n h).next e v := by
  pointwise [next, k0_pay5, v299, k0_pay98, v239, k0_pay86, v198, k0_pay72, k0_pay70, k0_pay69, v95, v210, k0_pay80, fold203 I, v119, v138, v157, v176, k0_pay42, v114, v116, k0_pay40, k0_pay41, k0_pay49, k0_pay56, k0_pay64, v112, mask0, mask1, mask2, mask3]
  rw [dS0 I d hd, dS1 I d hd, dS2 I d hd, dS3 I d hd, last_at I d hd, b_at I d hd]
  exact pick_onto h e ((head I d n h).G e v * (head I d n h).decay e) fun j => ∑ t, (head I d n j).dO t v * (head I d n h).qe t e
theorem dv0 (t : Fin 64) (v : Fin 128) : v314 I (ix3 n (sg d t) ⟨v.val, by omega⟩) = (head I d n 0).dv t v := by
  pointwise [v314, k0_pay103, v286, k0_pay94, v226, k0_pay83, v255, k0_pay90, v290, k0_pay95, v300, k0_pay99, v207, k0_pay78, v131, k0_pay48, v150, k0_pay55, v169, k0_pay63, v157, v193, k0_pay71, fold203 I, k0_pay42, v114, v116, k0_pay40, k0_pay41, k0_pay49, k0_pay56, k0_pay64, v112, mask0, mask1, mask2, mask3]
  simp only [dif_pos (show v.val < 384 by omega), dif_pos (show v.val < 256 by omega), zero_add, add_zero]
  rw [dvS I d hd, dvA0 I d hd]; rfl
theorem dv1 (t : Fin 64) (v : Fin 128) : v314 I (ix3 n (sg d t) ⟨128 + v.val, by omega⟩) = (head I d n 1).dv t v := by
  pointwise [v314, k0_pay103, v286, k0_pay94, v226, k0_pay83, v255, k0_pay90, v290, k0_pay95, v300, k0_pay99, v207, k0_pay78, v131, k0_pay48, v150, k0_pay55, v169, k0_pay63, v157, v193, k0_pay71, fold203 I, k0_pay42, v114, v116, k0_pay40, k0_pay41, k0_pay49, k0_pay56, k0_pay64, v112, mask0, mask1, mask2, mask3]
  simp only [dif_pos (show 128 + v.val < 384 by omega), dif_pos (show 128 + v.val < 256 by omega), zero_add, add_zero]
  rw [dvS I d hd, dvA1 I d hd]; rfl
theorem dv2 (t : Fin 64) (v : Fin 128) : v314 I (ix3 n (sg d t) ⟨256 + v.val, by omega⟩) = (head I d n 2).dv t v := by
  pointwise [v314, k0_pay103, v286, k0_pay94, v226, k0_pay83, v255, k0_pay90, v290, k0_pay95, v300, k0_pay99, v207, k0_pay78, v131, k0_pay48, v150, k0_pay55, v169, k0_pay63, v157, v193, k0_pay71, fold203 I, k0_pay42, v114, v116, k0_pay40, k0_pay41, k0_pay49, k0_pay56, k0_pay64, v112, mask0, mask1, mask2, mask3]
  simp only [dif_pos (show 256 + v.val < 384 by omega), dif_neg (show ¬ 256 + v.val < 128 by omega), zero_add, add_zero]
  rw [dvS I d hd, dvA2 I d hd]; rfl
theorem dv3 (t : Fin 64) (v : Fin 128) : v314 I (ix3 n (sg d t) ⟨384 + v.val, by omega⟩) = (head I d n 3).dv t v := by
  pointwise [v314, k0_pay103, v286, k0_pay94, v226, k0_pay83, v255, k0_pay90, v290, k0_pay95, v300, k0_pay99, v207, k0_pay78, v131, k0_pay48, v150, k0_pay55, v169, k0_pay63, v157, v193, k0_pay71, fold203 I, k0_pay42, v114, v116, k0_pay40, k0_pay41, k0_pay49, k0_pay56, k0_pay64, v112, mask0, mask1, mask2, mask3]
  simp only [dif_neg (show ¬ 384 + v.val < 256 by omega), dif_neg (show ¬ 384 + v.val < 128 by omega), zero_add, add_zero]
  rw [dvS I d hd, dvA3 I d hd]; rfl
theorem dv_at (t : Fin 64) (v : Fin 128) : v314 I (ix3 n (sg d t) (lv h v)) = (head I d n h).dv t v := by
  have hl : ∀ (a b : Fin 512), a.val = b.val → v314 I (ix3 n (sg d t) a) = v314 I (ix3 n (sg d t) b) := fun a b hab => by rw [Fin.ext hab]
  fin_cases h
  · exact (hl _ _ (by show 0 * 128 + v.val = v.val; omega)).trans (dv0 I d hd n t v)
  · exact (hl _ _ (by show 1 * 128 + v.val = 128 + v.val; omega)).trans (dv1 I d hd n t v)
  · exact (hl _ _ (by show 2 * 128 + v.val = 256 + v.val; omega)).trans (dv2 I d hd n t v)
  · exact (hl _ _ (by show 3 * 128 + v.val = 384 + v.val; omega)).trans (dv3 I d hd n t v)
theorem dk_at (t e : Fin 64) : v329 I (ix3 n (sg d t) (ln h e)) = (head I d n h).dk t e := by
  pointwise [v329, k0_pay106]
  rw [dki_at I d hd, dkd_at I d hd, rest_at I d hd, down_at I d hd]; rfl
theorem dq_at (t e : Fin 64) : v347 I (ix3 n (sg d t) (ln h e)) = (head I d n h).dq t e := by
  pointwise [v347, k0_pay111]
  rw [dqi_at I d hd, dqe_at I d hd, full_at I d hd, up_at I d hd, eighth]; rfl

/-- The block of gradients: the queries' lanes, the keys', the values'. -/
theorem out_q (t e : Fin 64) : out I (ix4 0 n (sg d t) ⟨(ln h e).val, by omega⟩) = (head I d n h).dq t e :=
  ((out_pieces I n (sg d t)).1 _).trans (dq_at I d hd n h t e)
theorem out_k (t e : Fin 64) : out I (ix4 0 n (sg d t) ⟨256 + (ln h e).val, by omega⟩) = (head I d n h).dk t e :=
  ((out_pieces I n (sg d t)).2.1 _).trans (dk_at I d hd n h t e)
theorem out_v (t : Fin 64) (v : Fin 128) : out I (ix4 0 n (sg d t) ⟨512 + (lv h v).val, by omega⟩) = (head I d n h).dv t v :=
  ((out_pieces I n (sg d t)).2.2 _).trans (dv_at I d hd n h t v)
end

end Cert.Body

end
-- ==== Proof.Line.lean ====
/- A straight line of host operations in which every buffer is written once, read at its end: each operation's buffer
   holds the operation's function of what the line leaves in the buffers it reads. -/
module

public import Idealize.ShloMosaic.Lib.StableHlo.RunRead
public import Idealize.ShloMosaic.Lib.StableHlo.RunLoop

@[expose] public section

noncomputable section

namespace Cert.Line

open Idealize.ShloMosaic Idealize.ShloMosaic.TcCoe Idealize.ShloMosaic.StableHlo

variable {τ : Topo} {sig : RefSig} {Val : EltTy → Type} {ops : List (HloOp τ sig Val)} {W : List (Ref sig .tc)}
  (hW : ops.map HloOp.writes = W.map fun w => {Proc.devRef (τ := τ) .tc w}) (V : Valuation τ sig Val)

include hW

/-- A buffer the line writes nowhere keeps its contents. -/
theorem keep {r : Ref sig .tc} (h : r ∉ W) : after ops V (Proc.devRef .tc r) = V (Proc.devRef .tc r) :=
  after_unwritten W hW h V

/-- What the operations from the `i`-th on write is `W` from `i` on. -/
theorem drop_writes (i : ℕ) : (ops.drop i).map HloOp.writes = (W.drop i).map fun w => {Proc.devRef (τ := τ) .tc w} := by
  rw [List.map_drop, hW, List.map_drop]

/-- A buffer written nowhere from the `i`-th operation on holds at the end what it holds before that operation. -/
theorem before (i : ℕ) {r : Ref sig .tc} (h : r ∉ W.drop i) :
    upto ops V i (Proc.devRef .tc r) = after ops V (Proc.devRef .tc r) := by
  have e : after ops V = after (ops.drop i) (after (ops.take i) V) := by
    rw [← after_append, List.take_append_drop]
  rw [e, after_unwritten (W.drop i) (drop_writes hW i) h]
  rfl

/-- The buffer the `i`-th operation writes, nothing after it writing there. -/
theorem at_op (i : ℕ) {op : HloOp τ sig Val} {rest : List (HloOp τ sig Val)} (h : ops.drop i = op :: rest)
    {r : Ref sig .tc} (hr : r ∉ W.drop (i + 1)) :
    after ops V (Proc.devRef .tc r) = op.result (upto ops V i) (Proc.devRef .tc r) := by
  have e : rest = ops.drop (i + 1) := by
    rw [← List.tail_drop, h]; rfl
  exact after_last_write (W.drop (i + 1)) h (e ▸ drop_writes hW (i + 1)) hr V

theorem nullary_at (i : ℕ) {y : Ref sig .tc} {v : y.ty.Contents Val} {hy} {rest : List (HloOp τ sig Val)}
    (h : ops.drop i = nullary y v hy :: rest) (hr : y ∉ W.drop (i + 1)) :
    after ops V (Proc.devRef .tc y) = v :=
  (at_op hW V i h hr).trans (nullary_result ..)

theorem unary_at (i : ℕ) {x y : Ref sig .tc} {f : x.ty.Contents Val → y.ty.Contents Val} {hx hy} {rest : List (HloOp τ sig Val)}
    (h : ops.drop i = unary x y f hx hy :: rest) (hr : y ∉ W.drop (i + 1)) (h1 : x ∉ W.drop i) :
    after ops V (Proc.devRef .tc y) = f (after ops V (Proc.devRef .tc x)) := by
  rw [at_op hW V i h hr, unary_result, before hW V i h1]

theorem reshape_at (i : ℕ) {x y : Ref sig .tc} {he hn hx hy} {rest : List (HloOp τ sig Val)}
    (h : ops.drop i = reshape x y he hn hx hy :: rest) (hr : y ∉ W.drop (i + 1)) (h1 : x ∉ W.drop i) :
    after ops V (Proc.devRef .tc y) = fun j => he ▸ shapeCast y.ty.shape (after ops V (Proc.devRef .tc x)) hn j := by
  rw [at_op hW V i h hr, reshape_result, before hW V i h1]

theorem binary_at (i : ℕ) {a b y : Ref sig .tc} {f : a.ty.Contents Val → b.ty.Contents Val → y.ty.Contents Val} {ha hb hy}
    {rest : List (HloOp τ sig Val)} (h : ops.drop i = binary a b y f ha hb hy :: rest) (hr : y ∉ W.drop (i + 1))
    (h1 : a ∉ W.drop i) (h2 : b ∉ W.drop i) :
    after ops V (Proc.devRef .tc y) = f (after ops V (Proc.devRef .tc a)) (after ops V (Proc.devRef .tc b)) := by
  rw [at_op hW V i h hr, binary_result, before hW V i h1, before hW V i h2]

theorem ternary_at (i : ℕ) {c a b y : Ref sig .tc}
    {f : c.ty.Contents Val → a.ty.Contents Val → b.ty.Contents Val → y.ty.Contents Val} {hc ha hb hy}
    {rest : List (HloOp τ sig Val)} (h : ops.drop i = ternary c a b y f hc ha hb hy :: rest) (hr : y ∉ W.drop (i + 1))
    (h0 : c ∉ W.drop i) (h1 : a ∉ W.drop i) (h2 : b ∉ W.drop i) :
    after ops V (Proc.devRef .tc y)
      = f (after ops V (Proc.devRef .tc c)) (after ops V (Proc.devRef .tc a)) (after ops V (Proc.devRef .tc b)) := by
  rw [at_op hW V i h hr, ternary_result, before hW V i h0, before hW V i h1, before hW V i h2]

theorem nary_at (i : ℕ) {n : ℕ} {xs : Fin n → Ref sig .tc} {y : Ref sig .tc}
    {f : ((k : Fin n) → (xs k).ty.Contents Val) → y.ty.Contents Val} {hxs hy}
    {rest : List (HloOp τ sig Val)} (h : ops.drop i = nary xs y f hxs hy :: rest) (hr : y ∉ W.drop (i + 1))
    (h1 : ∀ k, xs k ∉ W.drop i) :
    after ops V (Proc.devRef .tc y) = f (fun k => after ops V (Proc.devRef .tc (xs k))) := by
  rw [at_op hW V i h hr, nary_result]
  congr 1
  funext k
  exact before hW V i (h1 k)

end Cert.Line

end
-- ==== Proof.Entry.lean ====
/- The host's operations before the kernel's call, one equation for each, and the arrays the call's windows read. -/
module

public import proofs.«01_k».proof.Proof.Frame
public import proofs.«01_k».proof.Proof.Line
public import proofs.«01_k».proof.Proof.Step
public import Idealize.ShloMosaic.Lib.Pointwise

@[expose] public section

set_option maxRecDepth 16384

noncomputable section

namespace Cert.Entry

open Idealize.ShloMosaic Idealize.ShloMosaic.TcCoe Idealize.ShloMosaic.StableHlo
open Cert.KernelIdeal Cert.KernelIdeal.Gen Cert.Line

/-- What the operations write, in order. -/
def W : List (Ref sig .tc) := [main_v0, main_v1, main_v2, main_v3, main_v4, main_v5, main_cst, main_v6, main_v7, main_cst_0, main_v8, main_v9, main_cst_1, main_v10, main_cst_2, main_v11, main_v12, main_v13, main_v14, main_v15, main_v16, main_v17, main_v18, main_v19, main_v20, main_v21]
theorem writes : (hostOps0 (F := Ideal)).map HloOp.writes = W.map fun w => {Proc.devRef (τ := τ) .tc w} := rfl

variable (X : Valuation τ sig (Elt Ideal))

def k_arg0 : FVec Ideal S4x2048x5408 .f32 := StableHlo.after (hostOps0 (F := Ideal)) X (Proc.devRef .tc main_arg0)
def k_v0 : FVec Ideal S8192x5408 .f32 := StableHlo.after (hostOps0 (F := Ideal)) X (Proc.devRef .tc main_v0)
def k_v1 : FVec Ideal S8192x1536 .f32 := StableHlo.after (hostOps0 (F := Ideal)) X (Proc.devRef .tc main_v1)
def k_v2 : FVec Ideal S8192x1536 .f32 := StableHlo.after (hostOps0 (F := Ideal)) X (Proc.devRef .tc main_v2)
def k_v3 : FVec Ideal S8192x2048 .f32 := StableHlo.after (hostOps0 (F := Ideal)) X (Proc.devRef .tc main_v3)
def k_v4 : FVec Ideal S8192x256 .f32 := StableHlo.after (hostOps0 (F := Ideal)) X (Proc.devRef .tc main_v4)
def k_v5 : FVec Ideal S8192x32 .f32 := StableHlo.after (hostOps0 (F := Ideal)) X (Proc.devRef .tc main_v5)
def k_cst : FVec Ideal S_ .f32 := StableHlo.after (hostOps0 (F := Ideal)) X (Proc.devRef .tc main_cst)
def k_v6 : FVec Ideal S8192x224 .f32 := StableHlo.after (hostOps0 (F := Ideal)) X (Proc.devRef .tc main_v6)
def k_v7 : FVec Ideal S8192x5632 .f32 := StableHlo.after (hostOps0 (F := Ideal)) X (Proc.devRef .tc main_v7)
def k_cst_0 : FVec Ideal S_ .f32 := StableHlo.after (hostOps0 (F := Ideal)) X (Proc.devRef .tc main_cst_0)
def k_v8 : FVec Ideal S112x256 .f32 := StableHlo.after (hostOps0 (F := Ideal)) X (Proc.devRef .tc main_v8)
def k_arg1 : FVec Ideal S16x256 .f32 := StableHlo.after (hostOps0 (F := Ideal)) X (Proc.devRef .tc main_arg1)
def k_v9 : FVec Ideal S128x256 .f32 := StableHlo.after (hostOps0 (F := Ideal)) X (Proc.devRef .tc main_v9)
def k_cst_1 : FVec Ideal S_ .f32 := StableHlo.after (hostOps0 (F := Ideal)) X (Proc.devRef .tc main_cst_1)
def k_v10 : FVec Ideal S16x256 .f32 := StableHlo.after (hostOps0 (F := Ideal)) X (Proc.devRef .tc main_v10)
def k_cst_2 : FVec Ideal S_ .f32 := StableHlo.after (hostOps0 (F := Ideal)) X (Proc.devRef .tc main_cst_2)
def k_v11 : FVec Ideal S96x256 .f32 := StableHlo.after (hostOps0 (F := Ideal)) X (Proc.devRef .tc main_v11)
def k_arg3 : FVec Ideal S16x256 .f32 := StableHlo.after (hostOps0 (F := Ideal)) X (Proc.devRef .tc main_arg3)
def k_v12 : FVec Ideal S128x256 .f32 := StableHlo.after (hostOps0 (F := Ideal)) X (Proc.devRef .tc main_v12)
def k_v13 : FVec Ideal S1x128x256 .f32 := StableHlo.after (hostOps0 (F := Ideal)) X (Proc.devRef .tc main_v13)
def k_v14 : FVec Ideal S1x128x256 .f32 := StableHlo.after (hostOps0 (F := Ideal)) X (Proc.devRef .tc main_v14)
def k_v15 : FVec Ideal S2x128x256 .f32 := StableHlo.after (hostOps0 (F := Ideal)) X (Proc.devRef .tc main_v15)
def k_arg2 : FVec Ideal S256 .f32 := StableHlo.after (hostOps0 (F := Ideal)) X (Proc.devRef .tc main_arg2)
def k_v16 : FVec Ideal S1x256 .f32 := StableHlo.after (hostOps0 (F := Ideal)) X (Proc.devRef .tc main_v16)
def k_arg4 : FVec Ideal S256 .f32 := StableHlo.after (hostOps0 (F := Ideal)) X (Proc.devRef .tc main_arg4)
def k_v17 : FVec Ideal S1x256 .f32 := StableHlo.after (hostOps0 (F := Ideal)) X (Proc.devRef .tc main_v17)
def k_v18 : FVec Ideal S1x1x256 .f32 := StableHlo.after (hostOps0 (F := Ideal)) X (Proc.devRef .tc main_v18)
def k_v19 : FVec Ideal S1x1x256 .f32 := StableHlo.after (hostOps0 (F := Ideal)) X (Proc.devRef .tc main_v19)
def k_v20 : FVec Ideal S2x1x256 .f32 := StableHlo.after (hostOps0 (F := Ideal)) X (Proc.devRef .tc main_v20)
def k_v21 : FVec Ideal S4x2048x5632 .f32 := StableHlo.after (hostOps0 (F := Ideal)) X (Proc.devRef .tc main_v21)

theorem k_v0_eq : k_v0 X = shapeCast S8192x5408 (k_arg0 X) shapeCasts_S4x2048x5408_S8192x5408 := by
  refine reshape_at writes X 0 rfl ?_ ?_ <;> decide +kernel
theorem k_v1_eq : k_v1 X = extractStridedSlice S8192x1536 ![0, 0] (k_v0 X) slices_S8192x5408_S8192x1536_0_0 := by
  refine unary_at writes X 1 rfl ?_ ?_ <;> decide +kernel
theorem k_v2_eq : k_v2 X = extractStridedSlice S8192x1536 ![0, 1568] (k_v0 X) slices_S8192x5408_S8192x1536_0_1568 := by
  refine unary_at writes X 2 rfl ?_ ?_ <;> decide +kernel
theorem k_v3_eq : k_v3 X = extractStridedSlice S8192x2048 ![0, 3360] (k_v0 X) slices_S8192x5408_S8192x2048_0_3360 := by
  refine unary_at writes X 3 rfl ?_ ?_ <;> decide +kernel
theorem k_v4_eq : k_v4 X = extractStridedSlice S8192x256 ![0, 3104] (k_v0 X) slices_S8192x5408_S8192x256_0_3104 := by
  refine unary_at writes X 4 rfl ?_ ?_ <;> decide +kernel
theorem k_v5_eq : k_v5 X = extractStridedSlice S8192x32 ![0, 1536] (k_v0 X) slices_S8192x5408_S8192x32_0_1536 := by
  refine unary_at writes X 5 rfl ?_ ?_ <;> decide +kernel
theorem k_cst_eq : k_cst X = constant S_ .f32 0x00000000#32 := by
  refine nullary_at writes X 6 rfl ?_ <;> decide +kernel
theorem k_v6_eq : k_v6 X = broadcastInDim S8192x224 ![] bcast_S_S8192x224 (k_cst X) := by
  refine unary_at writes X 7 rfl ?_ ?_ <;> decide +kernel
theorem k_v7_eq : k_v7 X = concatenate S8192x5632 1 [⟨S8192x1536, (k_v1 X)⟩, ⟨S8192x1536, (k_v2 X)⟩, ⟨S8192x2048, (k_v3 X)⟩, ⟨S8192x256, (k_v4 X)⟩, ⟨S8192x32, (k_v5 X)⟩, ⟨S8192x224, (k_v6 X)⟩] concatenates_S8192x1536_S8192x1536_S8192x2048_S8192x256_S8192x32_S8192x224_S8192x5632_d1 := by
  refine nary_at writes X 8 rfl ?_ ?_ <;> decide +kernel
theorem k_cst_0_eq : k_cst_0 X = constant S_ .f32 0x00000000#32 := by
  refine nullary_at writes X 9 rfl ?_ <;> decide +kernel
theorem k_v8_eq : k_v8 X = broadcastInDim S112x256 ![] bcast_S_S112x256 (k_cst_0 X) := by
  refine unary_at writes X 10 rfl ?_ ?_ <;> decide +kernel
theorem k_v9_eq : k_v9 X = concatenate S128x256 0 [⟨S16x256, (k_arg1 X)⟩, ⟨S112x256, (k_v8 X)⟩] concatenates_S16x256_S112x256_S128x256_d0 := by
  refine binary_at writes X 11 rfl ?_ ?_ ?_ <;> decide +kernel
theorem k_cst_1_eq : k_cst_1 X = constant S_ .f32 0x00000000#32 := by
  refine nullary_at writes X 12 rfl ?_ <;> decide +kernel
theorem k_v10_eq : k_v10 X = broadcastInDim S16x256 ![] bcast_S_S16x256 (k_cst_1 X) := by
  refine unary_at writes X 13 rfl ?_ ?_ <;> decide +kernel
theorem k_cst_2_eq : k_cst_2 X = constant S_ .f32 0x00000000#32 := by
  refine nullary_at writes X 14 rfl ?_ <;> decide +kernel
theorem k_v11_eq : k_v11 X = broadcastInDim S96x256 ![] bcast_S_S96x256 (k_cst_2 X) := by
  refine unary_at writes X 15 rfl ?_ ?_ <;> decide +kernel
theorem k_v12_eq : k_v12 X = concatenate S128x256 0 [⟨S16x256, (k_v10 X)⟩, ⟨S16x256, (k_arg3 X)⟩, ⟨S96x256, (k_v11 X)⟩] concatenates_S16x256_S16x256_S96x256_S128x256_d0 := by
  refine nary_at writes X 16 rfl ?_ ?_ <;> decide +kernel
theorem k_v13_eq : k_v13 X = broadcastInDim S1x128x256 ![1, 2] bcast_S128x256_S1x128x256_1_2 (k_v9 X) := by
  refine unary_at writes X 17 rfl ?_ ?_ <;> decide +kernel
theorem k_v14_eq : k_v14 X = broadcastInDim S1x128x256 ![1, 2] bcast_S128x256_S1x128x256_1_2 (k_v12 X) := by
  refine unary_at writes X 18 rfl ?_ ?_ <;> decide +kernel
theorem k_v15_eq : k_v15 X = concatenate S2x128x256 0 [⟨S1x128x256, (k_v13 X)⟩, ⟨S1x128x256, (k_v14 X)⟩] concatenates_S1x128x256_S1x128x256_S2x128x256_d0 := by
  refine binary_at writes X 19 rfl ?_ ?_ ?_ <;> decide +kernel
theorem k_v16_eq : k_v16 X = shapeCast S1x256 (k_arg2 X) shapeCasts_S256_S1x256 := by
  refine reshape_at writes X 20 rfl ?_ ?_ <;> decide +kernel
theorem k_v17_eq : k_v17 X = shapeCast S1x256 (k_arg4 X) shapeCasts_S256_S1x256 := by
  refine reshape_at writes X 21 rfl ?_ ?_ <;> decide +kernel
theorem k_v18_eq : k_v18 X = broadcastInDim S1x1x256 ![1, 2] bcast_S1x256_S1x1x256_1_2 (k_v16 X) := by
  refine unary_at writes X 22 rfl ?_ ?_ <;> decide +kernel
theorem k_v19_eq : k_v19 X = broadcastInDim S1x1x256 ![1, 2] bcast_S1x256_S1x1x256_1_2 (k_v17 X) := by
  refine unary_at writes X 23 rfl ?_ ?_ <;> decide +kernel
theorem k_v20_eq : k_v20 X = concatenate S2x1x256 0 [⟨S1x1x256, (k_v18 X)⟩, ⟨S1x1x256, (k_v19 X)⟩] concatenates_S1x1x256_S1x1x256_S2x1x256_d0 := by
  refine binary_at writes X 24 rfl ?_ ?_ ?_ <;> decide +kernel
theorem k_v21_eq : k_v21 X = shapeCast S4x2048x5632 (k_v7 X) shapeCasts_S8192x5632_S4x2048x5632 := by
  refine reshape_at writes X 25 rfl ?_ ?_ <;> decide +kernel
theorem k_arg0_eq : k_arg0 X = X (Proc.devRef .tc main_arg0) := keep writes X (by decide +kernel)
theorem k_arg1_eq : k_arg1 X = X (Proc.devRef .tc main_arg1) := keep writes X (by decide +kernel)
theorem k_arg2_eq : k_arg2 X = X (Proc.devRef .tc main_arg2) := keep writes X (by decide +kernel)
theorem k_arg3_eq : k_arg3 X = X (Proc.devRef .tc main_arg3) := keep writes X (by decide +kernel)
theorem k_arg4_eq : k_arg4 X = X (Proc.devRef .tc main_arg4) := keep writes X (by decide +kernel)
theorem k_arg5_eq : StableHlo.after (hostOps0 (F := Ideal)) X (Proc.devRef .tc main_arg5) = X (Proc.devRef .tc main_arg5) := keep writes X (by decide +kernel)
theorem k_arg6_eq : StableHlo.after (hostOps0 (F := Ideal)) X (Proc.devRef .tc main_arg6) = X (Proc.devRef .tc main_arg6) := keep writes X (by decide +kernel)

/-! ## The windows' arrays -/

def argsOf : Step.Args := ⟨X (Proc.devRef .tc main_arg0), X (Proc.devRef .tc main_arg1), X (Proc.devRef .tc main_arg2),
  X (Proc.devRef .tc main_arg3), X (Proc.devRef .tc main_arg4), X (Proc.devRef .tc main_arg5), X (Proc.devRef .tc main_arg6)⟩

/-- The first 1024 columns keep their places. -/
theorem p_front (n : Fin 4) (r : Fin 2048) (l : Fin 1024) :
    k_v21 X (ix3 n r ⟨l.val, by omega⟩) = (argsOf X).p (ix3 n r ⟨l.val, by omega⟩) := by
  pointwise [k_v21_eq, k_v7_eq, k_v1_eq, k_v2_eq, k_v3_eq, k_v4_eq, k_v5_eq, k_v6_eq, k_cst_eq, k_v0_eq, k_arg0_eq]
  rw [dif_pos (by omega)]
  rfl

/-- The gate's columns come last, before a pad of zeros. -/
theorem p_gate (n : Fin 4) (r : Fin 2048) (x : Fin 128) :
    k_v21 X (ix3 n r ⟨5376 + x.val, by omega⟩)
      = if h : x.val < 32 then (argsOf X).p (ix3 n r ⟨1536 + x.val, by omega⟩) else 0 := by
  pointwise [k_v21_eq, k_v7_eq, k_v1_eq, k_v2_eq, k_v3_eq, k_v4_eq, k_v5_eq, k_v6_eq, k_cst_eq, k_v0_eq, k_arg0_eq]
  rw [dif_neg (by omega), dif_neg (by omega), dif_neg (by omega), dif_neg (by omega)]
  by_cases hx : x.val < 32
  · rw [dif_pos (by omega), dif_pos hx]
    exact congrArg (fun l => X (Proc.devRef .tc main_arg0) (ix3 n r l)) (Fin.ext (by show 1536 + (5376 + x.val - 1536 - 1536 - 2048 - 256) = 1536 + x.val; omega))
  · rw [dif_neg (by omega), dif_neg hx]

theorem wa_forth (x : Fin 128) (l : Fin 256) :
    k_v15 X (ix3 0 x l) = if h : x.val < 16 then (argsOf X).waf (ix2 ⟨x.val, h⟩ l) else 0 := by
  pointwise [k_v15_eq, k_v13_eq, k_v14_eq, k_v9_eq, k_v12_eq, k_v8_eq, k_v10_eq, k_v11_eq, k_cst_0_eq, k_cst_1_eq, k_cst_2_eq, k_arg1_eq, k_arg3_eq]
  rfl

theorem wa_back (x : Fin 128) (l : Fin 256) :
    k_v15 X (ix3 1 x l)
      = if h : 16 ≤ x.val ∧ x.val < 32 then (argsOf X).wab (ix2 ⟨x.val - 16, by omega⟩ l) else 0 := by
  pointwise [k_v15_eq, k_v13_eq, k_v14_eq, k_v9_eq, k_v12_eq, k_v8_eq, k_v10_eq, k_v11_eq, k_cst_0_eq, k_cst_1_eq, k_cst_2_eq, k_arg1_eq, k_arg3_eq]
  by_cases h1 : x.val < 16
  · rw [dif_pos h1, dif_neg (by omega)]
  · rw [dif_neg h1]
    by_cases h2 : x.val - 16 < 16
    · rw [dif_pos h2, dif_pos (by omega)]
      rfl
    · rw [dif_neg h2, dif_neg (by omega)]

theorem ba_forth (l : Fin 256) : k_v20 X (ix3 0 0 l) = (argsOf X).baf (ix1 l) := by
  pointwise [k_v20_eq, k_v18_eq, k_v19_eq, k_v16_eq, k_v17_eq, k_arg2_eq, k_arg4_eq]
  rfl

theorem ba_back (l : Fin 256) : k_v20 X (ix3 1 0 l) = (argsOf X).bab (ix1 l) := by
  pointwise [k_v20_eq, k_v18_eq, k_v19_eq, k_v16_eq, k_v17_eq, k_arg2_eq, k_arg4_eq]
  rfl

/-! ## The gate's argument over the padded lanes -/

/-- A sum over 128 lanes, the last 96 adding nothing. -/
theorem sum_lanes (f : Fin 128 → EReal) (h : ∀ x : Fin 128, 32 ≤ x.val → f x = 0) :
    ∑ x, f x = (∑ x : Fin 16, f ⟨x.val, by omega⟩) + ∑ x : Fin 16, f ⟨16 + x.val, by omega⟩ := by
  refine (Fin.sum_univ_add (a := 32) (b := 96) f).trans ?_
  rw [Finset.sum_eq_zero (s := (Finset.univ : Finset (Fin 96))) fun x _ => h _ (by show 32 ≤ 32 + x.val; omega), add_zero]
  exact Fin.sum_univ_add (a := 16) (b := 16) fun x => f (Fin.castAdd 96 x)

theorem sum_forth (n : Fin 4) (r : Fin 2048) (l : Fin 256) :
    (∑ x : Fin 128, k_v21 X (ix3 n r ⟨5376 + x.val, by omega⟩) * k_v15 X (ix3 0 x l)) + k_v20 X (ix3 0 0 l) = (argsOf X).z 0 n r l := by
  rw [ba_forth]
  refine congrArg (· + _) ?_
  rw [sum_lanes _ fun x hx => by rw [wa_forth, dif_neg (by omega), mul_zero]]
  rw [Finset.sum_eq_zero (f := fun x : Fin 16 => k_v21 X (ix3 n r ⟨5376 + (16 + x.val), by omega⟩) * k_v15 X (ix3 0 ⟨16 + x.val, by omega⟩ l))
    fun x _ => by rw [wa_forth, dif_neg (by show ¬ 16 + x.val < 16; omega), mul_zero], add_zero]
  refine Finset.sum_congr rfl fun x _ => ?_
  rw [wa_forth, dif_pos (by show x.val < 16; omega)]
  refine congrArg (· * _) ((p_gate X n r ⟨x.val, by omega⟩).trans (dif_pos (by show x.val < 32; omega)))

theorem sum_back (n : Fin 4) (r : Fin 2048) (l : Fin 256) :
    (∑ x : Fin 128, k_v21 X (ix3 n r ⟨5376 + x.val, by omega⟩) * k_v15 X (ix3 1 x l)) + k_v20 X (ix3 1 0 l) = (argsOf X).z 1 n r l := by
  rw [ba_back]
  refine congrArg (· + _) ?_
  rw [sum_lanes _ fun x hx => by rw [wa_back, dif_neg (by omega), mul_zero]]
  rw [Finset.sum_eq_zero (f := fun x : Fin 16 => k_v21 X (ix3 n r ⟨5376 + x.val, by omega⟩) * k_v15 X (ix3 1 ⟨x.val, by omega⟩ l))
    fun x _ => by rw [wa_back, dif_neg (by show ¬ (16 ≤ x.val ∧ x.val < 32); omega), mul_zero], zero_add]
  refine Finset.sum_congr rfl fun x _ => ?_
  rw [wa_back, dif_pos (by show 16 ≤ 16 + x.val ∧ 16 + x.val < 32; omega)]
  refine congrArg₂ (· * ·) (((p_gate X n r ⟨16 + x.val, by omega⟩).trans (dif_pos (by show 16 + x.val < 32; omega))).trans
    (congrArg (fun l => (argsOf X).p (ix3 n r l)) (Fin.ext ?_))) (congrArg (fun k => (argsOf X).wab (ix2 k l)) (Fin.ext ?_))
  · show 1536 + (16 + x.val) = 1552 + x.val; omega
  · show 16 + x.val - 16 = x.val; omega

theorem sum_gate (d : Fin 2) (n : Fin 4) (r : Fin 2048) (l : Fin 256) :
    (∑ x : Fin 128, k_v21 X (ix3 n r ⟨5376 + x.val, by omega⟩) * k_v15 X (ix3 d x l)) + k_v20 X (ix3 d 0 l) = (argsOf X).z d n r l := by
  rcases (by omega : d = 0 ∨ d = 1) with rfl | rfl
  · exact sum_forth X n r l
  · exact sum_back X n r l

end Cert.Entry

end
-- ==== Proof.HeadExt.lean ====
/- Two heads with the same arrays are the same head. -/
module

public import proofs.«01_k».proof.Proof.Spec

@[expose] public section

noncomputable section

namespace Cert.Spec

theorem head_ext (H K : Spec.Head) (hq : ∀ t e, H.q t e = K.q t e) (hk : ∀ t e, H.k t e = K.k t e) (hla : ∀ t e, H.la t e = K.la t e)
    (hv : ∀ t v, H.v t v = K.v t v) (hdO : ∀ t v, H.dO t v = K.dO t v) (hS : ∀ e v, H.S e v = K.S e v) (hG : ∀ e v, H.G e v = K.G e v) : H = K := by
  obtain ⟨q, k, la, v, dO, S, G⟩ := H
  obtain ⟨q', k', la', v', dO', S', G'⟩ := K
  obtain rfl : q = q' := funext fun t => funext fun e => hq t e
  obtain rfl : k = k' := funext fun t => funext fun e => hk t e
  obtain rfl : la = la' := funext fun t => funext fun e => hla t e
  obtain rfl : v = v' := funext fun t => funext fun e => hv t e
  obtain rfl : dO = dO' := funext fun t => funext fun e => hdO t e
  obtain rfl : S = S' := funext fun t => funext fun e => hS t e
  obtain rfl : G = G' := funext fun t => funext fun e => hG t e
  rfl

end Cert.Spec

end
-- ==== Proof.KRead.lean ====
/- The blocks a point of the kernel's grid reads, as one head on one chunk of the recurrence. -/
module

public import proofs.«01_k».proof.Proof.BodyRead
public import proofs.«01_k».proof.Proof.Entry
public import proofs.«01_k».proof.Proof.HeadExt
public import Idealize.ShloMosaic.Lib.Pipeline.ValueKit

@[expose] public section

set_option maxRecDepth 16384

noncomputable section

namespace Cert.KRead

open Idealize.ShloMosaic Idealize.ShloMosaic.TcCoe Idealize.SL.Sem
open Cert.KernelIdeal Cert.KernelIdeal.Gen
open Cert.Step (ln lv row place)
open Cert.Body (sg)

/-- The block of rows a point reads. -/
def blk (t : ℕ) : ℕ := if t / 32 = 0 then 31 - t % 32 else t % 32

theorem idx : ∀ t : Fin cfg0.N, win0_0.index t = ![0, blk t.val, 0] ∧ win0_1.index t = ![0, blk t.val, 1] ∧ win0_2.index t = ![0, blk t.val, 1]
    ∧ win0_3.index t = ![0, blk t.val, 42] ∧ win0_4.index t = ![t.val / 32, 0, 0] ∧ win0_5.index t = ![t.val / 32, 0, 0]
    ∧ win0_6.index t = ![0, blk t.val, 0] ∧ win0_7.index t = ![t.val / 32, 0, blk t.val, 0, 0] ∧ win0_8.index t = ![t.val / 32, 0, blk t.val, 0] :=
  (by decide +kernel : ∀ t : Fin grid0.N, _)

theorem dir : ∀ t : Fin cfg0.N, (grid0.coords t 0).val = t.val / 32 := (by decide +kernel : ∀ t : Fin grid0.N, _)

variable (m : (ℓ : Loc nD τ sig) → Buf (Elt Ideal) ℓ) (c : Dev nD)

/-- The buffers as launched. -/
abbrev X : Valuation τ sig (Elt Ideal) := fun b => m (c, b)

/-- What the body reads at a point. -/
def inAt (t : Fin cfg0.N) (ds : FVec Ideal S4x128x256 .f32) : Body.In :=
  ⟨BitVec.ofNat 32 (grid0.coords t 0).val, iblk m c 0 t, iblk m c 1 t, iblk m c 2 t, iblk m c 3 t, iblk m c 4 t, iblk m c 5 t, iblk m c 6 t, iblk m c 7 t, ds⟩

/-- The recurrence's chunk at a point. -/
def chk (t : Fin cfg0.N) : Fin 32 := ⟨31 - t.val % 32, by omega⟩

section
variable (t : Fin cfg0.N) (d : Fin 2) (ht : t.val / 32 = d.val) (n h : Fin 4)

include ht in
theorem row_at (s : Fin 64) : blk t.val * 64 + (sg d s).val = (row d (chk t) s).val := by
  rcases (by omega : d = 0 ∨ d = 1) with rfl | rfl
  · rw [Step.row_forth, blk, if_pos (by rw [ht]; rfl)]; rfl
  · rw [Step.row_back, blk, if_neg (by rw [ht]; decide)]
    show t.val % 32 * 64 + (63 - s.val) = 2047 - ((31 - t.val % 32) * 64 + s.val)
    omega

include ht in
theorem place_at : blk t.val = (place d (chk t)).val := by
  rcases (by omega : d = 0 ∨ d = 1) with rfl | rfl
  · rw [Step.place_forth, blk, if_pos (by rw [ht]; rfl)]; rfl
  · rw [Step.place_back, blk, if_neg (by rw [ht]; decide)]
    show t.val % 32 = 31 - (31 - t.val % 32)
    omega

theorem V_v21 : (V m c main_v21 : FVec Ideal S4x2048x5632 .f32) = Entry.k_v21 (X m c) := by unfold Entry.k_v21; rfl
theorem V_v15 : (V m c main_v15 : FVec Ideal S2x128x256 .f32) = Entry.k_v15 (X m c) := by unfold Entry.k_v15; rfl
theorem V_v20 : (V m c main_v20 : FVec Ideal S2x1x256 .f32) = Entry.k_v20 (X m c) := by unfold Entry.k_v20; rfl

variable (ds : FVec Ideal S4x128x256 .f32)
include ht

theorem q_in (s : Fin 64) (l : Fin 256) : (inAt m c t ds).q (ix3 n (sg d s) l) = (Entry.argsOf (X m c)).p (ix3 n (row d (chk t) s) ⟨l.val, by omega⟩) := by
  have hr := row_at t d ht s
  have z : (((cfg0.win 0).blk t).view.emb (ix3 n (sg d s) l) : S4x2048x5632.Idx) = (ix3 n (row d (chk t) s) ⟨l.val, by omega⟩ : S4x2048x5632.Idx) := by
    blk_ext [idx t]
  have e : (iblk m c 0 t : FVec Ideal S4x64x256 .f32) (ix3 n (sg d s) l) = (V m c main_v21 : FVec Ideal S4x2048x5632 .f32) (ix3 n (row d (chk t) s) ⟨l.val, by omega⟩) := by
    unfold iblk
    generalize V m c = A
    rw [View.read_apply, cast_eq]
    exact congrArg (A main_v21) z
  exact e.trans ((congrFun (V_v21 m c) _).trans (Entry.p_front (X m c) n (row d (chk t) s) ⟨l.val, by omega⟩))

theorem k_in (s : Fin 64) (l : Fin 256) : (inAt m c t ds).k (ix3 n (sg d s) l) = (Entry.argsOf (X m c)).p (ix3 n (row d (chk t) s) ⟨256 + l.val, by omega⟩) := by
  have hr := row_at t d ht s
  have z : (((cfg0.win 1).blk t).view.emb (ix3 n (sg d s) l) : S4x2048x5632.Idx) = (ix3 n (row d (chk t) s) ⟨256 + l.val, by omega⟩ : S4x2048x5632.Idx) := by
    blk_ext [idx t]
  have e : (iblk m c 1 t : FVec Ideal S4x64x256 .f32) (ix3 n (sg d s) l) = (V m c main_v21 : FVec Ideal S4x2048x5632 .f32) (ix3 n (row d (chk t) s) ⟨256 + l.val, by omega⟩) := by
    unfold iblk
    generalize V m c = A
    rw [View.read_apply, cast_eq]
    exact congrArg (A main_v21) z
  exact e.trans ((congrFun (V_v21 m c) _).trans (Entry.p_front (X m c) n (row d (chk t) s) ⟨256 + l.val, by omega⟩))

theorem v_in (s : Fin 64) (l : Fin 512) : (inAt m c t ds).v (ix3 n (sg d s) l) = (Entry.argsOf (X m c)).p (ix3 n (row d (chk t) s) ⟨512 + l.val, by omega⟩) := by
  have hr := row_at t d ht s
  have z : (((cfg0.win 2).blk t).view.emb (ix3 n (sg d s) l) : S4x2048x5632.Idx) = (ix3 n (row d (chk t) s) ⟨512 + l.val, by omega⟩ : S4x2048x5632.Idx) := by
    blk_ext [idx t]
  have e : (iblk m c 2 t : FVec Ideal S4x64x512 .f32) (ix3 n (sg d s) l) = (V m c main_v21 : FVec Ideal S4x2048x5632 .f32) (ix3 n (row d (chk t) s) ⟨512 + l.val, by omega⟩) := by
    unfold iblk
    generalize V m c = A
    rw [View.read_apply, cast_eq]
    exact congrArg (A main_v21) z
  exact e.trans ((congrFun (V_v21 m c) _).trans (Entry.p_front (X m c) n (row d (chk t) s) ⟨512 + l.val, by omega⟩))

theorem dO_in (s : Fin 64) (l : Fin 512) : (inAt m c t ds).dO (ix3 n (sg d s) l) = (Entry.argsOf (X m c)).dO (ix3 n (row d (chk t) s) l) := by
  have hr := row_at t d ht s
  have z : (((cfg0.win 6).blk t).view.emb (ix3 n (sg d s) l) : S4x2048x512.Idx) = (ix3 n (row d (chk t) s) l : S4x2048x512.Idx) := by
    blk_ext [idx t]
  have e : (iblk m c 6 t : FVec Ideal S4x64x512 .f32) (ix3 n (sg d s) l) = (V m c main_arg5 : FVec Ideal S4x2048x512 .f32) (ix3 n (row d (chk t) s) l) := by
    unfold iblk
    generalize V m c = A
    rw [View.read_apply, cast_eq]
    exact congrArg (A main_arg5) z
  exact e.trans (congrFun (V_main_arg5 m c) _)

theorem st_in (v : Fin 128) (l : Fin 256) : (inAt m c t ds).st (ix5 0 n 0 v l) = (Entry.argsOf (X m c)).st (ix5 d n (place d (chk t)) v l) := by
  have hr := place_at t d ht
  have z : (((cfg0.win 7).blk t).view.emb (ix5 0 n 0 v l) : S2x4x32x128x256.Idx) = (ix5 d n (place d (chk t)) v l : S2x4x32x128x256.Idx) := by
    blk_ext [idx t]
  have e : (iblk m c 7 t : FVec Ideal S1x4x1x128x256 .f32) (ix5 0 n 0 v l) = (V m c main_arg6 : FVec Ideal S2x4x32x128x256 .f32) (ix5 d n (place d (chk t)) v l) := by
    unfold iblk
    generalize V m c = A
    rw [View.read_apply, cast_eq]
    exact congrArg (A main_arg6) z
  exact e.trans (congrFun (V_main_arg6 m c) _)

theorem af_in (s : Fin 64) (x : Fin 128) : (inAt m c t ds).af (ix3 n (sg d s) x) = Entry.k_v21 (X m c) (ix3 n (row d (chk t) s) ⟨5376 + x.val, by omega⟩) := by
  have hr := row_at t d ht s
  have z : (((cfg0.win 3).blk t).view.emb (ix3 n (sg d s) x) : S4x2048x5632.Idx) = (ix3 n (row d (chk t) s) ⟨5376 + x.val, by omega⟩ : S4x2048x5632.Idx) := by
    blk_ext [idx t]
  have e : (iblk m c 3 t : FVec Ideal S4x64x128 .f32) (ix3 n (sg d s) x) = (V m c main_v21 : FVec Ideal S4x2048x5632 .f32) (ix3 n (row d (chk t) s) ⟨5376 + x.val, by omega⟩) := by
    unfold iblk
    generalize V m c = A
    rw [View.read_apply, cast_eq]
    exact congrArg (A main_v21) z
  exact e.trans (congrFun (V_v21 m c) _)

theorem wa_in (x : Fin 128) (l : Fin 256) : (inAt m c t ds).wa (ix3 0 x l) = Entry.k_v15 (X m c) (ix3 d x l) := by
  have z : (((cfg0.win 4).blk t).view.emb (ix3 0 x l) : S2x128x256.Idx) = (ix3 d x l : S2x128x256.Idx) := by
    blk_ext [idx t]
  have e : (iblk m c 4 t : FVec Ideal S1x128x256 .f32) (ix3 0 x l) = (V m c main_v15 : FVec Ideal S2x128x256 .f32) (ix3 d x l) := by
    unfold iblk
    generalize V m c = A
    rw [View.read_apply, cast_eq]
    exact congrArg (A main_v15) z
  exact e.trans (congrFun (V_v15 m c) _)

theorem ba_in (l : Fin 256) : (inAt m c t ds).ba (ix3 0 0 l) = Entry.k_v20 (X m c) (ix3 d 0 l) := by
  have z : (((cfg0.win 5).blk t).view.emb (ix3 0 0 l) : S2x1x256.Idx) = (ix3 d 0 l : S2x1x256.Idx) := by
    blk_ext [idx t]
  have e : (iblk m c 5 t : FVec Ideal S1x1x256 .f32) (ix3 0 0 l) = (V m c main_v20 : FVec Ideal S2x1x256 .f32) (ix3 d 0 l) := by
    unfold iblk
    generalize V m c = A
    rw [View.read_apply, cast_eq]
    exact congrArg (A main_v20) z
  exact e.trans (congrFun (V_v20 m c) _)

theorem gate_in (s : Fin 64) (l : Fin 256) :
    (∑ x : Fin 128, (inAt m c t ds).af (ix3 n (sg d s) x) * (inAt m c t ds).wa (ix3 0 x l)) + (inAt m c t ds).ba (ix3 0 0 l)
      = (Entry.argsOf (X m c)).z d n (row d (chk t) s) l := by
  rw [← Entry.sum_gate, ba_in m c t d ht ds]
  exact congrArg (· + _) (Finset.sum_congr rfl fun x _ => by rw [af_in m c t d ht n ds, wa_in m c t d ht ds])

/-- The body's head at a point is the recurrence's head on its chunk. -/
theorem head_at : Body.head (inAt m c t ds) d n h = (Entry.argsOf (X m c)).head d n (chk t) h (fun e v => ds (ix3 n v (ln h e))) :=
  Spec.head_ext _ _ (fun s e => q_in m c t d ht n ds s (ln h e)) (fun s e => k_in m c t d ht n ds s (ln h e))
    (fun s e => congrArg Spec.logGate (gate_in m c t d ht n ds s (ln h e))) (fun s v => v_in m c t d ht n ds s (lv h v))
    (fun s v => dO_in m c t d ht n ds s (lv h v)) (fun e v => st_in m c t d ht n ds v (ln h e)) fun _ _ => rfl

end

end Cert.KRead

end
-- ==== Proof.KLoop.lean ====
/- The kernel's loop over its grid: what the scratch carries is the recurrence's gradient, and the result array holds the
   gradients chunk by chunk. -/
module

public import proofs.«01_k».proof.Proof.Blocks
public import proofs.«01_k».proof.Proof.KRead
public import Idealize.ShloMosaic.Lib.Pipeline.ValueKit

@[expose] public section

set_option maxRecDepth 16384

noncomputable section

namespace Cert.KLoop

open Idealize.ShloMosaic Idealize.ShloMosaic.TcCoe Idealize.SL.Sem
open Cert.KernelIdeal Cert.KernelIdeal.Gen
open Cert.Step (ln lv row place)
open Cert.Body (sg)
open Cert.KRead (X inAt chk head_at dir)

variable (m : (ℓ : Loc nD τ sig) → Buf (Elt Ideal) ℓ) (c : Dev nD)

/-- The scratch after a point. -/
def left (t : Fin cfg0.N) : FVec Ideal S4x128x256 .f32 := (outsAt0 m c t.val t.isLt).2.2.2.2
/-- The scratch the body reads at a point. -/
def came (t : Fin cfg0.N) : FVec Ideal S4x128x256 .f32 :=
  if h : t.val % 32 = 0 then k0_pay6 else left m c ⟨t.val - 1, by have := t.isLt; omega⟩

theorem left_eq (t : Fin cfg0.N) : left m c t = Body.next (inAt m c t (came m c t)) := by
  unfold left came
  by_cases h0 : t.val % 32 = 0
  · rw [dif_pos h0, outsAt0_A m c t h0]
    dsimp only
    exact Blocks.sout0_A_0_eq ..
  · rw [dif_neg h0, outsAt0_B m c t h0]
    dsimp only
    exact Blocks.sout0_B_0_eq ..

theorem block_eq (t : Fin cfg0.N) : (outsAt0 m c t.val t.isLt).1 = Body.out (inAt m c t (came m c t)) := by
  unfold came
  by_cases h0 : t.val % 32 = 0
  · rw [dif_pos h0, outsAt0_A m c t h0]
    dsimp only
    exact Blocks.out0_A_8_eq ..
  · rw [dif_neg h0, outsAt0_B m c t h0]
    dsimp only
    exact Blocks.out0_B_8_eq ..

theorem a0_eq (t : Fin cfg0.N) (d : Fin 2) (ds : FVec Ideal S4x128x256 .f32) (ht : t.val / 32 = d.val) : (inAt m c t ds).a0 = BitVec.ofNat 32 d.val := by
  show BitVec.ofNat 32 (grid0.coords t 0).val = _
  rw [dir, ht]

theorem pay6_at (n : Fin 4) (v : Fin 128) (l : Fin 256) : (k0_pay6 (F := Ideal)) (ix3 n v l) = 0 := by
  pointwise [k0_pay6]

/-- The scratch a point reads is the gradient the recurrence has come to. -/
theorem came_at : ∀ (k : ℕ) (t : Fin cfg0.N) (d : Fin 2) (_ : t.val / 32 = d.val) (_ : t.val % 32 = k) (n h : Fin 4),
    (fun e v => came m c t (ix3 n v (ln h e))) = (Entry.argsOf (X m c)).G d n h k
  | 0, t, d, ht, hk, n, h => by
    funext e v
    rw [came, dif_pos hk, pay6_at]
    rfl
  | k + 1, t, d, ht, hk, n, h => by
    have hlt := t.isLt
    funext e v
    rw [came, dif_neg (by omega), left_eq, Body.next_at _ d (a0_eq m c _ d _ (by show (t.val - 1) / 32 = d.val; omega)) n h e v,
      head_at m c _ d (by show (t.val - 1) / 32 = d.val; omega) n h _, came_at k ⟨t.val - 1, by omega⟩ d (by show (t.val - 1) / 32 = d.val; omega) (by show (t.val - 1) % 32 = k; omega) n h]
    show ((Entry.argsOf (X m c)).head d n _ h _).next e v = ((Entry.argsOf (X m c)).head d n _ h _).next e v
    rw [show chk ⟨t.val - 1, by omega⟩ = (⟨31 - k, by omega⟩ : Fin 32) from Fin.ext (by show 31 - (t.val - 1) % 32 = 31 - k; omega)]

/-- The body's head at a point is the chunk's. -/
theorem chunk_at (t : Fin cfg0.N) (d : Fin 2) (n h : Fin 4) (ht : t.val / 32 = d.val) : Body.head (inAt m c t (came m c t)) d n h = (Entry.argsOf (X m c)).chunk d n (chk t) h := by
  rw [head_at m c t d ht n h _, came_at m c _ t d ht rfl n h, Step.Args.chunk]
  rw [show 31 - (chk t).val = t.val % 32 from by show 31 - (31 - t.val % 32) = t.val % 32; omega]

end Cert.KLoop

end
-- ==== Proof.KFinal.lean ====
/- The kernel's result array, from what its points leave in their blocks. -/
module

public import proofs.«01_k».proof.Proof.KLoop

@[expose] public section

set_option maxRecDepth 16384

noncomputable section

namespace Cert.KLoop

open Idealize.ShloMosaic Idealize.ShloMosaic.TcCoe Idealize.SL.Sem
open Cert.KernelIdeal Cert.KernelIdeal.Gen
open Cert.Step (ln lv row)
open Cert.Body (sg sg_sg)
open Cert.KRead (X inAt chk blk idx row_at dir)

variable (m : (ℓ : Loc nD τ sig) → Buf (Elt Ideal) ℓ) (c : Dev nD)

/-- An array that holds the gradients chunk by chunk. -/
def Holds (a : Step.Args) (R : FVec Ideal S2x4x2048x1024 .f32) : Prop :=
  (∀ d n ch h t e, R (ix4 d n (row d ch t) ⟨(ln h e).val, by omega⟩) = (a.chunk d n ch h).dq t e)
  ∧ (∀ d n ch h t e, R (ix4 d n (row d ch t) ⟨256 + (ln h e).val, by omega⟩) = (a.chunk d n ch h).dk t e)
  ∧ ∀ d n ch h t v, R (ix4 d n (row d ch t) ⟨512 + (lv h v).val, by omega⟩) = (a.chunk d n ch h).dv t v

theorem blk_lt : ∀ t : Fin cfg0.N, blk t.val < 32 := (by decide +kernel : ∀ t : Fin grid0.N, _)

variable (R : FVec Ideal S2x4x2048x1024 .f32) (hR : Holds (Entry.argsOf (X m c)) R)
include hR

/-- What a point leaves in its block is its chunk's part of such an array. -/
theorem block_at (t : Fin cfg0.N) (d : Fin 2) (ht : t.val / 32 = d.val) (n : Fin 4) (s : Fin 64) (l : Fin 1024) :
    Body.out (inAt m c t (came m c t)) (ix4 0 n s l) = R (ix4 d n ⟨blk t.val * 64 + s.val, by have := blk_lt t; omega⟩ l) := by
  obtain ⟨u, rfl⟩ : ∃ u, s = sg d u := ⟨sg d s, (sg_sg d s).symm⟩
  have hr : (⟨blk t.val * 64 + (sg d u).val, by have := blk_lt t; omega⟩ : Fin 2048) = row d (chk t) u := Fin.ext (row_at t d ht u)
  have ha := a0_eq m c t d (came m c t) ht
  rw [hr]
  rcases (by omega : l.val < 256 ∨ (256 ≤ l.val ∧ l.val < 512) ∨ 512 ≤ l.val) with hl | hl | hl
  · obtain ⟨h, e, rfl⟩ : ∃ h e, l = ⟨(ln h e).val, by clear hl; omega⟩ :=
      ⟨⟨l.val / 64, by omega⟩, ⟨l.val % 64, by omega⟩, Fin.ext (by show l.val = (l.val / 64 * 64 + l.val % 64); omega)⟩
    rw [Body.out_q _ d ha, chunk_at m c t d n _ ht, ← hR.1]
  · obtain ⟨h, e, rfl⟩ : ∃ h e, l = ⟨256 + (ln h e).val, by clear hl; omega⟩ :=
      ⟨⟨(l.val - 256) / 64, by omega⟩, ⟨(l.val - 256) % 64, by omega⟩, Fin.ext (by show l.val = 256 + ((l.val - 256) / 64 * 64 + (l.val - 256) % 64); omega)⟩
    rw [Body.out_k _ d ha, chunk_at m c t d n _ ht, ← hR.2.1]
  · obtain ⟨h, e, rfl⟩ : ∃ h e, l = ⟨512 + (lv h e).val, by clear hl; omega⟩ :=
      ⟨⟨(l.val - 512) / 128, by omega⟩, ⟨(l.val - 512) % 128, by omega⟩, Fin.ext (by show l.val = 512 + ((l.val - 512) / 128 * 128 + (l.val - 512) % 128); omega)⟩
    rw [Body.out_v _ d ha, chunk_at m c t d n _ ht, ← hR.2.2]

/-- The result array is that array. -/
theorem final : (dats m 0 c).arrAt 8 cfg0.N = R := by
  refine (dats m 0 c).arrAt_eq_of_covers 8 R (by decide +kernel) fun t _ y => ?_
  have hlt : t.val < 64 := t.isLt
  rw [cast_eq, after0_8, block_eq]
  obtain ⟨n, s, l, hy⟩ : ∃ (n : Fin 4) (s : Fin 64) (l : Fin 1024), (y : S1x4x64x1024.Idx) = ix4 0 n s l := by
    refine ⟨y 1, y 2, y 3, ?_⟩
    funext a
    fin_cases a
    · exact Subsingleton.elim (α := Fin 1) _ _
    all_goals rfl
  have hz : (((cfg0.win 8).blk t).view.emb (ix4 0 n s l : S1x4x64x1024.Idx) : S2x4x2048x1024.Idx)
      = ix4 (⟨t.val / 32, by omega⟩ : Fin 2) n (⟨blk t.val * 64 + s.val, by have := blk_lt t; omega⟩ : Fin 2048) l := by
    blk_ext [idx t]
  subst hy
  refine (?_ : _ = R _).trans (congrArg R hz.symm)
  exact block_at m c R hR t ⟨t.val / 32, by omega⟩ rfl n s l

end Cert.KLoop

end
-- ==== Proof.RefPre.lean ====
/- The reference's operations before its loop, one equation for each: the buffer an operation writes holds the operation's
   function of the buffers it reads. -/
module

public import proofs.«01_k».proof.Proof.Gen.ReferenceIdeal.Run
public import proofs.«01_k».proof.Proof.Line
public import Idealize.ShloMosaic.Lib.Pointwise

@[expose] public section

set_option maxRecDepth 20000

noncomputable section

namespace Cert.Ref

open Idealize.ShloMosaic Idealize.ShloMosaic.TcCoe Idealize.ShloMosaic.StableHlo
open Cert.ReferenceIdeal Cert.ReferenceIdeal.Gen Cert.ReferenceIdeal.Value Cert.Line

/-- The operations before the loop, in order. -/
def preOps : List (HloOp τ sig (Elt Ideal)) := (preI (F := Ideal)).flatten
/-- What they write, in order. -/
def preW : List (Ref sig .tc) := hostOps0_W ++ hostOps0_1_W ++ hostOps0_2_W ++ hostOps0_3_W ++ hostOps0_4_W ++ hostOps0_5_W ++ hostOps0_6_W ++ hostOps0_7_W ++ hostOps0_8_W ++ hostOps0_9_W ++ hostOps0_10_W ++ hostOps0_11_W ++ hostOps0_12_W ++ hostOps0_13_W ++ hostOps0_14_W ++ hostOps0_15_W ++ hostOps0_16_W ++ hostOps0_17_W ++ hostOps0_18_W ++ hostOps0_19_W ++ hostOps0_20_W ++ hostOps0_21_W ++ hostOps0_22_W ++ hostOps0_23_W ++ hostOps0_24_W
theorem pre_writes : preOps.map HloOp.writes = preW.map fun w => {Proc.devRef (τ := τ) .tc w} := rfl

variable (X : Valuation τ sig (Elt Ideal))

def r_arg0 : FVec Ideal S4x2048x5408 .f32 := StableHlo.after preOps X (Proc.devRef .tc main_arg0)
def r_v0 : FVec Ideal S4x2048x1568 .f32 := StableHlo.after preOps X (Proc.devRef .tc main_v0)
def r_v1 : FVec Ideal S4x2048x256 .f32 := StableHlo.after preOps X (Proc.devRef .tc main_v1)
def r_v2 : FVec Ideal S4x2048x256 .f32 := StableHlo.after preOps X (Proc.devRef .tc main_v2)
def r_v3 : FVec Ideal S4x2048x512 .f32 := StableHlo.after preOps X (Proc.devRef .tc main_v3)
def r_v4 : FVec Ideal S4x2048x512 .f32 := StableHlo.after preOps X (Proc.devRef .tc main_v4)
def r_v5 : FVec Ideal S4x2048x16 .f32 := StableHlo.after preOps X (Proc.devRef .tc main_v5)
def r_v6 : FVec Ideal S4x2048x16 .f32 := StableHlo.after preOps X (Proc.devRef .tc main_v6)
def r_arg1 : FVec Ideal S16x256 .f32 := StableHlo.after preOps X (Proc.devRef .tc main_arg1)
def r_v7 : FVec Ideal S4x2048x256 .f32 := StableHlo.after preOps X (Proc.devRef .tc main_v7)
def r_arg2 : FVec Ideal S256 .f32 := StableHlo.after preOps X (Proc.devRef .tc main_arg2)
def r_v8 : FVec Ideal S1x1x256 .f32 := StableHlo.after preOps X (Proc.devRef .tc main_v8)
def r_v9 : FVec Ideal S4x2048x256 .f32 := StableHlo.after preOps X (Proc.devRef .tc main_v9)
def r_v10 : FVec Ideal S4x2048x256 .f32 := StableHlo.after preOps X (Proc.devRef .tc main_v10)
def r_call0_v0 : FVec Ideal S4x2048x256 .f32 := StableHlo.after preOps X (Proc.devRef .tc main_call0_v0)
def r_call0_call0_cst : FVec Ideal S_ .f32 := StableHlo.after preOps X (Proc.devRef .tc main_call0_call0_cst)
def r_call0_call0_v0 : FVec Ideal S4x2048x256 .f32 := StableHlo.after preOps X (Proc.devRef .tc main_call0_call0_v0)
def r_call0_call0_v1 : FVec Ideal S4x2048x256 .f32 := StableHlo.after preOps X (Proc.devRef .tc main_call0_call0_v1)
def r_call0_call0_v2 : FVec Ideal S4x2048x256 .f32 := StableHlo.after preOps X (Proc.devRef .tc main_call0_call0_v2)
def r_call0_call0_v3 : FVec Ideal S4x2048x256 .f32 := StableHlo.after preOps X (Proc.devRef .tc main_call0_call0_v3)
def r_call0_call0_v4 : IVec S4x2048x256 1 := StableHlo.after preOps X (Proc.devRef .tc main_call0_call0_v4)
def r_call0_call0_v5 : FVec Ideal S4x2048x256 .f32 := StableHlo.after preOps X (Proc.devRef .tc main_call0_call0_v5)
def r_call0_call0_v6 : FVec Ideal S4x2048x256 .f32 := StableHlo.after preOps X (Proc.devRef .tc main_call0_call0_v6)
def r_call0_call0_v7 : FVec Ideal S4x2048x256 .f32 := StableHlo.after preOps X (Proc.devRef .tc main_call0_call0_v7)
def r_call0_call0_v8 : FVec Ideal S4x2048x256 .f32 := StableHlo.after preOps X (Proc.devRef .tc main_call0_call0_v8)
def r_call0_call0_v9 : FVec Ideal S4x2048x256 .f32 := StableHlo.after preOps X (Proc.devRef .tc main_call0_call0_v9)
def r_call0_call0_v10 : FVec Ideal S4x2048x256 .f32 := StableHlo.after preOps X (Proc.devRef .tc main_call0_call0_v10)
def r_call0_call0_v11 : FVec Ideal S4x2048x256 .f32 := StableHlo.after preOps X (Proc.devRef .tc main_call0_call0_v11)
def r_call0_v1 : FVec Ideal S4x2048x256 .f32 := StableHlo.after preOps X (Proc.devRef .tc main_call0_v1)
def r_v11 : FVec Ideal S4x2048x256 .f32 := StableHlo.after preOps X (Proc.devRef .tc main_v11)
def r_cst : FVec Ideal S_ .f32 := StableHlo.after preOps X (Proc.devRef .tc main_cst)
def r_v12 : FVec Ideal S4x2048x256 .f32 := StableHlo.after preOps X (Proc.devRef .tc main_v12)
def r_v13 : FVec Ideal S4x2048x256 .f32 := StableHlo.after preOps X (Proc.devRef .tc main_v13)
def r_arg3 : FVec Ideal S16x256 .f32 := StableHlo.after preOps X (Proc.devRef .tc main_arg3)
def r_v14 : FVec Ideal S4x2048x256 .f32 := StableHlo.after preOps X (Proc.devRef .tc main_v14)
def r_arg4 : FVec Ideal S256 .f32 := StableHlo.after preOps X (Proc.devRef .tc main_arg4)
def r_v15 : FVec Ideal S1x1x256 .f32 := StableHlo.after preOps X (Proc.devRef .tc main_v15)
def r_v16 : FVec Ideal S4x2048x256 .f32 := StableHlo.after preOps X (Proc.devRef .tc main_v16)
def r_v17 : FVec Ideal S4x2048x256 .f32 := StableHlo.after preOps X (Proc.devRef .tc main_v17)
def r_call1_v0 : FVec Ideal S4x2048x256 .f32 := StableHlo.after preOps X (Proc.devRef .tc main_call1_v0)
def r_call1_call0_cst : FVec Ideal S_ .f32 := StableHlo.after preOps X (Proc.devRef .tc main_call1_call0_cst)
def r_call1_call0_v0 : FVec Ideal S4x2048x256 .f32 := StableHlo.after preOps X (Proc.devRef .tc main_call1_call0_v0)
def r_call1_call0_v1 : FVec Ideal S4x2048x256 .f32 := StableHlo.after preOps X (Proc.devRef .tc main_call1_call0_v1)
def r_call1_call0_v2 : FVec Ideal S4x2048x256 .f32 := StableHlo.after preOps X (Proc.devRef .tc main_call1_call0_v2)
def r_call1_call0_v3 : FVec Ideal S4x2048x256 .f32 := StableHlo.after preOps X (Proc.devRef .tc main_call1_call0_v3)
def r_call1_call0_v4 : IVec S4x2048x256 1 := StableHlo.after preOps X (Proc.devRef .tc main_call1_call0_v4)
def r_call1_call0_v5 : FVec Ideal S4x2048x256 .f32 := StableHlo.after preOps X (Proc.devRef .tc main_call1_call0_v5)
def r_call1_call0_v6 : FVec Ideal S4x2048x256 .f32 := StableHlo.after preOps X (Proc.devRef .tc main_call1_call0_v6)
def r_call1_call0_v7 : FVec Ideal S4x2048x256 .f32 := StableHlo.after preOps X (Proc.devRef .tc main_call1_call0_v7)
def r_call1_call0_v8 : FVec Ideal S4x2048x256 .f32 := StableHlo.after preOps X (Proc.devRef .tc main_call1_call0_v8)
def r_call1_call0_v9 : FVec Ideal S4x2048x256 .f32 := StableHlo.after preOps X (Proc.devRef .tc main_call1_call0_v9)
def r_call1_call0_v10 : FVec Ideal S4x2048x256 .f32 := StableHlo.after preOps X (Proc.devRef .tc main_call1_call0_v10)
def r_call1_call0_v11 : FVec Ideal S4x2048x256 .f32 := StableHlo.after preOps X (Proc.devRef .tc main_call1_call0_v11)
def r_call1_v1 : FVec Ideal S4x2048x256 .f32 := StableHlo.after preOps X (Proc.devRef .tc main_call1_v1)
def r_v18 : FVec Ideal S4x2048x256 .f32 := StableHlo.after preOps X (Proc.devRef .tc main_v18)
def r_cst_0 : FVec Ideal S_ .f32 := StableHlo.after preOps X (Proc.devRef .tc main_cst_0)
def r_v19 : FVec Ideal S4x2048x256 .f32 := StableHlo.after preOps X (Proc.devRef .tc main_v19)
def r_v20 : FVec Ideal S4x2048x256 .f32 := StableHlo.after preOps X (Proc.devRef .tc main_v20)
def r_v21 : FVec Ideal S4x2048x256 .f32 := StableHlo.after preOps X (Proc.devRef .tc main_v21)
def r_v22 : FVec Ideal S8x2048x256 .f32 := StableHlo.after preOps X (Proc.devRef .tc main_v22)
def r_v23 : FVec Ideal S8x2048x4x64 .f32 := StableHlo.after preOps X (Proc.devRef .tc main_v23)
def r_v24 : FVec Ideal S8x32x64x4x64 .f32 := StableHlo.after preOps X (Proc.devRef .tc main_v24)
def r_v25 : FVec Ideal S4x2048x256 .f32 := StableHlo.after preOps X (Proc.devRef .tc main_v25)
def r_v26 : FVec Ideal S8x2048x256 .f32 := StableHlo.after preOps X (Proc.devRef .tc main_v26)
def r_v27 : FVec Ideal S8x2048x4x64 .f32 := StableHlo.after preOps X (Proc.devRef .tc main_v27)
def r_v28 : FVec Ideal S8x32x64x4x64 .f32 := StableHlo.after preOps X (Proc.devRef .tc main_v28)
def r_v29 : FVec Ideal S4x2048x512 .f32 := StableHlo.after preOps X (Proc.devRef .tc main_v29)
def r_v30 : FVec Ideal S8x2048x512 .f32 := StableHlo.after preOps X (Proc.devRef .tc main_v30)
def r_v31 : FVec Ideal S8x2048x4x128 .f32 := StableHlo.after preOps X (Proc.devRef .tc main_v31)
def r_v32 : FVec Ideal S8x32x64x4x128 .f32 := StableHlo.after preOps X (Proc.devRef .tc main_v32)
def r_v33 : FVec Ideal S4x2048x256 .f32 := StableHlo.after preOps X (Proc.devRef .tc main_v33)
def r_v34 : FVec Ideal S8x2048x256 .f32 := StableHlo.after preOps X (Proc.devRef .tc main_v34)
def r_v35 : FVec Ideal S8x2048x4x64 .f32 := StableHlo.after preOps X (Proc.devRef .tc main_v35)
def r_v36 : FVec Ideal S8x32x64x4x64 .f32 := StableHlo.after preOps X (Proc.devRef .tc main_v36)
def r_arg5 : FVec Ideal S4x2048x512 .f32 := StableHlo.after preOps X (Proc.devRef .tc main_arg5)
def r_v37 : FVec Ideal S4x2048x512 .f32 := StableHlo.after preOps X (Proc.devRef .tc main_v37)
def r_v38 : FVec Ideal S8x2048x512 .f32 := StableHlo.after preOps X (Proc.devRef .tc main_v38)
def r_v39 : FVec Ideal S8x2048x4x128 .f32 := StableHlo.after preOps X (Proc.devRef .tc main_v39)
def r_v40 : FVec Ideal S8x32x64x4x128 .f32 := StableHlo.after preOps X (Proc.devRef .tc main_v40)
def r_call7_call0_cst : FVec Ideal S_ .f32 := StableHlo.after preOps X (Proc.devRef .tc main_call7_call0_cst)
def r_call7_call0_v0 : FVec Ideal S_ .f32 := StableHlo.after preOps X (Proc.devRef .tc main_call7_call0_v0)
def r_v41 : FVec Ideal S8x32x64x4x64 .f32 := StableHlo.after preOps X (Proc.devRef .tc main_v41)
def r_arg6 : FVec Ideal S2x4x32x128x256 .f32 := StableHlo.after preOps X (Proc.devRef .tc main_arg6)
def r_v42 : FVec Ideal S1x4x32x128x256 .f32 := StableHlo.after preOps X (Proc.devRef .tc main_v42)
def r_v43 : FVec Ideal S4x32x128x256 .f32 := StableHlo.after preOps X (Proc.devRef .tc main_v43)
def r_v44 : FVec Ideal S1x4x32x128x256 .f32 := StableHlo.after preOps X (Proc.devRef .tc main_v44)
def r_v45 : FVec Ideal S4x32x128x256 .f32 := StableHlo.after preOps X (Proc.devRef .tc main_v45)
def r_v46 : FVec Ideal S4x32x128x256 .f32 := StableHlo.after preOps X (Proc.devRef .tc main_v46)
def r_v47 : FVec Ideal S8x32x128x256 .f32 := StableHlo.after preOps X (Proc.devRef .tc main_v47)
def r_v48 : FVec Ideal S8x32x128x4x64 .f32 := StableHlo.after preOps X (Proc.devRef .tc main_v48)
def r_v49 : FVec Ideal S8x32x4x64x128 .f32 := StableHlo.after preOps X (Proc.devRef .tc main_v49)
def r_cst_1 : FVec Ideal S_ .f32 := StableHlo.after preOps X (Proc.devRef .tc main_cst_1)
def r_v50 : FVec Ideal S8x32x64x4x64 .f32 := StableHlo.after preOps X (Proc.devRef .tc main_v50)
def r_v51 : FVec Ideal S8x32x64x4x64 .f32 := StableHlo.after preOps X (Proc.devRef .tc main_v51)
def r_v52 : FVec Ideal S8x32x1x4x64 .f32 := StableHlo.after preOps X (Proc.devRef .tc main_v52)
def r_v53 : FVec Ideal S8x32x64x4x64 .f32 := StableHlo.after preOps X (Proc.devRef .tc main_v53)
def r_v54 : FVec Ideal S8x32x64x4x64 .f32 := StableHlo.after preOps X (Proc.devRef .tc main_v54)
def r_v55 : FVec Ideal S8x32x64x4x64 .f32 := StableHlo.after preOps X (Proc.devRef .tc main_v55)
def r_v56 : FVec Ideal S8x32x64x4x64 .f32 := StableHlo.after preOps X (Proc.devRef .tc main_v56)
def r_v57 : FVec Ideal S8x32x64x4x64 .f32 := StableHlo.after preOps X (Proc.devRef .tc main_v57)
def r_v58 : FVec Ideal S8x32x64x4x64 .f32 := StableHlo.after preOps X (Proc.devRef .tc main_v58)
def r_v59 : FVec Ideal S8x32x64x4x64 .f32 := StableHlo.after preOps X (Proc.devRef .tc main_v59)
def r_v60 : FVec Ideal S8x32x64x4x64 .f32 := StableHlo.after preOps X (Proc.devRef .tc main_v60)
def r_v61 : FVec Ideal S8x32x4x64x64 .f32 := StableHlo.after preOps X (Proc.devRef .tc main_v61)
def r_c : IVec S_ 1 := StableHlo.after preOps X (Proc.devRef .tc main_c)
def r_v62 : IVec S64x64 1 := StableHlo.after preOps X (Proc.devRef .tc main_v62)
def r_call9_v0 : IVec S64x64 32 := StableHlo.after preOps X (Proc.devRef .tc main_call9_v0)
def r_call9_c : IVec S_ 32 := StableHlo.after preOps X (Proc.devRef .tc main_call9_c)
def r_call9_v1 : IVec S64x64 32 := StableHlo.after preOps X (Proc.devRef .tc main_call9_v1)
def r_call9_v2 : IVec S64x64 32 := StableHlo.after preOps X (Proc.devRef .tc main_call9_v2)
def r_call9_v3 : IVec S64x64 32 := StableHlo.after preOps X (Proc.devRef .tc main_call9_v3)
def r_call9_v4 : IVec S64x64 1 := StableHlo.after preOps X (Proc.devRef .tc main_call9_v4)
def r_call9_c_0 : IVec S_ 1 := StableHlo.after preOps X (Proc.devRef .tc main_call9_c_0)
def r_call9_v5 : IVec S64x64 1 := StableHlo.after preOps X (Proc.devRef .tc main_call9_v5)
def r_v63 : IVec S64x64 1 := StableHlo.after preOps X (Proc.devRef .tc main_v63)
def r_cst_2 : FVec Ideal S_ .f32 := StableHlo.after preOps X (Proc.devRef .tc main_cst_2)
def r_call10_v0 : FVec Ideal S_ .f32 := StableHlo.after preOps X (Proc.devRef .tc main_call10_v0)
def r_v64_1 : IVec S8x32x4x64x64 1 := StableHlo.after preOps X (Proc.devRef .tc main_v64_1)
def r_call10_v2 : FVec Ideal S8x32x4x64x64 .f32 := StableHlo.after preOps X (Proc.devRef .tc main_call10_v2)
def r_v64_0 : FVec Ideal S8x32x4x64x64 .f32 := StableHlo.after preOps X (Proc.devRef .tc main_v64_0)
def r_call10_cst : FVec Ideal S_ .f32 := StableHlo.after preOps X (Proc.devRef .tc main_call10_cst)
def r_v64_2 : FVec Ideal S8x32x4x64x64 .f32 := StableHlo.after preOps X (Proc.devRef .tc main_v64_2)
def r_v65 : FVec Ideal S8x32x4x128x64 .f32 := StableHlo.after preOps X (Proc.devRef .tc main_v65)
def r_v66 : FVec Ideal S8x32x64x4x128 .f32 := StableHlo.after preOps X (Proc.devRef .tc main_v66)
def r_v67 : FVec Ideal S8x32x64x4x64 .f32 := StableHlo.after preOps X (Proc.devRef .tc main_v67)
def r_v68 : FVec Ideal S8x32x64x4x64 .f32 := StableHlo.after preOps X (Proc.devRef .tc main_v68)
def r_v69 : FVec Ideal S8x32x4x128x64 .f32 := StableHlo.after preOps X (Proc.devRef .tc main_v69)
def r_v70 : FVec Ideal S8x32x64x4x128 .f32 := StableHlo.after preOps X (Proc.devRef .tc main_v70)
def r_v71 : FVec Ideal S8x32x64x4x128 .f32 := StableHlo.after preOps X (Proc.devRef .tc main_v71)
def r_v72 : FVec Ideal S8x32x4x128x64 .f32 := StableHlo.after preOps X (Proc.devRef .tc main_v72)
def r_v73 : FVec Ideal S8x32x4x64x64 .f32 := StableHlo.after preOps X (Proc.devRef .tc main_v73)
def r_v74 : FVec Ideal S8x32x64x4x64 .f32 := StableHlo.after preOps X (Proc.devRef .tc main_v74)
def r_v75 : FVec Ideal S8x32x4x128x64 .f32 := StableHlo.after preOps X (Proc.devRef .tc main_v75)
def r_v76 : FVec Ideal S8x32x4x64x128 .f32 := StableHlo.after preOps X (Proc.devRef .tc main_v76)
def r_v77 : FVec Ideal S8x32x64x4x64 .f32 := StableHlo.after preOps X (Proc.devRef .tc main_v77)
def r_v78 : FVec Ideal S8x32x4x128x64 .f32 := StableHlo.after preOps X (Proc.devRef .tc main_v78)
def r_v79 : FVec Ideal S8x32x4x64x64 .f32 := StableHlo.after preOps X (Proc.devRef .tc main_v79)
def r_v80 : FVec Ideal S8x32x4x128x64 .f32 := StableHlo.after preOps X (Proc.devRef .tc main_v80)
def r_v81 : FVec Ideal S8x32x64x4x128 .f32 := StableHlo.after preOps X (Proc.devRef .tc main_v81)
def r_call11_cst : FVec Ideal S_ .f32 := StableHlo.after preOps X (Proc.devRef .tc main_call11_cst)
def r_call11_v0 : FVec Ideal S8x32x4x64x64 .f32 := StableHlo.after preOps X (Proc.devRef .tc main_call11_v0)
def r_v82 : FVec Ideal S8x32x4x64x64 .f32 := StableHlo.after preOps X (Proc.devRef .tc main_v82)
def r_v83 : FVec Ideal S8x32x4x64x64 .f32 := StableHlo.after preOps X (Proc.devRef .tc main_v83)
def r_v84 : FVec Ideal S8x32x64x4x64 .f32 := StableHlo.after preOps X (Proc.devRef .tc main_v84)
def r_v85 : FVec Ideal S8x32x4x64x64 .f32 := StableHlo.after preOps X (Proc.devRef .tc main_v85)
def r_v86 : FVec Ideal S8x32x64x4x64 .f32 := StableHlo.after preOps X (Proc.devRef .tc main_v86)
def r_v87 : FVec Ideal S8x32x64x4x64 .f32 := StableHlo.after preOps X (Proc.devRef .tc main_v87)
def r_v88 : FVec Ideal S8x32x64x4x64 .f32 := StableHlo.after preOps X (Proc.devRef .tc main_v88)
def r_v89 : FVec Ideal S8x32x64x4x64 .f32 := StableHlo.after preOps X (Proc.devRef .tc main_v89)
def r_cst_3 : FVec Ideal S_ .f32 := StableHlo.after preOps X (Proc.devRef .tc main_cst_3)
def r_v90 : FVec Ideal S8x32x64x4x64 .f32 := StableHlo.after preOps X (Proc.devRef .tc main_v90)
def r_v91 : FVec Ideal S8x32x64x4x64 .f32 := StableHlo.after preOps X (Proc.devRef .tc main_v91)
def r_v92 : FVec Ideal S8x32x1x4x64 .f32 := StableHlo.after preOps X (Proc.devRef .tc main_v92)
def r_v93 : FVec Ideal S8x32x4x64 .f32 := StableHlo.after preOps X (Proc.devRef .tc main_v93)
def r_v94 : FVec Ideal S8x32x4x64 .f32 := StableHlo.after preOps X (Proc.devRef .tc main_v94)
def r_cst_4 : FVec Ideal S_ .f32 := StableHlo.after preOps X (Proc.devRef .tc main_cst_4)
def r_v95 : FVec Ideal S8x4x64x128 .f32 := StableHlo.after preOps X (Proc.devRef .tc main_v95)
def r_v96 : FVec Ideal S8x32x4x64x1 .f32 := StableHlo.after preOps X (Proc.devRef .tc main_v96)
def r_v97 : FVec Ideal S32x8x4x64x1 .f32 := StableHlo.after preOps X (Proc.devRef .tc main_v97)
def r_v98 : FVec Ideal S32x8x4x64x128 .f32 := StableHlo.after preOps X (Proc.devRef .tc main_v98)
def r_cst_5 : FVec Ideal S_ .f32 := StableHlo.after preOps X (Proc.devRef .tc main_cst_5)
def r_v99 : FVec Ideal S8x4x64x128 .f32 := StableHlo.after preOps X (Proc.devRef .tc main_v99)
def r_cst_6 : FVec Ideal S_ .f32 := StableHlo.after preOps X (Proc.devRef .tc main_cst_6)
def r_v100 : FVec Ideal S32x8x4x64x128 .f32 := StableHlo.after preOps X (Proc.devRef .tc main_v100)
def r_c_7 : IVec S_ 32 := StableHlo.after preOps X (Proc.devRef .tc main_c_7)
def r_v101_0 : FVec Ideal S32x8x4x64x128 .f32 := StableHlo.after preOps X (Proc.devRef .tc main_v101_0)
def r_v101_1 : FVec Ideal S32x8x4x64x1 .f32 := StableHlo.after preOps X (Proc.devRef .tc main_v101_1)
def r_v101_2 : IVec S_ 32 := StableHlo.after preOps X (Proc.devRef .tc main_v101_2)
def r_v101_3 : FVec Ideal S8x4x64x128 .f32 := StableHlo.after preOps X (Proc.devRef .tc main_v101_3)
def r_v101_4 : FVec Ideal S32x8x4x64x128 .f32 := StableHlo.after preOps X (Proc.devRef .tc main_v101_4)

theorem r_v0_eq : r_v0 X = extractStridedSlice S4x2048x1568 ![0, 0, 0] (r_arg0 X) slices_S4x2048x5408_S4x2048x1568_0_0_0 := by
  refine unary_at pre_writes X 0 rfl ?_ ?_ <;> decide +kernel
theorem r_v1_eq : r_v1 X = extractStridedSlice S4x2048x256 ![0, 0, 0] (r_v0 X) slices_S4x2048x1568_S4x2048x256_0_0_0 := by
  refine unary_at pre_writes X 1 rfl ?_ ?_ <;> decide +kernel
theorem r_v2_eq : r_v2 X = extractStridedSlice S4x2048x256 ![0, 0, 256] (r_v0 X) slices_S4x2048x1568_S4x2048x256_0_0_256 := by
  refine unary_at pre_writes X 2 rfl ?_ ?_ <;> decide +kernel
theorem r_v3_eq : r_v3 X = extractStridedSlice S4x2048x512 ![0, 0, 512] (r_v0 X) slices_S4x2048x1568_S4x2048x512_0_0_512 := by
  refine unary_at pre_writes X 3 rfl ?_ ?_ <;> decide +kernel
theorem r_v4_eq : r_v4 X = extractStridedSlice S4x2048x512 ![0, 0, 1024] (r_v0 X) slices_S4x2048x1568_S4x2048x512_0_0_1024 := by
  refine unary_at pre_writes X 4 rfl ?_ ?_ <;> decide +kernel
theorem r_v5_eq : r_v5 X = extractStridedSlice S4x2048x16 ![0, 0, 1536] (r_v0 X) slices_S4x2048x1568_S4x2048x16_0_0_1536 := by
  refine unary_at pre_writes X 5 rfl ?_ ?_ <;> decide +kernel
theorem r_v6_eq : r_v6 X = extractStridedSlice S4x2048x16 ![0, 0, 1552] (r_v0 X) slices_S4x2048x1568_S4x2048x16_0_0_1552 := by
  refine unary_at pre_writes X 6 rfl ?_ ?_ <;> decide +kernel
theorem r_v7_eq : r_v7 X = Host.dotGeneral dot_S4x2048x16_S16x256_S4x2048x256_2_0_01_1_n_n none (r_v5 X) (r_arg1 X) := by
  refine binary_at pre_writes X 7 rfl ?_ ?_ ?_ <;> decide +kernel
theorem r_v8_eq : r_v8 X = broadcastInDim S1x1x256 ![2] bcast_S256_S1x1x256_2 (r_arg2 X) := by
  refine unary_at pre_writes X 8 rfl ?_ ?_ <;> decide +kernel
theorem r_v9_eq : r_v9 X = broadcastInDim S4x2048x256 ![0, 1, 2] bcast_S1x1x256_S4x2048x256_0_1_2 (r_v8 X) := by
  refine unary_at pre_writes X 9 rfl ?_ ?_ <;> decide +kernel
theorem r_v10_eq : r_v10 X = addf (r_v7 X) (r_v9 X) := by
  refine binary_at pre_writes X 10 rfl ?_ ?_ ?_ <;> decide +kernel
theorem r_call0_v0_eq : r_call0_v0 X = Host.negf (r_v10 X) := by
  refine unary_at pre_writes X 11 rfl ?_ ?_ <;> decide +kernel
theorem r_call0_call0_cst_eq : r_call0_call0_cst X = constant S_ .f32 0x00000000#32 := by
  refine nullary_at pre_writes X 12 rfl ?_ <;> decide +kernel
theorem r_call0_call0_v0_eq : r_call0_call0_v0 X = broadcastInDim S4x2048x256 ![] bcast_S_S4x2048x256 (r_call0_call0_cst X) := by
  refine unary_at pre_writes X 13 rfl ?_ ?_ <;> decide +kernel
theorem r_call0_call0_v1_eq : r_call0_call0_v1 X = maximumf (r_call0_v0 X) (r_call0_call0_v0 X) := by
  refine binary_at pre_writes X 14 rfl ?_ ?_ ?_ <;> decide +kernel
theorem r_call0_call0_v2_eq : r_call0_call0_v2 X = broadcastInDim S4x2048x256 ![] bcast_S_S4x2048x256 (r_call0_call0_cst X) := by
  refine unary_at pre_writes X 15 rfl ?_ ?_ <;> decide +kernel
theorem r_call0_call0_v3_eq : r_call0_call0_v3 X = subf (r_call0_v0 X) (r_call0_call0_v2 X) := by
  refine binary_at pre_writes X 16 rfl ?_ ?_ ?_ <;> decide +kernel
theorem r_call0_call0_v4_eq : r_call0_call0_v4 X = cmpf .une (r_call0_call0_v3 X) (r_call0_call0_v3 X) := by
  refine binary_at pre_writes X 17 rfl ?_ ?_ ?_ <;> decide +kernel
theorem r_call0_call0_v5_eq : r_call0_call0_v5 X = broadcastInDim S4x2048x256 ![] bcast_S_S4x2048x256 (r_call0_call0_cst X) := by
  refine unary_at pre_writes X 18 rfl ?_ ?_ <;> decide +kernel
theorem r_call0_call0_v6_eq : r_call0_call0_v6 X = addf (r_call0_v0 X) (r_call0_call0_v5 X) := by
  refine binary_at pre_writes X 19 rfl ?_ ?_ ?_ <;> decide +kernel
theorem r_call0_call0_v7_eq : r_call0_call0_v7 X = Host.absf (r_call0_call0_v3 X) := by
  refine unary_at pre_writes X 20 rfl ?_ ?_ <;> decide +kernel
theorem r_call0_call0_v8_eq : r_call0_call0_v8 X = Host.negf (r_call0_call0_v7 X) := by
  refine unary_at pre_writes X 21 rfl ?_ ?_ <;> decide +kernel
theorem r_call0_call0_v9_eq : r_call0_call0_v9 X = Host.exp (r_call0_call0_v8 X) := by
  refine unary_at pre_writes X 22 rfl ?_ ?_ <;> decide +kernel
theorem r_call0_call0_v10_eq : r_call0_call0_v10 X = Host.log1p (r_call0_call0_v9 X) := by
  refine unary_at pre_writes X 23 rfl ?_ ?_ <;> decide +kernel
theorem r_call0_call0_v11_eq : r_call0_call0_v11 X = addf (r_call0_call0_v1 X) (r_call0_call0_v10 X) := by
  refine binary_at pre_writes X 24 rfl ?_ ?_ ?_ <;> decide +kernel
theorem r_call0_v1_eq : r_call0_v1 X = select (r_call0_call0_v4 X) (r_call0_call0_v6 X) (r_call0_call0_v11 X) := by
  refine ternary_at pre_writes X 25 rfl ?_ ?_ ?_ ?_ <;> decide +kernel
theorem r_v11_eq : r_v11 X = Host.negf (r_call0_v1 X) := by
  refine unary_at pre_writes X 26 rfl ?_ ?_ <;> decide +kernel
theorem r_cst_eq : r_cst X = constant S_ .f32 0x41800000#32 := by
  refine nullary_at pre_writes X 27 rfl ?_ <;> decide +kernel
theorem r_v12_eq : r_v12 X = broadcastInDim S4x2048x256 ![] bcast_S_S4x2048x256 (r_cst X) := by
  refine unary_at pre_writes X 28 rfl ?_ ?_ <;> decide +kernel
theorem r_v13_eq : r_v13 X = Host.divf (r_v11 X) (r_v12 X) := by
  refine binary_at pre_writes X 29 rfl ?_ ?_ ?_ <;> decide +kernel
theorem r_v14_eq : r_v14 X = Host.dotGeneral dot_S4x2048x16_S16x256_S4x2048x256_2_0_01_1_n_n none (r_v6 X) (r_arg3 X) := by
  refine binary_at pre_writes X 30 rfl ?_ ?_ ?_ <;> decide +kernel
theorem r_v15_eq : r_v15 X = broadcastInDim S1x1x256 ![2] bcast_S256_S1x1x256_2 (r_arg4 X) := by
  refine unary_at pre_writes X 31 rfl ?_ ?_ <;> decide +kernel
theorem r_v16_eq : r_v16 X = broadcastInDim S4x2048x256 ![0, 1, 2] bcast_S1x1x256_S4x2048x256_0_1_2 (r_v15 X) := by
  refine unary_at pre_writes X 32 rfl ?_ ?_ <;> decide +kernel
theorem r_v17_eq : r_v17 X = addf (r_v14 X) (r_v16 X) := by
  refine binary_at pre_writes X 33 rfl ?_ ?_ ?_ <;> decide +kernel
theorem r_call1_v0_eq : r_call1_v0 X = Host.negf (r_v17 X) := by
  refine unary_at pre_writes X 34 rfl ?_ ?_ <;> decide +kernel
theorem r_call1_call0_cst_eq : r_call1_call0_cst X = constant S_ .f32 0x00000000#32 := by
  refine nullary_at pre_writes X 35 rfl ?_ <;> decide +kernel
theorem r_call1_call0_v0_eq : r_call1_call0_v0 X = broadcastInDim S4x2048x256 ![] bcast_S_S4x2048x256 (r_call1_call0_cst X) := by
  refine unary_at pre_writes X 36 rfl ?_ ?_ <;> decide +kernel
theorem r_call1_call0_v1_eq : r_call1_call0_v1 X = maximumf (r_call1_v0 X) (r_call1_call0_v0 X) := by
  refine binary_at pre_writes X 37 rfl ?_ ?_ ?_ <;> decide +kernel
theorem r_call1_call0_v2_eq : r_call1_call0_v2 X = broadcastInDim S4x2048x256 ![] bcast_S_S4x2048x256 (r_call1_call0_cst X) := by
  refine unary_at pre_writes X 38 rfl ?_ ?_ <;> decide +kernel
theorem r_call1_call0_v3_eq : r_call1_call0_v3 X = subf (r_call1_v0 X) (r_call1_call0_v2 X) := by
  refine binary_at pre_writes X 39 rfl ?_ ?_ ?_ <;> decide +kernel
theorem r_call1_call0_v4_eq : r_call1_call0_v4 X = cmpf .une (r_call1_call0_v3 X) (r_call1_call0_v3 X) := by
  refine binary_at pre_writes X 40 rfl ?_ ?_ ?_ <;> decide +kernel
theorem r_call1_call0_v5_eq : r_call1_call0_v5 X = broadcastInDim S4x2048x256 ![] bcast_S_S4x2048x256 (r_call1_call0_cst X) := by
  refine unary_at pre_writes X 41 rfl ?_ ?_ <;> decide +kernel
theorem r_call1_call0_v6_eq : r_call1_call0_v6 X = addf (r_call1_v0 X) (r_call1_call0_v5 X) := by
  refine binary_at pre_writes X 42 rfl ?_ ?_ ?_ <;> decide +kernel
theorem r_call1_call0_v7_eq : r_call1_call0_v7 X = Host.absf (r_call1_call0_v3 X) := by
  refine unary_at pre_writes X 43 rfl ?_ ?_ <;> decide +kernel
theorem r_call1_call0_v8_eq : r_call1_call0_v8 X = Host.negf (r_call1_call0_v7 X) := by
  refine unary_at pre_writes X 44 rfl ?_ ?_ <;> decide +kernel
theorem r_call1_call0_v9_eq : r_call1_call0_v9 X = Host.exp (r_call1_call0_v8 X) := by
  refine unary_at pre_writes X 45 rfl ?_ ?_ <;> decide +kernel
theorem r_call1_call0_v10_eq : r_call1_call0_v10 X = Host.log1p (r_call1_call0_v9 X) := by
  refine unary_at pre_writes X 46 rfl ?_ ?_ <;> decide +kernel
theorem r_call1_call0_v11_eq : r_call1_call0_v11 X = addf (r_call1_call0_v1 X) (r_call1_call0_v10 X) := by
  refine binary_at pre_writes X 47 rfl ?_ ?_ ?_ <;> decide +kernel
theorem r_call1_v1_eq : r_call1_v1 X = select (r_call1_call0_v4 X) (r_call1_call0_v6 X) (r_call1_call0_v11 X) := by
  refine ternary_at pre_writes X 48 rfl ?_ ?_ ?_ ?_ <;> decide +kernel
theorem r_v18_eq : r_v18 X = Host.negf (r_call1_v1 X) := by
  refine unary_at pre_writes X 49 rfl ?_ ?_ <;> decide +kernel
theorem r_cst_0_eq : r_cst_0 X = constant S_ .f32 0x41800000#32 := by
  refine nullary_at pre_writes X 50 rfl ?_ <;> decide +kernel
theorem r_v19_eq : r_v19 X = broadcastInDim S4x2048x256 ![] bcast_S_S4x2048x256 (r_cst_0 X) := by
  refine unary_at pre_writes X 51 rfl ?_ ?_ <;> decide +kernel
theorem r_v20_eq : r_v20 X = Host.divf (r_v18 X) (r_v19 X) := by
  refine binary_at pre_writes X 52 rfl ?_ ?_ ?_ <;> decide +kernel
theorem r_v21_eq : r_v21 X = Host.reverse [1] (r_v1 X) := by
  refine unary_at pre_writes X 53 rfl ?_ ?_ <;> decide +kernel
theorem r_v22_eq : r_v22 X = concatenate S8x2048x256 0 [⟨S4x2048x256, (r_v1 X)⟩, ⟨S4x2048x256, (r_v21 X)⟩] concatenates_S4x2048x256_S4x2048x256_S8x2048x256_d0 := by
  refine binary_at pre_writes X 54 rfl ?_ ?_ ?_ <;> decide +kernel
theorem r_v23_eq : r_v23 X = shapeCast S8x2048x4x64 (r_v22 X) shapeCasts_S8x2048x256_S8x2048x4x64 := by
  refine reshape_at pre_writes X 55 rfl ?_ ?_ <;> decide +kernel
theorem r_v24_eq : r_v24 X = shapeCast S8x32x64x4x64 (r_v23 X) shapeCasts_S8x2048x4x64_S8x32x64x4x64 := by
  refine reshape_at pre_writes X 56 rfl ?_ ?_ <;> decide +kernel
theorem r_v25_eq : r_v25 X = Host.reverse [1] (r_v2 X) := by
  refine unary_at pre_writes X 57 rfl ?_ ?_ <;> decide +kernel
theorem r_v26_eq : r_v26 X = concatenate S8x2048x256 0 [⟨S4x2048x256, (r_v2 X)⟩, ⟨S4x2048x256, (r_v25 X)⟩] concatenates_S4x2048x256_S4x2048x256_S8x2048x256_d0 := by
  refine binary_at pre_writes X 58 rfl ?_ ?_ ?_ <;> decide +kernel
theorem r_v27_eq : r_v27 X = shapeCast S8x2048x4x64 (r_v26 X) shapeCasts_S8x2048x256_S8x2048x4x64 := by
  refine reshape_at pre_writes X 59 rfl ?_ ?_ <;> decide +kernel
theorem r_v28_eq : r_v28 X = shapeCast S8x32x64x4x64 (r_v27 X) shapeCasts_S8x2048x4x64_S8x32x64x4x64 := by
  refine reshape_at pre_writes X 60 rfl ?_ ?_ <;> decide +kernel
theorem r_v29_eq : r_v29 X = Host.reverse [1] (r_v3 X) := by
  refine unary_at pre_writes X 61 rfl ?_ ?_ <;> decide +kernel
theorem r_v30_eq : r_v30 X = concatenate S8x2048x512 0 [⟨S4x2048x512, (r_v3 X)⟩, ⟨S4x2048x512, (r_v29 X)⟩] concatenates_S4x2048x512_S4x2048x512_S8x2048x512_d0 := by
  refine binary_at pre_writes X 62 rfl ?_ ?_ ?_ <;> decide +kernel
theorem r_v31_eq : r_v31 X = shapeCast S8x2048x4x128 (r_v30 X) shapeCasts_S8x2048x512_S8x2048x4x128 := by
  refine reshape_at pre_writes X 63 rfl ?_ ?_ <;> decide +kernel
theorem r_v32_eq : r_v32 X = shapeCast S8x32x64x4x128 (r_v31 X) shapeCasts_S8x2048x4x128_S8x32x64x4x128 := by
  refine reshape_at pre_writes X 64 rfl ?_ ?_ <;> decide +kernel
theorem r_v33_eq : r_v33 X = Host.reverse [1] (r_v20 X) := by
  refine unary_at pre_writes X 65 rfl ?_ ?_ <;> decide +kernel
theorem r_v34_eq : r_v34 X = concatenate S8x2048x256 0 [⟨S4x2048x256, (r_v13 X)⟩, ⟨S4x2048x256, (r_v33 X)⟩] concatenates_S4x2048x256_S4x2048x256_S8x2048x256_d0 := by
  refine binary_at pre_writes X 66 rfl ?_ ?_ ?_ <;> decide +kernel
theorem r_v35_eq : r_v35 X = shapeCast S8x2048x4x64 (r_v34 X) shapeCasts_S8x2048x256_S8x2048x4x64 := by
  refine reshape_at pre_writes X 67 rfl ?_ ?_ <;> decide +kernel
theorem r_v36_eq : r_v36 X = shapeCast S8x32x64x4x64 (r_v35 X) shapeCasts_S8x2048x4x64_S8x32x64x4x64 := by
  refine reshape_at pre_writes X 68 rfl ?_ ?_ <;> decide +kernel
theorem r_v37_eq : r_v37 X = Host.reverse [1] (r_arg5 X) := by
  refine unary_at pre_writes X 69 rfl ?_ ?_ <;> decide +kernel
theorem r_v38_eq : r_v38 X = concatenate S8x2048x512 0 [⟨S4x2048x512, (r_arg5 X)⟩, ⟨S4x2048x512, (r_v37 X)⟩] concatenates_S4x2048x512_S4x2048x512_S8x2048x512_d0 := by
  refine binary_at pre_writes X 70 rfl ?_ ?_ ?_ <;> decide +kernel
theorem r_v39_eq : r_v39 X = shapeCast S8x2048x4x128 (r_v38 X) shapeCasts_S8x2048x512_S8x2048x4x128 := by
  refine reshape_at pre_writes X 71 rfl ?_ ?_ <;> decide +kernel
theorem r_v40_eq : r_v40 X = shapeCast S8x32x64x4x128 (r_v39 X) shapeCasts_S8x2048x4x128_S8x32x64x4x128 := by
  refine reshape_at pre_writes X 72 rfl ?_ ?_ <;> decide +kernel
theorem r_call7_call0_cst_eq : r_call7_call0_cst X = constant S_ .f32 0x00000000#32 := by
  refine nullary_at pre_writes X 73 rfl ?_ <;> decide +kernel
theorem r_call7_call0_v0_eq : r_call7_call0_v0 X = broadcastInDim S_ ![] bcast_S_S_ (r_call7_call0_cst X) := by
  refine unary_at pre_writes X 74 rfl ?_ ?_ <;> decide +kernel
theorem r_v41_eq : r_v41 X = Host.reduceWindowAdd ![1, 1, 64, 1, 1] ![1, 1, 1, 1, 1] ![0, 0, 63, 0, 0] ![0, 0, 0, 0, 0] (r_v36 X) (r_call7_call0_v0 X) reduceWindows_S8x32x64x4x64_S8x32x64x4x64_w1s1p0_0_w1s1p0_0_w64s1p63_0_w1s1p0_0_w1s1p0_0 h_S_ := by
  refine binary_at pre_writes X 75 rfl ?_ ?_ ?_ <;> decide +kernel
theorem r_v42_eq : r_v42 X = extractStridedSlice S1x4x32x128x256 ![0, 0, 0, 0, 0] (r_arg6 X) slices_S2x4x32x128x256_S1x4x32x128x256_0_0_0_0_0 := by
  refine unary_at pre_writes X 76 rfl ?_ ?_ <;> decide +kernel
theorem r_v43_eq : r_v43 X = shapeCast S4x32x128x256 (r_v42 X) shapeCasts_S1x4x32x128x256_S4x32x128x256 := by
  refine reshape_at pre_writes X 77 rfl ?_ ?_ <;> decide +kernel
theorem r_v44_eq : r_v44 X = extractStridedSlice S1x4x32x128x256 ![1, 0, 0, 0, 0] (r_arg6 X) slices_S2x4x32x128x256_S1x4x32x128x256_1_0_0_0_0 := by
  refine unary_at pre_writes X 78 rfl ?_ ?_ <;> decide +kernel
theorem r_v45_eq : r_v45 X = shapeCast S4x32x128x256 (r_v44 X) shapeCasts_S1x4x32x128x256_S4x32x128x256 := by
  refine reshape_at pre_writes X 79 rfl ?_ ?_ <;> decide +kernel
theorem r_v46_eq : r_v46 X = Host.reverse [1] (r_v45 X) := by
  refine unary_at pre_writes X 80 rfl ?_ ?_ <;> decide +kernel
theorem r_v47_eq : r_v47 X = concatenate S8x32x128x256 0 [⟨S4x32x128x256, (r_v43 X)⟩, ⟨S4x32x128x256, (r_v46 X)⟩] concatenates_S4x32x128x256_S4x32x128x256_S8x32x128x256_d0 := by
  refine binary_at pre_writes X 81 rfl ?_ ?_ ?_ <;> decide +kernel
theorem r_v48_eq : r_v48 X = shapeCast S8x32x128x4x64 (r_v47 X) shapeCasts_S8x32x128x256_S8x32x128x4x64 := by
  refine reshape_at pre_writes X 82 rfl ?_ ?_ <;> decide +kernel
theorem r_v49_eq : r_v49 X = transpose S8x32x4x64x128 [0, 1, 3, 4, 2] (r_v48 X) transposes_S8x32x128x4x64_S8x32x4x64x128_0_1_3_4_2 := by
  refine unary_at pre_writes X 83 rfl ?_ ?_ <;> decide +kernel
theorem r_cst_1_eq : r_cst_1 X = constant S_ .f32 0x3E000000#32 := by
  refine nullary_at pre_writes X 84 rfl ?_ <;> decide +kernel
theorem r_v50_eq : r_v50 X = broadcastInDim S8x32x64x4x64 ![] bcast_S_S8x32x64x4x64 (r_cst_1 X) := by
  refine unary_at pre_writes X 85 rfl ?_ ?_ <;> decide +kernel
theorem r_v51_eq : r_v51 X = mulf (r_v24 X) (r_v50 X) := by
  refine binary_at pre_writes X 86 rfl ?_ ?_ ?_ <;> decide +kernel
theorem r_v52_eq : r_v52 X = extractStridedSlice S8x32x1x4x64 ![0, 0, 32, 0, 0] (r_v41 X) slices_S8x32x64x4x64_S8x32x1x4x64_0_0_32_0_0 := by
  refine unary_at pre_writes X 87 rfl ?_ ?_ <;> decide +kernel
theorem r_v53_eq : r_v53 X = broadcastInDim S8x32x64x4x64 ![0, 1, 2, 3, 4] bcast_S8x32x1x4x64_S8x32x64x4x64_0_1_2_3_4 (r_v52 X) := by
  refine unary_at pre_writes X 88 rfl ?_ ?_ <;> decide +kernel
theorem r_v54_eq : r_v54 X = subf (r_v41 X) (r_v53 X) := by
  refine binary_at pre_writes X 89 rfl ?_ ?_ ?_ <;> decide +kernel
theorem r_v55_eq : r_v55 X = Host.exp (r_v54 X) := by
  refine unary_at pre_writes X 90 rfl ?_ ?_ <;> decide +kernel
theorem r_v56_eq : r_v56 X = mulf (r_v51 X) (r_v55 X) := by
  refine binary_at pre_writes X 91 rfl ?_ ?_ ?_ <;> decide +kernel
theorem r_v57_eq : r_v57 X = broadcastInDim S8x32x64x4x64 ![0, 1, 2, 3, 4] bcast_S8x32x1x4x64_S8x32x64x4x64_0_1_2_3_4 (r_v52 X) := by
  refine unary_at pre_writes X 92 rfl ?_ ?_ <;> decide +kernel
theorem r_v58_eq : r_v58 X = subf (r_v57 X) (r_v41 X) := by
  refine binary_at pre_writes X 93 rfl ?_ ?_ ?_ <;> decide +kernel
theorem r_v59_eq : r_v59 X = Host.exp (r_v58 X) := by
  refine unary_at pre_writes X 94 rfl ?_ ?_ <;> decide +kernel
theorem r_v60_eq : r_v60 X = mulf (r_v28 X) (r_v59 X) := by
  refine binary_at pre_writes X 95 rfl ?_ ?_ ?_ <;> decide +kernel
theorem r_v61_eq : r_v61 X = Host.dotGeneral dot_S8x32x64x4x64_S8x32x64x4x64_S8x32x4x64x64_4_4_2_2_013_013 none (r_v56 X) (r_v60 X) := by
  refine binary_at pre_writes X 96 rfl ?_ ?_ ?_ <;> decide +kernel
theorem r_c_eq : r_c X = constantI S_ 1 1#1 := by
  refine nullary_at pre_writes X 97 rfl ?_ <;> decide +kernel
theorem r_v62_eq : r_v62 X = broadcastInDim S64x64 ![] bcast_S_S64x64 (r_c X) := by
  refine unary_at pre_writes X 98 rfl ?_ ?_ <;> decide +kernel
theorem r_call9_v0_eq : r_call9_v0 X = iotaInDim S64x64 32 0 := by
  refine nullary_at pre_writes X 99 rfl ?_ <;> decide +kernel
theorem r_call9_c_eq : r_call9_c X = constantI S_ 32 0#32 := by
  refine nullary_at pre_writes X 100 rfl ?_ <;> decide +kernel
theorem r_call9_v1_eq : r_call9_v1 X = broadcastInDim S64x64 ![] bcast_S_S64x64 (r_call9_c X) := by
  refine unary_at pre_writes X 101 rfl ?_ ?_ <;> decide +kernel
theorem r_call9_v2_eq : r_call9_v2 X = addi (r_call9_v0 X) (r_call9_v1 X) := by
  refine binary_at pre_writes X 102 rfl ?_ ?_ ?_ <;> decide +kernel
theorem r_call9_v3_eq : r_call9_v3 X = iotaInDim S64x64 32 1 := by
  refine nullary_at pre_writes X 103 rfl ?_ <;> decide +kernel
theorem r_call9_v4_eq : r_call9_v4 X = cmpi .sge (r_call9_v2 X) (r_call9_v3 X) := by
  refine binary_at pre_writes X 104 rfl ?_ ?_ ?_ <;> decide +kernel
theorem r_call9_c_0_eq : r_call9_c_0 X = constantI S_ 1 0#1 := by
  refine nullary_at pre_writes X 105 rfl ?_ <;> decide +kernel
theorem r_call9_v5_eq : r_call9_v5 X = broadcastInDim S64x64 ![] bcast_S_S64x64 (r_call9_c_0 X) := by
  refine unary_at pre_writes X 106 rfl ?_ ?_ <;> decide +kernel
theorem r_v63_eq : r_v63 X = select (r_call9_v4 X) (r_v62 X) (r_call9_v5 X) := by
  refine ternary_at pre_writes X 107 rfl ?_ ?_ ?_ ?_ <;> decide +kernel
theorem r_cst_2_eq : r_cst_2 X = constant S_ .f32 0x00000000#32 := by
  refine nullary_at pre_writes X 108 rfl ?_ <;> decide +kernel
theorem r_call10_v0_eq : r_call10_v0 X = (r_cst_2 X) := by
  refine unary_at pre_writes X 109 rfl ?_ ?_ <;> decide +kernel
theorem r_v64_1_eq : r_v64_1 X = broadcastInDim S8x32x4x64x64 ![3, 4] bcast_S64x64_S8x32x4x64x64_3_4 (r_v63 X) := by
  refine unary_at pre_writes X 110 rfl ?_ ?_ <;> decide +kernel
theorem r_call10_v2_eq : r_call10_v2 X = broadcastInDim S8x32x4x64x64 ![] bcast_S_S8x32x4x64x64 (r_call10_v0 X) := by
  refine unary_at pre_writes X 111 rfl ?_ ?_ <;> decide +kernel
theorem r_v64_0_eq : r_v64_0 X = select (r_v64_1 X) (r_v61 X) (r_call10_v2 X) := by
  refine ternary_at pre_writes X 112 rfl ?_ ?_ ?_ ?_ <;> decide +kernel
theorem r_call10_cst_eq : r_call10_cst X = constant S_ .f32 0x00000000#32 := by
  refine nullary_at pre_writes X 113 rfl ?_ <;> decide +kernel
theorem r_v64_2_eq : r_v64_2 X = broadcastInDim S8x32x4x64x64 ![] bcast_S_S8x32x4x64x64 (r_call10_cst X) := by
  refine unary_at pre_writes X 114 rfl ?_ ?_ <;> decide +kernel
theorem r_v65_eq : r_v65 X = Host.dotGeneral dot_S8x32x64x4x128_S8x32x4x64x64_S8x32x4x128x64_2_4_4_3_013_012 none (r_v32 X) (r_v64_0 X) := by
  refine binary_at pre_writes X 115 rfl ?_ ?_ ?_ <;> decide +kernel
theorem r_v66_eq : r_v66 X = transpose S8x32x64x4x128 [0, 1, 4, 2, 3] (r_v65 X) transposes_S8x32x4x128x64_S8x32x64x4x128_0_1_4_2_3 := by
  refine unary_at pre_writes X 116 rfl ?_ ?_ <;> decide +kernel
theorem r_v67_eq : r_v67 X = Host.exp (r_v41 X) := by
  refine unary_at pre_writes X 117 rfl ?_ ?_ <;> decide +kernel
theorem r_v68_eq : r_v68 X = mulf (r_v51 X) (r_v67 X) := by
  refine binary_at pre_writes X 118 rfl ?_ ?_ ?_ <;> decide +kernel
theorem r_v69_eq : r_v69 X = Host.dotGeneral dot_S8x32x4x64x128_S8x32x64x4x64_S8x32x4x128x64_3_4_4_2_012_013 none (r_v49 X) (r_v68 X) := by
  refine binary_at pre_writes X 119 rfl ?_ ?_ ?_ <;> decide +kernel
theorem r_v70_eq : r_v70 X = transpose S8x32x64x4x128 [0, 1, 4, 2, 3] (r_v69 X) transposes_S8x32x4x128x64_S8x32x64x4x128_0_1_4_2_3 := by
  refine unary_at pre_writes X 120 rfl ?_ ?_ <;> decide +kernel
theorem r_v71_eq : r_v71 X = addf (r_v66 X) (r_v70 X) := by
  refine binary_at pre_writes X 121 rfl ?_ ?_ ?_ <;> decide +kernel
theorem r_v72_eq : r_v72 X = transpose S8x32x4x128x64 [0, 1, 3, 4, 2] (r_v40 X) transposes_S8x32x64x4x128_S8x32x4x128x64_0_1_3_4_2 := by
  refine unary_at pre_writes X 122 rfl ?_ ?_ <;> decide +kernel
theorem r_v73_eq : r_v73 X = Host.dotGeneral dot_S8x32x4x128x64_S8x32x4x64x128_S8x32x4x64x64_3_4_4_3_012_012 none (r_v72 X) (r_v49 X) := by
  refine binary_at pre_writes X 123 rfl ?_ ?_ ?_ <;> decide +kernel
theorem r_v74_eq : r_v74 X = transpose S8x32x64x4x64 [0, 1, 3, 2, 4] (r_v73 X) transposes_S8x32x4x64x64_S8x32x64x4x64_0_1_3_2_4 := by
  refine unary_at pre_writes X 124 rfl ?_ ?_ <;> decide +kernel
theorem r_v75_eq : r_v75 X = Host.dotGeneral dot_S8x32x4x128x64_S8x32x64x4x64_S8x32x4x128x64_4_2_3_4_012_013 none (r_v72 X) (r_v68 X) := by
  refine binary_at pre_writes X 125 rfl ?_ ?_ ?_ <;> decide +kernel
theorem r_v76_eq : r_v76 X = transpose S8x32x4x64x128 [0, 1, 2, 4, 3] (r_v75 X) transposes_S8x32x4x128x64_S8x32x4x64x128_0_1_2_4_3 := by
  refine unary_at pre_writes X 126 rfl ?_ ?_ <;> decide +kernel
theorem r_v77_eq : r_v77 X = mulf (r_v74 X) (r_v67 X) := by
  refine binary_at pre_writes X 127 rfl ?_ ?_ ?_ <;> decide +kernel
theorem r_v78_eq : r_v78 X = transpose S8x32x4x128x64 [0, 1, 3, 4, 2] (r_v40 X) transposes_S8x32x64x4x128_S8x32x4x128x64_0_1_3_4_2 := by
  refine unary_at pre_writes X 128 rfl ?_ ?_ <;> decide +kernel
theorem r_v79_eq : r_v79 X = Host.dotGeneral dot_S8x32x4x128x64_S8x32x64x4x128_S8x32x4x64x64_3_4_4_2_012_013 none (r_v78 X) (r_v32 X) := by
  refine binary_at pre_writes X 129 rfl ?_ ?_ ?_ <;> decide +kernel
theorem r_v80_eq : r_v80 X = Host.dotGeneral dot_S8x32x4x128x64_S8x32x4x64x64_S8x32x4x128x64_4_3_3_4_012_012 none (r_v78 X) (r_v64_0 X) := by
  refine binary_at pre_writes X 130 rfl ?_ ?_ ?_ <;> decide +kernel
theorem r_v81_eq : r_v81 X = transpose S8x32x64x4x128 [0, 1, 4, 2, 3] (r_v80 X) transposes_S8x32x4x128x64_S8x32x64x4x128_0_1_4_2_3 := by
  refine unary_at pre_writes X 131 rfl ?_ ?_ <;> decide +kernel
theorem r_call11_cst_eq : r_call11_cst X = constant S_ .f32 0x00000000#32 := by
  refine nullary_at pre_writes X 132 rfl ?_ <;> decide +kernel
theorem r_call11_v0_eq : r_call11_v0 X = broadcastInDim S8x32x4x64x64 ![] bcast_S_S8x32x4x64x64 (r_call11_cst X) := by
  refine unary_at pre_writes X 133 rfl ?_ ?_ <;> decide +kernel
theorem r_v82_eq : r_v82 X = select (r_v64_1 X) (r_v79 X) (r_call11_v0 X) := by
  refine ternary_at pre_writes X 134 rfl ?_ ?_ ?_ ?_ <;> decide +kernel
theorem r_v83_eq : r_v83 X = Host.dotGeneral dot_S8x32x4x64x64_S8x32x64x4x64_S8x32x4x64x64_3_2_4_4_012_013 none (r_v82 X) (r_v56 X) := by
  refine binary_at pre_writes X 135 rfl ?_ ?_ ?_ <;> decide +kernel
theorem r_v84_eq : r_v84 X = transpose S8x32x64x4x64 [0, 1, 3, 2, 4] (r_v83 X) transposes_S8x32x4x64x64_S8x32x64x4x64_0_1_3_2_4 := by
  refine unary_at pre_writes X 136 rfl ?_ ?_ <;> decide +kernel
theorem r_v85_eq : r_v85 X = Host.dotGeneral dot_S8x32x4x64x64_S8x32x64x4x64_S8x32x4x64x64_4_2_3_4_012_013 none (r_v82 X) (r_v60 X) := by
  refine binary_at pre_writes X 137 rfl ?_ ?_ ?_ <;> decide +kernel
theorem r_v86_eq : r_v86 X = transpose S8x32x64x4x64 [0, 1, 3, 2, 4] (r_v85 X) transposes_S8x32x4x64x64_S8x32x64x4x64_0_1_3_2_4 := by
  refine unary_at pre_writes X 138 rfl ?_ ?_ <;> decide +kernel
theorem r_v87_eq : r_v87 X = mulf (r_v84 X) (r_v59 X) := by
  refine binary_at pre_writes X 139 rfl ?_ ?_ ?_ <;> decide +kernel
theorem r_v88_eq : r_v88 X = mulf (r_v86 X) (r_v55 X) := by
  refine binary_at pre_writes X 140 rfl ?_ ?_ ?_ <;> decide +kernel
theorem r_v89_eq : r_v89 X = addf (r_v77 X) (r_v88 X) := by
  refine binary_at pre_writes X 141 rfl ?_ ?_ ?_ <;> decide +kernel
theorem r_cst_3_eq : r_cst_3 X = constant S_ .f32 0x3E000000#32 := by
  refine nullary_at pre_writes X 142 rfl ?_ <;> decide +kernel
theorem r_v90_eq : r_v90 X = broadcastInDim S8x32x64x4x64 ![] bcast_S_S8x32x64x4x64 (r_cst_3 X) := by
  refine unary_at pre_writes X 143 rfl ?_ ?_ <;> decide +kernel
theorem r_v91_eq : r_v91 X = mulf (r_v89 X) (r_v90 X) := by
  refine binary_at pre_writes X 144 rfl ?_ ?_ ?_ <;> decide +kernel
theorem r_v92_eq : r_v92 X = extractStridedSlice S8x32x1x4x64 ![0, 0, 63, 0, 0] (r_v41 X) slices_S8x32x64x4x64_S8x32x1x4x64_0_0_63_0_0 := by
  refine unary_at pre_writes X 145 rfl ?_ ?_ <;> decide +kernel
theorem r_v93_eq : r_v93 X = shapeCast S8x32x4x64 (r_v92 X) shapeCasts_S8x32x1x4x64_S8x32x4x64 := by
  refine reshape_at pre_writes X 146 rfl ?_ ?_ <;> decide +kernel
theorem r_v94_eq : r_v94 X = Host.exp (r_v93 X) := by
  refine unary_at pre_writes X 147 rfl ?_ ?_ <;> decide +kernel
theorem r_cst_4_eq : r_cst_4 X = constant S_ .f32 0x00000000#32 := by
  refine nullary_at pre_writes X 148 rfl ?_ <;> decide +kernel
theorem r_v95_eq : r_v95 X = broadcastInDim S8x4x64x128 ![] bcast_S_S8x4x64x128 (r_cst_4 X) := by
  refine unary_at pre_writes X 149 rfl ?_ ?_ <;> decide +kernel
theorem r_v96_eq : r_v96 X = broadcastInDim S8x32x4x64x1 ![0, 1, 2, 3] bcast_S8x32x4x64_S8x32x4x64x1_0_1_2_3 (r_v94 X) := by
  refine unary_at pre_writes X 150 rfl ?_ ?_ <;> decide +kernel
theorem r_v97_eq : r_v97 X = transpose S32x8x4x64x1 [1, 0, 2, 3, 4] (r_v96 X) transposes_S8x32x4x64x1_S32x8x4x64x1_1_0_2_3_4 := by
  refine unary_at pre_writes X 151 rfl ?_ ?_ <;> decide +kernel
theorem r_v98_eq : r_v98 X = transpose S32x8x4x64x128 [1, 0, 2, 3, 4] (r_v76 X) transposes_S8x32x4x64x128_S32x8x4x64x128_1_0_2_3_4 := by
  refine unary_at pre_writes X 152 rfl ?_ ?_ <;> decide +kernel
theorem r_cst_5_eq : r_cst_5 X = constant S_ .f32 0x00000000#32 := by
  refine nullary_at pre_writes X 153 rfl ?_ <;> decide +kernel
theorem r_v99_eq : r_v99 X = broadcastInDim S8x4x64x128 ![] bcast_S_S8x4x64x128 (r_cst_5 X) := by
  refine unary_at pre_writes X 154 rfl ?_ ?_ <;> decide +kernel
theorem r_cst_6_eq : r_cst_6 X = constant S_ .f32 0x00000000#32 := by
  refine nullary_at pre_writes X 155 rfl ?_ <;> decide +kernel
theorem r_v100_eq : r_v100 X = broadcastInDim S32x8x4x64x128 ![] bcast_S_S32x8x4x64x128 (r_cst_6 X) := by
  refine unary_at pre_writes X 156 rfl ?_ ?_ <;> decide +kernel
theorem r_c_7_eq : r_c_7 X = constantI S_ 32 0#32 := by
  refine nullary_at pre_writes X 157 rfl ?_ <;> decide +kernel
theorem r_v101_0_eq : r_v101_0 X = (r_v98 X) := by
  refine unary_at pre_writes X 158 rfl ?_ ?_ <;> decide +kernel
theorem r_v101_1_eq : r_v101_1 X = (r_v97 X) := by
  refine unary_at pre_writes X 159 rfl ?_ ?_ <;> decide +kernel
theorem r_v101_2_eq : r_v101_2 X = (r_c_7 X) := by
  refine unary_at pre_writes X 160 rfl ?_ ?_ <;> decide +kernel
theorem r_v101_3_eq : r_v101_3 X = (r_v99 X) := by
  refine unary_at pre_writes X 161 rfl ?_ ?_ <;> decide +kernel
theorem r_v101_4_eq : r_v101_4 X = (r_v100 X) := by
  refine unary_at pre_writes X 162 rfl ?_ ?_ <;> decide +kernel

end Cert.Ref

end
-- ==== Proof.RefPost.lean ====
/- The reference's operations after its loop, one equation for each: the buffer an operation writes holds the operation's
   function of the buffers it reads. -/
module

public import proofs.«01_k».proof.Proof.Gen.ReferenceIdeal.Run
public import proofs.«01_k».proof.Proof.Line
public import Idealize.ShloMosaic.Lib.Pointwise

@[expose] public section

set_option maxRecDepth 20000

noncomputable section

namespace Cert.Ref

open Idealize.ShloMosaic Idealize.ShloMosaic.TcCoe Idealize.ShloMosaic.StableHlo
open Cert.ReferenceIdeal Cert.ReferenceIdeal.Gen Cert.ReferenceIdeal.Value Cert.Line

/-- The operations after the loop, in order. -/
def postOps : List (HloOp τ sig (Elt Ideal)) := (postI (F := Ideal)).flatten
/-- What they write, in order. -/
def postW : List (Ref sig .tc) := [main_v102, main_v103, main_v104, main_v105, main_v106, main_v107, main_v108, main_v109, main_v110, main_v111, main_v112, main_v113, main_v114, main_v115, main_v116, main_v117, main_v118, main_v119, main_v120, main_v121, main_v122, main_v123, main_v124, main_v125]
theorem post_writes : postOps.map HloOp.writes = postW.map fun w => {Proc.devRef (τ := τ) .tc w} := rfl

variable (Y : Valuation τ sig (Elt Ideal))

def w_v101_4 : FVec Ideal S32x8x4x64x128 .f32 := StableHlo.after postOps Y (Proc.devRef .tc main_v101_4)
def w_v102 : FVec Ideal S8x32x4x64x128 .f32 := StableHlo.after postOps Y (Proc.devRef .tc main_v102)
def w_v41 : FVec Ideal S8x32x64x4x64 .f32 := StableHlo.after postOps Y (Proc.devRef .tc main_v41)
def w_v103 : FVec Ideal S8x32x1x4x64 .f32 := StableHlo.after postOps Y (Proc.devRef .tc main_v103)
def w_v104 : FVec Ideal S8x32x64x4x64 .f32 := StableHlo.after postOps Y (Proc.devRef .tc main_v104)
def w_v105 : FVec Ideal S8x32x64x4x64 .f32 := StableHlo.after postOps Y (Proc.devRef .tc main_v105)
def w_v106 : FVec Ideal S8x32x64x4x64 .f32 := StableHlo.after postOps Y (Proc.devRef .tc main_v106)
def w_v28 : FVec Ideal S8x32x64x4x64 .f32 := StableHlo.after postOps Y (Proc.devRef .tc main_v28)
def w_v107 : FVec Ideal S8x32x64x4x64 .f32 := StableHlo.after postOps Y (Proc.devRef .tc main_v107)
def w_v32 : FVec Ideal S8x32x64x4x128 .f32 := StableHlo.after postOps Y (Proc.devRef .tc main_v32)
def w_v108 : FVec Ideal S8x32x4x64x128 .f32 := StableHlo.after postOps Y (Proc.devRef .tc main_v108)
def w_v109 : FVec Ideal S8x32x4x128x64 .f32 := StableHlo.after postOps Y (Proc.devRef .tc main_v109)
def w_v110 : FVec Ideal S8x32x64x4x128 .f32 := StableHlo.after postOps Y (Proc.devRef .tc main_v110)
def w_v111 : FVec Ideal S8x32x4x64x64 .f32 := StableHlo.after postOps Y (Proc.devRef .tc main_v111)
def w_v112 : FVec Ideal S8x32x64x4x64 .f32 := StableHlo.after postOps Y (Proc.devRef .tc main_v112)
def w_v113 : FVec Ideal S8x32x64x4x64 .f32 := StableHlo.after postOps Y (Proc.devRef .tc main_v113)
def w_v87 : FVec Ideal S8x32x64x4x64 .f32 := StableHlo.after postOps Y (Proc.devRef .tc main_v87)
def w_v114 : FVec Ideal S8x32x64x4x64 .f32 := StableHlo.after postOps Y (Proc.devRef .tc main_v114)
def w_v81 : FVec Ideal S8x32x64x4x128 .f32 := StableHlo.after postOps Y (Proc.devRef .tc main_v81)
def w_v115 : FVec Ideal S8x32x64x4x128 .f32 := StableHlo.after postOps Y (Proc.devRef .tc main_v115)
def w_v91 : FVec Ideal S8x32x64x4x64 .f32 := StableHlo.after postOps Y (Proc.devRef .tc main_v91)
def w_v116 : FVec Ideal S8x2048x256 .f32 := StableHlo.after postOps Y (Proc.devRef .tc main_v116)
def w_v117 : FVec Ideal S8x2048x256 .f32 := StableHlo.after postOps Y (Proc.devRef .tc main_v117)
def w_v118 : FVec Ideal S8x2048x512 .f32 := StableHlo.after postOps Y (Proc.devRef .tc main_v118)
def w_v119 : FVec Ideal S8x2048x1024 .f32 := StableHlo.after postOps Y (Proc.devRef .tc main_v119)
def w_v120 : FVec Ideal S4x2048x1024 .f32 := StableHlo.after postOps Y (Proc.devRef .tc main_v120)
def w_v121 : FVec Ideal S4x2048x1024 .f32 := StableHlo.after postOps Y (Proc.devRef .tc main_v121)
def w_v122 : FVec Ideal S4x2048x1024 .f32 := StableHlo.after postOps Y (Proc.devRef .tc main_v122)
def w_v123 : FVec Ideal S1x4x2048x1024 .f32 := StableHlo.after postOps Y (Proc.devRef .tc main_v123)
def w_v124 : FVec Ideal S1x4x2048x1024 .f32 := StableHlo.after postOps Y (Proc.devRef .tc main_v124)
def w_v125 : FVec Ideal S2x4x2048x1024 .f32 := StableHlo.after postOps Y (Proc.devRef .tc main_v125)

theorem w_v102_eq : w_v102 Y = transpose S8x32x4x64x128 [1, 0, 2, 3, 4] (w_v101_4 Y) transposes_S32x8x4x64x128_S8x32x4x64x128_1_0_2_3_4 := by
  refine unary_at post_writes Y 0 rfl ?_ ?_ <;> decide +kernel
theorem w_v103_eq : w_v103 Y = extractStridedSlice S8x32x1x4x64 ![0, 0, 63, 0, 0] (w_v41 Y) slices_S8x32x64x4x64_S8x32x1x4x64_0_0_63_0_0 := by
  refine unary_at post_writes Y 1 rfl ?_ ?_ <;> decide +kernel
theorem w_v104_eq : w_v104 Y = broadcastInDim S8x32x64x4x64 ![0, 1, 2, 3, 4] bcast_S8x32x1x4x64_S8x32x64x4x64_0_1_2_3_4 (w_v103 Y) := by
  refine unary_at post_writes Y 2 rfl ?_ ?_ <;> decide +kernel
theorem w_v105_eq : w_v105 Y = subf (w_v104 Y) (w_v41 Y) := by
  refine binary_at post_writes Y 3 rfl ?_ ?_ ?_ <;> decide +kernel
theorem w_v106_eq : w_v106 Y = Host.exp (w_v105 Y) := by
  refine unary_at post_writes Y 4 rfl ?_ ?_ <;> decide +kernel
theorem w_v107_eq : w_v107 Y = mulf (w_v28 Y) (w_v106 Y) := by
  refine binary_at post_writes Y 5 rfl ?_ ?_ ?_ <;> decide +kernel
theorem w_v108_eq : w_v108 Y = Host.dotGeneral dot_S8x32x64x4x64_S8x32x64x4x128_S8x32x4x64x128_2_2_4_4_013_013 none (w_v107 Y) (w_v32 Y) := by
  refine binary_at post_writes Y 6 rfl ?_ ?_ ?_ <;> decide +kernel
theorem w_v109_eq : w_v109 Y = Host.dotGeneral dot_S8x32x4x64x128_S8x32x64x4x64_S8x32x4x128x64_3_4_4_2_012_013 none (w_v102 Y) (w_v107 Y) := by
  refine binary_at post_writes Y 7 rfl ?_ ?_ ?_ <;> decide +kernel
theorem w_v110_eq : w_v110 Y = transpose S8x32x64x4x128 [0, 1, 4, 2, 3] (w_v109 Y) transposes_S8x32x4x128x64_S8x32x64x4x128_0_1_4_2_3 := by
  refine unary_at post_writes Y 8 rfl ?_ ?_ <;> decide +kernel
theorem w_v111_eq : w_v111 Y = Host.dotGeneral dot_S8x32x4x64x128_S8x32x64x4x128_S8x32x4x64x64_4_4_3_2_012_013 none (w_v102 Y) (w_v32 Y) := by
  refine binary_at post_writes Y 9 rfl ?_ ?_ ?_ <;> decide +kernel
theorem w_v112_eq : w_v112 Y = transpose S8x32x64x4x64 [0, 1, 4, 2, 3] (w_v111 Y) transposes_S8x32x4x64x64_S8x32x64x4x64_0_1_4_2_3 := by
  refine unary_at post_writes Y 10 rfl ?_ ?_ <;> decide +kernel
theorem w_v113_eq : w_v113 Y = mulf (w_v112 Y) (w_v106 Y) := by
  refine binary_at post_writes Y 11 rfl ?_ ?_ ?_ <;> decide +kernel
theorem w_v114_eq : w_v114 Y = addf (w_v87 Y) (w_v113 Y) := by
  refine binary_at post_writes Y 12 rfl ?_ ?_ ?_ <;> decide +kernel
theorem w_v115_eq : w_v115 Y = addf (w_v81 Y) (w_v110 Y) := by
  refine binary_at post_writes Y 13 rfl ?_ ?_ ?_ <;> decide +kernel
theorem w_v116_eq : w_v116 Y = shapeCast S8x2048x256 (w_v91 Y) shapeCasts_S8x32x64x4x64_S8x2048x256 := by
  refine reshape_at post_writes Y 14 rfl ?_ ?_ <;> decide +kernel
theorem w_v117_eq : w_v117 Y = shapeCast S8x2048x256 (w_v114 Y) shapeCasts_S8x32x64x4x64_S8x2048x256 := by
  refine reshape_at post_writes Y 15 rfl ?_ ?_ <;> decide +kernel
theorem w_v118_eq : w_v118 Y = shapeCast S8x2048x512 (w_v115 Y) shapeCasts_S8x32x64x4x128_S8x2048x512 := by
  refine reshape_at post_writes Y 16 rfl ?_ ?_ <;> decide +kernel
theorem w_v119_eq : w_v119 Y = concatenate S8x2048x1024 2 [⟨S8x2048x256, (w_v116 Y)⟩, ⟨S8x2048x256, (w_v117 Y)⟩, ⟨S8x2048x512, (w_v118 Y)⟩] concatenates_S8x2048x256_S8x2048x256_S8x2048x512_S8x2048x1024_d2 := by
  refine nary_at post_writes Y 17 rfl ?_ ?_ <;> decide +kernel
theorem w_v120_eq : w_v120 Y = extractStridedSlice S4x2048x1024 ![0, 0, 0] (w_v119 Y) slices_S8x2048x1024_S4x2048x1024_0_0_0 := by
  refine unary_at post_writes Y 18 rfl ?_ ?_ <;> decide +kernel
theorem w_v121_eq : w_v121 Y = extractStridedSlice S4x2048x1024 ![4, 0, 0] (w_v119 Y) slices_S8x2048x1024_S4x2048x1024_4_0_0 := by
  refine unary_at post_writes Y 19 rfl ?_ ?_ <;> decide +kernel
theorem w_v122_eq : w_v122 Y = Host.reverse [1] (w_v121 Y) := by
  refine unary_at post_writes Y 20 rfl ?_ ?_ <;> decide +kernel
theorem w_v123_eq : w_v123 Y = broadcastInDim S1x4x2048x1024 ![1, 2, 3] bcast_S4x2048x1024_S1x4x2048x1024_1_2_3 (w_v120 Y) := by
  refine unary_at post_writes Y 21 rfl ?_ ?_ <;> decide +kernel
theorem w_v124_eq : w_v124 Y = broadcastInDim S1x4x2048x1024 ![1, 2, 3] bcast_S4x2048x1024_S1x4x2048x1024_1_2_3 (w_v122 Y) := by
  refine unary_at post_writes Y 22 rfl ?_ ?_ <;> decide +kernel
theorem w_v125_eq : w_v125 Y = concatenate S2x4x2048x1024 0 [⟨S1x4x2048x1024, (w_v123 Y)⟩, ⟨S1x4x2048x1024, (w_v124 Y)⟩] concatenates_S1x4x2048x1024_S1x4x2048x1024_S2x4x2048x1024_d0 := by
  refine binary_at post_writes Y 23 rfl ?_ ?_ ?_ <;> decide +kernel

end Cert.Ref

end
-- ==== Proof.HostLoopRun.lean ====
/- The run of a program of host operations around one counted loop, with its semaphore counters: from any memory whose
   counters are zero it ends, with every buffer at the fold of the operations and with every counter at zero. -/
module

public import Idealize.ShloMosaic.Lib.StableHlo.RunLoop
public import Idealize.ShloMosaic.Lib.Quiescent

@[expose] public section

noncomputable section

namespace Cert.HostLoopRun

open Idealize.ShloMosaic Idealize.ShloMosaic.TcCoe Idealize.ShloMosaic.StableHlo Idealize.ShloMosaic.Pipeline
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {F : FTy → Type} [FloatOps F] {Λ₀ : Labels}

local notation "𝕄" => MT nD τ sig Unit (Elt F) ℕ (Option PUnit) ℕ

variable (pcs : Fin 0 → PCfg sig Λ₀ (Elt F)) (defs₀ : Defs nD τ sig (Elt F) Λ₀) {nL : Nat}
  (loops : Fin nL → Prog (TpuEff nD τ sig (Elt F) (HostLoop.Sig (Pipeline.Sig Λ₀ (Fin 0) fun p => (pcs p).Adm) nL) .tc) PUnit)

/-- Nothing is admitted: the program has no pipeline. -/
abbrev noAdm : (p : Fin 0) → (pcs p).Adm := fun p => p.elim0
/-- No pipeline, no ticket. -/
abbrev noTk : Fin 0 → Ticket (Ix := Unit) (Name := ℕ) (U := Option PUnit) (Lvl := ℕ) (nD := nD) (τ := τ) pcs (noAdm pcs) := fun j => j.elim0
/-- No counter has a level. -/
abbrev noL : GSem nD τ sig → Finset Unit := fun _ => ∅
abbrev noLv : GSem nD τ sig → Unit → ℕ := fun _ _ => 0
/-- What a core carries along beside its buffers: it owes nothing. -/
abbrev settled (c : Dev nD) : sProp 𝕄 := iprop(∃ W, owes (c : Thread nD τ) (0 : CellTallies nD τ sig Unit) W)

variable {pcs defs₀ loops}
variable {cond : Prog (TpuEff nD τ sig (Elt F) (HostLoop.Sig (Pipeline.Sig Λ₀ (Fin 0) fun p => (pcs p).Adm) nL) .tc) (Elt F .i1)}
  {body : Prog (TpuEff nD τ sig (Elt F) (HostLoop.Sig (Pipeline.Sig Λ₀ (Fin 0) fun p => (pcs p).Adm) nL) .tc) PUnit}
  {condOps : List (HloOp τ sig (Elt F))} {pre bodyI post : List (List (HloOp τ sig (Elt F)))} {l : Fin nL} {n : ℕ}
  {W₀ : Dev nD → Valuation τ sig (Elt F)}

/-- The loop's condition, with what the core carries framed through it. -/
theorem loop_cond (h : CondSpec pcs defs₀ loops cond condOps bodyI W₀ n) :
    LoopCond pcs defs₀ Variants.none loops settled cond condOps bodyI W₀ n := fun k hk c bd => by
  refine BIBase.Entails.trans ?_ (((sep_mono_left (h k hk c bd)).trans (wp_frame_r (R := settled c) _ _ _)).trans (wp_mono _ _ _ fun v => ?_))
  · iintro ⟨Hb, Hh, HR⟩
    isplitl [Hb Hh]; · isplitl [Hb] <;> iassumption
    iexact HR
  · iintro ⟨⟨%hv, Hb, Hh⟩, HR⟩
    isplitr; · ipureintro; exact hv
    isplitl [Hb]; · iexact Hb
    isplitl [Hh] <;> iassumption

variable (hloops : loops l = HostLoop.step l cond body) (hpre : Plain pre) (hbodyI : Plain bodyI) (hpost : Plain post)
  (hbody : body = Pipeline.chain (bodyI.map fun ops => (seq ops : Prog _ PUnit)))
  (m : (ℓ : Loc nD τ sig) → Buf (Elt F) ℓ)

/-- The program as segments: what comes before the loop, the loop, what comes after it. -/
def segments (h : CondSpec pcs defs₀ loops cond condOps bodyI (entryContents pre m) n) :
    List (CSeg pcs (noAdm pcs) defs₀ Variants.none noL noLv loops (noTk pcs)) :=
  segsOf _ _ _ _ _ _ _ _ settled pre hpre (launchContents m)
    ++ loopSeg _ _ _ _ _ _ _ _ l cond body hloops condOps bodyI hbodyI hbody n (entryContents pre m) settled (loop_cond h)
      :: segsOf _ _ _ _ _ _ _ _ settled post hpost (fun c => after condOps (atTrip condOps bodyI (entryContents pre m) n c))

/-- The segments' programs, in order. -/
theorem segments_prog (h) : (segments (n := n) (condOps := condOps) (defs₀ := defs₀) hloops hpre hbodyI hpost hbody m h).map CSeg.prog
    = (pre.map fun ops => (seq ops : Prog _ PUnit)) ++ HostLoop.enter l :: post.map fun ops => (seq ops : Prog _ PUnit) := by
  unfold segments
  rw [List.map_append, List.map_cons, segsOf_prog, segsOf_prog]
  rfl

/-- The segments follow one another from the launch's buffers to the fold. -/
theorem segments_chain (h) : CSeg.Chains (fun c => iprop(held (c : Thread nD τ) (ucRefs τ sig) (launchContents m c) ∗ settled c))
    (segments (n := n) (condOps := condOps) (defs₀ := defs₀) hloops hpre hbodyI hpost hbody m h)
    (fun c => iprop(iprop(held (c : Thread nD τ) (ucRefs τ sig) (finalContents condOps pre bodyI post n m c)) ∗ ∃ W, owes (c : Thread nD τ) (0 : CellTallies nD τ sig Unit) W)) := by
  unfold segments
  exact CSeg.Chains.append (segsOf_chains _ _ _ _ _ _ _ _ settled pre hpre _)
    ⟨fun _ => .rfl, segsOf_chains _ _ _ _ _ _ _ _ settled post hpost _⟩

include hloops hpre hbodyI hpost hbody in
/-- THE RUN, for a program whose TensorCores have no semaphore of their own. -/
theorem run [∀ e, Nonempty (Elt F e)] (main : Dev nD → Prog (TpuEff nD τ sig (Elt F) (HostLoop.Sig (Pipeline.Sig Λ₀ (Fin 0) fun p => (pcs p).Adm) nL) .tc) PUnit)
    (hmain : ∀ c, main c = Pipeline.chain ((pre.map fun ops => (seq ops : Prog _ PUnit)) ++ HostLoop.enter l :: post.map fun ops => (seq ops : Prog _ PUnit)))
    (ρ : Dev nD → PrngReg) (hsem : ∀ sm : SemLoc sig, sm.isScoped .tc = true)
    (h : CondSpec pcs defs₀ loops cond condOps bodyI (entryContents pre m) n) :
    θ_run (HostLoop.defs loops (Pipeline.defs pcs defs₀)) (onTc (τ := τ) main) ⟨m, fun _ => 0, ρ⟩
      (fun r => (∀ (c : Dev nD) (b : Ref sig .tc), (Proc.devRef .tc b : DevRef τ sig).isScoped = false →
        r.2.mem ((c.tc : Thread nD τ).loc b) = finalContents condOps pre bodyI post n m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    pcs (noAdm pcs) (fun k => k.1.elim0) defs₀ Variants.none noL noLv loops (noTk pcs) m ρ main
    (segments hloops hpre hbodyI hpost hbody m h)
    (fun c Q => by
      rw [hmain c]
      show wp _ _ _ (Pipeline.chain ((segments hloops hpre hbodyI hpost hbody m h).map CSeg.prog)) Q ⊢ _
      rw [segments_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ settled c))
    (Tₙ := fun c => iprop(held (c : Thread nD τ) (ucRefs τ sig) (finalContents condOps pre bodyI post n m c)))
    (hch := segments_chain hloops hpre hbodyI hpost hbody m h)
    (hinit := by
      refine Pipeline.initEach noL noLv fun c => ?_
      rw [show unscopedBufs c (fun b => m ((c : Thread nD τ).loc b)) = held (c : Thread nD τ) (ucRefs τ sig) (launchContents m c)
        from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = finalContents condOps pre bodyI post n m c b)
    (hfin := fun c s' => by
      unfold held
      iintro ⟨Hh, HSI⟩
      ihave Hr := (pointsTo_read_all (ucRefs τ sig) (fun b => ((c : Dev nD), b)) (fun b => finalContents condOps pre bodyI post n m c b) s') $$ [Hh HSI]
      · isplitl [Hh] <;> iassumption
      icases Hr with ⟨%h, HSI⟩
      imodintro
      isplitr; · ipureintro; exact h
      iexact HSI)
    (hQ := fun _ hY hs => ⟨fun c b hb => hY c _ (devRef_mem_ucRefs b hb),
      sem_eq_zero hs fun _ sm hsm => absurd (hsem sm) (by rw [hsm]; decide)⟩)

end Cert.HostLoopRun

end
-- ==== Proof.RefRun.lean ====
/- The reference's run: from any memory whose counters are zero it ends, with every buffer at the fold of its operations
   and with every semaphore counter at zero; its arguments are written by no operation. -/
module

public import proofs.«01_k».proof.Proof.Gen.ReferenceIdeal.Run
public import proofs.«01_k».proof.Proof.HostLoopRun

@[expose] public section

set_option maxRecDepth 1404

noncomputable section

namespace Cert.Ref

open Idealize.ShloMosaic Idealize.ShloMosaic.TcCoe Idealize.ShloMosaic.StableHlo
open Idealize.SL.Sem
open Cert.ReferenceIdeal Cert.ReferenceIdeal.Gen Cert.ReferenceIdeal.Value

variable {F : FTy → Type} [FloatOps F]
variable (m : (ℓ : Loc nD τ sig) → Buf (Elt F) ℓ) (ρ : Dev nD → PrngReg)

/-- A TensorCore of this program has no semaphore of its own. -/
theorem no_sems : ∀ sm : SemLoc sig, sm.isScoped .tc = true := by decide

set_option maxRecDepth 100000 in
/-- THE RUN, with the counters. -/
theorem run : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = finalContents condOps preI bodyI postI 32 m c (Proc.devRef .tc b)) ∧ r.2.sem = fun _ => 0) :=
  HostLoopRun.run (pcs := pcfgs (F := F)) (defs₀ := defs₀) (loops := loops) (l := 0) (cond := main_while0_cond) (body := main_while0_body)
    rfl hpre hbodyI hpost (by rw [while0_body_chain]; rfl) m main (fun c => by rw [main_chain]; rfl) ρ no_sems (cond_spec m)

end Cert.Ref

end
-- ==== Proof.RefLoop.lean ====
/- The reference's loop: it runs over the 32 chunks from the last to the first, carrying the state's gradient, and writes
   down at each chunk the gradient it came with. -/
module

public import proofs.«01_k».proof.Proof.RefPre
public import proofs.«01_k».proof.Proof.RefPost
public import proofs.«01_k».proof.Proof.RefRun
public import Idealize.ShloMosaic.Lib.DynamicIndex
public import Idealize.ShloMosaic.Lib.Pipeline.Value

@[expose] public section

set_option maxRecDepth 20000

noncomputable section

namespace Cert.Ref

open Idealize.ShloMosaic Idealize.ShloMosaic.TcCoe Idealize.ShloMosaic.StableHlo
open Cert.ReferenceIdeal Cert.ReferenceIdeal.Gen Cert.ReferenceIdeal.Value

/-! ## What the loop and its condition leave alone -/

/-- What the loop's body writes, in order. -/
def bodyW : List (Ref sig .tc) := while0Ops0_W ++ while0Ops0_1_W ++ while0Ops0_2_W ++ while0Ops0_3_W ++ while0Ops0_4_W ++ while0Ops0_5_W

section keep
variable {F : FTy → Type} [FloatOps F]
variable (m : (ℓ : Loc nD τ sig) → Buf (Elt F) ℓ) (c : Dev nD)

theorem cond_writes : (condOps : List (HloOp τ sig (Elt F))).map HloOp.writes = condOps_W.map fun w => {Proc.devRef (τ := τ) .tc w} := rfl
theorem body_writes : (bodyI : List (List (HloOp τ sig (Elt F)))).flatten.map HloOp.writes = bodyW.map fun w => {Proc.devRef (τ := τ) .tc w} := rfl
theorem pre_writes' : (preI : List (List (HloOp τ sig (Elt F)))).flatten.map HloOp.writes = preW.map fun w => {Proc.devRef (τ := τ) .tc w} := rfl
theorem post_writes' : (postI : List (List (HloOp τ sig (Elt F)))).flatten.map HloOp.writes = postW.map fun w => {Proc.devRef (τ := τ) .tc w} := rfl

theorem atK_keep {r : Ref sig .tc} (hc : r ∉ condOps_W) (hb : r ∉ bodyW) :
    ∀ k, atK m k c (Proc.devRef .tc r) = entryContents preI m c (Proc.devRef .tc r)
  | 0 => rfl
  | k + 1 => by
    rw [show atK m (k + 1) c = afterL bodyI (after condOps (atK m k c)) from rfl, afterL_eq_after_flatten,
      Line.keep body_writes _ hb, Line.keep cond_writes _ hc, atK_keep hc hb k]

/-- The line of operations after the loop starts here. -/
def exitV : Valuation τ sig (Elt F) := after condOps (atK m 32 c)

theorem final_eq (r : Ref sig .tc) : finalContents condOps preI bodyI postI 32 m c (Proc.devRef .tc r)
    = after (postI (F := F)).flatten (exitV m c) (Proc.devRef .tc r) := by
  show afterL postI (after condOps (atK m 32 c)) _ = _
  rw [afterL_eq_after_flatten]; rfl

theorem exit_keep {r : Ref sig .tc} (hc : r ∉ condOps_W) (hb : r ∉ bodyW) :
    exitV m c (Proc.devRef .tc r) = after (preI (F := F)).flatten (launchContents m c) (Proc.devRef .tc r) := by
  unfold exitV
  rw [Line.keep cond_writes _ hc, atK_keep m c hc hb]
  show afterL preI _ _ = _
  rw [afterL_eq_after_flatten]

/-- A buffer no operation writes ends as it began. -/
theorem final_keep {r : Ref sig .tc} (h0 : r ∉ preW) (hc : r ∉ condOps_W) (hb : r ∉ bodyW) (h1 : r ∉ postW) :
    finalContents condOps preI bodyI postI 32 m c (Proc.devRef .tc r) = launchContents m c (Proc.devRef .tc r) := by
  rw [final_eq, Line.keep post_writes' _ h1, exit_keep m c hc hb, Line.keep pre_writes' _ h0]

open Idealize.SL.Sem in
/-- THE FRAME: the arguments end as they began, every counter at zero. -/
theorem frame (ρ : Dev nD → PrngReg) : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ (∀ c : Dev nD, r.2.mem ((c.tc : Thread nD τ).loc main_v125) = finalContents condOps preI bodyI postI 32 m c (Proc.devRef .tc main_v125))
      ∧ r.2.sem = fun _ => 0) := by
  refine (θ_run (defs (F := F)) _ _).mono ?_ (run m ρ)
  rintro r ⟨h, hs⟩
  refine ⟨fun c => ⟨?_, ?_, ?_, ?_, ?_, ?_, ?_⟩, fun c => h c _ rfl, hs⟩ <;>
    exact (h c _ rfl).trans (final_keep m c (by decide +kernel) (by decide +kernel) (by decide +kernel) (by decide +kernel))

end keep

/-! ## The trips -/

variable (m : (ℓ : Loc nD τ sig) → Buf (Elt Ideal) ℓ) (c : Dev nD)

/-- The line of operations before the loop starts here. -/
abbrev V0 : Valuation τ sig (Elt Ideal) := launchContents m c

theorem entry_eq (r : Ref sig .tc) : entryContents preI m c (Proc.devRef .tc r) = after preOps (V0 m c) (Proc.devRef .tc r) := by
  show afterL preI _ _ = _
  rw [afterL_eq_after_flatten]; rfl

/-- The carried gradient after `k` trips. -/
def G (dS : FVec Ideal S32x8x4x64x128 .f32) (w : FVec Ideal S32x8x4x64x1 .f32) (b : Fin 8) (h : Fin 4) (e : Fin 64) (v : Fin 128) : ℕ → EReal
  | 0 => 0
  | k + 1 => dS (ix5 ⟨31 - k, by omega⟩ b h e v) + G dS w b h e v k * w (ix5 ⟨31 - k, by omega⟩ b h e 0)

/-- The chunk the body works on is the last but `k`. -/
theorem idx_at (k : ℕ) (hk : k < 32) (X : Valuation τ sig (Elt Ideal)) (hX : X (Proc.devRef .tc main_v101_2) = fun _ => Scf.iv 0#32 1#32 k)
    (j : S_.Idx) : ((res_main_while0b_v127 X : IVec S_ 32) j).toInt = ((31 - k : ℕ) : ℤ) := by
  unfold res_main_while0b_v127
  rw [hX]
  show ((32#32 - (0#32 + BitVec.ofNat 32 k * 1#32)) - 1#32).toInt = _
  interval_cases k <;> decide

/-- A chunk cut out of an array of chunks. -/
theorem slice_at {k : ℕ} (hk : k < 32) {N : ℕ} {start : Fin 5 → ℤ} (hs : ∀ a, start a = ((![31 - k, 0, 0, 0, 0] : Fin 5 → ℕ) a : ℤ))
    (x : FVec Ideal ⟨5, ![32, 8, 4, 64, N]⟩ .f32) (hfit) (b : Fin 8) (h : Fin 4) (e : Fin 64) (v : Fin N) :
    Host.dynamicSlice ⟨5, ![1, 8, 4, 64, N]⟩ x start hfit (ix5 0 b h e v) = x (ix5 ⟨31 - k, by omega⟩ b h e v) := by
  refine (congrFun (Host.dynamicSlice_eq_extractStridedSlice (s := ⟨5, ![32, 8, 4, 64, N]⟩) _ x start ![31 - k, 0, 0, 0, 0] hfit
    ⟨rfl, by intro a; fin_cases a <;> simp <;> omega⟩ hs) _).trans ?_
  show x _ = x _
  congr 1
  refine funext fun a => Fin.ext ?_
  fin_cases a <;> simp [ix5, Shape.Idx.norm]

theorem fits {k : ℕ} (hk : k < 32) : S32x8x4x64x128.Slices ![31 - k, 0, 0, 0, 0] S1x8x4x64x128 := by
  refine ⟨rfl, fun a => ?_⟩
  fin_cases a <;> simp <;> omega

/-- A chunk written into an array of chunks. -/
theorem upd_at {k : ℕ} (hk : k < 32) {start : Fin 5 → ℤ} (hs : ∀ a, start a = ((![31 - k, 0, 0, 0, 0] : Fin 5 → ℕ) a : ℤ))
    (x : FVec Ideal S32x8x4x64x128 .f32) (y : FVec Ideal S8x4x64x128 .f32) (hfit) (n : Fin 32) (b : Fin 8) (h : Fin 4) (e : Fin 64) (v : Fin 128) :
    Host.dynamicUpdateSlice x (broadcastInDim S1x8x4x64x128 ![1, 2, 3, 4] bcast_S8x4x64x128_S1x8x4x64x128_1_2_3_4 y) start hfit (ix5 n b h e v)
      = if n.val = 31 - k then y (ix4 b h e v) else x (ix5 n b h e v) := by
  refine (congrFun (Host.dynamicUpdateSlice_eq_updateSlice (s := S32x8x4x64x128) (u := S1x8x4x64x128) x _ start hfit ![31 - k, 0, 0, 0, 0]
      (by intro a; refine (congrArg (fun z : ℤ => (min (max z 0) _).toNat) (hs a)).trans ?_; fin_cases a <;> simp <;> omega)
      (fits hk)) _).trans ?_
  refine (updateSlice_apply ..).trans ?_
  by_cases hn : n.val = 31 - k
  · rw [if_pos hn, dif_pos (by intro a; fin_cases a <;> simp [ix5] <;> omega)]
    pointwise
  · rw [if_neg hn, dif_neg]
    intro hh
    have := hh 0
    simp [ix5] at this
    omega

theorem starts_at (k : ℕ) (hk : k < 32) (X : Valuation τ sig (Elt Ideal)) (hX : X (Proc.devRef .tc main_v101_2) = fun _ => Scf.iv 0#32 1#32 k)
    (j : S_.Idx) (a : Fin 5) :
    ((![res_main_while0b_v127 X, constantI S_ 32 0#32, constantI S_ 32 0#32, constantI S_ 32 0#32, constantI S_ 32 0#32] : Fin 5 → IVec S_ 32) a j).toInt
      = ((![31 - k, 0, 0, 0, 0] : Fin 5 → ℕ) a : ℤ) := by
  fin_cases a
  · exact idx_at k hk X hX j
  all_goals rfl

/-- The carried buffers of a valuation, as arrays. -/
def dSof (X : Valuation τ sig (Elt Ideal)) : FVec Ideal S32x8x4x64x128 .f32 := X (Proc.devRef .tc main_v101_0)
def wof (X : Valuation τ sig (Elt Ideal)) : FVec Ideal S32x8x4x64x1 .f32 := X (Proc.devRef .tc main_v101_1)
def gof (X : Valuation τ sig (Elt Ideal)) : FVec Ideal S8x4x64x128 .f32 := X (Proc.devRef .tc main_v101_3)
def ysof (X : Valuation τ sig (Elt Ideal)) : FVec Ideal S32x8x4x64x128 .f32 := X (Proc.devRef .tc main_v101_4)

theorem g_body (A : FVec Ideal S1x8x4x64x128 .f32) (B : FVec Ideal S1x8x4x64x1 .f32) (g : FVec Ideal S8x4x64x128 .f32)
    (b : Fin 8) (h : Fin 4) (e : Fin 64) (v : Fin 128) :
    addf (shapeCast S8x4x64x128 A shapeCasts_S1x8x4x64x128_S8x4x64x128)
      (mulf g (broadcastInDim S8x4x64x128 ![0, 1, 2, 3] bcast_S8x4x64x1_S8x4x64x128_0_1_2_3 (shapeCast S8x4x64x1 B shapeCasts_S1x8x4x64x1_S8x4x64x1)))
      (ix4 b h e v) = A (ix5 0 b h e v) + g (ix4 b h e v) * B (ix5 0 b h e 0) := by
  pointwise

theorem g_step (k : ℕ) (hk : k < 32) (X : Valuation τ sig (Elt Ideal)) (hX : X (Proc.devRef .tc main_v101_2) = fun _ => Scf.iv 0#32 1#32 k)
    (b : Fin 8) (h : Fin 4) (e : Fin 64) (v : Fin 128) :
    gof (STEP X) (ix4 b h e v) = dSof X (ix5 ⟨31 - k, by omega⟩ b h e v) + gof X (ix4 b h e v) * wof X (ix5 ⟨31 - k, by omega⟩ b h e 0) := by
  unfold gof
  rw [STEP_main_v101_3,
    ← slice_at (N := 128) hk (starts_at k hk X hX (Shape.Idx.first h_S_)) (dSof X) sliceFits_S32x8x4x64x128_S1x8x4x64x128 b h e v,
    ← slice_at (N := 1) hk (starts_at k hk X hX (Shape.Idx.first h_S_)) (wof X) sliceFits_S32x8x4x64x1_S1x8x4x64x1 b h e 0]
  exact g_body _ _ (gof X) b h e v

theorem ys_step (k : ℕ) (hk : k < 32) (X : Valuation τ sig (Elt Ideal)) (hX : X (Proc.devRef .tc main_v101_2) = fun _ => Scf.iv 0#32 1#32 k)
    (n : Fin 32) (b : Fin 8) (h : Fin 4) (e : Fin 64) (v : Fin 128) :
    ysof (STEP X) (ix5 n b h e v) = if n.val = 31 - k then gof X (ix4 b h e v) else ysof X (ix5 n b h e v) := by
  unfold ysof
  rw [STEP_main_v101_4]
  exact upd_at hk (starts_at k hk X hX (Shape.Idx.first h_S_)) (ysof X) (gof X) updateFits_S32x8x4x64x128_S1x8x4x64x128 n b h e v

/-- After `k` trips: the carried gradient, and the gradients written down at the chunks gone through. -/
theorem trips (k : ℕ) (hk : k ≤ 32) :
    (∀ b h e v, gof (atK m k c) (ix4 b h e v) = G (r_v98 (V0 m c)) (r_v97 (V0 m c)) b h e v k)
    ∧ ∀ (n : Fin 32) b h e v, 31 - n.val < k → ysof (atK m k c) (ix5 n b h e v) = G (r_v98 (V0 m c)) (r_v97 (V0 m c)) b h e v (31 - n.val) := by
  induction k with
  | zero =>
    refine ⟨fun b h e v => ?_, fun n b h e v hn => absurd hn (by omega)⟩
    have e0 : gof (atK m 0 c) = r_v99 (V0 m c) := (entry_eq m c _).trans (r_v101_3_eq _)
    rw [e0, r_v99_eq]
    pointwise [r_cst_5_eq, G]
  | succ k ih =>
    obtain ⟨ih1, ih2⟩ := ih (by omega)
    have hdS : dSof (atK m k c) = r_v98 (V0 m c) :=
      (atK_keep m c (r := main_v101_0) (by decide +kernel) (by decide +kernel) k).trans ((entry_eq m c _).trans (r_v101_0_eq _))
    have hw : wof (atK m k c) = r_v97 (V0 m c) :=
      (atK_keep m c (r := main_v101_1) (by decide +kernel) (by decide +kernel) k).trans ((entry_eq m c _).trans (r_v101_1_eq _))
    have eg : gof (atK m (k + 1) c) = gof (STEP (atK m k c)) := trip_agree (atK m k c) main_v101_3 (by decide)
    have ey : ysof (atK m (k + 1) c) = ysof (STEP (atK m k c)) := trip_agree (atK m k c) main_v101_4 (by decide)
    refine ⟨fun b h e v => ?_, fun n b h e v hn => ?_⟩
    · rw [eg, g_step k (by omega) _ (atK_ctr m c k), hdS, hw, ih1]; rfl
    · rw [ey, ys_step k (by omega) _ (atK_ctr m c k)]
      by_cases hk' : n.val = 31 - k
      · rw [if_pos hk', ih1, show 31 - n.val = k by omega]
      · rw [if_neg hk', ih2 _ _ _ _ _ (by omega)]

/-- What the loop writes down at chunk `n`. -/
theorem ys_at (n : Fin 32) (b : Fin 8) (h : Fin 4) (e : Fin 64) (v : Fin 128) :
    w_v101_4 (exitV m c) (ix5 n b h e v) = G (r_v98 (V0 m c)) (r_v97 (V0 m c)) b h e v (31 - n.val) := by
  rw [← (trips m c 32 le_rfl).2 n b h e v (by omega)]
  have e1 : w_v101_4 (exitV m c) = ysof (atK m 32 c) := by
    unfold w_v101_4 ysof
    refine (Line.keep post_writes (exitV m c) (r := main_v101_4) (by decide +kernel)).trans ?_
    exact Line.keep cond_writes (atK m 32 c) (r := main_v101_4) (by decide +kernel)
  rw [e1]

theorem w_v41_pre : w_v41 (exitV m c) = r_v41 (V0 m c) := by
  unfold w_v41 r_v41
  refine (Line.keep post_writes (exitV m c) (r := main_v41) (by decide +kernel)).trans ?_
  exact exit_keep m c (by decide +kernel) (by decide +kernel)
theorem w_v28_pre : w_v28 (exitV m c) = r_v28 (V0 m c) := by
  unfold w_v28 r_v28
  refine (Line.keep post_writes (exitV m c) (r := main_v28) (by decide +kernel)).trans ?_
  exact exit_keep m c (by decide +kernel) (by decide +kernel)
theorem w_v32_pre : w_v32 (exitV m c) = r_v32 (V0 m c) := by
  unfold w_v32 r_v32
  refine (Line.keep post_writes (exitV m c) (r := main_v32) (by decide +kernel)).trans ?_
  exact exit_keep m c (by decide +kernel) (by decide +kernel)
theorem w_v81_pre : w_v81 (exitV m c) = r_v81 (V0 m c) := by
  unfold w_v81 r_v81
  refine (Line.keep post_writes (exitV m c) (r := main_v81) (by decide +kernel)).trans ?_
  exact exit_keep m c (by decide +kernel) (by decide +kernel)
theorem w_v87_pre : w_v87 (exitV m c) = r_v87 (V0 m c) := by
  unfold w_v87 r_v87
  refine (Line.keep post_writes (exitV m c) (r := main_v87) (by decide +kernel)).trans ?_
  exact exit_keep m c (by decide +kernel) (by decide +kernel)
theorem w_v91_pre : w_v91 (exitV m c) = r_v91 (V0 m c) := by
  unfold w_v91 r_v91
  refine (Line.keep post_writes (exitV m c) (r := main_v91) (by decide +kernel)).trans ?_
  exact exit_keep m c (by decide +kernel) (by decide +kernel)

end Cert.Ref

end
-- ==== Proof.Window.lean ====
/- A running sum along the third of five axes, as the reference takes it: a window of 64 rows padded by 63 before the first. -/
module

public import Idealize.ShloMosaic.Lib.Pointwise

@[expose] public section

set_option maxRecDepth 16384

noncomputable section

namespace Cert.Window

open Idealize.ShloMosaic Idealize.ShloMosaic.TcCoe

theorem foldl_add {N : ℕ} (g : Fin N → EReal) (v : EReal) : (List.finRange N).foldl (fun r n => r + g n) v = v + ∑ n, g n := by
  rw [Fin.sum_univ_def]
  generalize List.finRange N = l
  induction l generalizing v with
  | nil => simp
  | cons a l ih => rw [List.foldl_cons, ih, List.map_cons, List.sum_cons, add_assoc]

abbrev W : Shape := ⟨5, ![1, 1, 64, 1, 1]⟩

/-- The window's positions are its rows. -/
def rowOf : W.Idx ≃ Fin 64 where
  toFun w := w 2
  invFun k := ix5 0 0 k 0 0
  left_inv w := by
    rw [eq_ix5 w]
    refine congr (congr (congrArg₂ (fun a b => ix5 a b (w 2)) ?_ ?_) ?_) ?_ <;> exact Subsingleton.elim (α := Fin 1) _ _
  right_inv _ := rfl

theorem turn (t : Fin 64) (f : Fin 64 → EReal) :
    (∑ k : Fin 64, if h : 63 ≤ t.val + k.val then f ⟨t.val + k.val - 63, by omega⟩ else 0) = ∑ s, if s ≤ t then f s else 0 := by
  refine Fintype.sum_equiv (Equiv.addRight (t + 1)) _ _ fun k => ?_
  have hv : ((Equiv.addRight (t + 1)) k).val = (k.val + (t.val + 1) % 64) % 64 := by
    show (k + (t + 1)).val = _
    rw [Fin.val_add, Fin.val_add]; rfl
  by_cases h : 63 ≤ t.val + k.val
  · rw [dif_pos h, if_pos (by rw [Fin.le_def, hv]; omega)]
    exact congrArg f (Fin.ext (by rw [hv]; show t.val + k.val - 63 = _; omega))
  · rw [dif_neg h, if_neg (by rw [Fin.le_def, hv]; omega)]

theorem running (x : FVec Ideal ⟨5, ![8, 32, 64, 4, 64]⟩ .f32) (init : FVec Ideal ⟨0, ![]⟩ .f32) (hinit : ∀ i, init i = (0 : EReal)) (hr) (hu)
    (b : Fin 8) (c : Fin 32) (t : Fin 64) (h : Fin 4) (e : Fin 64) :
    Host.reduceWindowAdd (t := ⟨5, ![8, 32, 64, 4, 64]⟩) ![1, 1, 64, 1, 1] ![1, 1, 1, 1, 1] ![0, 0, 63, 0, 0] ![0, 0, 0, 0, 0] x init hr hu (ix5 b c t h e)
      = ∑ s : Fin 64, if s ≤ t then x (ix5 b c s h e) else (0 : EReal) := by
  rw [← turn t fun s => x (ix5 b c s h e)]
  refine (foldl_add _ _).trans ?_
  rw [hinit, zero_add]
  refine Fintype.sum_equiv (W.rowMajor.symm.trans rowOf) _ _ fun n => ?_
  obtain ⟨k, hk⟩ : ∃ k, W.rowMajor.symm n = rowOf.symm k := ⟨rowOf (W.rowMajor.symm n), (rowOf.symm_apply_apply _).symm⟩
  have hw : ∀ a, (W.rowMajor.symm n a).val = ((rowOf.symm k) a).val := fun a => by rw [hk]
  have hk' : (W.rowMajor.symm.trans rowOf) n = k := by rw [Equiv.trans_apply, hk, Equiv.apply_symm_apply]
  rw [hk']
  by_cases hin : 63 ≤ t.val + k.val
  · rw [dif_pos hin]
    refine (dif_pos fun a => ?_).trans (congrArg x (funext fun a => Fin.ext ?_))
    · match a with
      | ⟨0, _⟩ => exact ⟨Nat.zero_le _, by show b.val * 1 + (W.rowMajor.symm n 0).val - 0 < 8; rw [hw]; show b.val * 1 + 0 - 0 < 8; omega⟩
      | ⟨1, _⟩ => exact ⟨Nat.zero_le _, by show c.val * 1 + (W.rowMajor.symm n 1).val - 0 < 32; rw [hw]; show c.val * 1 + 0 - 0 < 32; omega⟩
      | ⟨2, _⟩ => exact ⟨by show 63 ≤ t.val * 1 + (W.rowMajor.symm n 2).val; rw [hw]; show 63 ≤ t.val * 1 + k.val; omega,
          by show t.val * 1 + (W.rowMajor.symm n 2).val - 63 < 64; rw [hw]; show t.val * 1 + k.val - 63 < 64; omega⟩
      | ⟨3, _⟩ => exact ⟨Nat.zero_le _, by show h.val * 1 + (W.rowMajor.symm n 3).val - 0 < 4; rw [hw]; show h.val * 1 + 0 - 0 < 4; omega⟩
      | ⟨4, _⟩ => exact ⟨Nat.zero_le _, by show e.val * 1 + (W.rowMajor.symm n 4).val - 0 < 64; rw [hw]; show e.val * 1 + 0 - 0 < 64; omega⟩
    · match a with
      | ⟨0, _⟩ => show b.val * 1 + (W.rowMajor.symm n 0).val - 0 = b.val; rw [hw]; show b.val * 1 + 0 - 0 = b.val; omega
      | ⟨1, _⟩ => show c.val * 1 + (W.rowMajor.symm n 1).val - 0 = c.val; rw [hw]; show c.val * 1 + 0 - 0 = c.val; omega
      | ⟨2, _⟩ => show t.val * 1 + (W.rowMajor.symm n 2).val - 63 = t.val + k.val - 63; rw [hw]; show t.val * 1 + k.val - 63 = t.val + k.val - 63; omega
      | ⟨3, _⟩ => show h.val * 1 + (W.rowMajor.symm n 3).val - 0 = h.val; rw [hw]; show h.val * 1 + 0 - 0 = h.val; omega
      | ⟨4, _⟩ => show e.val * 1 + (W.rowMajor.symm n 4).val - 0 = e.val; rw [hw]; show e.val * 1 + 0 - 0 = e.val; omega
  · rw [dif_neg hin]
    refine dif_neg fun hall => hin ?_
    have h2 : 63 ≤ t.val * 1 + (W.rowMajor.symm n 2).val := (hall 2).1
    rw [hw] at h2
    have h3 : 63 ≤ t.val * 1 + k.val := h2
    omega

end Cert.Window

end
-- ==== Proof.Gate.lean ====
/- The log gate of the reference, and the arguments by name. -/
module

public import proofs.«01_k».proof.Proof.RefLoop
public import proofs.«01_k».proof.Proof.Step
public import proofs.«01_k».proof.Proof.Window

@[expose] public section

set_option maxRecDepth 16384

noncomputable section

namespace Cert.Ref

open Idealize.ShloMosaic Idealize.ShloMosaic.TcCoe
open Cert.ReferenceIdeal Cert.ReferenceIdeal.Gen
open Cert.Step (ln lv row place row_forth row_back place_forth place_back)

/-! ## The gate -/

theorem log_ne_bot (y : EReal) : Ideal.log (1 + Ideal.exp y) ≠ ⊥ := by
  induction y using EReal.rec with
  | bot =>
    show Ideal.log (1 + 0) ≠ ⊥
    rw [add_zero]
    show (if (1 : ℝ) ≤ 0 then (⊥ : EReal) else ((Real.log 1 : ℝ) : EReal)) ≠ ⊥
    rw [if_neg (by norm_num)]
    exact EReal.coe_ne_bot _
  | top =>
    show Ideal.log (1 + ⊤) ≠ ⊥
    rw [show (1 : EReal) + ⊤ = ⊤ from rfl]
    show (⊤ : EReal) ≠ ⊥
    exact top_ne_bot
  | coe r =>
    show Ideal.log (1 + ((Real.exp r : ℝ) : EReal)) ≠ ⊥
    rw [show (1 : EReal) + ((Real.exp r : ℝ) : EReal) = ((1 + Real.exp r : ℝ) : EReal) by norm_cast]
    have hp := Real.exp_pos r
    show (if (1 + Real.exp r : ℝ) ≤ 0 then (⊥ : EReal) else ((Real.log (1 + Real.exp r) : ℝ) : EReal)) ≠ ⊥
    rw [if_neg (by linarith)]
    exact EReal.coe_ne_bot _

theorem sixteen : Ideal.ofBits .f32 0x41800000#32 = ((16 : ℝ) : EReal) := by
  simp [Ideal.ofBits, Ideal.ieee, -EReal.coe_mul]; norm_num
theorem eighth : Ideal.ofBits .f32 0x3E000000#32 = ((1 / 8 : ℝ) : EReal) := by
  simp [Ideal.ofBits, Ideal.ieee, -EReal.coe_mul]; norm_num

/-- Minus the softplus of minus a number, over 16. -/
theorem gate (z : EReal) : Ideal.div (-(if -z ≠ -z then -z else max (-z) 0 + Ideal.log1p (Ideal.exp (-(max (-z) (- -z))))))
    (Ideal.ofBits .f32 0x41800000#32) = Spec.logGate z := by
  rw [if_neg (not_not.2 rfl), sixteen, Ideal.div_coe (by norm_num)]
  show -(max (-z) 0 + Ideal.log (1 + Ideal.exp (-(max (-z) (- -z))))) * ((1 / 16 : ℝ) : EReal) = Spec.logGate z
  have h1 : max (-z) (0 : EReal) ≠ ⊥ := ne_of_gt (lt_of_lt_of_le EReal.bot_lt_zero (le_max_right _ _))
  rw [EReal.neg_add (.inl h1) (.inr (log_ne_bot _)), neg_neg, max_comm (-z) z, ← zero_sub (max z (-z))]
  have h2 : -max (-z) (0 : EReal) = min z 0 := by
    rcases le_total z 0 with hz | hz
    · rw [min_eq_left hz, max_eq_left (by simpa using EReal.neg_le_neg_iff.2 hz), neg_neg]
    · rw [min_eq_right hz, max_eq_right (by simpa using EReal.neg_le_neg_iff.2 hz), neg_zero]
  rw [h2]; rfl

/-! ## The arguments -/

variable (X : Valuation τ sig (Elt Ideal))

def argsOf : Step.Args := ⟨r_arg0 X, r_arg1 X, r_arg2 X, r_arg3 X, r_arg4 X, r_arg5 X, r_arg6 X⟩

/-- The batch rows of the two directions, one after the other. -/
def bt (d : Fin 2) (n : Fin 4) : Fin 8 := ⟨d.val * 4 + n.val, by omega⟩
theorem bt_forth (n : Fin 4) : bt 0 n = ⟨n.val, by omega⟩ := Fin.ext (by show 0 * 4 + n.val = n.val; omega)
theorem bt_back (n : Fin 4) : bt 1 n = ⟨4 + n.val, by omega⟩ := Fin.ext (by show 1 * 4 + n.val = 4 + n.val; omega)

theorem gate_forth (n : Fin 4) (r : Fin 2048) (l : Fin 256) : r_v13 X (ix3 n r l) = Spec.logGate ((argsOf X).z 0 n r l) := by
  pointwise [r_v13_eq, r_v12_eq, r_cst_eq, r_v11_eq, r_call0_v1_eq, r_call0_call0_v11_eq, r_call0_call0_v10_eq, r_call0_call0_v9_eq, r_call0_call0_v8_eq, r_call0_call0_v7_eq, r_call0_call0_v6_eq, r_call0_call0_v5_eq, r_call0_call0_v4_eq, r_call0_call0_v3_eq, r_call0_call0_v2_eq, r_call0_call0_v1_eq, r_call0_call0_v0_eq, r_call0_v0_eq, r_call0_call0_cst_eq, r_v10_eq, r_v9_eq, r_v8_eq, r_v7_eq, r_v5_eq, r_v0_eq]
  exact (gate _).trans (congrArg Spec.logGate (if_pos rfl).symm)
theorem gate_back (n : Fin 4) (r : Fin 2048) (l : Fin 256) : r_v20 X (ix3 n r l) = Spec.logGate ((argsOf X).z 1 n r l) := by
  pointwise [r_v20_eq, r_v19_eq, r_cst_0_eq, r_v18_eq, r_call1_v1_eq, r_call1_call0_v11_eq, r_call1_call0_v10_eq, r_call1_call0_v9_eq, r_call1_call0_v8_eq, r_call1_call0_v7_eq, r_call1_call0_v6_eq, r_call1_call0_v5_eq, r_call1_call0_v4_eq, r_call1_call0_v3_eq, r_call1_call0_v2_eq, r_call1_call0_v1_eq, r_call1_call0_v0_eq, r_call1_v0_eq, r_call1_call0_cst_eq, r_v17_eq, r_v16_eq, r_v15_eq, r_v14_eq, r_v6_eq, r_v0_eq]
  exact (gate _).trans (congrArg Spec.logGate (if_neg (by decide)).symm)

end Cert.Ref

end
-- ==== Proof.RefChunk.lean ====
/- The reference's chunk arrays are the chunk's specification. -/
module

public import proofs.«01_k».proof.Proof.Gate

@[expose] public section

set_option maxRecDepth 16384

noncomputable section

namespace Cert.Ref

open Idealize.ShloMosaic Idealize.ShloMosaic.TcCoe
open Cert.ReferenceIdeal Cert.ReferenceIdeal.Gen

variable (X : Valuation τ sig (Elt Ideal))

/-- A head of one batch row's chunk, as the reference lays it out. -/
def raw (g : Fin 8) (c : Fin 32) (h : Fin 4) (G : Fin 64 → Fin 128 → EReal) : Spec.Head where
  q t e := r_v24 X (ix5 g c t h e)
  k t e := r_v28 X (ix5 g c t h e)
  la t e := r_v36 X (ix5 g c t h e)
  v t v := r_v32 X (ix5 g c t h v)
  dO t v := r_v40 X (ix5 g c t h v)
  S e v := r_v49 X (ix5 g c h e v)
  G := G

variable (g : Fin 8) (c : Fin 32) (h : Fin 4) (G : Fin 64 → Fin 128 → EReal) (t s e : Fin 64) (v : Fin 128)

theorem b_at : r_v41 X (ix5 g c t h e) = (raw X g c h G).b t e := by
  rw [r_v41_eq]
  refine Window.running _ _ (fun i => ?_) _ _ g c t h e
  pointwise [r_call7_call0_v0_eq, r_call7_call0_cst_eq]
  all_goals simp [Ideal.ofBits, Ideal.ieee]

/-- Multiplying reads off lane by lane. -/
theorem product_at {S : Shape} (a b : FVec Ideal S .f32) (i : S.Idx) : mulf a b i = a i * b i := rfl

theorem eighth_at (i) : r_v50 X i = Ideal.ofBits .f32 0x3E000000#32 := by
  rw [r_v50_eq, r_cst_1_eq]
  rfl

theorem qs_at : r_v51 X (ix5 g c t h e) = (raw X g c h G).qs t e := by
  rw [r_v51_eq, product_at, eighth_at, eighth, Spec.Head.qs, raw]

theorem up_at : r_v55 X (ix5 g c t h e) = (raw X g c h G).up t e := by
  pointwise [r_v55_eq, r_v54_eq, r_v53_eq, r_v52_eq]
  rw [b_at X g c h G, b_at X g c h G]
  rfl

theorem down_at : r_v59 X (ix5 g c t h e) = (raw X g c h G).down t e := by
  pointwise [r_v59_eq, r_v58_eq, r_v57_eq, r_v52_eq]
  rw [b_at X g c h G, b_at X g c h G]
  rfl

theorem full_at : r_v67 X (ix5 g c t h e) = (raw X g c h G).full t e := by
  pointwise [r_v67_eq]
  rw [b_at X g c h G]
  rfl

theorem qi_at : r_v56 X (ix5 g c t h e) = (raw X g c h G).qi t e := by
  rw [r_v56_eq, product_at, qs_at X g c h G, up_at X g c h G, Spec.Head.qi]

theorem ki_at : r_v60 X (ix5 g c t h e) = (raw X g c h G).ki t e := by
  rw [r_v60_eq, product_at, down_at X g c h G, Spec.Head.ki, raw]

theorem qe_at : r_v68 X (ix5 g c t h e) = (raw X g c h G).qe t e := by
  rw [r_v68_eq, product_at, qs_at X g c h G, full_at X g c h G, Spec.Head.qe]

end Cert.Ref

end
-- ==== Proof.RefDecay.lean ====
/- The decay of a chunk's state in the reference. -/
module

public import proofs.«01_k».proof.Proof.RefChunk

@[expose] public section

set_option maxRecDepth 16384

noncomputable section

namespace Cert.Ref

open Idealize.ShloMosaic Idealize.ShloMosaic.TcCoe
open Cert.ReferenceIdeal Cert.ReferenceIdeal.Gen

variable (X : Valuation τ sig (Elt Ideal))

variable (g : Fin 8) (c : Fin 32) (h : Fin 4) (G : Fin 64 → Fin 128 → EReal) (e : Fin 64)

theorem decay_at : r_v97 X (ix5 c g h e 0) = (raw X g c h G).decay e := by
  pointwise [r_v97_eq, r_v96_eq, r_v94_eq, r_v93_eq, r_v92_eq]
  rw [b_at X g c h G]
  rfl

end Cert.Ref

end
-- ==== Proof.RefMask.lean ====
/- The reference's causal mask. -/
module

public import proofs.«01_k».proof.Proof.Gate

@[expose] public section

set_option maxRecDepth 16384

noncomputable section

namespace Cert.Ref

open Idealize.ShloMosaic Idealize.ShloMosaic.TcCoe
open Cert.ReferenceIdeal Cert.ReferenceIdeal.Gen

variable (X : Valuation τ sig (Elt Ideal))

variable (t s : Fin 64) (g : Fin 8) (c : Fin 32) (h : Fin 4)

theorem sel_one (x y : EReal) : Scalar.select (1#1) x y = x := by simp [Scalar.select]
theorem sel_zero (x y : EReal) : Scalar.select (0#1) x y = y := by simp [Scalar.select]
theorem zero_bits : Ideal.ofBits .f32 0x00000000#32 = 0 := by simp [Ideal.ofBits, Ideal.ieee]

theorem mask_bits : ∀ t s : Fin 64,
    Scalar.select (IntOp.cmpi CmpIPredicate.sge (IntOp.addi (BitVec.ofNat 32 t.val) 0#32) (BitVec.ofNat 32 s.val)) 1#1 0#1 = if s ≤ t then 1#1 else 0#1 := by
  decide +kernel

/-- The mask keeps the rows up to a row. -/
theorem mask_at : r_v64_1 X (ix5 g c h t s) = if s ≤ t then 1#1 else 0#1 := by
  pointwise [r_v64_1_eq, r_v63_eq, r_call9_v4_eq, r_call9_v2_eq, r_call9_v0_eq, r_call9_v1_eq, r_call9_c_eq, r_call9_v3_eq, r_v62_eq, r_c_eq, r_call9_v5_eq, r_call9_c_0_eq]
  exact mask_bits t s

end Cert.Ref

end
-- ==== Proof.RefAttn.lean ====
/- The attention inside a chunk, and its gradient, in the reference. -/
module

public import proofs.«01_k».proof.Proof.RefChunk
public import proofs.«01_k».proof.Proof.RefMask

@[expose] public section

set_option maxRecDepth 16384

noncomputable section

namespace Cert.Ref

open Idealize.ShloMosaic Idealize.ShloMosaic.TcCoe
open Cert.ReferenceIdeal Cert.ReferenceIdeal.Gen

variable (X : Valuation τ sig (Elt Ideal))

variable (g : Fin 8) (c : Fin 32) (h : Fin 4) (G : Fin 64 → Fin 128 → EReal) (t s e : Fin 64) (v : Fin 128)

theorem raw_A : r_v61 X (ix5 g c h t s) = ∑ e : Fin 64, (raw X g c h G).qi t e * (raw X g c h G).ki s e := by
  pointwise [r_v61_eq]
  exact Finset.sum_congr rfl fun e _ => congrArg₂ (· * ·) (qi_at X g c h G t e) (ki_at X g c h G s e)

theorem A_at : r_v64_0 X (ix5 g c h t s) = (raw X g c h G).A t s := by
  pointwise [r_v64_0_eq, r_call10_v2_eq, r_call10_v0_eq, r_cst_2_eq]
  rw [mask_at, raw_A X g c h G]
  unfold Spec.Head.A
  by_cases hs : s ≤ t
  · rw [if_pos hs, if_pos hs]; exact sel_one _ _
  · rw [if_neg hs, if_neg hs]; exact sel_zero _ _

theorem dA_at : r_v82 X (ix5 g c h t s) = (raw X g c h G).dA t s := by
  pointwise [r_v82_eq, r_v79_eq, r_v78_eq, r_call11_v0_eq, r_call11_cst_eq]
  rw [mask_at]
  unfold Spec.Head.dA
  by_cases hs : s ≤ t
  · rw [if_pos hs, if_pos hs]; exact sel_one _ _
  · rw [if_neg hs, if_neg hs]; exact sel_zero _ _

end Cert.Ref

end
-- ==== Proof.RefGrad.lean ====
/- The gradients inside a chunk in the reference. -/
module

public import proofs.«01_k».proof.Proof.RefAttn

@[expose] public section

set_option maxRecDepth 16384

noncomputable section

namespace Cert.Ref

open Idealize.ShloMosaic Idealize.ShloMosaic.TcCoe
open Cert.ReferenceIdeal Cert.ReferenceIdeal.Gen

variable (X : Valuation τ sig (Elt Ideal))

variable (g : Fin 8) (c : Fin 32) (h : Fin 4) (G : Fin 64 → Fin 128 → EReal) (t s e : Fin 64) (v : Fin 128)

theorem dqi_at : r_v86 X (ix5 g c t h e) = (raw X g c h G).dqi t e := by
  pointwise [r_v86_eq, r_v85_eq]
  exact Finset.sum_congr rfl fun s _ => congrArg₂ (· * ·) (dA_at X g c h G t s) (ki_at X g c h G s e)

theorem dki_at : r_v84 X (ix5 g c s h e) = (raw X g c h G).dki s e := by
  pointwise [r_v84_eq, r_v83_eq]
  exact Finset.sum_congr rfl fun t _ => congrArg₂ (· * ·) (dA_at X g c h G t s) (qi_at X g c h G t e)

theorem dqe_at : r_v74 X (ix5 g c t h e) = (raw X g c h G).dqe t e := by
  pointwise [r_v74_eq, r_v73_eq, r_v72_eq]
  rfl

theorem scale_at (i) : r_v90 X i = Ideal.ofBits .f32 0x3E000000#32 := by
  rw [r_v90_eq, r_cst_3_eq]
  rfl

theorem sum_at {S : Shape} (a b : FVec Ideal S .f32) (i : S.Idx) : addf a b i = a i + b i := rfl

theorem unscaled_at : r_v89 X (ix5 g c t h e) = (raw X g c h G).dqe t e * (raw X g c h G).full t e + (raw X g c h G).dqi t e * (raw X g c h G).up t e := by
  rw [r_v89_eq, sum_at, r_v77_eq, r_v88_eq, product_at, product_at, dqe_at X g c h G, full_at X g c h G, dqi_at X g c h G, up_at X g c h G]

theorem dq_at : r_v91 X (ix5 g c t h e) = (raw X g c h G).dq t e := by
  rw [r_v91_eq, product_at, scale_at, unscaled_at X g c h G, eighth, Spec.Head.dq]

theorem dki_down_at : r_v87 X (ix5 g c s h e) = (raw X g c h G).dki s e * (raw X g c h G).down s e := by
  rw [r_v87_eq, product_at, dki_at X g c h G, down_at X g c h G]

theorem dv_intra_at : r_v81 X (ix5 g c s h v) = ∑ t : Fin 64, (raw X g c h G).dO t v * (raw X g c h G).A t s := by
  pointwise [r_v81_eq, r_v80_eq, r_v78_eq]
  exact Finset.sum_congr rfl fun t _ => congrArg (_ * ·) (A_at X g c h G t s)

theorem dS_at : r_v98 X (ix5 c g h e v) = (raw X g c h G).dS e v := by
  pointwise [r_v98_eq, r_v76_eq, r_v75_eq, r_v72_eq]
  exact Finset.sum_congr rfl fun t _ => congrArg (_ * ·) (qe_at X g c h G t e)

end Cert.Ref

end
-- ==== Proof.RefOut.lean ====
/- Where the reference's result keeps the gradients of a chunk's rows. -/
module

public import proofs.«01_k».proof.Proof.RefPost
public import proofs.«01_k».proof.Proof.Step

@[expose] public section

set_option maxRecDepth 16384

noncomputable section

namespace Cert.Ref

open Idealize.ShloMosaic Idealize.ShloMosaic.TcCoe
open Cert.ReferenceIdeal Cert.ReferenceIdeal.Gen
open Cert.Step (ln lv row)

variable (Y : Valuation τ sig (Elt Ideal))

theorem cat_q (g : Fin 8) (r : Fin 2048) (l : Fin 256) : w_v119 Y (ix3 g r ⟨l.val, by omega⟩) = w_v116 Y (ix3 g r l) := by
  pointwise [w_v119_eq]
theorem cat_k (g : Fin 8) (r : Fin 2048) (l : Fin 256) : w_v119 Y (ix3 g r ⟨256 + l.val, by omega⟩) = w_v117 Y (ix3 g r l) := by
  pointwise [w_v119_eq]
theorem cat_v (g : Fin 8) (r : Fin 2048) (l : Fin 512) : w_v119 Y (ix3 g r ⟨512 + l.val, by omega⟩) = w_v118 Y (ix3 g r l) := by
  pointwise [w_v119_eq]
  rw [dif_neg (by omega), dif_neg (by omega)]
  exact congrArg (fun x => w_v118 Y (ix3 g r x)) (Fin.ext (by show 512 + l.val - 256 - 256 = l.val; omega))

/-- Chunks, heads and lanes laid side by side. -/
theorem rows_at (x : FVec Ideal S8x32x64x4x64 .f32) (g : Fin 8) (c : Fin 32) (t : Fin 64) (h : Fin 4) (e : Fin 64) :
    shapeCast S8x2048x256 x shapeCasts_S8x32x64x4x64_S8x2048x256 (ix3 g ⟨c.val * 64 + t.val, by omega⟩ (ln h e)) = x (ix5 g c t h e) := by
  pointwise
  refine congrArg x (?_ : _ = ix5 g c t h e)
  have e1 : (⟨(h.val * 64 + e.val) / 64, by omega⟩ : Fin 4) = h := Fin.ext (by show (h.val * 64 + e.val) / 64 = h.val; omega)
  have e2 : (⟨e.val % 64, by omega⟩ : Fin 64) = e := Fin.ext (by show e.val % 64 = e.val; omega)
  simp [ln, e1, e2]
theorem rows_at' (x : FVec Ideal S8x32x64x4x128 .f32) (g : Fin 8) (c : Fin 32) (t : Fin 64) (h : Fin 4) (v : Fin 128) :
    shapeCast S8x2048x512 x shapeCasts_S8x32x64x4x128_S8x2048x512 (ix3 g ⟨c.val * 64 + t.val, by omega⟩ (lv h v)) = x (ix5 g c t h v) := by
  pointwise
  refine congrArg x (?_ : _ = ix5 g c t h v)
  have e1 : (⟨(h.val * 128 + v.val) / 128, by omega⟩ : Fin 4) = h := Fin.ext (by show (h.val * 128 + v.val) / 128 = h.val; omega)
  have e2 : (⟨v.val % 128, by omega⟩ : Fin 128) = v := Fin.ext (by show v.val % 128 = v.val; omega)
  simp [lv, e1, e2]

theorem forth_at (n : Fin 4) (r : Fin 2048) (l : Fin 1024) : w_v125 Y (ix4 0 n r l) = w_v119 Y (ix3 ⟨n.val, by omega⟩ r l) := by
  pointwise [w_v125_eq, w_v123_eq, w_v120_eq]
theorem back_at (n : Fin 4) (r : Fin 2048) (l : Fin 1024) : w_v125 Y (ix4 1 n r l) = w_v119 Y (ix3 ⟨4 + n.val, by omega⟩ ⟨2047 - r.val, by omega⟩ l) := by
  pointwise [w_v125_eq, w_v124_eq, w_v122_eq, w_v121_eq]
  refine congrArg (w_v119 Y) (?_ : _ = ix3 _ _ l)
  simp [Fin.rev] <;> omega

end Cert.Ref

end
-- ==== Proof.RefState.lean ====
/- The saved states the reference takes, by direction and chunk. -/
module

public import proofs.«01_k».proof.Proof.Gate

@[expose] public section

set_option maxRecDepth 16384

noncomputable section

namespace Cert.Ref

open Idealize.ShloMosaic Idealize.ShloMosaic.TcCoe
open Cert.ReferenceIdeal Cert.ReferenceIdeal.Gen
open Cert.Step (ln lv row place row_forth row_back place_forth place_back)

variable (X : Valuation τ sig (Elt Ideal))

theorem S_at (d : Fin 2) (n : Fin 4) (c : Fin 32) (h : Fin 4) (e : Fin 64) (v : Fin 128) :
    r_v49 X (ix5 (bt d n) c h e v) = r_arg6 X (ix5 d n (place d c) v (ln h e)) := by
  rcases (by omega : d = 0 ∨ d = 1) with rfl | rfl
  · rw [bt_forth, place_forth]
    pointwise [r_v49_eq, r_v48_eq, r_v47_eq, r_v43_eq, r_v42_eq]
    rfl
  · rw [bt_back, place_back]
    pointwise [r_v49_eq, r_v48_eq, r_v47_eq, r_v46_eq, r_v45_eq, r_v44_eq]
    refine (congrArg (r_arg6 X) (?_ : _ = ix5 1 n _ _ _))
    simp [ln, Fin.rev] <;> omega

end Cert.Ref

end
-- ==== Proof.RefRead.lean ====
/- The reference's values read at an index: one head on one chunk after another. -/
module

public import proofs.«01_k».proof.Proof.Gate
public import proofs.«01_k».proof.Proof.RefState

@[expose] public section

set_option maxRecDepth 16384

noncomputable section

namespace Cert.Ref

open Idealize.ShloMosaic Idealize.ShloMosaic.TcCoe
open Cert.ReferenceIdeal Cert.ReferenceIdeal.Gen
open Cert.Step (ln lv row place row_forth row_back place_forth place_back)

variable (X : Valuation τ sig (Elt Ideal))

theorem q_at (d : Fin 2) (n : Fin 4) (c : Fin 32) (t : Fin 64) (h : Fin 4) (e : Fin 64) :
    r_v24 X (ix5 (bt d n) c t h e) = r_arg0 X (ix3 n (row d c t) ⟨(ln h e).val, by omega⟩) := by
  rcases (by omega : d = 0 ∨ d = 1) with rfl | rfl
  · rw [bt_forth, row_forth]
    pointwise [r_v24_eq, r_v23_eq, r_v22_eq, r_v21_eq, r_v1_eq, r_v0_eq]
    first | done | rfl | exact congrArg (fun l => r_arg0 X (ix3 n _ l)) (Fin.ext (by simp only [ln] <;> omega))
  · rw [bt_back, row_back]
    pointwise [r_v24_eq, r_v23_eq, r_v22_eq, r_v21_eq, r_v1_eq, r_v0_eq]
    refine (congrArg (r_arg0 X) (?_ : _ = ix3 n _ _))
    simp [ln, Fin.rev] <;> omega
theorem k_at (d : Fin 2) (n : Fin 4) (c : Fin 32) (t : Fin 64) (h : Fin 4) (e : Fin 64) :
    r_v28 X (ix5 (bt d n) c t h e) = r_arg0 X (ix3 n (row d c t) ⟨256 + (ln h e).val, by omega⟩) := by
  rcases (by omega : d = 0 ∨ d = 1) with rfl | rfl
  · rw [bt_forth, row_forth]
    pointwise [r_v28_eq, r_v27_eq, r_v26_eq, r_v25_eq, r_v2_eq, r_v0_eq]
    first | done | rfl | exact congrArg (fun l => r_arg0 X (ix3 n _ l)) (Fin.ext (by simp only [ln] <;> omega))
  · rw [bt_back, row_back]
    pointwise [r_v28_eq, r_v27_eq, r_v26_eq, r_v25_eq, r_v2_eq, r_v0_eq]
    refine (congrArg (r_arg0 X) (?_ : _ = ix3 n _ _))
    simp [ln, Fin.rev] <;> omega
theorem v_at (d : Fin 2) (n : Fin 4) (c : Fin 32) (t : Fin 64) (h : Fin 4) (e : Fin 128) :
    r_v32 X (ix5 (bt d n) c t h e) = r_arg0 X (ix3 n (row d c t) ⟨512 + (lv h e).val, by omega⟩) := by
  rcases (by omega : d = 0 ∨ d = 1) with rfl | rfl
  · rw [bt_forth, row_forth]
    pointwise [r_v32_eq, r_v31_eq, r_v30_eq, r_v29_eq, r_v3_eq, r_v0_eq]
    first | done | rfl | exact congrArg (fun l => r_arg0 X (ix3 n _ l)) (Fin.ext (by simp only [lv] <;> omega))
  · rw [bt_back, row_back]
    pointwise [r_v32_eq, r_v31_eq, r_v30_eq, r_v29_eq, r_v3_eq, r_v0_eq]
    refine (congrArg (r_arg0 X) (?_ : _ = ix3 n _ _))
    simp [lv, Fin.rev] <;> omega
theorem dO_at (d : Fin 2) (n : Fin 4) (c : Fin 32) (t : Fin 64) (h : Fin 4) (e : Fin 128) :
    r_v40 X (ix5 (bt d n) c t h e) = r_arg5 X (ix3 n (row d c t) (lv h e)) := by
  rcases (by omega : d = 0 ∨ d = 1) with rfl | rfl
  · rw [bt_forth, row_forth]
    pointwise [r_v40_eq, r_v39_eq, r_v38_eq, r_v37_eq]
    first | done | rfl | exact congrArg (fun l => r_arg5 X (ix3 n _ l)) (Fin.ext (by simp only [lv] <;> omega))
  · rw [bt_back, row_back]
    pointwise [r_v40_eq, r_v39_eq, r_v38_eq, r_v37_eq]
    refine (congrArg (r_arg5 X) (?_ : _ = ix3 n _ _))
    simp [lv, Fin.rev] <;> omega
theorem la_at (d : Fin 2) (n : Fin 4) (c : Fin 32) (t : Fin 64) (h : Fin 4) (e : Fin 64) :
    r_v36 X (ix5 (bt d n) c t h e) = Spec.logGate ((argsOf X).z d n (row d c t) (ln h e)) := by
  rcases (by omega : d = 0 ∨ d = 1) with rfl | rfl
  · rw [bt_forth, row_forth, ← gate_forth]
    pointwise [r_v36_eq, r_v35_eq, r_v34_eq]
    rfl
  · rw [bt_back, row_back, ← gate_back]
    pointwise [r_v36_eq, r_v35_eq, r_v34_eq, r_v33_eq]
    refine (congrArg (r_v20 X) (?_ : _ = ix3 n _ _))
    simp [ln, Fin.rev] <;> omega

end Cert.Ref

end
-- ==== Proof.RefFinal.lean ====
/- The reference's result is the gradients chunk by chunk. -/
module

public import proofs.«01_k».proof.Proof.HeadExt
public import proofs.«01_k».proof.Proof.RefDecay
public import proofs.«01_k».proof.Proof.RefGrad
public import proofs.«01_k».proof.Proof.RefLoop
public import proofs.«01_k».proof.Proof.RefOut
public import proofs.«01_k».proof.Proof.RefRead

@[expose] public section

set_option maxRecDepth 16384

noncomputable section

namespace Cert.Ref

open Idealize.ShloMosaic Idealize.ShloMosaic.TcCoe
open Cert.ReferenceIdeal Cert.ReferenceIdeal.Gen
open Cert.Step (ln lv row place)

section
variable (X : Valuation τ sig (Elt Ideal))

/-- The head the reference lays out is the arguments' head. -/
theorem raw_head (d : Fin 2) (n : Fin 4) (c : Fin 32) (h : Fin 4) (G : Fin 64 → Fin 128 → EReal) :
    raw X (bt d n) c h G = (argsOf X).head d n c h G :=
  Spec.head_ext _ _ (fun t e => q_at X d n c t h e) (fun t e => k_at X d n c t h e) (fun t e => la_at X d n c t h e)
    (fun t v => v_at X d n c t h v) (fun t v => dO_at X d n c t h v) (fun e v => S_at X d n c h e v) (fun _ _ => rfl)

theorem G_next (a : Step.Args) (d : Fin 2) (n h : Fin 4) (k : ℕ) (e : Fin 64) (v : Fin 128) :
    a.G d n h (k + 1) e v = a.G d n h k e v * (a.head d n ⟨31 - k, by omega⟩ h (a.G d n h k)).decay e + (a.head d n ⟨31 - k, by omega⟩ h (a.G d n h k)).dS e v := rfl

theorem carried_next (dS : FVec Ideal S32x8x4x64x128 .f32) (w : FVec Ideal S32x8x4x64x1 .f32) (b : Fin 8) (h : Fin 4) (e : Fin 64) (v : Fin 128) (k : ℕ) :
    G dS w b h e v (k + 1) = dS (ix5 ⟨31 - k, by omega⟩ b h e v) + G dS w b h e v k * w (ix5 ⟨31 - k, by omega⟩ b h e 0) := rfl

/-- The gradient the reference's loop carries is the recurrence's. -/
theorem carried (d : Fin 2) (n h : Fin 4) (e : Fin 64) (v : Fin 128) :
    ∀ k : ℕ, G (r_v98 X) (r_v97 X) (bt d n) h e v k = (argsOf X).G d n h k e v
  | 0 => rfl
  | k + 1 => by
    rw [carried_next, G_next, carried d n h e v k, dS_at X (bt d n) ⟨31 - k, by omega⟩ h ((argsOf X).G d n h k) e v,
      decay_at X (bt d n) ⟨31 - k, by omega⟩ h ((argsOf X).G d n h k) e, raw_head, add_comm]

end

section
variable (m : (ℓ : Loc nD τ sig) → Buf (Elt Ideal) ℓ) (p : Dev nD)

/-- The head of a chunk with the gradient the loop writes down for it. -/
abbrev C (d : Fin 2) (n : Fin 4) (c : Fin 32) (h : Fin 4) : Spec.Head := raw (V0 m p) (bt d n) c h ((argsOf (V0 m p)).G d n h (31 - c.val))

theorem C_eq (d : Fin 2) (n : Fin 4) (c : Fin 32) (h : Fin 4) : C m p d n c h = (argsOf (V0 m p)).chunk d n c h := by
  rw [C, raw_head, Step.Args.chunk]

variable (d : Fin 2) (n : Fin 4) (c : Fin 32) (h : Fin 4) (t s e : Fin 64) (v : Fin 128)

theorem G_at : w_v102 (exitV m p) (ix5 (bt d n) c h e v) = (C m p d n c h).G e v := by
  have k : w_v102 (exitV m p) (ix5 (bt d n) c h e v) = w_v101_4 (exitV m p) (ix5 c (bt d n) h e v) := by
    pointwise [w_v102_eq]
  rw [k, ys_at, carried, C, raw]

theorem b_out (t e : Fin 64) : w_v41 (exitV m p) (ix5 (bt d n) c t h e) = (C m p d n c h).b t e := by
  rw [w_v41_pre, b_at (V0 m p) (bt d n) c h ((argsOf (V0 m p)).G d n h (31 - c.val))]

theorem rest_at : w_v106 (exitV m p) (ix5 (bt d n) c t h e) = (C m p d n c h).rest t e := by
  have k : w_v106 (exitV m p) (ix5 (bt d n) c t h e) = Ideal.exp (w_v41 (exitV m p) (ix5 (bt d n) c 63 h e) - w_v41 (exitV m p) (ix5 (bt d n) c t h e)) := by
    pointwise [w_v106_eq, w_v105_eq, w_v104_eq, w_v103_eq]
  rw [k, b_out, b_out, Spec.Head.rest]

theorem kd_at : w_v107 (exitV m p) (ix5 (bt d n) c t h e) = (C m p d n c h).kd t e := by
  rw [w_v107_eq, product_at, w_v28_pre, rest_at, Spec.Head.kd, C, raw]

theorem values_at : w_v32 (exitV m p) (ix5 (bt d n) c s h v) = (C m p d n c h).v s v := by
  rw [w_v32_pre, C, raw]

theorem dv_inter_at : w_v110 (exitV m p) (ix5 (bt d n) c s h v) = ∑ e : Fin 64, (C m p d n c h).G e v * (C m p d n c h).kd s e := by
  pointwise [w_v110_eq, w_v109_eq]
  exact Finset.sum_congr rfl fun e _ => congrArg₂ (· * ·) (G_at m p d n c h e v) (kd_at m p d n c h s e)

theorem dkd_at : w_v112 (exitV m p) (ix5 (bt d n) c s h e) = ∑ v : Fin 128, (C m p d n c h).G e v * (C m p d n c h).v s v := by
  pointwise [w_v112_eq, w_v111_eq]
  exact Finset.sum_congr rfl fun v _ => congrArg₂ (· * ·) (G_at m p d n c h e v) (values_at m p d n c h s v)

theorem dk_at : w_v114 (exitV m p) (ix5 (bt d n) c s h e) = (C m p d n c h).dk s e := by
  rw [w_v114_eq, sum_at, w_v87_pre, dki_down_at (V0 m p) (bt d n) c h ((argsOf (V0 m p)).G d n h (31 - c.val)), w_v113_eq, product_at, dkd_at, rest_at,
    Spec.Head.dk, add_comm, Spec.Head.dkd]

theorem dv_at : w_v115 (exitV m p) (ix5 (bt d n) c s h v) = (C m p d n c h).dv s v := by
  rw [w_v115_eq, sum_at, w_v81_pre, dv_intra_at (V0 m p) (bt d n) c h ((argsOf (V0 m p)).G d n h (31 - c.val)), dv_inter_at, Spec.Head.dv, add_comm]

/-- Both directions' rows in the result. -/
theorem out_at (Y : Valuation τ sig (Elt Ideal)) (d : Fin 2) (n : Fin 4) (c : Fin 32) (t : Fin 64) (l : Fin 1024) :
    w_v125 Y (ix4 d n (row d c t) l) = w_v119 Y (ix3 (bt d n) ⟨c.val * 64 + t.val, by omega⟩ l) := by
  rcases (by omega : d = 0 ∨ d = 1) with rfl | rfl
  · rw [bt_forth, Step.row_forth, forth_at]
  · rw [bt_back, Step.row_back, back_at]
    exact congrArg (fun r => w_v119 Y (ix3 _ r l)) (Fin.ext (by show 2047 - (2047 - (c.val * 64 + t.val)) = c.val * 64 + t.val; omega))

theorem result_q : w_v125 (exitV m p) (ix4 d n (row d c t) ⟨(ln h e).val, by omega⟩) = ((argsOf (V0 m p)).chunk d n c h).dq t e := by
  rw [out_at, cat_q, w_v116_eq, rows_at, w_v91_pre, dq_at (V0 m p) (bt d n) c h ((argsOf (V0 m p)).G d n h (31 - c.val)), ← C_eq]

theorem result_k : w_v125 (exitV m p) (ix4 d n (row d c t) ⟨256 + (ln h e).val, by omega⟩) = ((argsOf (V0 m p)).chunk d n c h).dk t e := by
  rw [out_at, cat_k, w_v117_eq, rows_at, dk_at, ← C_eq]

theorem result_v : w_v125 (exitV m p) (ix4 d n (row d c t) ⟨512 + (lv h v).val, by omega⟩) = ((argsOf (V0 m p)).chunk d n c h).dv t v := by
  rw [out_at, cat_v, w_v118_eq, rows_at', dv_at, ← C_eq]

end

end Cert.Ref

end
-- ==== Proof.Value.lean ====
/- The kernel's ideal reading leaves what the reference leaves. -/
module

public import proofs.«01_k».proof.Defs
public import proofs.«01_k».proof.Proof.KFinal
public import proofs.«01_k».proof.Proof.RefFinal
public import Idealize.ShloMosaic.Adequacy

@[expose] public section

set_option maxRecDepth 16384

noncomputable section

namespace Cert.Value

open Idealize.ShloMosaic Idealize.ShloMosaic.TcCoe Idealize.SL.Sem

section
open Cert.ReferenceIdeal Cert.ReferenceIdeal.Gen Cert.ReferenceIdeal.Value
variable (m : (ℓ : Loc nD τ sig) → Buf (Elt Ideal) ℓ) (c : Dev nD)

theorem arg_at {r : Ref sig .tc} (h : r ∉ Ref.preW) : StableHlo.after Ref.preOps (Ref.V0 m c) (Proc.devRef .tc r) = m ((c.tc : Thread nD τ).loc r) :=
  Line.keep Ref.pre_writes _ h

/-- The reference's arguments, out of the memory it starts in. -/
theorem args_at : Ref.argsOf (Ref.V0 m c) = ⟨m ((c.tc : Thread nD τ).loc main_arg0), m ((c.tc : Thread nD τ).loc main_arg1),
    m ((c.tc : Thread nD τ).loc main_arg2), m ((c.tc : Thread nD τ).loc main_arg3), m ((c.tc : Thread nD τ).loc main_arg4),
    m ((c.tc : Thread nD τ).loc main_arg5), m ((c.tc : Thread nD τ).loc main_arg6)⟩ := by
  have e0 : Ref.r_arg0 (Ref.V0 m c) = m ((c.tc : Thread nD τ).loc main_arg0) := arg_at m c (by decide +kernel)
  have e1 : Ref.r_arg1 (Ref.V0 m c) = m ((c.tc : Thread nD τ).loc main_arg1) := arg_at m c (by decide +kernel)
  have e2 : Ref.r_arg2 (Ref.V0 m c) = m ((c.tc : Thread nD τ).loc main_arg2) := arg_at m c (by decide +kernel)
  have e3 : Ref.r_arg3 (Ref.V0 m c) = m ((c.tc : Thread nD τ).loc main_arg3) := arg_at m c (by decide +kernel)
  have e4 : Ref.r_arg4 (Ref.V0 m c) = m ((c.tc : Thread nD τ).loc main_arg4) := arg_at m c (by decide +kernel)
  have e5 : Ref.r_arg5 (Ref.V0 m c) = m ((c.tc : Thread nD τ).loc main_arg5) := arg_at m c (by decide +kernel)
  have e6 : Ref.r_arg6 (Ref.V0 m c) = m ((c.tc : Thread nD τ).loc main_arg6) := arg_at m c (by decide +kernel)
  rw [Ref.argsOf, e0, e1, e2, e3, e4, e5, e6]

/-- The reference's result. -/
def res : FVec Ideal S2x4x2048x1024 .f32 := Ref.w_v125 (Ref.exitV m c)

theorem res_eq : StableHlo.finalContents condOps preI bodyI postI 32 m c (Proc.devRef .tc main_v125) = res m c :=
  Ref.final_eq m c main_v125
end

theorem algebraic [Cert.KernelIdeal.Facts] [Cert.ReferenceIdeal.Facts] : Cert.algebraic_KernelIdeal_ReferenceIdeal := by
  intro m g m' g' _ hargs
  refine ⟨fun c => res m' c, ?_, ?_⟩
  · refine (θ_run Cert.KernelIdeal.defs _ _).mono ?_ (θ_run_and (Cert.KernelIdeal.Gen.run_main (F := Ideal) m g) (Cert.KernelIdeal.Gen.unchanged (F := Ideal) m g))
    rintro r ⟨h, hu⟩ c
    refine ⟨?_, hu c⟩
    refine ((h c).1 8).trans (Cert.KLoop.final m c (res m' c) ?_)
    obtain ⟨h0, h1, h2, h3, h4, h5, h6⟩ := hargs c
    have ha : Cert.Entry.argsOf (Cert.KRead.X m c) = Ref.argsOf (Ref.V0 m' c) := by
      rw [args_at m' c, h0, h1, h2, h3, h4, h5, h6]
      rfl
    rw [ha]
    exact ⟨fun d n ch h t e => Ref.result_q m' c d n ch h t e, fun d n ch h t e => Ref.result_k m' c d n ch h t e, fun d n ch h t v => Ref.result_v m' c d n ch h t v⟩
  · refine (θ_run Cert.ReferenceIdeal.defs _ _).mono ?_ (Cert.Ref.frame (F := Ideal) m' g')
    rintro r ⟨h, hv, _⟩ c
    exact ⟨(hv c).trans (res_eq m' c), h c⟩

end Cert.Value

end
-- ==== Proof.lean ====
/- The claim: for each program the frames of the kernel, of its ideal reading and of the reference, and that the last two agree. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Up
public import proofs.«01_k».proof.Proof.ProjIn
public import proofs.«01_k».proof.Proof.Down
public import proofs.«01_k».proof.Proof.DAct
public import proofs.«01_k».proof.Proof.DUpGate
public import proofs.«01_k».proof.Proof.DUpValue
public import proofs.«01_k».proof.Proof.DwUp
public import proofs.«01_k».proof.Proof.DwDown
public import proofs.«01_k».proof.Proof.MixOut
public import proofs.«01_k».proof.Proof.DMixOut
public import proofs.«01_k».proof.Proof.DwSquare
public import proofs.«01_k».proof.Proof.DwInRwkv
public import proofs.«01_k».proof.Proof.DwInOg
public import proofs.«01_k».proof.Proof.DwInAfab
public import proofs.«01_k».proof.Proof.DwMixer
public import proofs.«01_k».proof.Proof.MixerOut
public import proofs.«01_k».proof.Proof.DMixer
public import proofs.«01_k».proof.Proof.DInQkv
public import proofs.«01_k».proof.Proof.DInOg
public import proofs.«01_k».proof.Proof.DInRwkv
public import proofs.«01_k».proof.Proof.DInGa
public import proofs.«01_k».proof.Proof.DInGb
public import proofs.«01_k».proof.Proof.DInAfab
public import proofs.«01_k».proof.Proof.Frame
public import proofs.«01_k».proof.Proof.SameText
public import proofs.«01_k».proof.Proof.Value
public import Idealize.ShloMosaic.Adequacy
public import Idealize.ShloMosaic.Init

@[expose] public section

noncomputable section

namespace Cert.Proof

open Idealize.ShloMosaic Idealize.SL.Sem

/-- The kernel's own program is its ideal reading's text at machine words: one run does for both. -/
theorem kernel_frame [Cert.Kernel.Facts] : Cert.quiescent_Kernel := by
  intro m ρ _
  have h := Cert.KernelIdeal.Gen.frame (F := Bits) m ρ
  rw [← Cert.SameText.defs_eq, ← Cert.SameText.main_eq] at h
  exact h

theorem kernel_ideal_frame [Cert.KernelIdeal.Facts] : Cert.quiescent_KernelIdeal := fun m ρ _ => Cert.KernelIdeal.Gen.frame (F := Ideal) m ρ

theorem reference_frame [Cert.ReferenceIdeal.Facts] : Cert.quiescent_ReferenceIdeal := fun m ρ _ =>
  (θ_run Cert.ReferenceIdeal.defs _ _).mono (fun _ h => ⟨h.1, h.2.2⟩) (Cert.Ref.frame (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  kernel_frame, kernel_ideal_frame, reference_frame,
  Up.frame, Up.ideal_frame, Up.reference_frame,
  ProjIn.frame, ProjIn.ideal_frame, ProjIn.reference_frame,
  Down.frame, Down.ideal_frame, Down.reference_frame,
  DAct.frame, DAct.ideal_frame, DAct.reference_frame,
  DUpGate.frame, DUpGate.ideal_frame, DUpGate.reference_frame,
  DUpValue.frame, DUpValue.ideal_frame, DUpValue.reference_frame,
  DwUp.frame, DwUp.ideal_frame, DwUp.reference_frame,
  DwDown.frame, DwDown.ideal_frame, DwDown.reference_frame,
  MixOut.frame, MixOut.ideal_frame, MixOut.reference_frame,
  DMixOut.frame, DMixOut.ideal_frame, DMixOut.reference_frame,
  DwSquare.frame, DwSquare.ideal_frame, DwSquare.reference_frame,
  DwInRwkv.frame, DwInRwkv.ideal_frame, DwInRwkv.reference_frame,
  DwInOg.frame, DwInOg.ideal_frame, DwInOg.reference_frame,
  DwInAfab.frame, DwInAfab.ideal_frame, DwInAfab.reference_frame,
  DwMixer.frame, DwMixer.ideal_frame, DwMixer.reference_frame,
  MixerOut.frame, MixerOut.ideal_frame, MixerOut.reference_frame,
  DMixer.frame, DMixer.ideal_frame, DMixer.reference_frame,
  DInQkv.frame, DInQkv.ideal_frame, DInQkv.reference_frame,
  DInOg.frame, DInOg.ideal_frame, DInOg.reference_frame,
  DInRwkv.frame, DInRwkv.ideal_frame, DInRwkv.reference_frame,
  DInGa.frame, DInGa.ideal_frame, DInGa.reference_frame,
  DInGb.frame, DInGb.ideal_frame, DInGb.reference_frame,
  DInAfab.frame, DInAfab.ideal_frame, DInAfab.reference_frame,
  trivial, Value.algebraic,
  trivial, Up.algebraic,
  trivial, ProjIn.algebraic,
  trivial, Down.algebraic,
  trivial, DAct.algebraic,
  trivial, DUpGate.algebraic,
  trivial, DUpValue.algebraic,
  trivial, DwUp.algebraic,
  trivial, DwDown.algebraic,
  trivial, MixOut.algebraic,
  trivial, DMixOut.algebraic,
  trivial, DwSquare.algebraic,
  trivial, DwInRwkv.algebraic,
  trivial, DwInOg.algebraic,
  trivial, DwInAfab.algebraic,
  trivial, DwMixer.algebraic,
  trivial, MixerOut.algebraic,
  trivial, DMixer.algebraic,
  trivial, DInQkv.algebraic,
  trivial, DInOg.algebraic,
  trivial, DInRwkv.algebraic,
  trivial, DInGa.algebraic,
  trivial, DInGb.algebraic,
  trivial, DInAfab.algebraic⟩

end Cert.Proof

end
